-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_blocks_in_range : Cert.Pre_blocks_in_range.Facts] (m : (ℓ : Loc Cert.Kernel2.nD Cert.Kernel2.τ Cert.Kernel2.sig) → Buf (Elt Bits) ℓ) : Prop :=
  ∀ c : Dev Cert.Kernel2.nD,
    (Cert.Pre_blocks_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_blocks_in_range : Cert.Pre_blocks_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_blocks_in_range : Cert.Pre_blocks_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_blocks_in_range : Cert.Pre_blocks_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_blocks_in_range : Cert.Pre_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_blocks_in_range : Cert.Pre_blocks_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_blocks_in_range : Cert.Pre_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v15)) (v2 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v15) = v1 c
          ∧ r.2.mem ((c.tc : Thread Cert.Kernel3Ideal.nD Cert.Kernel3Ideal.τ).loc Cert.Kernel3Ideal.main_v16) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v20_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v65_0)) (v1 : (c : Dev Cert.Kernel6Ideal.nD) → Buf (Elt Ideal) ((c.tc : Thread Cert.Kernel6Ideal.nD Cert.Kernel6Ideal.τ).loc Cert.Kernel6Ideal.main_v65_1)) (v2 : (c : Dev Cert.Kernel6Ideal.nD) → Buf (Elt Ideal) ((c.tc : Thread Cert.Kernel6Ideal.nD Cert.Kernel6Ideal.τ).loc Cert.Kernel6Ideal.main_v65_2)) (v3 : (c : Dev Cert.Kernel6Ideal.nD) → Buf (Elt Ideal) ((c.tc : Thread Cert.Kernel6Ideal.nD Cert.Kernel6Ideal.τ).loc Cert.Kernel6Ideal.main_v65_3)) (v4 : (c : Dev Cert.Kernel6Ideal.nD) → Buf (Elt Ideal) ((c.tc : Thread Cert.Kernel6Ideal.nD Cert.Kernel6Ideal.τ).loc Cert.Kernel6Ideal.main_v65_4)) (v5 : (c : Dev Cert.Kernel6Ideal.nD) → Buf (Elt Ideal) ((c.tc : Thread Cert.Kernel6Ideal.nD Cert.Kernel6Ideal.τ).loc Cert.Kernel6Ideal.main_v65_5)) (v6 : (c : Dev Cert.Kernel6Ideal.nD) → Buf (Elt Ideal) ((c.tc : Thread Cert.Kernel6Ideal.nD Cert.Kernel6Ideal.τ).loc Cert.Kernel6Ideal.main_v65_6)) (v7 : (c : Dev Cert.Kernel6Ideal.nD) → Buf (Elt Ideal) ((c.tc : Thread Cert.Kernel6Ideal.nD Cert.Kernel6Ideal.τ).loc Cert.Kernel6Ideal.main_v67)) (v8 : (c : Dev Cert.Kernel6Ideal.nD) → Buf (Elt Ideal) ((c.tc : Thread Cert.Kernel6Ideal.nD Cert.Kernel6Ideal.τ).loc Cert.Kernel6Ideal.main_v69)) (v9 : (c : Dev Cert.Kernel6Ideal.nD) → Buf (Elt Ideal) ((c.tc : Thread Cert.Kernel6Ideal.nD Cert.Kernel6Ideal.τ).loc Cert.Kernel6Ideal.main_v71)) (v10 : (c : Dev Cert.Kernel6Ideal.nD) → Buf (Elt Ideal) ((c.tc : Thread Cert.Kernel6Ideal.nD Cert.Kernel6Ideal.τ).loc Cert.Kernel6Ideal.main_v73)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v65_0) = v0 c
          ∧ r.2.mem ((c.tc : Thread Cert.Kernel6Ideal.nD Cert.Kernel6Ideal.τ).loc Cert.Kernel6Ideal.main_v65_1) = v1 c
          ∧ r.2.mem ((c.tc : Thread Cert.Kernel6Ideal.nD Cert.Kernel6Ideal.τ).loc Cert.Kernel6Ideal.main_v65_2) = v2 c
          ∧ r.2.mem ((c.tc : Thread Cert.Kernel6Ideal.nD Cert.Kernel6Ideal.τ).loc Cert.Kernel6Ideal.main_v65_3) = v3 c
          ∧ r.2.mem ((c.tc : Thread Cert.Kernel6Ideal.nD Cert.Kernel6Ideal.τ).loc Cert.Kernel6Ideal.main_v65_4) = v4 c
          ∧ r.2.mem ((c.tc : Thread Cert.Kernel6Ideal.nD Cert.Kernel6Ideal.τ).loc Cert.Kernel6Ideal.main_v65_5) = v5 c
          ∧ r.2.mem ((c.tc : Thread Cert.Kernel6Ideal.nD Cert.Kernel6Ideal.τ).loc Cert.Kernel6Ideal.main_v65_6) = v6 c
          ∧ r.2.mem ((c.tc : Thread Cert.Kernel6Ideal.nD Cert.Kernel6Ideal.τ).loc Cert.Kernel6Ideal.main_v67) = v7 c
          ∧ r.2.mem ((c.tc : Thread Cert.Kernel6Ideal.nD Cert.Kernel6Ideal.τ).loc Cert.Kernel6Ideal.main_v69) = v8 c
          ∧ r.2.mem ((c.tc : Thread Cert.Kernel6Ideal.nD Cert.Kernel6Ideal.τ).loc Cert.Kernel6Ideal.main_v71) = v9 c
          ∧ r.2.mem ((c.tc : Thread Cert.Kernel6Ideal.nD Cert.Kernel6Ideal.τ).loc Cert.Kernel6Ideal.main_v73) = v10 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v114) = v0 c
          ∧ r.2.mem ((c.tc : Thread Cert.Reference6Ideal.nD Cert.Reference6Ideal.τ).loc Cert.Reference6Ideal.main_v118) = v1 c
          ∧ r.2.mem ((c.tc : Thread Cert.Reference6Ideal.nD Cert.Reference6Ideal.τ).loc Cert.Reference6Ideal.main_v83) = v2 c
          ∧ r.2.mem ((c.tc : Thread Cert.Reference6Ideal.nD Cert.Reference6Ideal.τ).loc Cert.Reference6Ideal.main_v119) = v3 c
          ∧ r.2.mem ((c.tc : Thread Cert.Reference6Ideal.nD Cert.Reference6Ideal.τ).loc Cert.Reference6Ideal.main_v106) = v4 c
          ∧ r.2.mem ((c.tc : Thread Cert.Reference6Ideal.nD Cert.Reference6Ideal.τ).loc Cert.Reference6Ideal.main_v120) = v5 c
          ∧ r.2.mem ((c.tc : Thread Cert.Reference6Ideal.nD Cert.Reference6Ideal.τ).loc Cert.Reference6Ideal.main_v121) = v6 c
          ∧ r.2.mem ((c.tc : Thread Cert.Reference6Ideal.nD Cert.Reference6Ideal.τ).loc Cert.Reference6Ideal.main_v123) = v7 c
          ∧ r.2.mem ((c.tc : Thread Cert.Reference6Ideal.nD Cert.Reference6Ideal.τ).loc Cert.Reference6Ideal.main_v125) = v8 c
          ∧ r.2.mem ((c.tc : Thread Cert.Reference6Ideal.nD Cert.Reference6Ideal.τ).loc Cert.Reference6Ideal.main_v127) = v9 c
          ∧ r.2.mem ((c.tc : Thread Cert.Reference6Ideal.nD Cert.Reference6Ideal.τ).loc Cert.Reference6Ideal.main_v129) = v10 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_v36) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_rows_in_range : Cert.Pre_rows_in_range.Facts) (hPre_blocks_in_range : Cert.Pre_blocks_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ quiescent_Reference (hReference := hReference) (hPre_rows_in_range := hPre_rows_in_range)
    ∧ quiescent_Kernel2 (hKernel2 := hKernel2) (hPre_blocks_in_range := hPre_blocks_in_range)
    ∧ quiescent_Kernel2Ideal (hKernel2Ideal := hKernel2Ideal) (hPre_blocks_in_range := hPre_blocks_in_range)
    ∧ quiescent_Reference2Ideal (hReference2Ideal := hReference2Ideal) (hPre_blocks_in_range := hPre_blocks_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_rows_in_range := hPre_rows_in_range)
    ∧ bitexact_Kernel_Reference (hKernel := hKernel) (hReference := hReference) (hPre_rows_in_range := hPre_rows_in_range)
    ∧ preserves_Kernel2_Kernel2Ideal
    ∧ algebraic_Kernel2Ideal_Reference2Ideal (hKernel2Ideal := hKernel2Ideal) (hReference2Ideal := hReference2Ideal) (hPre_blocks_in_range := hPre_blocks_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_blocks_in_range.lean ====
abbrev S292 : Shape := ⟨1, ![292]⟩
abbrev S1 : Shape := ⟨1, ![1]⟩
abbrev S74752x1024 : Shape := ⟨2, ![74752, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S292 : S_.BroadcastsInDim S292 (![] : Fin 0 → Fin S292.rank)
  reducesTo_S292_S_d0 : S292.ReducesTo [0] S_
  h_S_ : 0 < S_.numel
  shapeCasts_S1_S_ : S1.ShapeCasts S_

variable [Facts]

def fn {F : FTy → Type} [FloatOps F] (main_arg0 : IVec S292 32) (main_arg1 : IVec S1 32) (main_arg2 : FVec F S74752x1024 .f32) (main_arg3 : FVec F S1x32x1024x2048 .f32) (main_arg4 : FVec F S1x32x2048 .f32) (main_arg5 : FVec F S1x32x1024x1024 .f32) (main_arg6 : FVec F S1x32x1024 .f32) : IVec S_ 1 :=
  let main_c : IVec S_ 32 := constantI S_ 32 0#32
  let main_v0 : IVec S292 32 := broadcastInDim S292 ![] bcast_S_S292 main_c
  let main_v1 : IVec S292 1 := cmpi .sge main_arg0 main_v0
  let main_c_0 : IVec S_ 32 := constantI S_ 32 32#32
  let main_v2 : IVec S292 32 := broadcastInDim S292 ![] bcast_S_S292 main_c_0
  let main_v3 : IVec S292 1 := cmpi .slt main_arg0 main_v2
  let main_v4 : IVec S292 1 := andi main_v1 main_v3
  let main_c_1 : IVec S_ 1 := constantI S_ 1 1#1
  let main_v5 : IVec S_ 1 := (fun x v => Host.reduce IntOp.andi x v reducesTo_S292_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 292#32
  let main_v10 : IVec S_ 1 := cmpi .sle main_v9 main_c_3
  let main_v11 : IVec S_ 1 := andi main_v8 main_v10
  main_v11
-- ==== Pre_rows_in_range.lean ====
abbrev S16640x1024 : Shape := ⟨2, ![16640, 1024]⟩
abbrev S74752 : Shape := ⟨1, ![74752]⟩
abbrev S_ : Shape := ⟨0, ![]⟩

class Facts : Prop where
  bcast_S_S74752 : S_.BroadcastsInDim S74752 (![] : Fin 0 → Fin S74752.rank)
  reducesTo_S74752_S_d0 : S74752.ReducesTo [0] S_
  h_S_ : 0 < S_.numel

variable [Facts]

def fn {F : FTy → Type} [FloatOps F] (main_arg0 : FVec F S16640x1024 .f32) (main_arg1 : IVec S74752 32) : IVec S_ 1 :=
  let main_c : IVec S_ 32 := constantI S_ 32 0#32
  let main_v0 : IVec S74752 32 := broadcastInDim S74752 ![] bcast_S_S74752 main_c
  let main_v1 : IVec S74752 1 := cmpi .sge main_arg1 main_v0
  let main_c_0 : IVec S_ 32 := constantI S_ 32 16640#32
  let main_v2 : IVec S74752 32 := broadcastInDim S74752 ![] bcast_S_S74752 main_c_0
  let main_v3 : IVec S74752 1 := cmpi .slt main_arg1 main_v2
  let main_v4 : IVec S74752 1 := andi main_v1 main_v3
  let main_c_1 : IVec S_ 1 := constantI S_ 1 1#1
  let main_v5 : IVec S_ 1 := (fun x v => Host.reduce IntOp.andi x v reducesTo_S74752_S_d0 h_S_) main_v4 main_c_1
  main_v5
-- ==== Kernel.lean ====
abbrev S16640x1024 : Shape := ⟨2, ![16640, 1024]⟩
abbrev S74752 : Shape := ⟨1, ![74752]⟩
abbrev S146x512 : Shape := ⟨2, ![146, 512]⟩
abbrev S74752x1024 : Shape := ⟨2, ![74752, 1024]⟩
abbrev S2x512 : Shape := ⟨2, ![2, 512]⟩
abbrev S2 : Shape := ⟨1, ![2]⟩
abbrev S1 : Shape := ⟨1, ![1]⟩
abbrev S_ : Shape := ⟨0, ![]⟩
abbrev S1x512 : Shape := ⟨2, ![1, 512]⟩
abbrev S512 : Shape := ⟨1, ![512]⟩
abbrev S1x1 : Shape := ⟨2, ![1, 1]⟩
abbrev S1x1024 : Shape := ⟨2, ![1, 1024]⟩

abbrev nBuf : Space → Nat
  | .hbm => 4
  | .vmem => 0
  | .smem => 1
  | _ => 0

abbrev bufTy : (tb : Table) → Fin (tcTables nBuf tb) → BufTy
  | .hbm, ⟨0, _⟩ => ⟨S16640x1024, .f32⟩
  | .hbm, ⟨1, _⟩ => ⟨S74752, .i32⟩
  | .hbm, ⟨2, _⟩ => ⟨S146x512, .i32⟩
  | .hbm, ⟨3, _⟩ => ⟨S74752x1024, .f32⟩
  | .local _ .smem, ⟨0, _⟩ => ⟨S2x512, .i32⟩
  | _, _ => ⟨S16640x1024, .f32⟩

abbrev bufScoped : (cs : CoreSpace) → Fin (nBuf (.core cs)) → Bool
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_scratch0 : Ref sig .tc := ⟨.smem, 0, rfl⟩

abbrev nD : Nat := 1
abbrev τ : Topo := Topo.v7x

variable {F : FTy → Type} [FloatOps F]

abbrev grid0 : Pipeline.Grid := ⟨1, ![146], ![false]⟩

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 2 → Nat :=
  let arg0 : BitVec 32 := BitVec.ofNat 32 (i 0).val
  let c2_i32 : BitVec 32 := 2#32
  let v0 : BitVec 32 := Scalar.remsi arg0 c2_i32
  let c0_i32_1 : BitVec 32 := 0#32
  ![v0.toNat, 0]
def k0_off3 (i : grid0.Coords) : Fin 2 → Nat :=
  let arg0 : BitVec 32 := BitVec.ofNat 32 (i 0).val
  let c0_i32_2 : BitVec 32 := 0#32
  ![arg0.toNat, 0]
def k0_cond2 (i : grid0.Coords) : BitVec 1 :=
  let arg0 : BitVec 32 := BitVec.ofNat 32 (i 0).val
  let c1_i32 : BitVec 32 := 1#32
  let v10 : BitVec 32 := Scalar.addi arg0 c1_i32
  let c146_i32 : BitVec 32 := 146#32
  let v11 : BitVec 1 := Scalar.cmpi .slt v10 c146_i32
  let v12 : BitVec 32 := Scalar.extui v11
  let c0_i32_3 : BitVec 32 := 0#32
  let v13 : BitVec 1 := Scalar.cmpi .ne v12 c0_i32_3
  v13

def k0_off4 (i : grid0.Coords) : Fin 1 → Nat :=
  let c1_i32_12 : BitVec 32 := 1#32
  let arg0 : BitVec 32 := BitVec.ofNat 32 (i 0).val
  let c2_i32 : BitVec 32 := 2#32
  let v0 : BitVec 32 := Scalar.remsi arg0 c2_i32
  let v23 : BitVec 32 := Scalar.subi c1_i32_12 v0
  ![v23.toNat]
def k0_off5 (i : grid0.Coords) : Fin 2 → Nat :=
  let c1_i32_12 : BitVec 32 := 1#32
  let arg0 : BitVec 32 := BitVec.ofNat 32 (i 0).val
  let c2_i32 : BitVec 32 := 2#32
  let v0 : BitVec 32 := Scalar.remsi arg0 c2_i32
  let v23 : BitVec 32 := Scalar.subi c1_i32_12 v0
  let c0_i32_13 : BitVec 32 := 0#32
  ![v23.toNat, 0]
def k0_off6 (i : grid0.Coords) : Fin 2 → Nat :=
  let arg0 : BitVec 32 := BitVec.ofNat 32 (i 0).val
  let c1_i32_11 : BitVec 32 := 1#32
  let v22 : BitVec 32 := Scalar.addi arg0 c1_i32_11
  let c0_i32_14 : BitVec 32 := 0#32
  ![v22.toNat, 0]
@[reducible] def k0_t1_loop : Scf.Loop 32 :=
  let c0_i32_4 : BitVec 32 := 0#32
  let c512_i32_5 : BitVec 32 := 512#32
  let v15 : BitVec 32 := Scalar.addi c0_i32_4 c512_i32_5
  let c1_i32_6 : BitVec 32 := 1#32
  ⟨c0_i32_4, v15, c1_i32_6⟩
def k0_off7 (i : grid0.Coords) (k0_t1 : Fin k0_t1_loop.trips) : Fin 2 → Nat :=
  let arg0 : BitVec 32 := BitVec.ofNat 32 (i 0).val
  let c2_i32 : BitVec 32 := 2#32
  let v0 : BitVec 32 := Scalar.remsi arg0 c2_i32
  let v22 : Index := Scalar.indexCast v0
  let c0_i32_4 : BitVec 32 := 0#32
  let c1_i32_6 : BitVec 32 := 1#32
  let arg7 : BitVec 32 := Scf.iv c0_i32_4 c1_i32_6 k0_t1
  let v23 : Index := Scalar.indexCast arg7
  ![v22.toNat, v23.toNat]
def k0_off8 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off9 (i : grid0.Coords) (k0_t1 : Fin k0_t1_loop.trips) : Fin 2 → Nat :=
  let arg0 : BitVec 32 := BitVec.ofNat 32 (i 0).val
  let c512_i32 : BitVec 32 := 512#32
  let v14 : BitVec 32 := Scalar.muli arg0 c512_i32
  let c0_i32_4 : BitVec 32 := 0#32
  let c1_i32_6 : BitVec 32 := 1#32
  let arg7 : BitVec 32 := Scf.iv c0_i32_4 c1_i32_6 k0_t1
  let v25 : BitVec 32 := Scalar.addi v14 arg7
  let c0_i32_11 : BitVec 32 := 0#32
  ![v25.toNat, 0]
def k0_off10 (v24 : BitVec 32) : Fin 2 → Nat :=
  let c0_i32_12 : BitVec 32 := 0#32
  ![v24.toNat, 0]

def k0_chk1 (v24 : BitVec 32) : Prop :=
  (∀ a, (k0_off10 v24) a + S1x1024.size a ≤ S16640x1024.size a)
theorem k0_off10_inb : ∀ (v24 : BitVec 32) (k0_hw1 : k0_chk1 v24), ∀ a, (k0_off10 v24) a + S1x1024.size a ≤ S16640x1024.size a := fun v24 k0_hw1 => k0_hw1

def k0_cond3 (i : grid0.Coords) : BitVec 1 :=
  let arg0 : BitVec 32 := BitVec.ofNat 32 (i 0).val
  let c0_i32_8 : BitVec 32 := 0#32
  let v16 : BitVec 1 := Scalar.cmpi .sgt arg0 c0_i32_8
  let v17 : BitVec 32 := Scalar.extui v16
  let c0_i32_9 : BitVec 32 := 0#32
  let v18 : BitVec 1 := Scalar.cmpi .ne v17 c0_i32_9
  v18

def k0_mult1 (i : grid0.Coords) : BitVec 32 :=
  let arg0 : BitVec 32 := BitVec.ofNat 32 (i 0).val
  let c1_i32_11 : BitVec 32 := 1#32
  let v22 : BitVec 32 := Scalar.subi arg0 c1_i32_11
  let c512_i32_13 : BitVec 32 := 512#32
  let v24 : BitVec 32 := Scalar.muli v22 c512_i32_13
  v24
@[reducible] def k0_t2_loop : Scf.Loop 32 :=
  let c0_i32_14 : BitVec 32 := 0#32
  let c512_i32_15 : BitVec 32 := 512#32
  let v26 : BitVec 32 := Scalar.addi c0_i32_14 c512_i32_15
  let c1_i32_16 : BitVec 32 := 1#32
  ⟨c0_i32_14, v26, c1_i32_16⟩
def k0_off11 (i : grid0.Coords) : Fin 1 → Nat :=
  let c1_i32_12 : BitVec 32 := 1#32
  let arg0 : BitVec 32 := BitVec.ofNat 32 (i 0).val
  let c2_i32 : BitVec 32 := 2#32
  let v0 : BitVec 32 := Scalar.remsi arg0 c2_i32
  let v23 : BitVec 32 := Scalar.subi c1_i32_12 v0
  ![v23.toNat]
def k0_off12 (i : grid0.Coords) (k0_t2 : Fin k0_t2_loop.trips) : Fin 2 → Nat :=
  let arg0 : BitVec 32 := BitVec.ofNat 32 (i 0).val
  let c1_i32_11 : BitVec 32 := 1#32
  let v22 : BitVec 32 := Scalar.subi arg0 c1_i32_11
  let c512_i32_13 : BitVec 32 := 512#32
  let v24 : BitVec 32 := Scalar.muli v22 c512_i32_13
  let v25 : BitVec 32 := v24
  let c0_i32_14 : BitVec 32 := 0#32
  let c1_i32_16 : BitVec 32 := 1#32
  let arg7 : BitVec 32 := Scf.iv c0_i32_14 c1_i32_16 k0_t2
  let v27 : BitVec 32 := Scalar.addi v25 arg7
  let c0_i32_18 : BitVec 32 := 0#32
  ![v27.toNat, 0]
def k0_cond4 (i : grid0.Coords) : BitVec 1 :=
  let arg0 : BitVec 32 := BitVec.ofNat 32 (i 0).val
  let c145_i32 : BitVec 32 := 145#32
  let v19 : BitVec 1 := Scalar.cmpi .eq arg0 c145_i32
  let v20 : BitVec 32 := Scalar.extui v19
  let c0_i32_10 : BitVec 32 := 0#32
  let v21 : BitVec 1 := Scalar.cmpi .ne v20 c0_i32_10
  v21

def k0_mult2 (i : grid0.Coords) : BitVec 32 :=
  let arg0 : BitVec 32 := BitVec.ofNat 32 (i 0).val
  let c512_i32_11 : BitVec 32 := 512#32
  let v22 : BitVec 32 := Scalar.muli arg0 c512_i32_11
  v22
@[reducible] def k0_t3_loop : Scf.Loop 32 :=
  let c0_i32_12 : BitVec 32 := 0#32
  let c512_i32_13 : BitVec 32 := 512#32
  let v24 : BitVec 32 := Scalar.addi c0_i32_12 c512_i32_13
  let c1_i32_14 : BitVec 32 := 1#32
  ⟨c0_i32_12, v24, c1_i32_14⟩
def k0_off13 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off14 (i : grid0.Coords) (k0_t3 : Fin k0_t3_loop.trips) : Fin 2 → Nat :=
  let arg0 : BitVec 32 := BitVec.ofNat 32 (i 0).val
  let c512_i32_11 : BitVec 32 := 512#32
  let v22 : BitVec 32 := Scalar.muli arg0 c512_i32_11
  let v23 : BitVec 32 := v22
  let c0_i32_12 : BitVec 32 := 0#32
  let c1_i32_14 : BitVec 32 := 1#32
  let arg7 : BitVec 32 := Scf.iv c0_i32_12 c1_i32_14 k0_t3
  let v25 : BitVec 32 := Scalar.addi v23 arg7
  let c0_i32_16 : BitVec 32 := 0#32
  ![v25.toNat, 0]
-- ==== Reference.lean ====
abbrev S16640x1024 : Shape := ⟨2, ![16640, 1024]⟩
abbrev S74752 : Shape := ⟨1, ![74752]⟩
abbrev S_ : Shape := ⟨0, ![]⟩
abbrev S74752x1 : Shape := ⟨2, ![74752, 1]⟩
abbrev S74752x1024 : Shape := ⟨2, ![74752, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S74752, .i32⟩
  | .hbm, ⟨2, _⟩ => ⟨S_, .i32⟩
  | .hbm, ⟨3, _⟩ => ⟨S74752, .i32⟩
  | .hbm, ⟨4, _⟩ => ⟨S74752, .i1⟩
  | .hbm, ⟨5, _⟩ => ⟨S_, .i32⟩
  | .hbm, ⟨6, _⟩ => ⟨S74752, .i32⟩
  | .hbm, ⟨7, _⟩ => ⟨S74752, .i32⟩
  | .hbm, ⟨8, _⟩ => ⟨S74752, .i32⟩
  | .hbm, ⟨9, _⟩ => ⟨S74752x1, .i32⟩
  | .hbm, ⟨10, _⟩ => ⟨S74752x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S292 : Shape := ⟨1, ![292]⟩
abbrev S1 : Shape := ⟨1, ![1]⟩
abbrev S74752x1024 : Shape := ⟨2, ![74752, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x1024x1024 : Shape := ⟨3, ![32, 1024, 1024]⟩
abbrev S32x2048 : Shape := ⟨2, ![32, 2048]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 22
  | .vmem => 12
  | .smem => 2
  | _ => 0

abbrev bufTy : (tb : Table) → Fin (tcTables nBuf tb) → BufTy
  | .hbm, ⟨0, _⟩ => ⟨S74752x1024, .f32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S32x1024x2048, .f32⟩
  | .hbm, ⟨6, _⟩ => ⟨S32x1024x1024, .f32⟩
  | .hbm, ⟨7, _⟩ => ⟨S32x1024x2048, .f32⟩
  | .hbm, ⟨8, _⟩ => ⟨S32x1024x1024, .f32⟩
  | .hbm, ⟨9, _⟩ => ⟨S32x1024x2048, .f32⟩
  | .hbm, ⟨10, _⟩ => ⟨S32x1024x2048, .bf16⟩
  | .hbm, ⟨11, _⟩ => ⟨S32x2048, .f32⟩
  | .hbm, ⟨12, _⟩ => ⟨S32x1024, .f32⟩
  | .hbm, ⟨13, _⟩ => ⟨S32x2048, .f32⟩
  | .hbm, ⟨14, _⟩ => ⟨S32x1024, .f32⟩
  | .hbm, ⟨15, _⟩ => ⟨S32x2048, .f32⟩
  | .hbm, ⟨16, _⟩ => ⟨S32x1x2048, .f32⟩
  | .hbm, ⟨17, _⟩ => ⟨S32x1024x1024, .f32⟩
  | .hbm, ⟨18, _⟩ => ⟨S32x1024x1024, .bf16⟩
  | .hbm, ⟨19, _⟩ => ⟨S32x1024, .f32⟩
  | .hbm, ⟨20, _⟩ => ⟨S32x1x1024, .f32⟩
  | .hbm, ⟨21, _⟩ => ⟨S74752x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S292, .i32⟩
  | .local _ .smem, ⟨1, _⟩ => ⟨S1, .i32⟩
  | _, _ => ⟨S74752x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S292 : Shape := ⟨1, ![292]⟩
abbrev S1 : Shape := ⟨1, ![1]⟩
abbrev S74752x1024 : Shape := ⟨2, ![74752, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S292x256x1024 : Shape := ⟨3, ![292, 256, 1024]⟩
abbrev S_ : Shape := ⟨0, ![]⟩
abbrev S292x1 : Shape := ⟨2, ![292, 1]⟩
abbrev S292x1024x2048 : Shape := ⟨3, ![292, 1024, 2048]⟩
abbrev S292x256x2048 : Shape := ⟨3, ![292, 256, 2048]⟩
abbrev S292x2048 : Shape := ⟨2, ![292, 2048]⟩
abbrev S292x1x2048 : Shape := ⟨3, ![292, 1, 2048]⟩
abbrev S292x1024x1024 : Shape := ⟨3, ![292, 1024, 1024]⟩
abbrev S292x1024 : Shape := ⟨2, ![292, 1024]⟩
abbrev S292x1x1024 : Shape := ⟨3, ![292, 1, 1024]⟩
abbrev S292x1x1 : Shape := ⟨3, ![292, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S292, .i32⟩
  | .hbm, ⟨1, _⟩ => ⟨S1, .i32⟩
  | .hbm, ⟨2, _⟩ => ⟨S74752x1024, .f32⟩
  | .hbm, ⟨3, _⟩ => ⟨S1x32x1024x2048, .f32⟩
  | .hbm, ⟨4, _⟩ => ⟨S1x32x2048, .f32⟩
  | .hbm, ⟨5, _⟩ => ⟨S1x32x1024x1024, .f32⟩
  | .hbm, ⟨6, _⟩ => ⟨S1x32x1024, .f32⟩
  | .hbm, ⟨7, _⟩ => ⟨S32x1024x2048, .f32⟩
  | .hbm, ⟨8, _⟩ => ⟨S32x2048, .f32⟩
  | .hbm, ⟨9, _⟩ => ⟨S32x1024x1024, .f32⟩
  | .hbm, ⟨10, _⟩ => ⟨S32x1024, .f32⟩
  | .hbm, ⟨11, _⟩ => ⟨S292x256x1024, .f32⟩
  | .hbm, ⟨12, _⟩ => ⟨S_, .i32⟩
  | .hbm, ⟨13, _⟩ => ⟨S292, .i32⟩
  | .hbm, ⟨14, _⟩ => ⟨S292, .i1⟩
  | .hbm, ⟨15, _⟩ => ⟨S_, .i32⟩
  | .hbm, ⟨16, _⟩ => ⟨S292, .i32⟩
  | .hbm, ⟨17, _⟩ => ⟨S292, .i32⟩
  | .hbm, ⟨18, _⟩ => ⟨S292, .i32⟩
  | .hbm, ⟨19, _⟩ => ⟨S292x1, .i32⟩
  | .hbm, ⟨20, _⟩ => ⟨S292x1024x2048, .f32⟩
  | .hbm, ⟨21, _⟩ => ⟨S292x256x2048, .f32⟩
  | .hbm, ⟨22, _⟩ => ⟨S_, .i32⟩
  | .hbm, ⟨23, _⟩ => ⟨S292, .i32⟩
  | .hbm, ⟨24, _⟩ => ⟨S292, .i1⟩
  | .hbm, ⟨25, _⟩ => ⟨S_, .i32⟩
  | .hbm, ⟨26, _⟩ => ⟨S292, .i32⟩
  | .hbm, ⟨27, _⟩ => ⟨S292, .i32⟩
  | .hbm, ⟨28, _⟩ => ⟨S292, .i32⟩
  | .hbm, ⟨29, _⟩ => ⟨S292x1, .i32⟩
  | .hbm, ⟨30, _⟩ => ⟨S292x2048, .f32⟩
  | .hbm, ⟨31, _⟩ => ⟨S292x1x2048, .f32⟩
  | .hbm, ⟨32, _⟩ => ⟨S292x256x2048, .f32⟩
  | .hbm, ⟨33, _⟩ => ⟨S292x256x2048, .f32⟩
  | .hbm, ⟨34, _⟩ => ⟨S292x256x1024, .f32⟩
  | .hbm, ⟨35, _⟩ => ⟨S_, .f32⟩
  | .hbm, ⟨36, _⟩ => ⟨S292x256x1024, .f32⟩
  | .hbm, ⟨37, _⟩ => ⟨S292x256x1024, .f32⟩
  | .hbm, ⟨38, _⟩ => ⟨S292x256x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S292x256x1024, .f32⟩
  | .hbm, ⟨43, _⟩ => ⟨S292x256x1024, .f32⟩
  | .hbm, ⟨44, _⟩ => ⟨S_, .f32⟩
  | .hbm, ⟨45, _⟩ => ⟨S292x256x1024, .f32⟩
  | .hbm, ⟨46, _⟩ => ⟨S292x256x1024, .f32⟩
  | .hbm, ⟨47, _⟩ => ⟨S_, .f32⟩
  | .hbm, ⟨48, _⟩ => ⟨S292x256x1024, .f32⟩
  | .hbm, ⟨49, _⟩ => ⟨S292x256x1024, .f32⟩
  | .hbm, ⟨50, _⟩ => ⟨S_, .f32⟩
  | .hbm, ⟨51, _⟩ => ⟨S292x256x1024, .f32⟩
  | .hbm, ⟨52, _⟩ => ⟨S292x256x1024, .f32⟩
  | .hbm, ⟨53, _⟩ => ⟨S292x256x1024, .f32⟩
  | .hbm, ⟨54, _⟩ => ⟨S292x256x1024, .f32⟩
  | .hbm, ⟨55, _⟩ => ⟨S_, .f32⟩
  | .hbm, ⟨56, _⟩ => ⟨S292x256x1024, .f32⟩
  | .hbm, ⟨57, _⟩ => ⟨S292x256x1024, .f32⟩
  | .hbm, ⟨58, _⟩ => ⟨S_, .f32⟩
  | .hbm, ⟨59, _⟩ => ⟨S292x256x1024, .f32⟩
  | .hbm, ⟨60, _⟩ => ⟨S292x256x1024, .f32⟩
  | .hbm, ⟨61, _⟩ => ⟨S292x256x1024, .f32⟩
  | .hbm, ⟨62, _⟩ => ⟨S292x256x1024, .f32⟩
  | .hbm, ⟨63, _⟩ => ⟨S_, .i32⟩
  | .hbm, ⟨64, _⟩ => ⟨S292, .i32⟩
  | .hbm, ⟨65, _⟩ => ⟨S292, .i1⟩
  | .hbm, ⟨66, _⟩ => ⟨S_, .i32⟩
  | .hbm, ⟨67, _⟩ => ⟨S292, .i32⟩
  | .hbm, ⟨68, _⟩ => ⟨S292, .i32⟩
  | .hbm, ⟨69, _⟩ => ⟨S292, .i32⟩
  | .hbm, ⟨70, _⟩ => ⟨S292x1, .i32⟩
  | .hbm, ⟨71, _⟩ => ⟨S292x1024x1024, .f32⟩
  | .hbm, ⟨72, _⟩ => ⟨S292x256x1024, .f32⟩
  | .hbm, ⟨73, _⟩ => ⟨S_, .i32⟩
  | .hbm, ⟨74, _⟩ => ⟨S292, .i32⟩
  | .hbm, ⟨75, _⟩ => ⟨S292, .i1⟩
  | .hbm, ⟨76, _⟩ => ⟨S_, .i32⟩
  | .hbm, ⟨77, _⟩ => ⟨S292, .i32⟩
  | .hbm, ⟨78, _⟩ => ⟨S292, .i32⟩
  | .hbm, ⟨79, _⟩ => ⟨S292, .i32⟩
  | .hbm, ⟨80, _⟩ => ⟨S292x1, .i32⟩
  | .hbm, ⟨81, _⟩ => ⟨S292x1024, .f32⟩
  | .hbm, ⟨82, _⟩ => ⟨S292x1x1024, .f32⟩
  | .hbm, ⟨83, _⟩ => ⟨S292x256x1024, .f32⟩
  | .hbm, ⟨84, _⟩ => ⟨S292x256x1024, .f32⟩
  | .hbm, ⟨85, _⟩ => ⟨S292, .i32⟩
  | .hbm, ⟨86, _⟩ => ⟨S_, .i32⟩
  | .hbm, ⟨87, _⟩ => ⟨S292, .i32⟩
  | .hbm, ⟨88, _⟩ => ⟨S292, .i1⟩
  | .hbm, ⟨89, _⟩ => ⟨S292x1x1, .i1⟩
  | .hbm, ⟨90, _⟩ => ⟨S_, .f32⟩
  | .hbm, ⟨91, _⟩ => ⟨S_, .f32⟩
  | .hbm, ⟨92, _⟩ => ⟨S292x256x1024, .i1⟩
  | .hbm, ⟨93, _⟩ => ⟨S292x256x1024, .f32⟩
  | .hbm, ⟨94, _⟩ => ⟨S292x256x1024, .f32⟩
  | .hbm, ⟨95, _⟩ => ⟨S74752x1024, .f32⟩
  | _, _ => ⟨S292, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== Kernel3.lean ====
abbrev S8x2048x1024 : Shape := ⟨3, ![8, 2048, 1024]⟩
abbrev S32x8x1024 : Shape := ⟨3, ![32, 8, 1024]⟩
abbrev S1x1024x7776 : Shape := ⟨3, ![1, 1024, 7776]⟩
abbrev S1x32x3x3072 : Shape := ⟨4, ![1, 32, 3, 3072]⟩
abbrev S16384x1024 : Shape := ⟨2, ![16384, 1024]⟩
abbrev S256x1024 : Shape := ⟨2, ![256, 1024]⟩
abbrev S16640x1024 : Shape := ⟨2, ![16640, 1024]⟩
abbrev S1024x7776 : Shape := ⟨2, ![1024, 7776]⟩
abbrev S1024x3072 : Shape := ⟨2, ![1024, 3072]⟩
abbrev S16640x3072 : Shape := ⟨2, ![16640, 3072]⟩
abbrev S640x1024 : Shape := ⟨2, ![640, 1024]⟩
abbrev S640x3072 : Shape := ⟨2, ![640, 3072]⟩
abbrev S16384x3072 : Shape := ⟨2, ![16384, 3072]⟩
abbrev S8x2048x3072 : Shape := ⟨3, ![8, 2048, 3072]⟩
abbrev S8x3x3072 : Shape := ⟨3, ![8, 3, 3072]⟩
abbrev S32x3x3072 : Shape := ⟨3, ![32, 3, 3072]⟩
abbrev S256x3072 : Shape := ⟨2, ![256, 3072]⟩
abbrev S32x8x3072 : Shape := ⟨3, ![32, 8, 3072]⟩
abbrev S32x11x3072 : Shape := ⟨3, ![32, 11, 3072]⟩
abbrev S1x8x3x3072 : Shape := ⟨4, ![1, 8, 3, 3072]⟩

abbrev nBuf : Space → Nat
  | .hbm => 21
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S32x8x1024, .f32⟩
  | .hbm, ⟨2, _⟩ => ⟨S1x1024x7776, .f32⟩
  | .hbm, ⟨3, _⟩ => ⟨S1x32x3x3072, .f32⟩
  | .hbm, ⟨4, _⟩ => ⟨S16384x1024, .f32⟩
  | .hbm, ⟨5, _⟩ => ⟨S256x1024, .f32⟩
  | .hbm, ⟨6, _⟩ => ⟨S16640x1024, .f32⟩
  | .hbm, ⟨7, _⟩ => ⟨S1024x7776, .f32⟩
  | .hbm, ⟨8, _⟩ => ⟨S1024x3072, .f32⟩
  | .hbm, ⟨9, _⟩ => ⟨S1024x3072, .bf16⟩
  | .hbm, ⟨10, _⟩ => ⟨S16640x3072, .f32⟩
  | .hbm, ⟨11, _⟩ => ⟨S16384x3072, .f32⟩
  | .hbm, ⟨12, _⟩ => ⟨S8x2048x3072, .f32⟩
  | .hbm, ⟨13, _⟩ => ⟨S8x3x3072, .f32⟩
  | .hbm, ⟨14, _⟩ => ⟨S32x3x3072, .f32⟩
  | .hbm, ⟨15, _⟩ => ⟨S256x3072, .f32⟩
  | .hbm, ⟨16, _⟩ => ⟨S32x8x3072, .f32⟩
  | .hbm, ⟨17, _⟩ => ⟨S32x11x3072, .f32⟩
  | .hbm, ⟨18, _⟩ => ⟨S32x3x3072, .f32⟩
  | .hbm, ⟨19, _⟩ => ⟨S1x8x3x3072, .f32⟩
  | .hbm, ⟨20, _⟩ => ⟨S1x32x3x3072, .f32⟩
  | .local _ .vmem, ⟨0, _⟩ => ⟨S640x1024, .f32⟩
  | .local _ .vmem, ⟨1, _⟩ => ⟨S640x1024, .f32⟩
  | .local _ .vmem, ⟨2, _⟩ => ⟨S1024x3072, .bf16⟩
  | .local _ .vmem, ⟨3, _⟩ => ⟨S640x3072, .f32⟩
  | .local _ .vmem, ⟨4, _⟩ => ⟨S640x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S8x2048x1024 : Shape := ⟨3, ![8, 2048, 1024]⟩
abbrev S32x8x1024 : Shape := ⟨3, ![32, 8, 1024]⟩
abbrev S1x1024x7776 : Shape := ⟨3, ![1, 1024, 7776]⟩
abbrev S1x32x3x3072 : Shape := ⟨4, ![1, 32, 3, 3072]⟩
abbrev S16384x1024 : Shape := ⟨2, ![16384, 1024]⟩
abbrev S256x1024 : Shape := ⟨2, ![256, 1024]⟩
abbrev S16640x1024 : Shape := ⟨2, ![16640, 1024]⟩
abbrev S1024x7776 : Shape := ⟨2, ![1024, 7776]⟩
abbrev S16640x7776 : Shape := ⟨2, ![16640, 7776]⟩
abbrev S16640x256 : Shape := ⟨2, ![16640, 256]⟩
abbrev S16640x64 : Shape := ⟨2, ![16640, 64]⟩
abbrev S16640x2048 : Shape := ⟨2, ![16640, 2048]⟩
abbrev S16640x3072 : Shape := ⟨2, ![16640, 3072]⟩
abbrev S16640x32 : Shape := ⟨2, ![16640, 32]⟩
abbrev S8x2048x7776 : Shape := ⟨3, ![8, 2048, 7776]⟩
abbrev S8x2048x256 : Shape := ⟨3, ![8, 2048, 256]⟩
abbrev S8x2048x64 : Shape := ⟨3, ![8, 2048, 64]⟩
abbrev S8x2048x2048 : Shape := ⟨3, ![8, 2048, 2048]⟩
abbrev S8x2048x3072 : Shape := ⟨3, ![8, 2048, 3072]⟩
abbrev S8x2048x32 : Shape := ⟨3, ![8, 2048, 32]⟩
abbrev S32x8x7776 : Shape := ⟨3, ![32, 8, 7776]⟩
abbrev S32x8x256 : Shape := ⟨3, ![32, 8, 256]⟩
abbrev S32x8x64 : Shape := ⟨3, ![32, 8, 64]⟩
abbrev S32x8x2048 : Shape := ⟨3, ![32, 8, 2048]⟩
abbrev S32x8x3072 : Shape := ⟨3, ![32, 8, 3072]⟩
abbrev S32x8x32 : Shape := ⟨3, ![32, 8, 32]⟩
abbrev S_ : Shape := ⟨0, ![]⟩
abbrev S8x3x3072 : Shape := ⟨3, ![8, 3, 3072]⟩
abbrev S8x2051x3072 : Shape := ⟨3, ![8, 2051, 3072]⟩
abbrev S32x3x3072 : Shape := ⟨3, ![32, 3, 3072]⟩
abbrev S32x11x3072 : Shape := ⟨3, ![32, 11, 3072]⟩
abbrev S1x8x3x3072 : Shape := ⟨4, ![1, 8, 3, 3072]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S32x8x1024, .f32⟩
  | .hbm, ⟨2, _⟩ => ⟨S1x1024x7776, .f32⟩
  | .hbm, ⟨3, _⟩ => ⟨S1x32x3x3072, .f32⟩
  | .hbm, ⟨4, _⟩ => ⟨S16384x1024, .f32⟩
  | .hbm, ⟨5, _⟩ => ⟨S256x1024, .f32⟩
  | .hbm, ⟨6, _⟩ => ⟨S16640x1024, .f32⟩
  | .hbm, ⟨7, _⟩ => ⟨S1024x7776, .f32⟩
  | .hbm, ⟨8, _⟩ => ⟨S16640x7776, .f32⟩
  | .hbm, ⟨9, _⟩ => ⟨S16640x256, .f32⟩
  | .hbm, ⟨10, _⟩ => ⟨S16640x256, .f32⟩
  | .hbm, ⟨11, _⟩ => ⟨S16640x64, .f32⟩
  | .hbm, ⟨12, _⟩ => ⟨S16640x2048, .f32⟩
  | .hbm, ⟨13, _⟩ => ⟨S16640x3072, .f32⟩
  | .hbm, ⟨14, _⟩ => ⟨S16640x32, .f32⟩
  | .hbm, ⟨15, _⟩ => ⟨S16640x1024, .f32⟩
  | .hbm, ⟨16, _⟩ => ⟨S16640x1024, .f32⟩
  | .hbm, ⟨17, _⟩ => ⟨S1024x7776, .f32⟩
  | .hbm, ⟨18, _⟩ => ⟨S8x2048x7776, .f32⟩
  | .hbm, ⟨19, _⟩ => ⟨S8x2048x256, .f32⟩
  | .hbm, ⟨20, _⟩ => ⟨S8x2048x256, .f32⟩
  | .hbm, ⟨21, _⟩ => ⟨S8x2048x64, .f32⟩
  | .hbm, ⟨22, _⟩ => ⟨S8x2048x2048, .f32⟩
  | .hbm, ⟨23, _⟩ => ⟨S8x2048x3072, .f32⟩
  | .hbm, ⟨24, _⟩ => ⟨S8x2048x32, .f32⟩
  | .hbm, ⟨25, _⟩ => ⟨S8x2048x1024, .f32⟩
  | .hbm, ⟨26, _⟩ => ⟨S8x2048x1024, .f32⟩
  | .hbm, ⟨27, _⟩ => ⟨S1024x7776, .f32⟩
  | .hbm, ⟨28, _⟩ => ⟨S32x8x7776, .f32⟩
  | .hbm, ⟨29, _⟩ => ⟨S32x8x256, .f32⟩
  | .hbm, ⟨30, _⟩ => ⟨S32x8x256, .f32⟩
  | .hbm, ⟨31, _⟩ => ⟨S32x8x64, .f32⟩
  | .hbm, ⟨32, _⟩ => ⟨S32x8x2048, .f32⟩
  | .hbm, ⟨33, _⟩ => ⟨S32x8x3072, .f32⟩
  | .hbm, ⟨34, _⟩ => ⟨S32x8x32, .f32⟩
  | .hbm, ⟨35, _⟩ => ⟨S32x8x1024, .f32⟩
  | .hbm, ⟨36, _⟩ => ⟨S32x8x1024, .f32⟩
  | .hbm, ⟨37, _⟩ => ⟨S_, .f32⟩
  | .hbm, ⟨38, _⟩ => ⟨S8x3x3072, .f32⟩
  | .hbm, ⟨39, _⟩ => ⟨S8x2051x3072, .f32⟩
  | .hbm, ⟨40, _⟩ => ⟨S32x3x3072, .f32⟩
  | .hbm, ⟨41, _⟩ => ⟨S32x11x3072, .f32⟩
  | .hbm, ⟨42, _⟩ => ⟨S8x3x3072, .f32⟩
  | .hbm, ⟨43, _⟩ => ⟨S1x8x3x3072, .f32⟩
  | .hbm, ⟨44, _⟩ => ⟨S32x3x3072, .f32⟩
  | .hbm, ⟨45, _⟩ => ⟨S1x32x3x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]
-- ==== Kernel4.lean ====
abbrev S8x2048x1024 : Shape := ⟨3, ![8, 2048, 1024]⟩
abbrev S32x8x1024 : Shape := ⟨3, ![32, 8, 1024]⟩
abbrev S1x1024x7776 : Shape := ⟨3, ![1, 1024, 7776]⟩
abbrev S16384x1024 : Shape := ⟨2, ![16384, 1024]⟩
abbrev S256x1024 : Shape := ⟨2, ![256, 1024]⟩
abbrev S16640x1024 : Shape := ⟨2, ![16640, 1024]⟩
abbrev S1024x7776 : Shape := ⟨2, ![1024, 7776]⟩
abbrev S1024x2048 : Shape := ⟨2, ![1024, 2048]⟩
abbrev S16640x2048 : Shape := ⟨2, ![16640, 2048]⟩
abbrev S640x1024 : Shape := ⟨2, ![640, 1024]⟩
abbrev S640x2048 : Shape := ⟨2, ![640, 2048]⟩

abbrev nBuf : Space → Nat
  | .hbm => 10
  | .vmem => 5
  | .smem => 0
  | _ => 0

abbrev bufTy : (tb : Table) → Fin (tcTables nBuf tb) → BufTy
  | .hbm, ⟨0, _⟩ => ⟨S8x2048x1024, .f32⟩
  | .hbm, ⟨1, _⟩ => ⟨S32x8x1024, .f32⟩
  | .hbm, ⟨2, _⟩ => ⟨S1x1024x7776, .f32⟩
  | .hbm, ⟨3, _⟩ => ⟨S16384x1024, .f32⟩
  | .hbm, ⟨4, _⟩ => ⟨S256x1024, .f32⟩
  | .hbm, ⟨5, _⟩ => ⟨S16640x1024, .f32⟩
  | .hbm, ⟨6, _⟩ => ⟨S1024x7776, .f32⟩
  | .hbm, ⟨7, _⟩ => ⟨S1024x2048, .f32⟩
  | .hbm, ⟨8, _⟩ => ⟨S1024x2048, .bf16⟩
  | .hbm, ⟨9, _⟩ => ⟨S16640x2048, .f32⟩
  | .local _ .vmem, ⟨0, _⟩ => ⟨S640x1024, .f32⟩
  | .local _ .vmem, ⟨1, _⟩ => ⟨S640x1024, .f32⟩
  | .local _ .vmem, ⟨2, _⟩ => ⟨S1024x2048, .bf16⟩
  | .local _ .vmem, ⟨3, _⟩ => ⟨S640x2048, .f32⟩
  | .local _ .vmem, ⟨4, _⟩ => ⟨S640x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8x2048x1024 : Shape := ⟨3, ![8, 2048, 1024]⟩
abbrev S32x8x1024 : Shape := ⟨3, ![32, 8, 1024]⟩
abbrev S1x1024x7776 : Shape := ⟨3, ![1, 1024, 7776]⟩
abbrev S16384x1024 : Shape := ⟨2, ![16384, 1024]⟩
abbrev S256x1024 : Shape := ⟨2, ![256, 1024]⟩
abbrev S16640x1024 : Shape := ⟨2, ![16640, 1024]⟩
abbrev S1024x7776 : Shape := ⟨2, ![1024, 7776]⟩
abbrev S16640x7776 : Shape := ⟨2, ![16640, 7776]⟩
abbrev S16640x256 : Shape := ⟨2, ![16640, 256]⟩
abbrev S16640x64 : Shape := ⟨2, ![16640, 64]⟩
abbrev S16640x2048 : Shape := ⟨2, ![16640, 2048]⟩
abbrev S16640x3072 : Shape := ⟨2, ![16640, 3072]⟩
abbrev S16640x32 : Shape := ⟨2, ![16640, 32]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S32x8x1024, .f32⟩
  | .hbm, ⟨2, _⟩ => ⟨S1x1024x7776, .f32⟩
  | .hbm, ⟨3, _⟩ => ⟨S16384x1024, .f32⟩
  | .hbm, ⟨4, _⟩ => ⟨S256x1024, .f32⟩
  | .hbm, ⟨5, _⟩ => ⟨S16640x1024, .f32⟩
  | .hbm, ⟨6, _⟩ => ⟨S1024x7776, .f32⟩
  | .hbm, ⟨7, _⟩ => ⟨S16640x7776, .f32⟩
  | .hbm, ⟨8, _⟩ => ⟨S16640x256, .f32⟩
  | .hbm, ⟨9, _⟩ => ⟨S16640x256, .f32⟩
  | .hbm, ⟨10, _⟩ => ⟨S16640x64, .f32⟩
  | .hbm, ⟨11, _⟩ => ⟨S16640x2048, .f32⟩
  | .hbm, ⟨12, _⟩ => ⟨S16640x3072, .f32⟩
  | .hbm, ⟨13, _⟩ => ⟨S16640x32, .f32⟩
  | .hbm, ⟨14, _⟩ => ⟨S16640x1024, .f32⟩
  | .hbm, ⟨15, _⟩ => ⟨S16640x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel5.lean ====
abbrev S16384x2048 : Shape := ⟨2, ![16384, 2048]⟩
abbrev S256x2048 : Shape := ⟨2, ![256, 2048]⟩
abbrev S16384x1024 : Shape := ⟨2, ![16384, 1024]⟩
abbrev S256x1024 : Shape := ⟨2, ![256, 1024]⟩
abbrev S16640x2048 : Shape := ⟨2, ![16640, 2048]⟩
abbrev S16640x1024 : Shape := ⟨2, ![16640, 1024]⟩
abbrev S1x2048x1024 : Shape := ⟨3, ![1, 2048, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S1x96 : Shape := ⟨2, ![1, 96]⟩
abbrev S1x128 : Shape := ⟨2, ![1, 128]⟩
abbrev S2048x1024 : Shape := ⟨2, ![2048, 1024]⟩
abbrev S1024x1024 : Shape := ⟨2, ![1024, 1024]⟩
abbrev S1024 : Shape := ⟨1, ![1024]⟩
abbrev S16640x128 : Shape := ⟨2, ![16640, 128]⟩
abbrev S256x128 : Shape := ⟨2, ![256, 128]⟩
abbrev S256 : Shape := ⟨1, ![256]⟩
abbrev S256x1 : Shape := ⟨2, ![256, 1]⟩

abbrev nBuf : Space → Nat
  | .hbm => 39
  | .vmem => 26
  | .smem => 0
  | _ => 0

abbrev bufTy : (tb : Table) → Fin (tcTables nBuf tb) → BufTy
  | .hbm, ⟨0, _⟩ => ⟨S16384x2048, .bf16⟩
  | .hbm, ⟨1, _⟩ => ⟨S256x2048, .bf16⟩
  | .hbm, ⟨2, _⟩ => ⟨S16384x1024, .bf16⟩
  | .hbm, ⟨3, _⟩ => ⟨S256x1024, .bf16⟩
  | .hbm, ⟨4, _⟩ => ⟨S16640x2048, .f32⟩
  | .hbm, ⟨5, _⟩ => ⟨S16640x1024, .f32⟩
  | .hbm, ⟨6, _⟩ => ⟨S1x2048x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x32, .f32⟩
  | .hbm, ⟨12, _⟩ => ⟨S1x32, .f32⟩
  | .hbm, ⟨13, _⟩ => ⟨S1024x32, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S1024x128, .f32⟩
  | .hbm, ⟨19, _⟩ => ⟨S1024x128, .f32⟩
  | .hbm, ⟨20, _⟩ => ⟨S1024x128, .bf16⟩
  | .hbm, ⟨21, _⟩ => ⟨S32, .f32⟩
  | .hbm, ⟨22, _⟩ => ⟨S1x32, .f32⟩
  | .hbm, ⟨23, _⟩ => ⟨S_, .f32⟩
  | .hbm, ⟨24, _⟩ => ⟨S1x96, .f32⟩
  | .hbm, ⟨25, _⟩ => ⟨S1x128, .f32⟩
  | .hbm, ⟨26, _⟩ => ⟨S2048x1024, .f32⟩
  | .hbm, ⟨27, _⟩ => ⟨S2048x1024, .bf16⟩
  | .hbm, ⟨28, _⟩ => ⟨S1024x1024, .f32⟩
  | .hbm, ⟨29, _⟩ => ⟨S1024x1024, .bf16⟩
  | .hbm, ⟨30, _⟩ => ⟨S1024x1024, .f32⟩
  | .hbm, ⟨31, _⟩ => ⟨S1024x1024, .bf16⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S16640x1024, .f32⟩
  | .hbm, ⟨37, _⟩ => ⟨S16640x128, .i32⟩
  | .hbm, ⟨38, _⟩ => ⟨S16640x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S2048x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x128, .bf16⟩
  | .local _ .vmem, ⟨18, _⟩ => ⟨S1024x128, .bf16⟩
  | .local _ .vmem, ⟨19, _⟩ => ⟨S1x128, .f32⟩
  | .local _ .vmem, ⟨20, _⟩ => ⟨S256x1024, .f32⟩
  | .local _ .vmem, ⟨21, _⟩ => ⟨S256x1024, .f32⟩
  | .local _ .vmem, ⟨22, _⟩ => ⟨S256x128, .i32⟩
  | .local _ .vmem, ⟨23, _⟩ => ⟨S256x128, .i32⟩
  | .local _ .vmem, ⟨24, _⟩ => ⟨S256x128, .f32⟩
  | .local _ .vmem, ⟨25, _⟩ => ⟨S256x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S16384x2048 : Shape := ⟨2, ![16384, 2048]⟩
abbrev S256x2048 : Shape := ⟨2, ![256, 2048]⟩
abbrev S16384x1024 : Shape := ⟨2, ![16384, 1024]⟩
abbrev S256x1024 : Shape := ⟨2, ![256, 1024]⟩
abbrev S16640x2048 : Shape := ⟨2, ![16640, 2048]⟩
abbrev S16640x1024 : Shape := ⟨2, ![16640, 1024]⟩
abbrev S1x2048x1024 : Shape := ⟨3, ![1, 2048, 1024]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S2048x1024 : Shape := ⟨2, ![2048, 1024]⟩
abbrev S1024x1024 : Shape := ⟨2, ![1024, 1024]⟩
abbrev S_ : Shape := ⟨0, ![]⟩
abbrev S1024 : Shape := ⟨1, ![1024]⟩
abbrev S16640 : Shape := ⟨1, ![16640]⟩
abbrev S16640x1 : Shape := ⟨2, ![16640, 1]⟩

abbrev nBuf : Space → Nat
  | .hbm => 79
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S256x2048, .bf16⟩
  | .hbm, ⟨2, _⟩ => ⟨S16384x1024, .bf16⟩
  | .hbm, ⟨3, _⟩ => ⟨S256x1024, .bf16⟩
  | .hbm, ⟨4, _⟩ => ⟨S16640x2048, .f32⟩
  | .hbm, ⟨5, _⟩ => ⟨S16640x1024, .f32⟩
  | .hbm, ⟨6, _⟩ => ⟨S1x2048x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x32, .f32⟩
  | .hbm, ⟨12, _⟩ => ⟨S1x32, .f32⟩
  | .hbm, ⟨13, _⟩ => ⟨S16640x2048, .bf16⟩
  | .hbm, ⟨14, _⟩ => ⟨S16640x2048, .f32⟩
  | .hbm, ⟨15, _⟩ => ⟨S16640x1024, .bf16⟩
  | .hbm, ⟨16, _⟩ => ⟨S16640x1024, .f32⟩
  | .hbm, ⟨17, _⟩ => ⟨S2048x1024, .f32⟩
  | .hbm, ⟨18, _⟩ => ⟨S16640x1024, .f32⟩
  | .hbm, ⟨19, _⟩ => ⟨S1024x1024, .f32⟩
  | .hbm, ⟨20, _⟩ => ⟨S16640x1024, .f32⟩
  | .hbm, ⟨21, _⟩ => ⟨S16640x1024, .f32⟩
  | .hbm, ⟨22, _⟩ => ⟨S16640x1024, .f32⟩
  | .hbm, ⟨23, _⟩ => ⟨S16640x1024, .f32⟩
  | .hbm, ⟨24, _⟩ => ⟨S16640x1024, .f32⟩
  | .hbm, ⟨25, _⟩ => ⟨S_, .f32⟩
  | .hbm, ⟨26, _⟩ => ⟨S16640x1024, .f32⟩
  | .hbm, ⟨27, _⟩ => ⟨S16640x1024, .f32⟩
  | .hbm, ⟨28, _⟩ => ⟨S_, .f32⟩
  | .hbm, ⟨29, _⟩ => ⟨S16640x1024, .f32⟩
  | .hbm, ⟨30, _⟩ => ⟨S16640x1024, .f32⟩
  | .hbm, ⟨31, _⟩ => ⟨S16640x1024, .f32⟩
  | .hbm, ⟨32, _⟩ => ⟨S16640x1024, .f32⟩
  | .hbm, ⟨33, _⟩ => ⟨S16640x1024, .f32⟩
  | .hbm, ⟨34, _⟩ => ⟨S_, .f32⟩
  | .hbm, ⟨35, _⟩ => ⟨S16640x1024, .f32⟩
  | .hbm, ⟨36, _⟩ => ⟨S16640x1024, .f32⟩
  | .hbm, ⟨37, _⟩ => ⟨S_, .f32⟩
  | .hbm, ⟨38, _⟩ => ⟨S16640x1024, .f32⟩
  | .hbm, ⟨39, _⟩ => ⟨S16640x1024, .f32⟩
  | .hbm, ⟨40, _⟩ => ⟨S16640x1024, .f32⟩
  | .hbm, ⟨41, _⟩ => ⟨S16640x1024, .f32⟩
  | .hbm, ⟨42, _⟩ => ⟨S_, .f32⟩
  | .hbm, ⟨43, _⟩ => ⟨S16640x1024, .f32⟩
  | .hbm, ⟨44, _⟩ => ⟨S16640x1024, .f32⟩
  | .hbm, ⟨45, _⟩ => ⟨S1024x1024, .f32⟩
  | .hbm, ⟨46, _⟩ => ⟨S16640x1024, .f32⟩
  | .hbm, ⟨47, _⟩ => ⟨S16640x1024, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S16640, .f32⟩
  | .hbm, ⟨52, _⟩ => ⟨S16640x1, .f32⟩
  | .hbm, ⟨53, _⟩ => ⟨S_, .f32⟩
  | .hbm, ⟨54, _⟩ => ⟨S16640x1, .f32⟩
  | .hbm, ⟨55, _⟩ => ⟨S16640x1, .f32⟩
  | .hbm, ⟨56, _⟩ => ⟨S16640x1024, .f32⟩
  | .hbm, ⟨57, _⟩ => ⟨S16640x1024, .f32⟩
  | .hbm, ⟨58, _⟩ => ⟨S16640x1024, .f32⟩
  | .hbm, ⟨59, _⟩ => ⟨S_, .f32⟩
  | .hbm, ⟨60, _⟩ => ⟨S16640, .f32⟩
  | .hbm, ⟨61, _⟩ => ⟨S16640x1, .f32⟩
  | .hbm, ⟨62, _⟩ => ⟨S_, .f32⟩
  | .hbm, ⟨63, _⟩ => ⟨S16640x1, .f32⟩
  | .hbm, ⟨64, _⟩ => ⟨S16640x1, .f32⟩
  | .hbm, ⟨65, _⟩ => ⟨S16640x1024, .f32⟩
  | .hbm, ⟨66, _⟩ => ⟨S16640x1024, .f32⟩
  | .hbm, ⟨67, _⟩ => ⟨S_, .f32⟩
  | .hbm, ⟨68, _⟩ => ⟨S16640x1, .f32⟩
  | .hbm, ⟨69, _⟩ => ⟨S16640x1, .f32⟩
  | .hbm, ⟨70, _⟩ => ⟨S16640x1, .f32⟩
  | .hbm, ⟨71, _⟩ => ⟨S16640x1024, .f32⟩
  | .hbm, ⟨72, _⟩ => ⟨S16640x1024, .f32⟩
  | .hbm, ⟨73, _⟩ => ⟨S1x1024, .f32⟩
  | .hbm, ⟨74, _⟩ => ⟨S16640x1024, .f32⟩
  | .hbm, ⟨75, _⟩ => ⟨S16640x1024, .f32⟩
  | .hbm, ⟨76, _⟩ => ⟨S1x1024, .f32⟩
  | .hbm, ⟨77, _⟩ => ⟨S16640x1024, .f32⟩
  | .hbm, ⟨78, _⟩ => ⟨S16640x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel6.lean ====
abbrev S8x2048x1024 : Shape := ⟨3, ![8, 2048, 1024]⟩
abbrev S32x8x1024 : Shape := ⟨3, ![32, 8, 1024]⟩
abbrev S1x1024x7776 : Shape := ⟨3, ![1, 1024, 7776]⟩
abbrev S1x256 : Shape := ⟨2, ![1, 256]⟩
abbrev S1x256x1536 : Shape := ⟨3, ![1, 256, 1536]⟩
abbrev S1x256x2048 : Shape := ⟨3, ![1, 256, 2048]⟩
abbrev S1024x7776 : Shape := ⟨2, ![1024, 7776]⟩
abbrev S1024x64 : Shape := ⟨2, ![1024, 64]⟩
abbrev S1024x32 : Shape := ⟨2, ![1024, 32]⟩
abbrev S1024x256 : Shape := ⟨2, ![1024, 256]⟩
abbrev S_ : Shape := ⟨0, ![]⟩
abbrev S1024x128 : Shape := ⟨2, ![1024, 128]⟩
abbrev S1024x896 : Shape := ⟨2, ![1024, 896]⟩
abbrev S256x1536 : Shape := ⟨2, ![256, 1536]⟩
abbrev S256x8x192 : Shape := ⟨3, ![256, 8, 192]⟩
abbrev S256x8x128 : Shape := ⟨3, ![256, 8, 128]⟩
abbrev S256x1024 : Shape := ⟨2, ![256, 1024]⟩
abbrev S256x8x64 : Shape := ⟨3, ![256, 8, 64]⟩
abbrev S256x8x32 : Shape := ⟨3, ![256, 8, 32]⟩
abbrev S256x512 : Shape := ⟨2, ![256, 512]⟩
abbrev S256x2048 : Shape := ⟨2, ![256, 2048]⟩
abbrev S256x8x256 : Shape := ⟨3, ![256, 8, 256]⟩
abbrev S8x128x256 : Shape := ⟨3, ![8, 128, 256]⟩
abbrev S256 : Shape := ⟨1, ![256]⟩
abbrev S2048 : Shape := ⟨1, ![2048]⟩
abbrev S1x2048 : Shape := ⟨2, ![1, 2048]⟩
abbrev S8x2048 : Shape := ⟨2, ![8, 2048]⟩
abbrev S16384 : Shape := ⟨1, ![16384]⟩
abbrev S8 : Shape := ⟨1, ![8]⟩
abbrev S1x8 : Shape := ⟨2, ![1, 8]⟩
abbrev S32x8 : Shape := ⟨2, ![32, 8]⟩
abbrev S16640 : Shape := ⟨1, ![16640]⟩
abbrev S32 : Shape := ⟨1, ![32]⟩
abbrev S16640x1 : Shape := ⟨2, ![16640, 1]⟩
abbrev S1x32 : Shape := ⟨2, ![1, 32]⟩
abbrev S16640x32 : Shape := ⟨2, ![16640, 32]⟩
abbrev S16640x128 : Shape := ⟨2, ![16640, 128]⟩
abbrev S16384x1024 : Shape := ⟨2, ![16384, 1024]⟩
abbrev S16640x1024 : Shape := ⟨2, ![16640, 1024]⟩
abbrev S8x16640x256 : Shape := ⟨3, ![8, 16640, 256]⟩
abbrev S8x16640x64 : Shape := ⟨3, ![8, 16640, 64]⟩
abbrev S16640x256 : Shape := ⟨2, ![16640, 256]⟩
abbrev S16640x64 : Shape := ⟨2, ![16640, 64]⟩
abbrev S256x128 : Shape := ⟨2, ![256, 128]⟩
abbrev S8x256x256 : Shape := ⟨3, ![8, 256, 256]⟩
abbrev S8x256x64 : Shape := ⟨3, ![8, 256, 64]⟩
abbrev S256x256 : Shape := ⟨2, ![256, 256]⟩
abbrev S256x64 : Shape := ⟨2, ![256, 64]⟩
abbrev S256x896 : Shape := ⟨2, ![256, 896]⟩
abbrev S256x1 : Shape := ⟨2, ![256, 1]⟩
abbrev S1x256x64 : Shape := ⟨3, ![1, 256, 64]⟩
abbrev S1x128x256 : Shape := ⟨3, ![1, 128, 256]⟩
abbrev S128x256 : Shape := ⟨2, ![128, 256]⟩
abbrev S1x256x256 : Shape := ⟨3, ![1, 256, 256]⟩
abbrev S16384x256 : Shape := ⟨2, ![16384, 256]⟩
abbrev S1x8x2048x256 : Shape := ⟨4, ![1, 8, 2048, 256]⟩
abbrev S16384x64 : Shape := ⟨2, ![16384, 64]⟩
abbrev S1x8x2048x64 : Shape := ⟨4, ![1, 8, 2048, 64]⟩
abbrev S1x32x8x256 : Shape := ⟨4, ![1, 32, 8, 256]⟩
abbrev S1x32x8x64 : Shape := ⟨4, ![1, 32, 8, 64]⟩

abbrev nBuf : Space → Nat
  | .hbm => 96
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S32x8x1024, .f32⟩
  | .hbm, ⟨2, _⟩ => ⟨S1x1024x7776, .f32⟩
  | .hbm, ⟨3, _⟩ => ⟨S1x256, .f32⟩
  | .hbm, ⟨4, _⟩ => ⟨S1x256x1536, .f32⟩
  | .hbm, ⟨5, _⟩ => ⟨S1x256, .f32⟩
  | .hbm, ⟨6, _⟩ => ⟨S1x256x2048, .f32⟩
  | .hbm, ⟨7, _⟩ => ⟨S1024x7776, .f32⟩
  | .hbm, ⟨8, _⟩ => ⟨S1024x64, .f32⟩
  | .hbm, ⟨9, _⟩ => ⟨S1024x32, .f32⟩
  | .hbm, ⟨10, _⟩ => ⟨S1024x32, .f32⟩
  | .hbm, ⟨11, _⟩ => ⟨S1024x64, .f32⟩
  | .hbm, ⟨12, _⟩ => ⟨S1024x256, .f32⟩
  | .hbm, ⟨13, _⟩ => ⟨S1024x256, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x32, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x896, .f32⟩
  | .hbm, ⟨25, _⟩ => ⟨S1024x896, .bf16⟩
  | .hbm, ⟨26, _⟩ => ⟨S256x1536, .f32⟩
  | .hbm, ⟨27, _⟩ => ⟨S256x8x192, .f32⟩
  | .hbm, ⟨28, _⟩ => ⟨S256x8x128, .f32⟩
  | .hbm, ⟨29, _⟩ => ⟨S256x1024, .f32⟩
  | .hbm, ⟨30, _⟩ => ⟨S256x8x64, .f32⟩
  | .hbm, ⟨31, _⟩ => ⟨S256x8x32, .f32⟩
  | .hbm, ⟨32, _⟩ => ⟨S256x8x32, .f32⟩
  | .hbm, ⟨33, _⟩ => ⟨S256x8x64, .f32⟩
  | .hbm, ⟨34, _⟩ => ⟨S256x512, .f32⟩
  | .hbm, ⟨35, _⟩ => ⟨S256x512, .f32⟩
  | .hbm, ⟨36, _⟩ => ⟨S256x2048, .f32⟩
  | .hbm, ⟨37, _⟩ => ⟨S256x2048, .bf16⟩
  | .hbm, ⟨38, _⟩ => ⟨S256x2048, .f32⟩
  | .hbm, ⟨39, _⟩ => ⟨S256x8x256, .f32⟩
  | .hbm, ⟨40, _⟩ => ⟨S256x8x128, .f32⟩
  | .hbm, ⟨41, _⟩ => ⟨S8x128x256, .f32⟩
  | .hbm, ⟨42, _⟩ => ⟨S8x128x256, .bf16⟩
  | .hbm, ⟨43, _⟩ => ⟨S256, .f32⟩
  | .hbm, ⟨44, _⟩ => ⟨S1x256, .f32⟩
  | .hbm, ⟨45, _⟩ => ⟨S256, .f32⟩
  | .hbm, ⟨46, _⟩ => ⟨S1x256, .f32⟩
  | .hbm, ⟨47, _⟩ => ⟨S2048, .i32⟩
  | .hbm, ⟨48, _⟩ => ⟨S1x2048, .i32⟩
  | .hbm, ⟨49, _⟩ => ⟨S8x2048, .i32⟩
  | .hbm, ⟨50, _⟩ => ⟨S16384, .i32⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S1x8, .i32⟩
  | .hbm, ⟨56, _⟩ => ⟨S32x8, .i32⟩
  | .hbm, ⟨57, _⟩ => ⟨S256, .i32⟩
  | .hbm, ⟨58, _⟩ => ⟨S16640, .i32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S16640, .f32⟩
  | .hbm, ⟨68, _⟩ => ⟨S16640x1, .f32⟩
  | .hbm, ⟨69, _⟩ => ⟨S1x32, .f32⟩
  | .hbm, ⟨70, _⟩ => ⟨S16640x32, .f32⟩
  | .hbm, ⟨71, _⟩ => ⟨S16640x32, .f32⟩
  | .hbm, ⟨72, _⟩ => ⟨S16640x32, .f32⟩
  | .hbm, ⟨73, _⟩ => ⟨S16640x32, .f32⟩
  | .hbm, ⟨74, _⟩ => ⟨S16640x32, .f32⟩
  | .hbm, ⟨75, _⟩ => ⟨S16640x128, .f32⟩
  | .hbm, ⟨76, _⟩ => ⟨S16640x32, .f32⟩
  | .hbm, ⟨77, _⟩ => ⟨S16640x128, .f32⟩
  | .hbm, ⟨78, _⟩ => ⟨S16384x1024, .f32⟩
  | .hbm, ⟨79, _⟩ => ⟨S256x1024, .f32⟩
  | .hbm, ⟨80, _⟩ => ⟨S16640x1024, .f32⟩
  | .hbm, ⟨81, _⟩ => ⟨S8x16640x256, .bf16⟩
  | .hbm, ⟨82, _⟩ => ⟨S8x16640x64, .bf16⟩
  | .hbm, ⟨83, _⟩ => ⟨S16640x256, .f32⟩
  | .hbm, ⟨84, _⟩ => ⟨S16640x256, .bf16⟩
  | .hbm, ⟨85, _⟩ => ⟨S16640x64, .f32⟩
  | .hbm, ⟨86, _⟩ => ⟨S16640x64, .bf16⟩
  | .hbm, ⟨87, _⟩ => ⟨S16640x128, .f32⟩
  | .hbm, ⟨88, _⟩ => ⟨S16384x256, .f32⟩
  | .hbm, ⟨89, _⟩ => ⟨S1x8x2048x256, .f32⟩
  | .hbm, ⟨90, _⟩ => ⟨S16384x64, .f32⟩
  | .hbm, ⟨91, _⟩ => ⟨S1x8x2048x64, .f32⟩
  | .hbm, ⟨92, _⟩ => ⟨S256x256, .f32⟩
  | .hbm, ⟨93, _⟩ => ⟨S1x32x8x256, .f32⟩
  | .hbm, ⟨94, _⟩ => ⟨S256x64, .f32⟩
  | .hbm, ⟨95, _⟩ => ⟨S1x32x8x64, .f32⟩
  | .local _ .vmem, ⟨0, _⟩ => ⟨S256x1024, .f32⟩
  | .local _ .vmem, ⟨1, _⟩ => ⟨S256x1024, .f32⟩
  | .local _ .vmem, ⟨2, _⟩ => ⟨S1024x896, .bf16⟩
  | .local _ .vmem, ⟨3, _⟩ => ⟨S1x256, .f32⟩
  | .local _ .vmem, ⟨4, _⟩ => ⟨S1x256, .f32⟩
  | .local _ .vmem, ⟨5, _⟩ => ⟨S256x2048, .bf16⟩
  | .local _ .vmem, ⟨6, _⟩ => ⟨S8x128x256, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S8x256x256, .bf16⟩
  | .local _ .vmem, ⟨12, _⟩ => ⟨S8x256x256, .bf16⟩
  | .local _ .vmem, ⟨13, _⟩ => ⟨S8x256x64, .bf16⟩
  | .local _ .vmem, ⟨14, _⟩ => ⟨S8x256x64, .bf16⟩
  | .local _ .vmem, ⟨15, _⟩ => ⟨S256x256, .f32⟩
  | .local _ .vmem, ⟨16, _⟩ => ⟨S256x256, .f32⟩
  | .local _ .vmem, ⟨17, _⟩ => ⟨S256x256, .bf16⟩
  | .local _ .vmem, ⟨18, _⟩ => ⟨S256x256, .bf16⟩
  | .local _ .vmem, ⟨19, _⟩ => ⟨S256x64, .f32⟩
  | .local _ .vmem, ⟨20, _⟩ => ⟨S256x64, .f32⟩
  | .local _ .vmem, ⟨21, _⟩ => ⟨S256x64, .bf16⟩
  | .local _ .vmem, ⟨22, _⟩ => ⟨S256x64, .bf16⟩
  | .local _ .vmem, ⟨23, _⟩ => ⟨S256x128, .f32⟩
  | .local _ .vmem, ⟨24, _⟩ => ⟨S256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65_0 : Ref sig .tc := ⟨.hbm, 81, rfl⟩
abbrev main_v65_1 : Ref sig .tc := ⟨.hbm, 82, rfl⟩
abbrev main_v65_2 : Ref sig .tc := ⟨.hbm, 83, rfl⟩
abbrev main_v65_3 : Ref sig .tc := ⟨.hbm, 84, rfl⟩
abbrev main_v65_4 : Ref sig .tc := ⟨.hbm, 85, rfl⟩
abbrev main_v65_5 : Ref sig .tc := ⟨.hbm, 86, rfl⟩
abbrev main_v65_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S8x2048x1024 : Shape := ⟨3, ![8, 2048, 1024]⟩
abbrev S32x8x1024 : Shape := ⟨3, ![32, 8, 1024]⟩
abbrev S1x1024x7776 : Shape := ⟨3, ![1, 1024, 7776]⟩
abbrev S1x256 : Shape := ⟨2, ![1, 256]⟩
abbrev S1x256x1536 : Shape := ⟨3, ![1, 256, 1536]⟩
abbrev S1x256x2048 : Shape := ⟨3, ![1, 256, 2048]⟩
abbrev S16384x1024 : Shape := ⟨2, ![16384, 1024]⟩
abbrev S256x1024 : Shape := ⟨2, ![256, 1024]⟩
abbrev S16640x1024 : Shape := ⟨2, ![16640, 1024]⟩
abbrev S1024x7776 : Shape := ⟨2, ![1024, 7776]⟩
abbrev S16640x7776 : Shape := ⟨2, ![16640, 7776]⟩
abbrev S16640x256 : Shape := ⟨2, ![16640, 256]⟩
abbrev S16640x64 : Shape := ⟨2, ![16640, 64]⟩
abbrev S16640x2048 : Shape := ⟨2, ![16640, 2048]⟩
abbrev S16640x3072 : Shape := ⟨2, ![16640, 3072]⟩
abbrev S16640x32 : Shape := ⟨2, ![16640, 32]⟩
abbrev S2048 : Shape := ⟨1, ![2048]⟩
abbrev S1x2048 : Shape := ⟨2, ![1, 2048]⟩
abbrev S8x2048 : Shape := ⟨2, ![8, 2048]⟩
abbrev S16384 : Shape := ⟨1, ![16384]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S16640 : Shape := ⟨1, ![16640]⟩
abbrev S16640x1 : Shape := ⟨2, ![16640, 1]⟩
abbrev S256x1536 : Shape := ⟨2, ![256, 1536]⟩
abbrev S16640x1536 : Shape := ⟨2, ![16640, 1536]⟩
abbrev S16640x8x192 : Shape := ⟨3, ![16640, 8, 192]⟩
abbrev S16640x8x64 : Shape := ⟨3, ![16640, 8, 64]⟩
abbrev S32 : Shape := ⟨1, ![32]⟩
abbrev S1x32 : Shape := ⟨2, ![1, 32]⟩
abbrev S16640x1x32 : Shape := ⟨3, ![16640, 1, 32]⟩
abbrev S16640x8x32 : Shape := ⟨3, ![16640, 8, 32]⟩
abbrev S256x2048 : Shape := ⟨2, ![256, 2048]⟩
abbrev S256x8x256 : Shape := ⟨3, ![256, 8, 256]⟩
abbrev S16640x8x128 : Shape := ⟨3, ![16640, 8, 128]⟩
abbrev S256x8x128 : Shape := ⟨3, ![256, 8, 128]⟩
abbrev S8x16640x256 : Shape := ⟨3, ![8, 16640, 256]⟩
abbrev S8x16640x64 : Shape := ⟨3, ![8, 16640, 64]⟩
abbrev S16640x128 : Shape := ⟨2, ![16640, 128]⟩
abbrev S16384x256 : Shape := ⟨2, ![16384, 256]⟩
abbrev S1x8x2048x256 : Shape := ⟨4, ![1, 8, 2048, 256]⟩
abbrev S16384x64 : Shape := ⟨2, ![16384, 64]⟩
abbrev S1x8x2048x64 : Shape := ⟨4, ![1, 8, 2048, 64]⟩
abbrev S256x256 : Shape := ⟨2, ![256, 256]⟩
abbrev S1x32x8x256 : Shape := ⟨4, ![1, 32, 8, 256]⟩
abbrev S256x64 : Shape := ⟨2, ![256, 64]⟩
abbrev S1x32x8x64 : Shape := ⟨4, ![1, 32, 8, 64]⟩

abbrev nBuf : Space → Nat
  | .hbm => 152
  | .vmem => 0
  | .smem => 0
  | _ => 0

abbrev hbmTy0_0 (i : Nat) : BufTy := match i % 128 with
  | 0 => ⟨S8x2048x1024, .f32⟩
  | 1 => ⟨S32x8x1024, .f32⟩
  | 2 => ⟨S1x1024x7776, .f32⟩
  | 3 => ⟨S1x256, .f32⟩
  | 4 => ⟨S1x256x1536, .f32⟩
  | 5 => ⟨S1x256, .f32⟩
  | 6 => ⟨S1x256x2048, .f32⟩
  | 7 => ⟨S16384x1024, .f32⟩
  | 8 => ⟨S256x1024, .f32⟩
  | 9 => ⟨S16640x1024, .f32⟩
  | 10 => ⟨S1024x7776, .f32⟩
  | 11 => ⟨S16640x7776, .f32⟩
  | 12 => ⟨S16640x256, .f32⟩
  | 13 => ⟨S16640x256, .f32⟩
  | 14 => ⟨S16640x64, .f32⟩
  | 15 => ⟨S16640x2048, .f32⟩
  | 16 => ⟨S16640x3072, .f32⟩
  | 17 => ⟨S16640x32, .f32⟩
  | 18 => ⟨S16640x1024, .f32⟩
  | 19 => ⟨S16640x1024, .f32⟩
  | 20 => ⟨S2048, .i32⟩
  | 21 => ⟨S1x2048, .i32⟩
  | 22 => ⟨S8x2048, .i32⟩
  | 23 => ⟨S16384, .i32⟩
  | 24 => ⟨S8, .i32⟩
  | 25 => ⟨S_, .i32⟩
  | 26 => ⟨S8, .i32⟩
  | 27 => ⟨S8, .i32⟩
  | 28 => ⟨S1x8, .i32⟩
  | 29 => ⟨S32x8, .i32⟩
  | 30 => ⟨S256, .i32⟩
  | 31 => ⟨S16640, .i32⟩
  | 32 => ⟨S256, .f32⟩
  | 33 => ⟨S16640x256, .f32⟩
  | 34 => ⟨S_, .f32⟩
  | 35 => ⟨S16640, .f32⟩
  | 36 => ⟨S16640x1, .f32⟩
  | 37 => ⟨S_, .f32⟩
  | 38 => ⟨S16640x1, .f32⟩
  | 39 => ⟨S16640x1, .f32⟩
  | 40 => ⟨S_, .f32⟩
  | 41 => ⟨S16640x1, .f32⟩
  | 42 => ⟨S16640x1, .f32⟩
  | 43 => ⟨S16640x1, .f32⟩
  | 44 => ⟨S16640x256, .f32⟩
  | 45 => ⟨S16640x256, .f32⟩
  | 46 => ⟨S1x256, .f32⟩
  | 47 => ⟨S16640x256, .f32⟩
  | 48 => ⟨S16640x256, .f32⟩
  | 49 => ⟨S256x1536, .f32⟩
  | 50 => ⟨S16640x1536, .f32⟩
  | 51 => ⟨S16640x8x192, .f32⟩
  | 52 => ⟨S16640x8x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S16640, .f32⟩
  | 62 => ⟨S16640x1, .f32⟩
  | 63 => ⟨S1x32, .f32⟩
  | 64 => ⟨S16640x32, .f32⟩
  | 65 => ⟨S16640x32, .f32⟩
  | 66 => ⟨S16640x32, .f32⟩
  | 67 => ⟨S16640x1x32, .f32⟩
  | 68 => ⟨S16640x1x32, .f32⟩
  | 69 => ⟨S16640x1x32, .f32⟩
  | 70 => ⟨S16640x8x32, .f32⟩
  | 71 => ⟨S16640x8x32, .f32⟩
  | 72 => ⟨S16640x8x32, .f32⟩
  | 73 => ⟨S16640x8x32, .f32⟩
  | 74 => ⟨S16640x8x32, .f32⟩
  | 75 => ⟨S16640x8x32, .f32⟩
  | 76 => ⟨S16640x8x32, .f32⟩
  | 77 => ⟨S16640x8x32, .f32⟩
  | 78 => ⟨S16640x8x32, .f32⟩
  | 79 => ⟨S16640x8x32, .f32⟩
  | 80 => ⟨S16640x8x32, .f32⟩
  | 81 => ⟨S16640x8x32, .f32⟩
  | 82 => ⟨S16640x8x64, .f32⟩
  | 83 => ⟨S256, .f32⟩
  | 84 => ⟨S16640x256, .f32⟩
  | 85 => ⟨S_, .f32⟩
  | 86 => ⟨S16640, .f32⟩
  | 87 => ⟨S16640x1, .f32⟩
  | 88 => ⟨S_, .f32⟩
  | 89 => ⟨S16640x1, .f32⟩
  | 90 => ⟨S16640x1, .f32⟩
  | 91 => ⟨S_, .f32⟩
  | 92 => ⟨S16640x1, .f32⟩
  | 93 => ⟨S16640x1, .f32⟩
  | 94 => ⟨S16640x1, .f32⟩
  | 95 => ⟨S16640x256, .f32⟩
  | 96 => ⟨S16640x256, .f32⟩
  | 97 => ⟨S1x256, .f32⟩
  | 98 => ⟨S16640x256, .f32⟩
  | 99 => ⟨S16640x256, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S16640, .f32⟩
  | 109 => ⟨S16640x1, .f32⟩
  | 110 => ⟨S1x32, .f32⟩
  | 111 => ⟨S16640x32, .f32⟩
  | 112 => ⟨S16640x32, .f32⟩
  | 113 => ⟨S16640x32, .f32⟩
  | 114 => ⟨S16640x32, .f32⟩
  | 115 => ⟨S16640x32, .f32⟩
  | 116 => ⟨S16640x32, .f32⟩
  | 117 => ⟨S16640x32, .f32⟩
  | 118 => ⟨S16640x32, .f32⟩
  | 119 => ⟨S16640x32, .f32⟩
  | 120 => ⟨S16640x32, .f32⟩
  | 121 => ⟨S16640x32, .f32⟩
  | 122 => ⟨S16640x32, .f32⟩
  | 123 => ⟨S16640x32, .f32⟩
  | 124 => ⟨S16640x64, .f32⟩
  | 125 => ⟨S256x2048, .f32⟩
  | 126 => ⟨S256x8x256, .f32⟩
  | 127 => ⟨S16640x8x128, .f32⟩
  | _ => ⟨S8x2048x1024, .f32⟩

abbrev hbmTy0_1 (i : Nat) : BufTy := match i % 128 with
  | 0 => ⟨S256x8x128, .f32⟩
  | 1 => ⟨S8x16640x256, .f32⟩
  | 2 => ⟨S_, .f32⟩
  | 3 => ⟨S8x16640x256, .f32⟩
  | 4 => ⟨S8x16640x256, .f32⟩
  | 5 => ⟨S8x16640x256, .bf16⟩
  | 6 => ⟨S8x16640x64, .f32⟩
  | 7 => ⟨S_, .f32⟩
  | 8 => ⟨S8x16640x64, .f32⟩
  | 9 => ⟨S8x16640x64, .f32⟩
  | 10 => ⟨S8x16640x64, .bf16⟩
  | 11 => ⟨S16640x256, .bf16⟩
  | 12 => ⟨S16640x64, .bf16⟩
  | 13 => ⟨S_, .i32⟩
  | 14 => ⟨S_, .f32⟩
  | 15 => ⟨S16640x128, .f32⟩
  | 16 => ⟨S16384x256, .f32⟩
  | 17 => ⟨S1x8x2048x256, .f32⟩
  | 18 => ⟨S16384x64, .f32⟩
  | 19 => ⟨S1x8x2048x64, .f32⟩
  | 20 => ⟨S256x256, .f32⟩
  | 21 => ⟨S1x32x8x256, .f32⟩
  | 22 => ⟨S256x64, .f32⟩
  | 23 => ⟨S1x32x8x64, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_4 : Ref sig .tc := ⟨.hbm, 85, rfl⟩
abbrev main_v72 : Ref sig .tc := ⟨.hbm, 86, rfl⟩
abbrev main_v73 : Ref sig .tc := ⟨.hbm, 87, rfl⟩
abbrev main_cst_5 : Ref sig .tc := ⟨.hbm, 88, rfl⟩
abbrev main_v74 : Ref sig .tc := ⟨.hbm, 89, rfl⟩
abbrev main_v75 : Ref sig .tc := ⟨.hbm, 90, rfl⟩
abbrev main_cst_6 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_7 : Ref sig .tc := ⟨.hbm, 102, rfl⟩
abbrev main_v86 : Ref sig .tc := ⟨.hbm, 103, rfl⟩
abbrev main_v87 : Ref sig .tc := ⟨.hbm, 104, rfl⟩
abbrev main_cst_8 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_9 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_10 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_c_11 : Ref sig .tc := ⟨.hbm, 141, rfl⟩
abbrev main_call0_v0 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩

abbrev nD : Nat := 1
abbrev τ : Topo := Topo.v7x

variable {F : FTy → Type} [FloatOps F]
-- ==== Kernel7.lean ====
abbrev S66560x1024 : Shape := ⟨2, ![66560, 1024]⟩
abbrev S16640x128 : Shape := ⟨2, ![16640, 128]⟩
abbrev S16640x1024 : Shape := ⟨2, ![16640, 1024]⟩
abbrev S1x1024 : Shape := ⟨2, ![1, 1024]⟩
abbrev S16640x4096 : Shape := ⟨2, ![16640, 4096]⟩
abbrev S1024 : Shape := ⟨1, ![1024]⟩
abbrev S16384x1024 : Shape := ⟨2, ![16384, 1024]⟩
abbrev S256x1024 : Shape := ⟨2, ![256, 1024]⟩
abbrev S256x4096 : Shape := ⟨2, ![256, 4096]⟩
abbrev S256x128 : Shape := ⟨2, ![256, 128]⟩
abbrev S256x1 : Shape := ⟨2, ![256, 1]⟩
abbrev S256 : Shape := ⟨1, ![256]⟩

abbrev nBuf : Space → Nat
  | .hbm => 12
  | .vmem => 12
  | .smem => 0
  | _ => 0

abbrev bufTy : (tb : Table) → Fin (tcTables nBuf tb) → BufTy
  | .hbm, ⟨0, _⟩ => ⟨S66560x1024, .f32⟩
  | .hbm, ⟨1, _⟩ => ⟨S16640x128, .f32⟩
  | .hbm, ⟨2, _⟩ => ⟨S16640x1024, .f32⟩
  | .hbm, ⟨3, _⟩ => ⟨S1x1024, .f32⟩
  | .hbm, ⟨4, _⟩ => ⟨S1x1024, .f32⟩
  | .hbm, ⟨5, _⟩ => ⟨S16640x4096, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S256x1024, .f32⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S66560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v52 : BitVec 1 := Scalar.cmpi .slt arg0 c64_i32
  let v53 : BitVec 32 := Scalar.extui v52
  let c0_i32 : BitVec 32 := 0#32
  let v54 : BitVec 1 := Scalar.cmpi .ne v53 c0_i32
  v54

def k0_cond2 (i : grid0.Coords) : BitVec 1 :=
  let arg0 : BitVec 32 := BitVec.ofNat 32 (i 0).val
  let c64_i32_17 : BitVec 32 := 64#32
  let v55 : BitVec 1 := Scalar.cmpi .sge arg0 c64_i32_17
  let v56 : BitVec 32 := Scalar.extui v55
  let c0_i32_18 : BitVec 32 := 0#32
  let v57 : BitVec 1 := Scalar.cmpi .ne v56 c0_i32_18
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S66560x1024 : Shape := ⟨2, ![66560, 1024]⟩
abbrev S16640x128 : Shape := ⟨2, ![16640, 128]⟩
abbrev S16640x1024 : Shape := ⟨2, ![16640, 1024]⟩
abbrev S1x1024 : Shape := ⟨2, ![1, 1024]⟩
abbrev S16640x4 : Shape := ⟨2, ![16640, 4]⟩
abbrev S16640x4x1024 : Shape := ⟨3, ![16640, 4, 1024]⟩
abbrev S16640x4x1 : Shape := ⟨3, ![16640, 4, 1]⟩
abbrev S_ : Shape := ⟨0, ![]⟩
abbrev S1024 : Shape := ⟨1, ![1024]⟩
abbrev S16640 : Shape := ⟨1, ![16640]⟩
abbrev S16640x1 : Shape := ⟨2, ![16640, 1]⟩
abbrev S16384x1024 : Shape := ⟨2, ![16384, 1024]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S66560x1024, .f32⟩
  | .hbm, ⟨1, _⟩ => ⟨S16640x128, .f32⟩
  | .hbm, ⟨2, _⟩ => ⟨S16640x1024, .f32⟩
  | .hbm, ⟨3, _⟩ => ⟨S1x1024, .f32⟩
  | .hbm, ⟨4, _⟩ => ⟨S1x1024, .f32⟩
  | .hbm, ⟨5, _⟩ => ⟨S16640x4, .f32⟩
  | .hbm, ⟨6, _⟩ => ⟨S16640x4x1024, .f32⟩
  | .hbm, ⟨7, _⟩ => ⟨S16640x4x1, .f32⟩
  | .hbm, ⟨8, _⟩ => ⟨S16640x4x1024, .f32⟩
  | .hbm, ⟨9, _⟩ => ⟨S16640x4x1024, .f32⟩
  | .hbm, ⟨10, _⟩ => ⟨S_, .f32⟩
  | .hbm, ⟨11, _⟩ => ⟨S16640x1024, .f32⟩
  | .hbm, ⟨12, _⟩ => ⟨S_, .f32⟩
  | .hbm, ⟨13, _⟩ => ⟨S16640x1024, .f32⟩
  | .hbm, ⟨14, _⟩ => ⟨S16640x1024, .f32⟩
  | .hbm, ⟨15, _⟩ => ⟨S16640x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S16640, .f32⟩
  | .hbm, ⟨20, _⟩ => ⟨S16640x1, .f32⟩
  | .hbm, ⟨21, _⟩ => ⟨S_, .f32⟩
  | .hbm, ⟨22, _⟩ => ⟨S16640x1, .f32⟩
  | .hbm, ⟨23, _⟩ => ⟨S16640x1, .f32⟩
  | .hbm, ⟨24, _⟩ => ⟨S16640x1024, .f32⟩
  | .hbm, ⟨25, _⟩ => ⟨S16640x1024, .f32⟩
  | .hbm, ⟨26, _⟩ => ⟨S16640x1024, .f32⟩
  | .hbm, ⟨27, _⟩ => ⟨S_, .f32⟩
  | .hbm, ⟨28, _⟩ => ⟨S16640, .f32⟩
  | .hbm, ⟨29, _⟩ => ⟨S16640x1, .f32⟩
  | .hbm, ⟨30, _⟩ => ⟨S_, .f32⟩
  | .hbm, ⟨31, _⟩ => ⟨S16640x1, .f32⟩
  | .hbm, ⟨32, _⟩ => ⟨S16640x1, .f32⟩
  | .hbm, ⟨33, _⟩ => ⟨S16640x1024, .f32⟩
  | .hbm, ⟨34, _⟩ => ⟨S16640x1024, .f32⟩
  | .hbm, ⟨35, _⟩ => ⟨S_, .f32⟩
  | .hbm, ⟨36, _⟩ => ⟨S16640x1, .f32⟩
  | .hbm, ⟨37, _⟩ => ⟨S16640x1, .f32⟩
  | .hbm, ⟨38, _⟩ => ⟨S16640x1, .f32⟩
  | .hbm, ⟨39, _⟩ => ⟨S16640x1024, .f32⟩
  | .hbm, ⟨40, _⟩ => ⟨S16640x1024, .f32⟩
  | .hbm, ⟨41, _⟩ => ⟨S1x1024, .f32⟩
  | .hbm, ⟨42, _⟩ => ⟨S16640x1024, .f32⟩
  | .hbm, ⟨43, _⟩ => ⟨S16640x1024, .f32⟩
  | .hbm, ⟨44, _⟩ => ⟨S1x1024, .f32⟩
  | .hbm, ⟨45, _⟩ => ⟨S16640x1024, .f32⟩
  | .hbm, ⟨46, _⟩ => ⟨S16640x1024, .f32⟩
  | .hbm, ⟨47, _⟩ => ⟨S16384x1024, .f32⟩
  | .hbm, ⟨48, _⟩ => ⟨S256x1024, .f32⟩
  | _, _ => ⟨S66560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel8.lean ====
abbrev S32x64x256 : Shape := ⟨3, ![32, 64, 256]⟩
abbrev S1x256x2048 : Shape := ⟨3, ![1, 256, 2048]⟩
abbrev S256x2048 : Shape := ⟨2, ![256, 2048]⟩
abbrev S256x8x256 : Shape := ⟨3, ![256, 8, 256]⟩
abbrev S256x8x128 : Shape := ⟨3, ![256, 8, 128]⟩
abbrev S8x256x128 : Shape := ⟨3, ![8, 256, 128]⟩
abbrev S32x8x8x256 : Shape := ⟨4, ![32, 8, 8, 256]⟩
abbrev S8x32x8x256 : Shape := ⟨4, ![8, 32, 8, 256]⟩
abbrev S8x256x256 : Shape := ⟨3, ![8, 256, 256]⟩
abbrev S256x1024 : Shape := ⟨2, ![256, 1024]⟩
abbrev S1x256x256 : Shape := ⟨3, ![1, 256, 256]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 11
  | .vmem => 6
  | .smem => 0
  | _ => 0

abbrev bufTy : (tb : Table) → Fin (tcTables nBuf tb) → BufTy
  | .hbm, ⟨0, _⟩ => ⟨S32x64x256, .f32⟩
  | .hbm, ⟨1, _⟩ => ⟨S1x256x2048, .f32⟩
  | .hbm, ⟨2, _⟩ => ⟨S256x2048, .f32⟩
  | .hbm, ⟨3, _⟩ => ⟨S256x8x256, .f32⟩
  | .hbm, ⟨4, _⟩ => ⟨S256x8x128, .f32⟩
  | .hbm, ⟨5, _⟩ => ⟨S8x256x128, .f32⟩
  | .hbm, ⟨6, _⟩ => ⟨S8x256x128, .bf16⟩
  | .hbm, ⟨7, _⟩ => ⟨S32x8x8x256, .f32⟩
  | .hbm, ⟨8, _⟩ => ⟨S8x32x8x256, .f32⟩
  | .hbm, ⟨9, _⟩ => ⟨S8x256x256, .f32⟩
  | .hbm, ⟨10, _⟩ => ⟨S256x1024, .bf16⟩
  | .local _ .vmem, ⟨0, _⟩ => ⟨S1x256x256, .f32⟩
  | .local _ .vmem, ⟨1, _⟩ => ⟨S1x256x256, .f32⟩
  | .local _ .vmem, ⟨2, _⟩ => ⟨S1x256x128, .bf16⟩
  | .local _ .vmem, ⟨3, _⟩ => ⟨S1x256x128, .bf16⟩
  | .local _ .vmem, ⟨4, _⟩ => ⟨S256x128, .bf16⟩
  | .local _ .vmem, ⟨5, _⟩ => ⟨S256x128, .bf16⟩
  | _, _ => ⟨S32x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S32x64x256 : Shape := ⟨3, ![32, 64, 256]⟩
abbrev S1x256x2048 : Shape := ⟨3, ![1, 256, 2048]⟩
abbrev S32x8x8x256 : Shape := ⟨4, ![32, 8, 8, 256]⟩
abbrev S256x2048 : Shape := ⟨2, ![256, 2048]⟩
abbrev S256x8x256 : Shape := ⟨3, ![256, 8, 256]⟩
abbrev S256x8x128 : Shape := ⟨3, ![256, 8, 128]⟩
abbrev S8x128x32x8 : Shape := ⟨4, ![8, 128, 32, 8]⟩
abbrev S32x8x8x128 : Shape := ⟨4, ![32, 8, 8, 128]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x64x256, .f32⟩
  | .hbm, ⟨1, _⟩ => ⟨S1x256x2048, .f32⟩
  | .hbm, ⟨2, _⟩ => ⟨S32x8x8x256, .f32⟩
  | .hbm, ⟨3, _⟩ => ⟨S256x2048, .f32⟩
  | .hbm, ⟨4, _⟩ => ⟨S256x8x256, .f32⟩
  | .hbm, ⟨5, _⟩ => ⟨S256x8x128, .f32⟩
  | .hbm, ⟨6, _⟩ => ⟨S8x128x32x8, .f32⟩
  | .hbm, ⟨7, _⟩ => ⟨S32x8x8x128, .f32⟩
  | .hbm, ⟨8, _⟩ => ⟨S256x1024, .f32⟩
  | .hbm, ⟨9, _⟩ => ⟨S256x1024, .bf16⟩
  | _, _ => ⟨S32x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.Rows.lean ====
/-
  The views the row gather copies between, named by a row number, and the numbers the kernel computes
  (which slot, which row) in closed form.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

noncomputable section

namespace Cert.KernelIdeal.Gen

open Idealize.ShloMosaic Idealize.ShloMosaic.TcCoe
open Idealize.SL Idealize.SL.Sem

/-- A row of the source, at an offset. -/
abbrev srcAt (r : Fin 2 → ℕ) (h : ∀ a, r a + S1x1024.size a ≤ S16640x1024.size a) : Memref sig .tc .hbm S1x1024 .f32 :=
  (Memref.whole main_arg0).slice (Rect.unit (s := S16640x1024) r S1x1024.size h) (fun _ => rfl)
/-- A row of the result, at an offset. -/
abbrev dstAt (r : Fin 2 → ℕ) (h : ∀ a, r a + S1x1024.size a ≤ S74752x1024.size a) : Memref sig .tc .hbm S1x1024 .f32 :=
  (Memref.whole main_v1).slice (Rect.unit (s := S74752x1024) r S1x1024.size h) (fun _ => rfl)
/-- A row of the reshaped index array, at an offset. -/
abbrev idxAt (r : Fin 2 → ℕ) (h : ∀ a, r a + S1x512.size a ≤ S146x512.size a) : Memref sig .tc .hbm S512 .i32 :=
  ((Memref.whole main_v0).slice (Rect.unit (s := S146x512) r S1x512.size h) (fun _ => rfl)).squeeze S512 squeezes_S1x512_S512
/-- A slot of the scratch words, at an offset. -/
abbrev wordAt (r : Fin 2 → ℕ) (h : ∀ a, r a + S1x512.size a ≤ S2x512.size a) : Memref sig .tc .smem S512 .i32 :=
  ((Memref.whole cc0_scratch0).slice (Rect.unit (s := S2x512) r S1x512.size h) (fun _ => rfl)).squeeze S512 squeezes_S1x512_S512

theorem srcInb {n : ℕ} (h : n < 16640) : ∀ a, (![n, 0] : Fin 2 → ℕ) a + S1x1024.size a ≤ S16640x1024.size a := by
  intro a; fin_cases a
  · show n + 1 ≤ 16640; omega
  · show 0 + 1024 ≤ 1024; omega
theorem dstInb {n : ℕ} (h : n < 74752) : ∀ a, (![n, 0] : Fin 2 → ℕ) a + S1x1024.size a ≤ S74752x1024.size a := by
  intro a; fin_cases a
  · show n + 1 ≤ 74752; omega
  · show 0 + 1024 ≤ 1024; omega
theorem idxInb {n : ℕ} (h : n < 146) : ∀ a, (![n, 0] : Fin 2 → ℕ) a + S1x512.size a ≤ S146x512.size a := by
  intro a; fin_cases a
  · show n + 1 ≤ 146; omega
  · show 0 + 512 ≤ 512; omega
theorem wordInb (n : ℕ) : ∀ a, (![n % 2, 0] : Fin 2 → ℕ) a + S1x512.size a ≤ S2x512.size a := by
  intro a; fin_cases a
  · show n % 2 + 1 ≤ 2; omega
  · show 0 + 512 ≤ 512; omega

/-- Row `n` of the source. -/
abbrev srcRow (n : Fin 16640) : Memref sig .tc .hbm S1x1024 .f32 := srcAt ![n.val, 0] (srcInb n.isLt)
/-- Row `n` of the result. -/
abbrev dstRow (n : Fin 74752) : Memref sig .tc .hbm S1x1024 .f32 := dstAt ![n.val, 0] (dstInb n.isLt)
/-- Row `n` of the index array. -/
abbrev idxRow (n : Fin 146) : Memref sig .tc .hbm S512 .i32 := idxAt ![n.val, 0] (idxInb n.isLt)
/-- The slot of the scratch words point `n` uses. -/
abbrev wordRow (n : ℕ) : Memref sig .tc .smem S512 .i32 := wordAt ![n % 2, 0] (wordInb n)

/-- The cell the copy of point `n`'s index row completes on. -/
def idxCell (n : ℕ) : DmaSem sig := (⟨n % 2, by show n % 2 < 4; omega⟩ : Fin 4)
/-- The cell the row copies of point `n` complete on. -/
def rowCell (n : ℕ) : DmaSem sig := (⟨2 + n % 2, by show 2 + n % 2 < 4; omega⟩ : Fin 4)

theorem idxCell_congr {a b : ℕ} (h : a % 2 = b % 2) : idxCell a = idxCell b := by unfold idxCell; simp only [h]
theorem rowCell_congr {a b : ℕ} (h : a % 2 = b % 2) : rowCell a = rowCell b := by unfold rowCell; simp only [h]

/-- The cell of `cc0_scratch1` at an offset. -/
abbrev idxSem (r : Fin 1 → ℕ) (h : ∀ a, r a + S1.size a ≤ S2.size a) : DmaSem sig :=
  ((cc0_scratch1.slice (Rect.unit (s := S2) r S1.size h)).squeeze S_ squeezes_S1_S_).sem
/-- The cell of `cc0_scratch2` at an offset. -/
abbrev rowSem (r : Fin 1 → ℕ) (h : ∀ a, r a + S1.size a ≤ S2.size a) : DmaSem sig :=
  ((cc0_scratch2.slice (Rect.unit (s := S2) r S1.size h)).squeeze S_ squeezes_S1_S_).sem

theorem idxSem0 : idxSem ![0] inb_S2_S1_0 = (⟨0, by decide⟩ : Fin 4) := by decide
theorem idxSem1 (h) : idxSem ![1] h = (⟨1, by decide⟩ : Fin 4) := by revert h; decide
theorem rowSem0 : rowSem ![0] inb_S2_S1_0 = (⟨2, by decide⟩ : Fin 4) := by decide
theorem rowSem1 (h) : rowSem ![1] h = (⟨3, by decide⟩ : Fin 4) := by revert h; decide

theorem idxSem_eq (n : ℕ) (r : Fin 1 → ℕ) (h) (hr : r = ![n % 2]) : idxSem r h = idxCell n := by
  subst hr
  rcases Nat.mod_two_eq_zero_or_one n with h0 | h0
  · unfold idxCell; simp only [h0]; exact idxSem0
  · unfold idxCell; simp only [h0]; exact idxSem1 _
theorem rowSem_eq (n : ℕ) (r : Fin 1 → ℕ) (h) (hr : r = ![n % 2]) : rowSem r h = rowCell n := by
  subst hr
  rcases Nat.mod_two_eq_zero_or_one n with h0 | h0
  · unfold rowCell; simp only [h0]; exact rowSem0
  · unfold rowCell; simp only [h0]; exact rowSem1 _

/-- What one row copy credits. -/
def rowN : ℕ := (dstRow 0).view.dmaCredit
/-- What one index copy credits. -/
def wordN : ℕ := (wordRow 0).view.dmaCredit
theorem rowN_pos : 0 < rowN := View.dmaCredit_pos _ (by decide)
theorem wordN_pos : 0 < wordN := View.dmaCredit_pos _ (by decide)
theorem rowN_eq (r h) : (dstAt r h).view.dmaCredit = rowN := rfl
theorem wordN_eq (r h) : (wordAt r h).view.dmaCredit = wordN := rfl

/-! ## The numbers the kernel computes -/

theorem grid_lt (i : grid0.Coords) : (i 0).val < 146 := (i 0).isLt

theorem rem_word : ∀ x : Fin 146, (Scalar.remsi (BitVec.ofNat 32 x.val) 2#32).toNat = x.val % 2 := by decide
theorem sub_rem_word : ∀ x : Fin 146, (Scalar.subi 1#32 (Scalar.remsi (BitVec.ofNat 32 x.val) 2#32)).toNat = (x.val + 1) % 2 := by decide
theorem succ_word : ∀ x : Fin 146, (Scalar.addi (BitVec.ofNat 32 x.val) 1#32).toNat = x.val + 1 := by decide

theorem off1_eq (i : grid0.Coords) : k0_off1 i = ![(i 0).val % 2] := by
  unfold k0_off1; rw [← rem_word (i 0)]
theorem off2_eq (i : grid0.Coords) : k0_off2 i = ![(i 0).val % 2, 0] := by
  unfold k0_off2; rw [← rem_word (i 0)]
theorem off3_eq (i : grid0.Coords) : k0_off3 i = ![(i 0).val, 0] := by
  have h : ∀ x : Fin 146, (BitVec.ofNat 32 x.val).toNat = x.val := by decide
  unfold k0_off3; show ![(BitVec.ofNat 32 (i 0).val).toNat, 0] = _; rw [h (i 0)]
theorem off4_eq (i : grid0.Coords) : k0_off4 i = ![((i 0).val + 1) % 2] := by
  unfold k0_off4; rw [← sub_rem_word (i 0)]
theorem off5_eq (i : grid0.Coords) : k0_off5 i = ![((i 0).val + 1) % 2, 0] := by
  unfold k0_off5; rw [← sub_rem_word (i 0)]
theorem off6_eq (i : grid0.Coords) : k0_off6 i = ![(i 0).val + 1, 0] := by
  unfold k0_off6; rw [← succ_word (i 0)]
theorem off8_eq (i : grid0.Coords) : k0_off8 i = ![(i 0).val % 2] := by
  unfold k0_off8; rw [← rem_word (i 0)]
theorem off11_eq (i : grid0.Coords) : k0_off11 i = ![((i 0).val + 1) % 2] := by
  unfold k0_off11; rw [← sub_rem_word (i 0)]
theorem off13_eq (i : grid0.Coords) : k0_off13 i = ![(i 0).val % 2] := by
  unfold k0_off13; rw [← rem_word (i 0)]

theorem trips1 : k0_t1_loop.trips = 512 := by decide
theorem trips2 : k0_t2_loop.trips = 512 := by decide
theorem trips3 : k0_t3_loop.trips = 512 := by decide

theorem iv_toNat (k : ℕ) (hk : k < 512) : (Scf.iv 0#32 1#32 k).toNat = k := by
  simp [Scf.iv]
  omega

theorem off7_eq (i : grid0.Coords) (k : Fin k0_t1_loop.trips) : k0_off7 i k = ![(i 0).val % 2, k.val] := by
  have hk : k.val < 512 := trips1 ▸ k.isLt
  unfold k0_off7
  rw [← rem_word (i 0)]
  simp only [Scalar.indexCast]
  rw [iv_toNat _ hk]
theorem off9_eq (i : grid0.Coords) (k : Fin k0_t1_loop.trips) : k0_off9 i k = ![512 * (i 0).val + k.val, 0] := by
  have hk : k.val < 512 := trips1 ▸ k.isLt
  have hi := grid_lt i
  have h : (Scalar.addi (Scalar.muli (BitVec.ofNat 32 (i 0).val) 512#32) (Scf.iv 0#32 1#32 k)).toNat = 512 * (i 0).val + k.val := by
    simp only [Scalar.addi, Scalar.muli, IntOp.addi, IntOp.muli, BitVec.toNat_add, BitVec.toNat_mul, iv_toNat _ hk, BitVec.toNat_ofNat]
    omega
  unfold k0_off9
  rw [← h]

theorem cond1_iff (i : grid0.Coords) :
    Scalar.cmpi .ne (Scalar.extui (Scalar.cmpi .eq (BitVec.ofNat 32 (i 0).val) 0#32) : BitVec 32) 0#32 = 1#1 ↔ (i 0).val = 0 := by
  have h : ∀ x : Fin 146, Scalar.cmpi .ne (Scalar.extui (Scalar.cmpi .eq (BitVec.ofNat 32 x.val) 0#32) : BitVec 32) 0#32 = 1#1 ↔ x.val = 0 := by decide
  exact h (i 0)
theorem cond2_iff (i : grid0.Coords) : k0_cond2 i = 1#1 ↔ (i 0).val + 1 < 146 := by
  have h : ∀ x : Fin 146, Scalar.cmpi .ne (Scalar.extui (Scalar.cmpi .slt (Scalar.addi (BitVec.ofNat 32 x.val) 1#32) 146#32) : BitVec 32) 0#32 = 1#1 ↔ x.val + 1 < 146 := by decide
  exact h (i 0)
theorem cond3_iff (i : grid0.Coords) : k0_cond3 i = 1#1 ↔ 0 < (i 0).val := by
  have h : ∀ x : Fin 146, Scalar.cmpi .ne (Scalar.extui (Scalar.cmpi .sgt (BitVec.ofNat 32 x.val) 0#32) : BitVec 32) 0#32 = 1#1 ↔ 0 < x.val := by decide
  exact h (i 0)
theorem cond4_iff (i : grid0.Coords) : k0_cond4 i = 1#1 ↔ (i 0).val = 145 := by
  have h : ∀ x : Fin 146, Scalar.cmpi .ne (Scalar.extui (Scalar.cmpi .eq (BitVec.ofNat 32 x.val) 145#32) : BitVec 32) 0#32 = 1#1 ↔ x.val = 145 := by decide
  exact h (i 0)

theorem chk1_of_lt (w : BitVec 32) (h : w.toNat < 16640) : k0_chk1 w := by
  unfold k0_chk1 k0_off10
  exact srcInb h

end Cert.KernelIdeal.Gen

end
-- ==== Proof.Contents.lean ====
/-
  What the row gather's views read and write: a row of the source, a row of the result, a word of a scratch slot once an
  index row has landed there; and that the result's rows, and the scratch's two slots, tile their buffers.
-/
module

public import proofs.«01_k».proof.Proof.Rows
public import Idealize.ShloMosaic.Lib.ValueIdxCore
public import Idealize.ShloMosaic.Lib.ViewIndex
public import Idealize.ShloMosaic.Lib.Pipeline.ValueKit.Geometry

@[expose] public section

noncomputable section

namespace Cert.KernelIdeal.Gen

open Idealize.ShloMosaic Idealize.ShloMosaic.TcCoe Idealize.ShloMosaic.ValueIdx
open Idealize.SL Idealize.SL.Sem

variable {F : FTy → Type} [FloatOps F]

abbrev SrcBuf (F : FTy → Type) (c : Dev nD) : Type := Buf (Elt F) ((c : Thread nD τ).loc main_arg0)
abbrev IdxBuf (F : FTy → Type) (c : Dev nD) : Type := Buf (Elt F) ((c : Thread nD τ).loc main_v0)
abbrev DstBuf (F : FTy → Type) (c : Dev nD) : Type := Buf (Elt F) ((c : Thread nD τ).loc main_v1)
abbrev WordBuf (F : FTy → Type) (c : Dev nD) : Type := Buf (Elt F) ((c : Thread nD τ).loc cc0_scratch0)

/-- The words of an index array, by position. -/
def wordOf {c : Dev nD} (fi : IdxBuf F c) (b : Fin 146) (k : Fin 512) : BitVec 32 := fi (ix2 b k)

/-- Every word names a row of the source. -/
def InRange {c : Dev nD} (fi : IdxBuf F c) : Prop := ∀ b k, (wordOf fi b k).toNat < 16640

/-- The row of the source that row `j` of the result holds. -/
def rowOf {c : Dev nD} (fi : IdxBuf F c) (h : InRange fi) (j : Fin 74752) : Fin 16640 :=
  ⟨(wordOf fi ⟨j.val / 512, by omega⟩ ⟨j.val % 512, by omega⟩).toNat, h _ _⟩

/-- The gathered rows. -/
def gathered {c : Dev nD} (fs : SrcBuf F c) (fi : IdxBuf F c) (h : InRange fi) : DstBuf F c :=
  fun i => fs (ix2 (rowOf fi h (i 0)) (i 1))

theorem emb_src (r : Fin 2 → ℕ) (h) (x : S1x1024.Idx) (a : Fin 2) : (((srcAt r h).view.emb x) a : ℕ) = r a + (x a : ℕ) :=
  ValueKit.view_emb_slice_whole_unit_val main_arg0 r _ h x a
theorem emb_dst (r : Fin 2 → ℕ) (h) (x : S1x1024.Idx) (a : Fin 2) : (((dstAt r h).view.emb x) a : ℕ) = r a + (x a : ℕ) :=
  ValueKit.view_emb_slice_whole_unit_val main_v1 r _ h x a

theorem x0_eq (x : S1x1024.Idx) : (x 0 : ℕ) = 0 := by
  have : (x 0 : ℕ) < 1 := (x 0).isLt
  omega

theorem mem_dstRow (j : Fin 74752) (i : S74752x1024.Idx) : i ∈ (dstRow j).view.set ↔ (i 0 : ℕ) = j.val := by
  constructor
  · intro h
    obtain ⟨x, -, rfl⟩ := Finset.mem_map.mp h
    rw [emb_dst _ _ x 0, x0_eq]; rfl
  · intro h
    refine Finset.mem_map.mpr ⟨ix2 (0 : Fin 1) (i 1), Finset.mem_univ _, ?_⟩
    funext a
    apply Fin.ext
    rw [emb_dst]
    match a with
    | ⟨0, _⟩ => exact h.symm
    | ⟨1, _⟩ => exact Nat.zero_add _

/-- A landed row is the gathered row. -/
theorem landed_row {c : Dev nD} (fs : SrcBuf F c) (fi : IdxBuf F c) (h : InRange fi) (f1 : DstBuf F c) (j : Fin 74752) (n : Fin 16640)
    (hn : n = rowOf fi h j) (i) (hi : i ∈ (dstRow j).view.set) :
    (dstRow j).view.write (Elt F) f1 ((ReadAs.same (Val := Elt F) (s := S1x1024) (e := .f32)).apply ((srcRow n).view.read (Elt F) fs)) Finset.univ i = gathered fs fi h i := by
  have hi0 := (mem_dstRow j i).mp hi
  obtain ⟨x, -, rfl⟩ := Finset.mem_map.mp hi
  rw [View.write_emb_of_mem _ _ (Finset.mem_univ x)]
  show fs ((srcRow n).view.emb x) = fs (ix2 (rowOf fi h _) _)
  congr 1
  funext a
  apply Fin.ext
  rw [emb_src]
  match a with
  | ⟨0, _⟩ =>
    have e : ((dstRow j).view.emb x) 0 = j := Fin.ext hi0
    show n.val + (x 0 : ℕ) = (rowOf fi h (((dstRow j).view.emb x) 0)).val
    rw [e, x0_eq, hn]; rfl
  | ⟨1, _⟩ =>
    show 0 + (x 1 : ℕ) = _
    exact (emb_dst ![j.val, 0] (dstInb j.isLt) x 1).symm

/-! ## The scratch words -/

theorem emb_word (b : ℕ) (y : S512.Idx) (a : Fin 2) :
    (((wordRow b).view.emb y) a : ℕ) = (![b % 2, 0] : Fin 2 → ℕ) a + (Shape.reshapeEquiv squeezes_S1x512_S512.numel_eq y a : ℕ) :=
  ValueKit.view_emb_slice_whole_unit_val cc0_scratch0 ![b % 2, 0] _ (wordInb b) _ a
theorem emb_idx (b : Fin 146) (y : S512.Idx) (a : Fin 2) :
    (((idxRow b).view.emb y) a : ℕ) = (![b.val, 0] : Fin 2 → ℕ) a + (Shape.reshapeEquiv squeezes_S1x512_S512.numel_eq y a : ℕ) :=
  ValueKit.view_emb_slice_whole_unit_val main_v0 ![b.val, 0] _ (idxInb b.isLt) _ a

theorem mem_wordRow (b : ℕ) (i : S2x512.Idx) : i ∈ (wordRow b).view.set ↔ (i 0 : ℕ) = b % 2 := by
  constructor
  · intro h
    obtain ⟨y, -, rfl⟩ := Finset.mem_map.mp h
    have := emb_word b y 0
    have h0 : (Shape.reshapeEquiv squeezes_S1x512_S512.numel_eq y 0 : ℕ) < 1 := (Shape.reshapeEquiv squeezes_S1x512_S512.numel_eq y 0).isLt
    rw [this]; show b % 2 + _ = _; omega
  · intro h
    refine Finset.mem_map.mpr ⟨(Shape.reshapeEquiv squeezes_S1x512_S512.numel_eq).symm (ix2 (0 : Fin 1) (i 1)), Finset.mem_univ _, ?_⟩
    funext a
    apply Fin.ext
    rw [emb_word, Equiv.apply_symm_apply]
    match a with
    | ⟨0, _⟩ => exact h.symm
    | ⟨1, _⟩ => exact Nat.zero_add _

/-- The word at position `k` of a slot where index row `b` has landed. -/
theorem landed_word {c : Dev nD} (fi : IdxBuf F c) (fd : WordBuf F c) (b : Fin 146) (i : S2x512.Idx) (k : Fin 512)
    (h0 : (i 0 : ℕ) = b.val % 2) (h1 : (i 1 : ℕ) = k.val) :
    (wordRow b.val).view.write (Elt F) fd ((ReadAs.same (Val := Elt F) (s := S512) (e := .i32)).apply ((idxRow b).view.read (Elt F) fi)) Finset.univ i = wordOf fi b k := by
  obtain ⟨y, -, rfl⟩ := Finset.mem_map.mp ((mem_wordRow b.val i).mpr h0)
  rw [View.write_emb_of_mem _ _ (Finset.mem_univ y)]
  show fi ((idxRow b).view.emb y) = fi (ix2 b k)
  congr 1
  have e0 := emb_word b.val y 0
  have e1 := emb_word b.val y 1
  funext a
  apply Fin.ext
  rw [emb_idx]
  match a with
  | ⟨0, _⟩ =>
    rw [h0] at e0
    have e0' : b.val % 2 = b.val % 2 + (Shape.reshapeEquiv squeezes_S1x512_S512.numel_eq y 0 : ℕ) := e0
    show b.val + (Shape.reshapeEquiv squeezes_S1x512_S512.numel_eq y 0 : ℕ) = b.val
    omega
  | ⟨1, _⟩ =>
    rw [h1] at e1
    exact e1.symm

theorem emb_access (r : Fin 2 → ℕ) (h : ∀ a, r a + S1x1.size a ≤ S2x512.size a) (x : S1x1.Idx) (a : Fin 2) :
    ((((Memref.whole cc0_scratch0).access (Rect.unit (s := S2x512) r S1x1.size h)).emb x) a : ℕ) = r a := by
  have := ValueKit.view_emb_slice_whole_unit_val cc0_scratch0 r _ h x a
  have hx : (x a : ℕ) = 0 := by
    have : (x a : ℕ) < S1x1.size a := (x a).isLt
    match a with
    | ⟨0, _⟩ => exact Nat.lt_one_iff.mp this
    | ⟨1, _⟩ => exact Nat.lt_one_iff.mp this
  rw [hx] at this
  exact this

theorem access_subset (b : ℕ) (k : ℕ) (r : Fin 2 → ℕ) (h) (hr : r = ![b % 2, k]) :
    ((Memref.whole cc0_scratch0).access (Rect.unit (s := S2x512) r S1x1.size h)).set ⊆ (wordRow b).view.set := by
  intro i hi
  obtain ⟨x, -, rfl⟩ := Finset.mem_map.mp hi
  apply (mem_wordRow b _).mpr
  rw [emb_access, hr]; rfl

/-- The load of a landed word. -/
theorem load_word {c : Dev nD} (fi : IdxBuf F c) (fd : WordBuf F c) (b : Fin 146) (k : Fin 512) (r : Fin 2 → ℕ) (h) (hr : r = ![b.val % 2, k.val])
    (x : S1x1.Idx) :
    ((Memref.whole cc0_scratch0).access (Rect.unit (s := S2x512) r S1x1.size h)).read (Elt F)
      ((wordRow b.val).view.write (Elt F) fd ((ReadAs.same (Val := Elt F) (s := S512) (e := .i32)).apply ((idxRow b).view.read (Elt F) fi)) Finset.univ) x = wordOf fi b k := by
  rw [View.read_apply]
  exact landed_word fi fd b _ k (by rw [emb_access, hr]; rfl) (by rw [emb_access, hr]; rfl)

/-! ## Tilings -/

abbrev dstSet (b : Fin 74752) : Finset S74752x1024.Idx := (dstRow b).view.set
abbrev wordSet (b : ℕ) : Finset S2x512.Idx := (wordRow b).view.set

theorem dst_disjoint (b b' : Fin 74752) (h : b ≠ b') : Disjoint (dstSet b) (dstSet b') := by
  rw [Finset.disjoint_left]
  intro i h1 h2
  exact h (Fin.ext (((mem_dstRow b i).mp h1).symm.trans ((mem_dstRow b' i).mp h2)))
theorem dst_cover : Finset.univ.biUnion dstSet = Finset.univ := by
  ext i
  simp only [Finset.mem_biUnion, Finset.mem_univ, true_and, iff_true]
  exact ⟨i 0, (mem_dstRow _ i).mpr rfl⟩

theorem word_disjoint (b : ℕ) : Disjoint (wordSet b) (wordSet (b + 1)) := by
  rw [Finset.disjoint_left]
  intro i h1 h2
  have e1 := (mem_wordRow b i).mp h1
  have e2 := (mem_wordRow (b + 1) i).mp h2
  omega
theorem word_union (b : ℕ) : wordSet b ∪ wordSet (b + 1) = Finset.univ := by
  ext i
  simp only [Finset.mem_union, Finset.mem_univ, iff_true]
  have h : (i 0 : ℕ) < 2 := (i 0).isLt
  by_cases h0 : (i 0 : ℕ) = b % 2
  · exact .inl ((mem_wordRow b i).mpr h0)
  · exact .inr ((mem_wordRow (b + 1) i).mpr (by omega))

end Cert.KernelIdeal.Gen

end
-- ==== Proof.Steps.lean ====
/-
  The row gather's single steps: an index row's copy issued and waited, a row copy issued from a loaded word, a row's
  wait — each for any point, over any float model.
-/
module

public import proofs.«01_k».proof.Proof.Contents

@[expose] public section

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareTokN shareDrop)

variable {F : FTy → Type} [FloatOps F]

/-- The proof's user algebra: the pipeline library's beside the transfers' counters. -/
local notation "𝕄" => MT nD τ sig Unit (Elt F) ℕ (Pipeline.UD sig nD τ) ℕ

abbrev EC : UEmb Counters 𝕄 := countersEmb (U := Pipeline.UD sig nD τ)

/-- The source, the result, the index array and the scratch words, by elements. -/
abbrev srcPt (c : Dev nD) (S : Finset S16640x1024.Idx) (q : PosShare TreeShare) (fs : SrcBuf F c) : sProp 𝕄 :=
  (Memref.whole main_arg0).view.loc (c : Thread nD τ) ↦[S]{q} fs
abbrev dstPt (c : Dev nD) (S : Finset S74752x1024.Idx) (f : DstBuf F c) : sProp 𝕄 :=
  (Memref.whole main_v1).view.loc (c : Thread nD τ) ↦[S]{fullShare} f
abbrev idxPt (c : Dev nD) (S : Finset S146x512.Idx) (f : IdxBuf F c) : sProp 𝕄 :=
  (Memref.whole main_v0).view.loc (c : Thread nD τ) ↦[S]{fullShare} f
abbrev wordPt (c : Dev nD) (S : Finset S2x512.Idx) (f : WordBuf F c) : sProp 𝕄 :=
  (Memref.whole cc0_scratch0).view.loc (c : Thread nD τ) ↦[S]{fullShare} f

abbrev idxSet (b : Fin 146) : Finset S146x512.Idx := (idxRow b).view.set
abbrev srcSet (n : Fin 16640) : Finset S16640x1024.Idx := (srcRow n).view.set

/-- What index row `b` leaves in its slot. -/
abbrev landed {c : Dev nD} (fi : IdxBuf F c) (b : Fin 146) (fd : WordBuf F c) : WordBuf F c :=
  (wordRow b.val).view.write (Elt F) fd ((ReadAs.same (Val := Elt F) (s := S512) (e := .i32)).apply ((idxRow b).view.read (Elt F) fi)) Finset.univ

/-- The index copy's delivery: its slot with the row's words, and the row back. -/
def idxD {c : Dev nD} (fi : IdxBuf F c) (b : Fin 146) (fd : WordBuf F c) : Fin 1 → sProp 𝕄 :=
  fun _ => iprop(wordPt c (wordSet b.val) (landed fi b fd) ∗ idxPt c (idxSet b) fi)

instance idxD_storable {c : Dev nD} (fi : IdxBuf F c) (b : Fin 146) (fd : WordBuf F c) (t : Fin 1) :
    Storable (upEmb : UEmb _ 𝕄) (idxD fi b fd t) := by unfold idxD; infer_instance

/-- The copy of index row `b` in flight. -/
def IdxFlight {c : Dev nD} (fi : IdxBuf F c) (b : Fin 146) : sProp 𝕄 :=
  iprop(∃ fd : WordBuf F c, Transfers.Batch EC (c : Thread nD τ) (.dma (idxCell b.val)) () wordN (idxD fi b fd) 1 0)

theorem ret_bind' {E : Type → Type} {α β : Type} (a : α) (k : α → Prog E β) : (Prog.ret a).bind k = k a := rfl

theorem idx_issue (c : Dev nD) (fi : IdxBuf F c) (b : Fin 146) (r4 : Fin 1 → ℕ) (h4) (r5 : Fin 2 → ℕ) (h5) (r6 : Fin 2 → ℕ) (h6)
    (e4 : r4 = ![b.val % 2]) (e5 : r5 = ![b.val % 2, 0]) (e6 : r6 = ![b.val, 0])
    (w1 : (idxAt r6 h6).view.WordExact) (w2 : (wordAt r5 h5).view.WordExact) (w3)
    (Q : PUnit → sProp 𝕄) :
    iprop((∃ fd, wordPt c (wordSet b.val) fd) ∗ idxPt c (idxSet b) fi ∗ semVal ((c : Thread nD τ), SemLoc.dma (idxCell b.val)) 0
        ∗ (IdxFlight fi b -∗ Q ⟨⟩))
      ⊢ wp frame (wpE (defs₀ (F := F)) Variants.none (c : Thread nD τ) none) Set.univ
          (Prog.lift (.enqueueDma (idxAt r6 h6) (.here (wordAt r5 h5)) (.dma (idxSem r4 h4)) w1 w2 w3)) Q := by
  obtain e := idxSem_eq b.val r4 h4 e4
  revert w3
  rw [e]
  subst e5 e6
  intro w3
  iintro ⟨⟨%fd, Hw⟩, Hi, Hs, Hk⟩
  imod (Transfers.batch_alloc' (Lvl := ℕ) EC (c : Thread nD τ) () wordN (idxD fi b fd) (sm := .dma (idxCell b.val)) (E := Set.univ)) $$ Hs with HB
  iapply (Transfers.wp_dmaBatch EC Variants.none (c : Thread nD τ) none (src := idxRow b) (dst := wordRow b.val) () wordN rfl subset_rfl
    (D := idxD fi b fd) (j := 0) (u := 0) (by decide) (Nat.zero_le _) (by unfold idxD; exact .rfl)) $$ [Hw Hi HB]
  · isplitl [Hi]; · iexact Hi
    isplitl [Hw]; · iexact Hw
    iexact HB
  iintro HB
  sl_step
  iapply Hk
  unfold IdxFlight
  iexists fd
  iexact HB

theorem idx_wait (c : Dev nD) (fi : IdxBuf F c) (b : Fin 146) (r1 : Fin 1 → ℕ) (h1) (r2 : Fin 2 → ℕ) (h2) (r3 : Fin 2 → ℕ) (h3)
    (e1 : r1 = ![b.val % 2])
    (w1 : (idxAt r3 h3).view.WordExact) (w2 : (wordAt r2 h2).view.WordExact)
    (Q : PUnit → sProp 𝕄) :
    iprop(IdxFlight fi b ∗ (∃ W, owes (c : Thread nD τ) 0 W)
        ∗ ((iprop((∃ fd, wordPt c (wordSet b.val) (landed fi b fd)) ∗ idxPt c (idxSet b) fi ∗ semVal ((c : Thread nD τ), SemLoc.dma (idxCell b.val)) 0
            ∗ ∃ W, owes (c : Thread nD τ) 0 W)) -∗ Q ⟨⟩))
      ⊢ wp frame (wpE (defs₀ (F := F)) Variants.none (c : Thread nD τ) none) Set.univ
          (Prog.lift (.waitDma2 (idxSem r1 h1) (idxAt r3 h3) (wordAt r2 h2) w1 w2)) Q := by
  obtain e := idxSem_eq b.val r1 h1 e1
  rw [e]
  unfold IdxFlight
  iintro ⟨⟨%fd, HB⟩, ⟨%W, HO⟩, Hk⟩
  iapply (Transfers.wp_waitBatchMul EC Variants.none (c : Thread nD τ) none () (N := wordN) 1 (by rw [Nat.one_mul]; rfl) (D := idxD fi b fd) (u := 0) (j := 1) (by omega)) $$ [HB HO]
  · isplitl [HB] <;> iassumption
  iintro ⟨HB, HO⟩
  rw [show 0 + 1 * wordN = wordN * 1 by omega]
  imod (Transfers.batch_collect' EC (c : Thread nD τ) wordN_pos) $$ HB with ⟨HD, Hs⟩
  sl_step
  iapply Hk
  ihave HD' := (show bigSep Finset.univ (idxD fi b fd) ⊢ idxD fi b fd 0 from (Entails.of_eq (by rw [show (Finset.univ : Finset (Fin 1)) = {0} from rfl, bigSep_singleton]))) $$ HD
  unfold idxD
  icases HD' with ⟨Hw, Hi⟩
  isplitl [Hw]; · iexists fd; iexact Hw
  isplitl [Hi]; · iexact Hi
  isplitl [Hs]; · iexact Hs
  iexists _; iexact HO

/-! ## Row copies -/

/-- Row `k` of chunk `b` of the result. -/
def J (b : Fin 146) (k : Fin 512) : Fin 74752 := ⟨512 * b.val + k.val, by omega⟩

theorem rowOf_J {c : Dev nD} (fi : IdxBuf F c) (h : InRange fi) (b : Fin 146) (k : Fin 512) : (rowOf fi h (J b k)).val = (wordOf fi b k).toNat := by
  unfold rowOf J
  have e1 : (512 * b.val + k.val) / 512 = b.val := by omega
  have e2 : (512 * b.val + k.val) % 512 = k.val := by omega
  simp only [e1, e2]

/-- The share of the source that chunks of `b`'s parity lend from. -/
abbrev half (b : ℕ) : PosShare TreeShare := shareTokN fullShare (b % 2)

/-- A row copy's delivery: the gathered row, and the source row back. -/
def rowD {c : Dev nD} (fs : SrcBuf F c) (fi : IdxBuf F c) (h : InRange fi) (b : Fin 146) : Fin 512 → sProp 𝕄 :=
  fun k => iprop(dstPt c (dstSet (J b k)) (gathered fs fi h) ∗ srcPt c (srcSet (rowOf fi h (J b k))) (shareTok (half b.val) 512 k) fs)

instance rowD_storable {c : Dev nD} (fs : SrcBuf F c) (fi : IdxBuf F c) (h : InRange fi) (b : Fin 146) (t : Fin 512) :
    Storable (upEmb : UEmb _ 𝕄) (rowD fs fi h b t) := by unfold rowD; infer_instance

/-- Chunk `b`'s copies on their cell, `j` issued and `u` units consumed. -/
abbrev RowBatch {c : Dev nD} (fs : SrcBuf F c) (fi : IdxBuf F c) (h : InRange fi) (b : Fin 146) (j u : ℕ) : sProp 𝕄 :=
  Transfers.Batch EC (c : Thread nD τ) (.dma (rowCell b.val)) () rowN (rowD fs fi h b) j u

theorem row_enqueue (c : Dev nD) (fs : SrcBuf F c) (fi : IdxBuf F c) (h : InRange fi) (f1 : DstBuf F c) (b : Fin 146) (k : Fin 512)
    (r8 : Fin 1 → ℕ) (h8) (r9 : Fin 2 → ℕ) (h9) (r10 : Fin 2 → ℕ) (h10)
    (e8 : r8 = ![b.val % 2]) (e9 : r9 = ![512 * b.val + k.val, 0]) (e10 : r10 = ![(wordOf fi b k).toNat, 0])
    (w1 : (srcAt r10 h10).view.WordExact) (w2 : (dstAt r9 h9).view.WordExact) (w3)
    (Q : PUnit → sProp 𝕄) :
    iprop(dstPt c (dstSet (J b k)) f1 ∗ srcPt c Finset.univ (shareTok (half b.val) 512 k) fs ∗ RowBatch fs fi h b k.val 0
        ∗ (iprop(srcPt c (Finset.univ \ srcSet (rowOf fi h (J b k))) (shareTok (half b.val) 512 k) fs ∗ RowBatch fs fi h b (k.val + 1) 0) -∗ Q ⟨⟩))
      ⊢ wp frame (wpE (defs₀ (F := F)) Variants.none (c : Thread nD τ) none) Set.univ
          (Prog.lift (.enqueueDma (srcAt r10 h10) (.here (dstAt r9 h9)) (.dma (rowSem r8 h8)) w1 w2 w3)) Q := by
  obtain e := rowSem_eq b.val r8 h8 e8
  revert w3
  rw [e]
  rw [← rowOf_J fi h b k] at e10
  subst e9 e10
  intro w3
  iintro ⟨Hd, Hs, HB, Hk⟩
  ihave Hs' := (pointsTo_split_subset (Finset.subset_univ (srcSet (rowOf fi h (J b k))))).1 $$ Hs
  icases Hs' with ⟨Hs, Hr⟩
  iapply (Transfers.wp_dmaBatch EC Variants.none (c : Thread nD τ) none (src := srcRow (rowOf fi h (J b k))) (dst := dstRow (J b k)) () rowN rfl subset_rfl
    (D := rowD fs fi h b) (j := k.val) (u := 0) k.isLt (Nat.zero_le _) (by
      unfold rowD
      refine sep_mono (Entails.of_eq (pointsTo_congr ?_)) .rfl
      exact fun i hi => landed_row fs fi h f1 (J b k) _ rfl i hi)) $$ [Hd Hs HB]
  · isplitl [Hs]; · iexact Hs
    isplitl [Hd]; · iexact Hd
    iexact HB
  iintro HB
  sl_step
  iapply Hk
  isplitl [Hr]; · iexact Hr
  iexact HB

/-- The coordinate of a grid point. -/
abbrev at0 (i : grid0.Coords) : Fin 146 := ⟨(i 0).val, grid_lt i⟩

/-- One trip of the issuing loop. -/
theorem trip1 (c : Dev nD) (fs : SrcBuf F c) (fi : IdxBuf F c) (h : InRange fi) (f1 : DstBuf F c) (fd : WordBuf F c) (i : grid0.Coords) (k : Fin 512)
    (k' : Fin k0_t1_loop.trips) (hk : k'.val = k.val) (h1 h2 h3 h4)
    (Q : Unit → sProp 𝕄) :
    iprop(wordPt c (wordSet (at0 i).val) (landed fi (at0 i) fd) ∗ dstPt c (dstSet (J (at0 i) k)) f1 ∗ srcPt c Finset.univ (shareTok (half (at0 i).val) 512 k) fs
        ∗ RowBatch fs fi h (at0 i) k.val 0
        ∗ (iprop(wordPt c (wordSet (at0 i).val) (landed fi (at0 i) fd) ∗ srcPt c (Finset.univ \ srcSet (rowOf fi h (J (at0 i) k))) (shareTok (half (at0 i).val) 512 k) fs
            ∗ RowBatch fs fi h (at0 i) (k.val + 1) 0) -∗ Q ⟨⟩))
      ⊢ wp frame (wpE (defs₀ (F := F)) Variants.none (c : Thread nD τ) none) Set.univ
          (k0_t1_body (F := F) i (Memref.whole main_v0) h1 (Memref.whole main_arg0) h2 (Memref.whole main_v1) h3 (Memref.whole cc0_scratch0) h4 cc0_scratch1 cc0_scratch2 k' ⟨⟩) Q := by
  unfold k0_t1_body
  iintro ⟨Hw, Hd, Hs, HB, Hk⟩
  have e7 : k0_off7 i k' = ![(at0 i).val % 2, k.val] := by rw [off7_eq, hk]
  have hl := load_word fi fd (at0 i) k (k0_off7 i k') (k0_off7_inb i k') e7
  simp only [smemLoad, smemLoadElt_bind]
  iapply (wp_smemLoadElt Variants.none (c : Thread nD τ) none Set.univ (m := Memref.whole cc0_scratch0) (r := Rect.unit (s := S2x512) (k0_off7 i k') S1x1.size (k0_off7_inb i k')) (S := wordSet (at0 i).val) (f := landed fi (at0 i) fd) (access_subset _ _ _ _ e7)) $$ [Hw]
  · iexact Hw
  iintro Hw
  rw [hl]
  iapply (wp_assume Variants.none (c : Thread nD τ) none Set.univ (chk1_of_lt _ (h (at0 i) k)))
  rw [ret_bind', wp_bind]
  iapply (row_enqueue c fs fi h f1 (at0 i) k (k0_off8 i) (k0_off8_inb i) (k0_off9 i k') (k0_off9_inb i k') (k0_off10 (wordOf fi (at0 i) k)) _
    (off8_eq i) (by rw [off9_eq, hk]) rfl _ _ _)
  isplitl [Hd]; · iexact Hd
  isplitl [Hs]; · iexact Hs
  isplitl [HB]; · iexact HB
  iintro ⟨Hs, HB⟩
  sl_step
  iapply Hk
  isplitl [Hw]; · iexact Hw
  isplitl [Hs]; · iexact Hs
  iexact HB

/-- One row's wait. -/
theorem row_wait (c : Dev nD) (fs : SrcBuf F c) (fi : IdxBuf F c) (h : InRange fi) (b : Fin 146) (k : ℕ) (hk : k < 512)
    (r8 : Fin 1 → ℕ) (h8) (r9 : Fin 2 → ℕ) (h9) (r10 : Fin 2 → ℕ) (h10) (e8 : r8 = ![b.val % 2])
    (w1 : (srcAt r10 h10).view.WordExact) (w2 : (dstAt r9 h9).view.WordExact)
    (Q : PUnit → sProp 𝕄) :
    iprop(RowBatch fs fi h b 512 (k * rowN) ∗ (∃ W, owes (c : Thread nD τ) 0 W)
        ∗ (iprop(RowBatch fs fi h b 512 ((k + 1) * rowN) ∗ ∃ W, owes (c : Thread nD τ) 0 W) -∗ Q ⟨⟩))
      ⊢ wp frame (wpE (defs₀ (F := F)) Variants.none (c : Thread nD τ) none) Set.univ
          (Prog.lift (.waitDma2 (rowSem r8 h8) (srcAt r10 h10) (dstAt r9 h9) w1 w2)) Q := by
  obtain e := rowSem_eq b.val r8 h8 e8
  rw [e]
  iintro ⟨HB, ⟨%W, HO⟩, Hk⟩
  iapply (Transfers.wp_waitBatchMul EC Variants.none (c : Thread nD τ) none () (N := rowN) 1 (by rw [Nat.one_mul]; rfl) (D := rowD fs fi h b) (u := k * rowN) (j := 512)
    (by rw [← Nat.add_mul, Nat.mul_comm]; exact Nat.mul_le_mul_left _ (by omega))) $$ [HB HO]
  · isplitl [HB] <;> iassumption
  iintro ⟨HB, HO⟩
  rw [show k * rowN + 1 * rowN = (k + 1) * rowN by rw [← Nat.add_mul]]
  sl_step
  iapply Hk
  isplitl [HB]; · iexact HB
  iexists _; iexact HO

end Cert.KernelIdeal.Gen

end
-- ==== Proof.Loops.lean ====
/-
  The row gather's loops: a chunk's copies issued, a chunk's copies drained.
-/
module

public import proofs.«01_k».proof.Proof.Steps

@[expose] public section

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareTokN shareDrop)
open Idealize.ShloMosaic.Ring (rangeSet rangeSet_univ bigSep_rangeSet_head bigSep_rangeSet_last bigSep_rangeSet_empty)

variable {F : FTy → Type} [FloatOps F]

/-- The proof's user algebra. -/
local notation "𝕄" => MT nD τ sig Unit (Elt F) ℕ (Pipeline.UD sig nD τ) ℕ

/-- Row `k` of chunk `b` of the result, at contents `f`. -/
abbrev rowAtF {c : Dev nD} (f : DstBuf F c) (b : Fin 146) (k : Fin 512) : sProp 𝕄 := dstPt c (dstSet (J b k)) f
/-- The token of the source that row `k` of chunk `b` is copied under, whole. -/
abbrev tokF {c : Dev nD} (fs : SrcBuf F c) (b : Fin 146) (k : Fin 512) : sProp 𝕄 := srcPt c Finset.univ (shareTok (half b.val) 512 k) fs
/-- What of that token is kept while the copy is in flight. -/
abbrev restF {c : Dev nD} (fs : SrcBuf F c) (fi : IdxBuf F c) (h : InRange fi) (b : Fin 146) (k : Fin 512) : sProp 𝕄 :=
  srcPt c (Finset.univ \ srcSet (rowOf fi h (J b k))) (shareTok (half b.val) 512 k) fs

/-- The issuing loop's invariant. -/
def inv1 {c : Dev nD} (fs : SrcBuf F c) (fi : IdxBuf F c) (h : InRange fi) (f1 : DstBuf F c) (fd : WordBuf F c) (b : Fin 146) (n : ℕ) (_ : Unit) : sProp 𝕄 :=
  iprop(wordPt c (wordSet b.val) (landed fi b fd) ∗ bigSep (rangeSet 512 n 512) (rowAtF f1 b) ∗ bigSep (rangeSet 512 n 512) (tokF fs b)
    ∗ bigSep (rangeSet 512 0 n) (restF fs fi h b) ∗ RowBatch fs fi h b n 0)

theorem inv1_step (c : Dev nD) (fs : SrcBuf F c) (fi : IdxBuf F c) (h : InRange fi) (f1 : DstBuf F c) (fd : WordBuf F c) (i : grid0.Coords) (h1 h2 h3 h4)
    (k : Fin k0_t1_loop.trips) (a : Unit) :
    inv1 fs fi h f1 fd (at0 i) k.val a
      ⊢ wp frame (wpE (defs₀ (F := F)) Variants.none (c : Thread nD τ) none) Set.univ
          (k0_t1_body (F := F) i (Memref.whole main_v0) h1 (Memref.whole main_arg0) h2 (Memref.whole main_v1) h3 (Memref.whole cc0_scratch0) h4 cc0_scratch1 cc0_scratch2 k a)
          (inv1 fs fi h f1 fd (at0 i) (k.val + 1)) := by
  have hk : k.val < 512 := trips1 ▸ k.isLt
  unfold inv1
  rw [bigSep_rangeSet_head hk hk, bigSep_rangeSet_head (Φ := tokF fs (at0 i)) hk hk,
    bigSep_rangeSet_last (lo := 0) (hi := k.val + 1) (Φ := restF fs fi h (at0 i)) (by omega) (by omega)]
  iintro ⟨Hw, ⟨Hd, Hds⟩, ⟨Ht, Hts⟩, Hr, HB⟩
  iapply (trip1 c fs fi h f1 fd i ⟨k.val, hk⟩ k rfl h1 h2 h3 h4)
  isplitl [Hw]; · iexact Hw
  isplitl [Hd]; · iexact Hd
  isplitl [Ht]; · iexact Ht
  isplitl [HB]; · iexact HB
  iintro ⟨Hw, Hr1, HB⟩
  isplitl [Hw]; · iexact Hw
  isplitl [Hds]; · iexact Hds
  isplitl [Hts]; · iexact Hts
  isplitl [Hr Hr1]
  · isplitl [Hr1]; · iexact Hr1
    iexact Hr
  iexact HB

/-- The issuing loop: a chunk's copies, all in flight. -/
theorem loop1 (c : Dev nD) (fs : SrcBuf F c) (fi : IdxBuf F c) (h : InRange fi) (f1 : DstBuf F c) (fd : WordBuf F c) (i : grid0.Coords) (h1 h2 h3 h4)
    (Q : Unit → sProp 𝕄) :
    iprop(wordPt c (wordSet (at0 i).val) (landed fi (at0 i) fd) ∗ bigSep Finset.univ (rowAtF f1 (at0 i)) ∗ bigSep Finset.univ (tokF fs (at0 i))
        ∗ semVal ((c : Thread nD τ), SemLoc.dma (rowCell (at0 i).val)) 0
        ∗ (iprop(wordPt c (wordSet (at0 i).val) (landed fi (at0 i) fd) ∗ bigSep Finset.univ (restF fs fi h (at0 i)) ∗ RowBatch fs fi h (at0 i) 512 0) -∗ Q ⟨⟩))
      ⊢ wp frame (wpE (defs₀ (F := F)) Variants.none (c : Thread nD τ) none) Set.univ
          (Scf.Loop.for k0_t1_loop k0_t1_ok ⟨⟩ (k0_t1_body (F := F) i (Memref.whole main_v0) h1 (Memref.whole main_arg0) h2 (Memref.whole main_v1) h3 (Memref.whole cc0_scratch0) h4 cc0_scratch1 cc0_scratch2)) Q := by
  iintro ⟨Hw, Hd, Ht, Hs, Hk⟩
  imod (Transfers.batch_alloc' (Lvl := ℕ) EC (c : Thread nD τ) () rowN (rowD fs fi h (at0 i)) (sm := .dma (rowCell (at0 i).val)) (E := Set.univ)) $$ Hs with HB
  iapply (Scf.wp_for frame (wpE (defs₀ (F := F)) Variants.none (c : Thread nD τ) none) Set.univ k0_t1_loop.lb k0_t1_loop.ub k0_t1_loop.st k0_t1_ok ⟨⟩ _
    (inv1 fs fi h f1 fd (at0 i)) (inv1_step c fs fi h f1 fd i h1 h2 h3 h4))
  rw [show Scf.trips k0_t1_loop.lb k0_t1_loop.ub k0_t1_loop.st = 512 from trips1]
  unfold inv1
  rw [bigSep_rangeSet_empty (lo := 0) (hi := 0) (Φ := restF fs fi h (at0 i)) le_rfl, rangeSet_univ]
  isplitr [Hk]
  · isplitl [Hw]; · iexact Hw
    isplitl [Hd]; · iexact Hd
    isplitl [Ht]; · iexact Ht
    isplitr; · iempintro
    iexact HB
  iintro %a ⟨Hw, -, -, Hr, HB⟩
  cases a
  iapply Hk
  isplitl [Hw]; · iexact Hw
  isplitl [Hr]; · iexact Hr
  iexact HB

/-- A draining loop's invariant. -/
def inv2 {c : Dev nD} (fs : SrcBuf F c) (fi : IdxBuf F c) (h : InRange fi) (b : Fin 146) (n : ℕ) (_ : Unit) : sProp 𝕄 :=
  iprop(RowBatch fs fi h b 512 (n * rowN) ∗ ∃ W, owes (c : Thread nD τ) 0 W)

/-- A landed row with its token's two parts: the gathered row, and the token whole. -/
theorem row_back (c : Dev nD) (fs : SrcBuf F c) (fi : IdxBuf F c) (h : InRange fi) (b : Fin 146) :
    iprop(bigSep Finset.univ (rowD fs fi h b) ∗ bigSep Finset.univ (restF fs fi h b))
      ⊢ iprop(bigSep Finset.univ (rowAtF (gathered fs fi h) b) ∗ bigSep Finset.univ (tokF fs b)) := by
  have e : ∀ k, iprop(rowD fs fi h b k ∗ restF fs fi h b k) ⊢ iprop(rowAtF (gathered fs fi h) b k ∗ tokF fs b k) := fun k => by
    unfold rowD
    iintro ⟨⟨Hd, Hs⟩, Hr⟩
    isplitl [Hd]; · iexact Hd
    iapply (pointsTo_split_subset (Finset.subset_univ (srcSet (rowOf fi h (J b k))))).2
    isplitl [Hs]; · iexact Hs
    iexact Hr
  exact (Entails.of_eq (bigSep_sep Finset.univ (rowD fs fi h b) (restF fs fi h b)).symm).trans
    (BIBase.Entails.trans (bigSep_mono fun k _ => e k) (Entails.of_eq (bigSep_sep Finset.univ (rowAtF (gathered fs fi h) b) (tokF fs b))))

/-- A drained chunk. -/
theorem drained (c : Dev nD) (fs : SrcBuf F c) (fi : IdxBuf F c) (h : InRange fi) (b : Fin 146) :
    iprop(RowBatch fs fi h b 512 (512 * rowN) ∗ bigSep Finset.univ (restF fs fi h b))
      ⊢ (|={Set.univ}=> iprop(bigSep Finset.univ (rowAtF (gathered fs fi h) b) ∗ bigSep Finset.univ (tokF fs b)
          ∗ semVal ((c : Thread nD τ), SemLoc.dma (rowCell b.val)) 0) : sProp 𝕄) := by
  rw [Nat.mul_comm 512 rowN]
  iintro ⟨HB, Hr⟩
  imod (Transfers.batch_collect' EC (c : Thread nD τ) rowN_pos) $$ HB with ⟨HD, Hs⟩
  ihave H := (row_back c fs fi h b) $$ [HD Hr]
  · isplitl [HD] <;> iassumption
  icases H with ⟨Hd, Ht⟩
  imodintro
  isplitl [Hd]; · iexact Hd
  isplitl [Ht]; · iexact Ht
  iexact Hs

theorem inv2_step (c : Dev nD) (fs : SrcBuf F c) (fi : IdxBuf F c) (h : InRange fi) (b : Fin 146) (i : grid0.Coords) (h3 : k0_cond3 i = 1#1) (hb : b.val + 1 = (i 0).val)
    (h1 h2 h3' h4) (k : Fin k0_t2_loop.trips) (a : Unit) :
    inv2 fs fi h b k.val a
      ⊢ wp frame (wpE (defs₀ (F := F)) Variants.none (c : Thread nD τ) none) Set.univ
          (k0_t2_body (F := F) i (Memref.whole main_v0) h1 (Memref.whole main_arg0) h2 (Memref.whole main_v1) h3' (Memref.whole cc0_scratch0) h4 cc0_scratch1 cc0_scratch2 h3 k a)
          (inv2 fs fi h b (k.val + 1)) := by
  have hk : k.val < 512 := trips2 ▸ k.isLt
  unfold k0_t2_body inv2
  rw [wp_bind]
  iintro ⟨HB, HO⟩
  iapply (row_wait c fs fi h b k.val hk (k0_off11 i) (k0_off11_inb i h3) _ _ _ _ (by rw [off11_eq]; congr 1; omega))
  isplitl [HB]; · iexact HB
  isplitl [HO]; · iexact HO
  iintro ⟨HB, HO⟩
  sl_step
  isplitl [HB]; · iexact HB
  iexact HO

theorem inv3_step (c : Dev nD) (fs : SrcBuf F c) (fi : IdxBuf F c) (h : InRange fi) (i : grid0.Coords) (h3 : k0_cond4 i = 1#1)
    (h1 h2 h3' h4) (k : Fin k0_t3_loop.trips) (a : Unit) :
    inv2 fs fi h (at0 i) k.val a
      ⊢ wp frame (wpE (defs₀ (F := F)) Variants.none (c : Thread nD τ) none) Set.univ
          (k0_t3_body (F := F) i (Memref.whole main_v0) h1 (Memref.whole main_arg0) h2 (Memref.whole main_v1) h3' (Memref.whole cc0_scratch0) h4 cc0_scratch1 cc0_scratch2 h3 k a)
          (inv2 fs fi h (at0 i) (k.val + 1)) := by
  have hk : k.val < 512 := trips3 ▸ k.isLt
  unfold k0_t3_body inv2
  rw [wp_bind]
  iintro ⟨HB, HO⟩
  iapply (row_wait c fs fi h (at0 i) k.val hk (k0_off13 i) (k0_off13_inb i h3) _ _ _ _ (off13_eq i))
  isplitl [HB]; · iexact HB
  isplitl [HO]; · iexact HO
  iintro ⟨HB, HO⟩
  sl_step
  isplitl [HB]; · iexact HB
  iexact HO

/-- The loop draining the chunk before. -/
theorem loop2 (c : Dev nD) (fs : SrcBuf F c) (fi : IdxBuf F c) (h : InRange fi) (b : Fin 146) (i : grid0.Coords) (h3 : k0_cond3 i = 1#1) (hb : b.val + 1 = (i 0).val)
    (h1 h2 h3' h4) (Q : Unit → sProp 𝕄) :
    iprop(RowBatch fs fi h b 512 0 ∗ bigSep Finset.univ (restF fs fi h b) ∗ (∃ W, owes (c : Thread nD τ) 0 W)
        ∗ (iprop(bigSep Finset.univ (rowAtF (gathered fs fi h) b) ∗ bigSep Finset.univ (tokF fs b)
          ∗ semVal ((c : Thread nD τ), SemLoc.dma (rowCell b.val)) 0 ∗ ∃ W, owes (c : Thread nD τ) 0 W) -∗ Q ⟨⟩))
      ⊢ wp frame (wpE (defs₀ (F := F)) Variants.none (c : Thread nD τ) none) Set.univ
          (Scf.Loop.for k0_t2_loop (k0_t2_ok i h3) ⟨⟩ (k0_t2_body (F := F) i (Memref.whole main_v0) h1 (Memref.whole main_arg0) h2 (Memref.whole main_v1) h3' (Memref.whole cc0_scratch0) h4 cc0_scratch1 cc0_scratch2 h3)
            >>= fun _ => pure ⟨⟩) Q := by
  rw [wp_bind]
  iintro ⟨HB, Hr, HO, Hk⟩
  iapply (Scf.wp_for frame (wpE (defs₀ (F := F)) Variants.none (c : Thread nD τ) none) Set.univ k0_t2_loop.lb k0_t2_loop.ub k0_t2_loop.st (k0_t2_ok i h3) ⟨⟩ _
    (inv2 fs fi h b) (inv2_step c fs fi h b i h3 hb h1 h2 h3' h4))
  rw [show Scf.trips k0_t2_loop.lb k0_t2_loop.ub k0_t2_loop.st = 512 from trips2]
  unfold inv2
  rw [Nat.zero_mul]
  isplitl [HB HO]
  · isplitl [HB] <;> iassumption
  iintro %a ⟨HB, HO⟩
  imod (drained c fs fi h b) $$ [HB Hr] with ⟨Hd, Ht, Hs⟩
  · isplitl [HB] <;> iassumption
  sl_step
  iapply Hk
  isplitl [Hd]; · iexact Hd
  isplitl [Ht]; · iexact Ht
  isplitl [Hs]; · iexact Hs
  iexact HO

/-- The loop draining the last chunk. -/
theorem loop3 (c : Dev nD) (fs : SrcBuf F c) (fi : IdxBuf F c) (h : InRange fi) (i : grid0.Coords) (h3 : k0_cond4 i = 1#1)
    (h1 h2 h3' h4) (Q : Unit → sProp 𝕄) :
    iprop(RowBatch fs fi h (at0 i) 512 0 ∗ bigSep Finset.univ (restF fs fi h (at0 i)) ∗ (∃ W, owes (c : Thread nD τ) 0 W)
        ∗ (iprop(bigSep Finset.univ (rowAtF (gathered fs fi h) (at0 i)) ∗ bigSep Finset.univ (tokF fs (at0 i))
          ∗ semVal ((c : Thread nD τ), SemLoc.dma (rowCell (at0 i).val)) 0 ∗ ∃ W, owes (c : Thread nD τ) 0 W) -∗ Q ⟨⟩))
      ⊢ wp frame (wpE (defs₀ (F := F)) Variants.none (c : Thread nD τ) none) Set.univ
          (Scf.Loop.for k0_t3_loop (k0_t3_ok i h3) ⟨⟩ (k0_t3_body (F := F) i (Memref.whole main_v0) h1 (Memref.whole main_arg0) h2 (Memref.whole main_v1) h3' (Memref.whole cc0_scratch0) h4 cc0_scratch1 cc0_scratch2 h3)
            >>= fun _ => pure ⟨⟩) Q := by
  rw [wp_bind]
  iintro ⟨HB, Hr, HO, Hk⟩
  iapply (Scf.wp_for frame (wpE (defs₀ (F := F)) Variants.none (c : Thread nD τ) none) Set.univ k0_t3_loop.lb k0_t3_loop.ub k0_t3_loop.st (k0_t3_ok i h3) ⟨⟩ _
    (inv2 fs fi h (at0 i)) (inv3_step c fs fi h i h3 h1 h2 h3' h4))
  rw [show Scf.trips k0_t3_loop.lb k0_t3_loop.ub k0_t3_loop.st = 512 from trips3]
  unfold inv2
  rw [Nat.zero_mul]
  isplitl [HB HO]
  · isplitl [HB] <;> iassumption
  iintro %a ⟨HB, HO⟩
  imod (drained c fs fi h (at0 i)) $$ [HB Hr] with ⟨Hd, Ht, Hs⟩
  · isplitl [HB] <;> iassumption
  sl_step
  iapply Hk
  isplitl [Hd]; · iexact Hd
  isplitl [Ht]; · iexact Ht
  isplitl [Hs]; · iexact Hs
  iexact HO

end Cert.KernelIdeal.Gen

end
-- ==== Proof.Point.lean ====
/-
  One grid point of the row gather: from the state before it to the state after it. Between points the index row of the
  next point and the row copies of the last one are in flight.
-/
module

public import proofs.«01_k».proof.Proof.Loops

@[expose] public section

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareTokN shareDrop)
open Idealize.ShloMosaic.Ring (rangeSet rangeSet_univ bigSep_rangeSet_head bigSep_rangeSet_last bigSep_rangeSet_empty)

variable {F : FTy → Type} [FloatOps F]

/-- The proof's user algebra. -/
local notation "𝕄" => MT nD τ sig Unit (Elt F) ℕ (Pipeline.UD sig nD τ) ℕ

theorem wordSet_congr {a b : ℕ} (h : a % 2 = b % 2) : wordSet a = wordSet b := by
  ext i; rw [mem_wordRow, mem_wordRow, h]

abbrev cell0 (c : Dev nD) (n : ℕ) (h : n < 4) : sProp 𝕄 := semVal ((c : Thread nD τ), SemLoc.dma (⟨n, h⟩ : Fin 4)) 0
abbrev idx0 (c : Dev nD) (n : ℕ) : sProp 𝕄 := semVal ((c : Thread nD τ), SemLoc.dma (idxCell n)) 0
abbrev row0 (c : Dev nD) (n : ℕ) : sProp 𝕄 := semVal ((c : Thread nD τ), SemLoc.dma (rowCell n)) 0

/-- A point's index row in flight, the other slot free. -/
def IdxMid {c : Dev nD} (fi : IdxBuf F c) (b : Fin 146) : sProp 𝕄 :=
  iprop(idxPt c (Finset.univ \ idxSet b) fi ∗ IdxFlight fi b ∗ (∃ fd, wordPt c (wordSet (b.val + 1)) fd) ∗ idx0 c (b.val + 1))
/-- No index row in flight. -/
def IdxFree {c : Dev nD} (fi : IdxBuf F c) : sProp 𝕄 :=
  iprop(idxPt c Finset.univ fi ∗ (∃ fd, wordPt c Finset.univ fd) ∗ idx0 (F := F) c 0 ∗ idx0 c 1)
def IdxAt {c : Dev nD} (fi : IdxBuf F c) (t : ℕ) : sProp 𝕄 :=
  if h : 0 < t ∧ t < 146 then IdxMid fi ⟨t, h.2⟩ else IdxFree fi

/-- A chunk's copies in flight, and what of the source's share is kept meanwhile. -/
def RowFlight {c : Dev nD} (fs : SrcBuf F c) (fi : IdxBuf F c) (h : InRange fi) (b : Fin 146) : sProp 𝕄 :=
  iprop(RowBatch fs fi h b 512 0 ∗ bigSep Finset.univ (restF fs fi h b) ∗ srcPt c Finset.univ (shareDrop (half b.val) 512) fs)
def RowMid {c : Dev nD} (fs : SrcBuf F c) (fi : IdxBuf F c) (h : InRange fi) (b : Fin 146) : sProp 𝕄 :=
  iprop(RowFlight fs fi h b ∗ row0 c (b.val + 1) ∗ srcPt c Finset.univ (half (b.val + 1)) fs)
def RowFree {c : Dev nD} (fs : SrcBuf F c) : sProp 𝕄 :=
  iprop(row0 (F := F) c 0 ∗ row0 c 1 ∗ srcPt c Finset.univ (half 0) fs ∗ srcPt c Finset.univ (half 1) fs)
def RowSt {c : Dev nD} (fs : SrcBuf F c) (fi : IdxBuf F c) (h : InRange fi) (t : ℕ) : sProp 𝕄 :=
  if h' : 0 < t ∧ t < 146 then RowMid fs fi h ⟨t - 1, by omega⟩ else RowFree fs

/-- A chunk of the result at contents `f`. -/
def chunk {c : Dev nD} (f : DstBuf F c) (b : Fin 146) : sProp 𝕄 := bigSep Finset.univ (rowAtF f b)
def DstAt {c : Dev nD} (f1 fo : DstBuf F c) (t : ℕ) : sProp 𝕄 :=
  if t < 146 then iprop(bigSep (rangeSet 146 0 (t - 1)) (chunk fo) ∗ bigSep (rangeSet 146 t 146) (chunk f1)) else bigSep Finset.univ (chunk fo)

/-! ## The index row -/

theorem words_split (c : Dev nD) (b : ℕ) (fd : WordBuf F c) :
    (wordPt c Finset.univ fd : sProp 𝕄) ⊢ iprop(wordPt c (wordSet b) fd ∗ wordPt c (wordSet (b + 1)) fd) := by
  rw [← word_union b]
  exact (pointsTo_union (word_disjoint b)).1
theorem words_join (c : Dev nD) (b : ℕ) :
    iprop((∃ fd, wordPt c (wordSet b) fd) ∗ ∃ fd, wordPt c (wordSet (b + 1)) fd) ⊢ (iprop(∃ fd, wordPt (F := F) c Finset.univ fd) : sProp 𝕄) := by
  iintro ⟨⟨%fd, H1⟩, ⟨%fd', H2⟩⟩
  iexists _
  rw [← word_union b]
  iapply (pointsTo_join (word_disjoint b))
  isplitl [H1] <;> iassumption

/-- The first point starts its own index row. -/
theorem seg1 (c : Dev nD) (fi : IdxBuf F c) (i : grid0.Coords) (Q : PUnit → sProp 𝕄) :
    iprop(IdxAt fi (at0 i).val ∗ (IdxMid fi (at0 i) -∗ Q ⟨⟩))
      ⊢ wp frame (wpE (defs₀ (F := F)) Variants.none (c : Thread nD τ) none) Set.univ
          (if _ : Scalar.cmpi .ne (Scalar.extui (Scalar.cmpi .eq (BitVec.ofNat 32 (i 0).val) 0#32) : BitVec 32) 0#32 = 1#1 then do
            Prog.lift (.enqueueDma (idxAt ![0, 0] inb_S146x512_S1x512_0_0) (.here (wordAt ![0, 0] inb_S2x512_S1x512_0_0)) (.dma (idxSem ![0] inb_S2_S1_0)) ((View.wordExact_bits rfl).reshape _ _) ((View.wordExact_bits rfl).reshape _ _) ⟨Or.inl rfl, trivial⟩)
            pure ⟨⟩
          else pure ⟨⟩) Q := by
  by_cases hb : (i 0).val = 0
  · rw [dif_pos ((cond1_iff i).mpr hb), wp_bind]
    unfold IdxAt
    rw [dif_neg (by intro h; have := h.1; simp only at this; omega)]
    unfold IdxFree
    iintro ⟨⟨Hi, ⟨%fd, Hw⟩, H0, H1⟩, Hk⟩
    ihave Hi' := (pointsTo_split_subset (Finset.subset_univ (idxSet (at0 i)))).1 $$ Hi
    icases Hi' with ⟨Hi, Hir⟩
    ihave Hw' := (words_split c (at0 i).val fd) $$ Hw
    icases Hw' with ⟨Hw, Hw1⟩
    iapply (idx_issue c fi (at0 i) ![0] inb_S2_S1_0 ![0, 0] inb_S2x512_S1x512_0_0 ![0, 0] inb_S146x512_S1x512_0_0
      (by simp only [hb]) (by simp only [hb]) (by simp only [hb]) _ _ _)
    isplitl [Hw]; · iexists fd; iexact Hw
    isplitl [Hi]; · iexact Hi
    isplitl [H0]
    · rw [show idxCell (at0 i).val = idxCell 0 from idxCell_congr (by simp only [hb])]; iexact H0
    iintro HF
    sl_step
    iapply Hk
    unfold IdxMid
    isplitl [Hir]; · iexact Hir
    isplitl [HF]; · iexact HF
    isplitl [Hw1]; · iexists fd; iexact Hw1
    rw [show idx0 (F := F) c ((at0 i).val + 1) = idx0 c 1 by unfold idx0; rw [show idxCell ((at0 i).val + 1) = idxCell 1 from idxCell_congr (by simp only [hb])]]
    iexact H1
  · rw [dif_neg (fun h => hb ((cond1_iff i).mp h))]
    unfold IdxAt
    rw [dif_pos ⟨by show 0 < (i 0).val; omega, (at0 i).isLt⟩]
    iintro ⟨H, Hk⟩
    sl_step
    iapply Hk
    iexact H

/-- The next point's index row is started, if there is one. -/
def IdxNext {c : Dev nD} (fi : IdxBuf F c) (b : Fin 146) : sProp 𝕄 :=
  if h : b.val + 1 < 146 then iprop(idxPt c (Finset.univ \ idxSet ⟨b.val + 1, h⟩) fi ∗ IdxFlight fi ⟨b.val + 1, h⟩)
  else iprop(idxPt c Finset.univ fi ∗ (∃ fd, wordPt c (wordSet (b.val + 1)) fd) ∗ idx0 c (b.val + 1))

theorem seg3 (c : Dev nD) (fi : IdxBuf F c) (i : grid0.Coords) (Q : PUnit → sProp 𝕄) :
    iprop(idxPt c Finset.univ fi ∗ (∃ fd, wordPt c (wordSet ((at0 i).val + 1)) fd) ∗ idx0 c ((at0 i).val + 1) ∗ (IdxNext fi (at0 i) -∗ Q ⟨⟩))
      ⊢ wp frame (wpE (defs₀ (F := F)) Variants.none (c : Thread nD τ) none) Set.univ
          (if k0_h2 : k0_cond2 i = 1#1 then do
            Prog.lift (.enqueueDma (idxAt (k0_off6 i) (k0_off6_inb i k0_h2)) (.here (wordAt (k0_off5 i) (k0_off5_inb i k0_h2))) (.dma (idxSem (k0_off4 i) (k0_off4_inb i k0_h2))) ((View.wordExact_bits rfl).reshape _ _) ((View.wordExact_bits rfl).reshape _ _) ⟨Or.inl rfl, trivial⟩)
            pure ⟨⟩
          else pure ⟨⟩) Q := by
  by_cases hb : (i 0).val + 1 < 146
  · have hc := (cond2_iff i).mpr hb
    rw [dif_pos hc, wp_bind]
    unfold IdxNext
    rw [dif_pos hb]
    iintro ⟨Hi, Hw, H0, Hk⟩
    ihave Hi' := (pointsTo_split_subset (Finset.subset_univ (idxSet ⟨(i 0).val + 1, hb⟩))).1 $$ Hi
    icases Hi' with ⟨Hi, Hir⟩
    iapply (idx_issue c fi ⟨(i 0).val + 1, hb⟩ (k0_off4 i) (k0_off4_inb i hc) (k0_off5 i) (k0_off5_inb i hc) (k0_off6 i) (k0_off6_inb i hc)
      (off4_eq i) (off5_eq i) (off6_eq i) _ _ _)
    isplitl [Hw]; · iexact Hw
    isplitl [Hi]; · iexact Hi
    isplitl [H0]; · iexact H0
    iintro HF
    sl_step
    iapply Hk
    isplitl [Hir]; · iexact Hir
    iexact HF
  · rw [dif_neg (fun h => hb ((cond2_iff i).mp h))]
    unfold IdxNext
    rw [dif_neg hb]
    iintro ⟨Hi, Hw, H0, Hk⟩
    sl_step
    iapply Hk
    isplitl [Hi]; · iexact Hi
    isplitl [Hw]; · iexact Hw
    iexact H0

theorem idx_after (c : Dev nD) (fi : IdxBuf F c) (b : Fin 146) :
    iprop(IdxNext fi b ∗ (∃ fd, wordPt c (wordSet b.val) (landed fi b fd)) ∗ idx0 c b.val) ⊢ IdxAt fi (b.val + 1) := by
  unfold IdxNext IdxAt
  by_cases hb : b.val + 1 < 146
  · rw [dif_pos hb, dif_pos ⟨Nat.succ_pos _, hb⟩]
    unfold IdxMid
    iintro ⟨⟨Hir, HF⟩, ⟨%fd, Hw⟩, H0⟩
    isplitl [Hir]; · iexact Hir
    isplitl [HF]; · iexact HF
    isplitl [Hw]
    · iexists (landed fi b fd)
      rw [show wordSet (b.val + 1 + 1) = wordSet b.val from wordSet_congr (by omega)]
      iexact Hw
    unfold idx0
    rw [show idxCell (b.val + 1 + 1) = idxCell b.val from idxCell_congr (by omega)]
    iexact H0
  · rw [dif_neg hb, dif_neg (fun h => hb h.2)]
    unfold IdxFree
    iintro ⟨⟨Hi, Hw1, H1⟩, ⟨%fd, Hw⟩, H0⟩
    isplitl [Hi]; · iexact Hi
    isplitl [Hw Hw1]
    · iapply (words_join c b.val)
      isplitl [Hw]; · iexists (landed fi b fd); iexact Hw
      iexact Hw1
    unfold idx0
    have e0 : idxCell (b.val + 1) = idxCell 0 := idxCell_congr (by omega)
    have e1 : idxCell b.val = idxCell 1 := idxCell_congr (by omega)
    rw [e0, e1]
    isplitl [H1]; · iexact H1
    iexact H0

/-! ## The rows -/

/-- The cell and the share of the source that the chunk before used: still in flight, or free. -/
def RowPrev {c : Dev nD} (fs : SrcBuf F c) (fi : IdxBuf F c) (h : InRange fi) (b : Fin 146) : sProp 𝕄 :=
  if 0 < b.val then RowFlight fs fi h ⟨b.val - 1, by omega⟩ else iprop(row0 c (b.val + 1) ∗ srcPt c Finset.univ (half (b.val + 1)) fs)

theorem half_congr {a b : ℕ} (h : a % 2 = b % 2) : half a = half b := by unfold half; rw [h]

theorem rows_before (c : Dev nD) (fs : SrcBuf F c) (fi : IdxBuf F c) (h : InRange fi) (b : Fin 146) :
    RowSt fs fi h b.val ⊢ iprop(RowPrev fs fi h b ∗ row0 c b.val ∗ srcPt c Finset.univ (half b.val) fs) := by
  unfold RowSt RowPrev
  by_cases hb : 0 < b.val
  · rw [dif_pos ⟨hb, b.isLt⟩, if_pos hb]
    unfold RowMid row0
    have e : b.val - 1 + 1 = b.val := by omega
    dsimp only
    rw [e]
  · have e : b.val = 0 := by omega
    rw [dif_neg (fun h => hb h.1), if_neg hb]
    unfold RowFree
    rw [e]
    iintro ⟨H0, H1, Hs0, Hs1⟩
    isplitl [H1 Hs1]
    · isplitl [H1]; · iexact H1
      iexact Hs1
    isplitl [H0]; · iexact H0
    iexact Hs0

/-- The chunk before is drained. -/
theorem seg5 (c : Dev nD) (fs : SrcBuf F c) (fi : IdxBuf F c) (h : InRange fi) (i : grid0.Coords) (h1 h2 h3' h4) (Q : PUnit → sProp 𝕄) :
    iprop(RowPrev fs fi h (at0 i) ∗ bigSep (rangeSet 146 0 ((at0 i).val - 1)) (chunk (gathered fs fi h)) ∗ (∃ W, owes (c : Thread nD τ) 0 W)
        ∗ (iprop(row0 c ((at0 i).val + 1) ∗ srcPt c Finset.univ (half ((at0 i).val + 1)) fs ∗ bigSep (rangeSet 146 0 (at0 i).val) (chunk (gathered fs fi h))
            ∗ ∃ W, owes (c : Thread nD τ) 0 W) -∗ Q ⟨⟩))
      ⊢ wp frame (wpE (defs₀ (F := F)) Variants.none (c : Thread nD τ) none) Set.univ
          (if k0_h3 : k0_cond3 i = 1#1 then do
            Scf.Loop.for k0_t2_loop (k0_t2_ok i k0_h3) ⟨⟩ (k0_t2_body (F := F) i (Memref.whole main_v0) h1 (Memref.whole main_arg0) h2 (Memref.whole main_v1) h3' (Memref.whole cc0_scratch0) h4 cc0_scratch1 cc0_scratch2 k0_h3)
            pure ⟨⟩
          else pure ⟨⟩) Q := by
  by_cases hb : 0 < (i 0).val
  · have hc := (cond3_iff i).mpr hb
    rw [dif_pos hc]
    unfold RowPrev
    rw [if_pos hb, bigSep_rangeSet_last (lo := 0) (hi := (at0 i).val) (NB := 146) hb (grid_lt i).le]
    unfold RowFlight
    iintro ⟨⟨HB, Hr, Hd⟩, Hc, HO, Hk⟩
    iapply (loop2 c fs fi h ⟨(at0 i).val - 1, Nat.lt_of_le_of_lt (Nat.sub_le _ _) (grid_lt i)⟩ i hc (by dsimp only; omega) h1 h2 h3' h4)
    isplitl [HB]; · iexact HB
    isplitl [Hr]; · iexact Hr
    isplitl [HO]; · iexact HO
    iintro ⟨Hch, Ht, Hs, HO⟩
    iapply Hk
    have ep : ((at0 i).val - 1) % 2 = ((at0 i).val + 1) % 2 := by
      show ((i 0).val - 1) % 2 = ((i 0).val + 1) % 2
      omega
    isplitl [Hs]
    · unfold row0; rw [← rowCell_congr ep]; iexact Hs
    isplitl [Hd Ht]
    · rw [← half_congr ep]
      iapply (Transfers.pointsTo_toks_join _ 512)
      isplitl [Hd]; · iexact Hd
      iexact Ht
    isplitl [Hch Hc]
    · isplitl [Hch]; · unfold chunk; iexact Hch
      iexact Hc
    iexact HO
  · rw [dif_neg (fun h => hb ((cond3_iff i).mp h))]
    unfold RowPrev
    have e : (i 0).val = 0 := by omega
    rw [if_neg hb]
    iintro ⟨⟨Hs, Ht⟩, Hc, HO, Hk⟩
    sl_step
    iapply Hk
    isplitl [Hs]; · iexact Hs
    isplitl [Ht]; · iexact Ht
    isplitl [Hc]
    · rw [show rangeSet 146 0 ((at0 i).val - 1) = rangeSet 146 0 (at0 i).val by simp only [e]]; iexact Hc
    iexact HO

/-- The last chunk is drained. -/
theorem seg6 (c : Dev nD) (fs : SrcBuf F c) (fi : IdxBuf F c) (h : InRange fi) (f1 : DstBuf F c) (i : grid0.Coords) (h1 h2 h3' h4) (Q : PUnit → sProp 𝕄) :
    iprop(RowFlight fs fi h (at0 i) ∗ row0 c ((at0 i).val + 1) ∗ srcPt c Finset.univ (half ((at0 i).val + 1)) fs
        ∗ bigSep (rangeSet 146 0 (at0 i).val) (chunk (gathered fs fi h)) ∗ bigSep (rangeSet 146 ((at0 i).val + 1) 146) (chunk f1) ∗ (∃ W, owes (c : Thread nD τ) 0 W)
        ∗ (iprop(RowSt fs fi h ((at0 i).val + 1) ∗ DstAt f1 (gathered fs fi h) ((at0 i).val + 1) ∗ ∃ W, owes (c : Thread nD τ) 0 W) -∗ Q ⟨⟩))
      ⊢ wp frame (wpE (defs₀ (F := F)) Variants.none (c : Thread nD τ) none) Set.univ
          (if k0_h4 : k0_cond4 i = 1#1 then do
            Scf.Loop.for k0_t3_loop (k0_t3_ok i k0_h4) ⟨⟩ (k0_t3_body (F := F) i (Memref.whole main_v0) h1 (Memref.whole main_arg0) h2 (Memref.whole main_v1) h3' (Memref.whole cc0_scratch0) h4 cc0_scratch1 cc0_scratch2 k0_h4)
            pure ⟨⟩
          else pure ⟨⟩) Q := by
  have hlt := grid_lt i
  unfold RowSt DstAt
  by_cases hb : (i 0).val = 145
  · have hc := (cond4_iff i).mpr hb
    rw [dif_pos hc, dif_neg (by rintro ⟨-, h⟩; simp only at h; omega), if_neg (by simp only; omega)]
    rw [← rangeSet_univ, bigSep_rangeSet_last (lo := 0) (hi := 146) (NB := 146) (by omega) (by omega)]
    unfold RowFlight
    iintro ⟨⟨HB, Hr, Hd⟩, Hn, Hh, Hc, -, HO, Hk⟩
    iapply (loop3 c fs fi h i hc h1 h2 h3' h4)
    isplitl [HB]; · iexact HB
    isplitl [Hr]; · iexact Hr
    isplitl [HO]; · iexact HO
    iintro ⟨Hch, Ht, Hs, HO⟩
    iapply Hk
    unfold RowFree
    have e0 : ((at0 i).val + 1) % 2 = 0 % 2 := by simp only [hb]
    have e1 : ((at0 i).val) % 2 = 1 % 2 := by simp only [hb]
    isplitl [Hn Hh Hs Hd Ht]
    · isplitl [Hn]; · unfold row0; rw [← rowCell_congr e0]; iexact Hn
      isplitl [Hs]; · unfold row0; rw [← rowCell_congr e1]; iexact Hs
      isplitl [Hh]; · rw [← half_congr e0]; iexact Hh
      rw [← half_congr e1]
      iapply (Transfers.pointsTo_toks_join _ 512)
      isplitl [Hd]; · iexact Hd
      iexact Ht
    isplitl [Hch Hc]
    · isplitl [Hch]
      · rw [show (⟨146 - 1, by omega⟩ : Fin 146) = at0 i from Fin.ext (by simp only [hb])]
        unfold chunk; iexact Hch
      rw [show rangeSet 146 0 (146 - 1) = rangeSet 146 0 (at0 i).val by simp only [hb]]; iexact Hc
    iexact HO
  · rw [dif_neg (fun h => hb ((cond4_iff i).mp h)), dif_pos ⟨Nat.succ_pos _, by simp only; omega⟩, if_pos (by simp only; omega)]
    iintro ⟨HF, Hn, Hh, Hc, Hc1, HO, Hk⟩
    sl_step
    iapply Hk
    unfold RowMid
    isplitl [HF Hn Hh]
    · isplitl [HF]; · iexact HF
      isplitl [Hn]; · iexact Hn
      iexact Hh
    isplitl [Hc Hc1]
    · isplitl [Hc]; · iexact Hc
      iexact Hc1
    iexact HO

/-! ## The point -/

/-- A conditional statement followed by the rest of the program. -/
theorem dite_rest {E : Type → Type} {β : Type} {p : Prop} [Decidable p] (f : p → Prog E PUnit) (k : PUnit → Prog E β) :
    ((if h : p then (f h >>= fun _ => pure ⟨⟩) else pure ⟨⟩) >>= k) = if h : p then (f h >>= fun _ => k ⟨⟩) else k ⟨⟩ := by
  split
  · rw [bind_assoc]; rfl
  · rfl

/-- The body, its statements in sequence. -/
theorem body_eq (i : grid0.Coords) (h1 h2 h3' h4) :
    cc0_gather_rows_skel (F := F) i (Memref.whole main_v0) h1 (Memref.whole main_arg0) h2 (Memref.whole main_v1) h3' (Memref.whole cc0_scratch0) h4 cc0_scratch1 cc0_scratch2
      = ((if _ : Scalar.cmpi .ne (Scalar.extui (Scalar.cmpi .eq (BitVec.ofNat 32 (i 0).val) 0#32) : BitVec 32) 0#32 = 1#1 then
            (Prog.lift (.enqueueDma (idxAt ![0, 0] inb_S146x512_S1x512_0_0) (.here (wordAt ![0, 0] inb_S2x512_S1x512_0_0)) (.dma (idxSem ![0] inb_S2_S1_0)) ((View.wordExact_bits rfl).reshape _ _) ((View.wordExact_bits rfl).reshape _ _) ⟨Or.inl rfl, trivial⟩) >>= fun _ => (pure ⟨⟩ : Prog (TpuEff nD τ sig (Elt F) Λ₀ .tc) PUnit))
          else (pure ⟨⟩ : Prog (TpuEff nD τ sig (Elt F) Λ₀ .tc) PUnit)) >>= fun _ =>
        Prog.lift (.waitDma2 (idxSem (k0_off1 i) (k0_off1_inb i)) (idxAt (k0_off3 i) (k0_off3_inb i)) (wordAt (k0_off2 i) (k0_off2_inb i)) ((View.wordExact_bits rfl).reshape _ _) ((View.wordExact_bits rfl).reshape _ _)) >>= fun _ =>
        (if k0_h2 : k0_cond2 i = 1#1 then
            (Prog.lift (.enqueueDma (idxAt (k0_off6 i) (k0_off6_inb i k0_h2)) (.here (wordAt (k0_off5 i) (k0_off5_inb i k0_h2))) (.dma (idxSem (k0_off4 i) (k0_off4_inb i k0_h2))) ((View.wordExact_bits rfl).reshape _ _) ((View.wordExact_bits rfl).reshape _ _) ⟨Or.inl rfl, trivial⟩) >>= fun _ => (pure ⟨⟩ : Prog (TpuEff nD τ sig (Elt F) Λ₀ .tc) PUnit))
          else (pure ⟨⟩ : Prog (TpuEff nD τ sig (Elt F) Λ₀ .tc) PUnit)) >>= fun _ =>
        Scf.Loop.for k0_t1_loop k0_t1_ok ⟨⟩ (k0_t1_body (F := F) i (Memref.whole main_v0) h1 (Memref.whole main_arg0) h2 (Memref.whole main_v1) h3' (Memref.whole cc0_scratch0) h4 cc0_scratch1 cc0_scratch2) >>= fun _ =>
        (if k0_h3 : k0_cond3 i = 1#1 then
            (Scf.Loop.for k0_t2_loop (k0_t2_ok i k0_h3) ⟨⟩ (k0_t2_body (F := F) i (Memref.whole main_v0) h1 (Memref.whole main_arg0) h2 (Memref.whole main_v1) h3' (Memref.whole cc0_scratch0) h4 cc0_scratch1 cc0_scratch2 k0_h3) >>= fun _ => (pure ⟨⟩ : Prog (TpuEff nD τ sig (Elt F) Λ₀ .tc) PUnit))
          else (pure ⟨⟩ : Prog (TpuEff nD τ sig (Elt F) Λ₀ .tc) PUnit)) >>= fun _ =>
        (if k0_h4 : k0_cond4 i = 1#1 then
            (Scf.Loop.for k0_t3_loop (k0_t3_ok i k0_h4) ⟨⟩ (k0_t3_body (F := F) i (Memref.whole main_v0) h1 (Memref.whole main_arg0) h2 (Memref.whole main_v1) h3' (Memref.whole cc0_scratch0) h4 cc0_scratch1 cc0_scratch2 k0_h4) >>= fun _ => (pure ⟨⟩ : Prog (TpuEff nD τ sig (Elt F) Λ₀ .tc) PUnit))
          else (pure ⟨⟩ : Prog (TpuEff nD τ sig (Elt F) Λ₀ .tc) PUnit)) >>= fun _ => (pure ⟨⟩ : Prog (TpuEff nD τ sig (Elt F) Λ₀ .tc) PUnit)) := by
  simp only [dite_rest]
  rfl

theorem point (c : Dev nD) (fs : SrcBuf F c) (fi : IdxBuf F c) (h : InRange fi) (f1 : DstBuf F c) (i : grid0.Coords) (h1 h2 h3' h4) :
    iprop(IdxAt fi (at0 i).val ∗ RowSt fs fi h (at0 i).val ∗ DstAt f1 (gathered fs fi h) (at0 i).val ∗ (∃ W, owes (c : Thread nD τ) 0 W))
      ⊢ wp frame (wpE (defs₀ (F := F)) Variants.none (c : Thread nD τ) none) Set.univ
          (cc0_gather_rows (F := F) i (Memref.whole main_v0) h1 (Memref.whole main_arg0) h2 (Memref.whole main_v1) h3' (Memref.whole cc0_scratch0) h4 cc0_scratch1 cc0_scratch2)
          (fun _ => iprop(IdxAt fi ((at0 i).val + 1) ∗ RowSt fs fi h ((at0 i).val + 1) ∗ DstAt f1 (gathered fs fi h) ((at0 i).val + 1) ∗ ∃ W, owes (c : Thread nD τ) 0 W)) := by
  have hlt := grid_lt i
  rw [cc0_gather_rows_eq_skeleton, body_eq]
  rw [show (DstAt f1 (gathered fs fi h) (at0 i).val : sProp 𝕄)
    = iprop(bigSep (rangeSet 146 0 ((at0 i).val - 1)) (chunk (gathered fs fi h)) ∗ bigSep (rangeSet 146 (at0 i).val 146) (chunk f1)) from if_pos hlt,
    bigSep_rangeSet_head (lo := (at0 i).val) (Φ := chunk f1) hlt hlt]
  iintro ⟨HI, HR, ⟨Hc, Hc1, Hcs⟩, HO⟩
  ihave HR' := (rows_before c fs fi h (at0 i)) $$ HR
  icases HR' with ⟨HP, Hs, Hh⟩
  rw [wp_bind]
  iapply (seg1 c fi i)
  isplitl [HI]; · iexact HI
  unfold IdxMid
  iintro ⟨Hir, HF, Hw1, H1⟩
  rw [wp_bind]
  iapply (idx_wait c fi (at0 i) (k0_off1 i) (k0_off1_inb i) (k0_off2 i) (k0_off2_inb i) (k0_off3 i) (k0_off3_inb i) (off1_eq i) _ _)
  isplitl [HF]; · iexact HF
  isplitl [HO]; · iexact HO
  iintro ⟨⟨%fd, Hw⟩, Hi, H0, HO⟩
  rw [wp_bind]
  iapply (seg3 c fi i)
  isplitl [Hi Hir]
  · iapply (pointsTo_split_subset (Finset.subset_univ (idxSet (at0 i)))).2
    isplitl [Hi] <;> iassumption
  isplitl [Hw1]; · iexact Hw1
  isplitl [H1]; · iexact H1
  iintro HN
  rw [wp_bind]
  ihave Hh' := (Transfers.pointsTo_toks_split _ 512) $$ Hh
  icases Hh' with ⟨Hdrop, Ht⟩
  iapply (loop1 c fs fi h f1 fd i h1 h2 h3' h4)
  isplitl [Hw]; · iexact Hw
  isplitl [Hc1]; · unfold chunk; iexact Hc1
  isplitl [Ht]; · iexact Ht
  isplitl [Hs]; · iexact Hs
  iintro ⟨Hw, Hr, HB⟩
  rw [wp_bind]
  iapply (seg5 c fs fi h i h1 h2 h3' h4)
  isplitl [HP]; · iexact HP
  isplitl [Hc]; · iexact Hc
  isplitl [HO]; · iexact HO
  iintro ⟨Hs, Hh, Hc, HO⟩
  rw [wp_bind]
  iapply (seg6 c fs fi h f1 i h1 h2 h3' h4)
  isplitl [HB Hr Hdrop]
  · unfold RowFlight
    isplitl [HB]; · iexact HB
    isplitl [Hr]; · iexact Hr
    iexact Hdrop
  isplitl [Hs]; · iexact Hs
  isplitl [Hh]; · iexact Hh
  isplitl [Hc]; · iexact Hc
  isplitl [Hcs]; · iexact Hcs
  isplitl [HO]; · iexact HO
  iintro ⟨HR, HD, HO⟩
  sl_step
  isplitl [HN Hw H0]
  · iapply (idx_after c fi (at0 i))
    isplitl [HN]; · iexact HN
    isplitl [Hw]; · iexists fd; iexact Hw
    iexact H0
  isplitl [HR]; · iexact HR
  isplitl [HD]; · iexact HD
  iexact HO

end Cert.KernelIdeal.Gen

end
-- ==== Proof.Run.lean ====
/-
  The row gather's launch, for any float model: the buffers handed to the first point and taken back after the last, the
  run of @main, and what it leaves — the gathered rows, the arguments unchanged, every semaphore at zero.
-/
module

public import proofs.«01_k».proof.Proof.Point
public import proofs.«01_k».proof.Proof.Gen.KernelIdeal.Frame
public import Idealize.ShloMosaic.Lib.Pipeline.KitQuiescent

@[expose] public section

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)
open Idealize.ShloMosaic.Ring (rangeSet rangeSet_univ bigSep_rangeSet_head bigSep_rangeSet_last bigSep_rangeSet_empty)

variable {F : FTy → Type} [FloatOps F]

/-- The proof's user algebra. -/
local notation "𝕄" => MT nD τ sig Unit (Elt F) ℕ (Pipeline.UD sig nD τ) ℕ

variable (m : (ℓ : Loc nD τ sig) → Buf (Elt F) ℓ) (ρ : Dev nD → PrngReg)

/-! ## The result by chunks -/

/-- The elements of the result's chunk `b`. -/
def chunkSet (b : Fin 146) : Finset S74752x1024.Idx := Finset.univ.biUnion fun k => dstSet (J b k)

theorem mem_chunkSet (b : Fin 146) (i : S74752x1024.Idx) : i ∈ chunkSet b ↔ (i 0 : ℕ) / 512 = b.val := by
  unfold chunkSet
  simp only [Finset.mem_biUnion, Finset.mem_univ, true_and]
  constructor
  · rintro ⟨k, hk⟩
    have := (mem_dstRow _ i).mp hk
    have e : (J b k).val = 512 * b.val + k.val := rfl
    have := k.isLt
    omega
  · intro hb
    refine ⟨⟨(i 0 : ℕ) % 512, Nat.mod_lt _ (by omega)⟩, (mem_dstRow _ i).mpr ?_⟩
    show (i 0 : ℕ) = 512 * b.val + (i 0 : ℕ) % 512
    omega
theorem chunk_disjoint (b b' : Fin 146) (h : b ≠ b') : Disjoint (chunkSet b) (chunkSet b') := by
  rw [Finset.disjoint_left]
  intro i h1 h2
  exact h (Fin.ext (((mem_chunkSet b i).mp h1).symm.trans ((mem_chunkSet b' i).mp h2)))
theorem chunk_cover : Finset.univ.biUnion chunkSet = Finset.univ := by
  ext i
  simp only [Finset.mem_biUnion, Finset.mem_univ, true_and, iff_true]
  have h : (i 0 : ℕ) < 74752 := (i 0).isLt
  exact ⟨⟨(i 0 : ℕ) / 512, by omega⟩, (mem_chunkSet _ i).mpr rfl⟩

theorem J_ne (b : Fin 146) (k k' : Fin 512) (h : k ≠ k') : J b k ≠ J b k' := by
  intro e
  have e' := congrArg Fin.val e
  have e1 : (J b k).val = 512 * b.val + k.val := rfl
  have e2 : (J b k').val = 512 * b.val + k'.val := rfl
  exact h (Fin.ext (by omega))

/-- The whole result is its chunks. -/
theorem dst_chunks (c : Dev nD) (f : DstBuf F c) : (dstPt c Finset.univ f : sProp 𝕄) = bigSep Finset.univ (chunk f) := by
  refine (Ring.pointsTo_blocks (ℓ := (Memref.whole main_v1).view.loc (c : Thread nD τ)) (q := fullShare) chunkSet chunk_disjoint chunk_cover f).trans ?_
  congr 1
  funext b
  exact pointsTo_biUnion (ℓ := (Memref.whole main_v1).view.loc (c : Thread nD τ)) (q := fullShare) (f := f) Finset.univ (fun k => dstSet (J b k)) (fun k _ k' _ h => dst_disjoint _ _ (J_ne b k k' h))

/-! ## The invariant at the two ends -/

theorem dst_start (c : Dev nD) (f1 fo : DstBuf F c) : (dstPt c Finset.univ f1 : sProp 𝕄) ⊢ DstAt f1 fo 0 := by
  unfold DstAt
  rw [dst_chunks, if_pos (by decide), bigSep_rangeSet_empty (by omega), rangeSet_univ]
  iintro H
  isplitr; · iempintro
  iexact H
theorem dst_end (c : Dev nD) (f1 fo : DstBuf F c) : (DstAt f1 fo 146 : sProp 𝕄) ⊢ dstPt c Finset.univ fo := by
  unfold DstAt
  rw [dst_chunks, if_neg (by decide)]

theorem src_split (c : Dev nD) (fs : SrcBuf F c) :
    (srcPt c Finset.univ fullShare fs : sProp 𝕄) ⊣⊢ iprop(srcPt c Finset.univ (shareDrop fullShare 2) fs ∗ srcPt c Finset.univ (half 0) fs ∗ srcPt c Finset.univ (half 1) fs) := by
  have h := Transfers.pointsTo_toks_range (Ix := Unit) (Name := ℕ) (U := Pipeline.UD sig nD τ) (Lvl := ℕ)
    (ℓ := (Memref.whole main_arg0).view.loc (c : Thread nD τ)) (S := Finset.univ) (f := fs) fullShare 2
  rw [show Finset.range 2 = insert 0 {1} by decide, bigSep_insert (by decide), bigSep_singleton] at h
  exact h

/-! ## The proof data -/

/-- What the region finds in the argument, the index array and the result. -/
abbrev fs0 (c : Dev nD) : SrcBuf F c := V m c main_arg0
abbrev fi0 (c : Dev nD) : IdxBuf F c := V m c main_v0
abbrev fd0 (c : Dev nD) : DstBuf F c := V m c main_v1

/-- The invariant of the points. -/
def Φ0 (h : ∀ c, InRange (fi0 m c)) (c : Dev nD) (t : ℕ) : sProp 𝕄 :=
  iprop(IdxAt (fi0 m c) t ∗ RowSt (fs0 m c) (fi0 m c) (h c) t ∗ DstAt (fd0 m c) (gathered (fs0 m c) (fi0 m c) (h c)) t
    ∗ srcPt c Finset.univ (shareDrop fullShare 2) (fs0 m c))

def dats (h : ∀ c, InRange (fi0 m c)) (_ : Fin 1) (c : Dev nD) : Dat τ (Elt F) Unit ℕ (Pipeline.UD sig nD τ) ℕ cfg0 c where
  A w := V m c (Pipeline.arrRef cfg0.spec w)
  after w _ := w.elim0
  Φ t := Φ0 m h c t.val
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem at0_coords (t : Fin cfg0.N) : (at0 (grid0.coords t)).val = t.val := by
  show ((grid0.coords t) 0 : ℕ) = t.val
  have h := Pipeline.Grid.coords_val (G := grid0) t 0 (S := 1) (B := 146) (by decide) rfl
  rw [h, Nat.div_one]
  exact Nat.mod_eq_of_lt (lt_of_lt_of_eq t.isLt N_0)

theorem sound_body (h : ∀ c, InRange (fi0 m c)) (c : Dev nD) (t : Fin cfg0.N) :
    iprop((dats m h 0 c).Φ t.castSucc ∗ (dats m h 0 c).owesAt () t.castSucc ∗ emp)
      ⊢ wp frame (wpE (defs₀ (F := F)) Variants.none c none) Set.univ (bodyAt0 t)
          (fun _ => iprop((dats m h 0 c).Φ t.succ ∗ (dats m h 0 c).owesAt () t.succ ∗ emp)) := by
  have hp := point c (fs0 m c) (fi0 m c) (h c) (fd0 m c) (grid0.coords t) (Memref.isWhole_whole _) (Memref.isWhole_whole _) (Memref.isWhole_whole _) (Memref.isWhole_whole _)
  rw [at0_coords] at hp
  unfold Dat.owesAt Pipeline.owesWithin
  rw [show (dats m h 0 c).owed t.castSucc = 0 from rfl, show (dats m h 0 c).owed t.succ = 0 from rfl,
    show (dats m h 0 c).Φ t.castSucc = Φ0 m h c t.val from rfl, show (dats m h 0 c).Φ t.succ = Φ0 m h c (t.val + 1) from rfl]
  unfold Φ0
  iintro ⟨⟨HI, HR, HD, Hs⟩, ⟨%W, -, HW⟩, -⟩
  iapply (wp_wand_r frame (wpE (defs₀ (F := F)) Variants.none c none) Set.univ)
  isplitl [HI HR HD HW]
  · iapply hp
    isplitl [HI]; · iexact HI
    isplitl [HR]; · iexact HR
    isplitl [HD]; · iexact HD
    iexists W; iexact HW
  iintro %_ ⟨HI, HR, HD, ⟨%W', HW⟩⟩
  isplitl [HI HR HD Hs]
  · isplitl [HI]; · iexact HI
    isplitl [HR]; · iexact HR
    isplitl [HD]; · iexact HD
    iexact Hs
  isplitl [HW]
  · iexists W'; isplitr; · ipureintro; exact fun _ _ => Or.inl trivial
    iexact HW
  iempintro

theorem bigSep_W0 (Φ : Fin cfg0.W → sProp 𝕄) : bigSep Finset.univ Φ = (BI.emp : sProp 𝕄) := rfl

theorem body_obligation (h : ∀ c, InRange (fi0 m c)) (c : Dev nD) :
    BodyObligation (dats (F := F) m h 0 c) (defs₀ (F := F)) Variants.none () Set.univ := fun t => by
  rw [bigSep_W0, bigSep_W0, defs₀_row]
  exact triple_restated (sound_body m h c t) rfl .rfl fun _ => .rfl

/-! ## The run -/

theorem hmainU : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The kernel's own semaphores: two for index rows, two for row copies. -/
def osem0 : Fin 4 → SemLoc sig := ![.dma 0, .dma 1, .dma 2, .dma 3]
theorem ownSemFacts0 : Pipeline.OwnSemFacts cfg0.spec osem0 := by decide

theorem ownSems0_eq' (c : Dev nD) :
    (Pipeline.ownSems0 (Ix := Unit) (Name := ℕ) (U := Pipeline.UD sig nD τ) (Lvl := ℕ) (Val := Elt F) (τ := τ) osem0 c : sProp 𝕄)
      = iprop(idx0 c 0 ∗ idx0 c 1 ∗ row0 c 0 ∗ row0 c 1) := by
  rw [Pipeline.ownSems0_eq_of_list c osem0 [0, 1, 2, 3] (by decide) (by decide)]; rfl

theorem hin0 (h : ∀ c, InRange (fi0 m c)) (c : Dev nD) :
    iprop(srcPt c Finset.univ fullShare (fs0 m c) ∗ idxPt c Finset.univ (fi0 m c) ∗ dstPt c Finset.univ (fd0 m c)
        ∗ (idx0 c 0 ∗ idx0 c 1 ∗ row0 c 0 ∗ row0 c 1) ∗ (∃ fd : WordBuf F c, wordPt c Finset.univ fd))
      ⊢ Φ0 m h c 0 := by
  unfold Φ0 IdxAt RowSt
  rw [dif_neg (by omega), dif_neg (by omega)]
  unfold IdxFree RowFree
  iintro ⟨Hs, Hi, Hd, ⟨H0, H1, H2, H3⟩, Hw⟩
  ihave Hs' := (src_split c (fs0 m c)).1 $$ Hs
  icases Hs' with ⟨Hs, Ha, Hb⟩
  isplitl [Hi Hw H0 H1]
  · isplitl [Hi]; · iexact Hi
    isplitl [Hw]; · iexact Hw
    isplitl [H0] <;> iassumption
  isplitl [H2 H3 Ha Hb]
  · isplitl [H2]; · iexact H2
    isplitl [H3]; · iexact H3
    isplitl [Ha] <;> iassumption
  isplitl [Hd]
  · iapply (dst_start c (fd0 m c)); iexact Hd
  iexact Hs

theorem hout0 (h : ∀ c, InRange (fi0 m c)) (c : Dev nD) :
    Φ0 m h c 146
      ⊢ iprop(srcPt c Finset.univ fullShare (fs0 m c) ∗ idxPt c Finset.univ (fi0 m c) ∗ dstPt c Finset.univ (gathered (fs0 m c) (fi0 m c) (h c))
        ∗ (idx0 c 0 ∗ idx0 c 1 ∗ row0 c 0 ∗ row0 c 1) ∗ (∃ fd : WordBuf F c, wordPt c Finset.univ fd)) := by
  unfold Φ0 IdxAt RowSt
  rw [dif_neg (by omega), dif_neg (by omega)]
  unfold IdxFree RowFree
  iintro ⟨⟨Hi, Hw, H0, H1⟩, ⟨H2, H3, Ha, Hb⟩, Hd, Hs⟩
  isplitl [Hs Ha Hb]
  · iapply (src_split c (fs0 m c)).2
    isplitl [Hs]; · iexact Hs
    isplitl [Ha] <;> iassumption
  isplitl [Hi]; · iexact Hi
  isplitl [Hd]
  · iapply (dst_end c (fd0 m c)); iexact Hd
  isplitr [Hw]
  · isplitl [H0]; · iexact H0
    isplitl [H1]; · iexact H1
    isplitl [H2] <;> iassumption
  iexact Hw

/-- What the kernel leaves on a core. -/
def Left (h : ∀ c, InRange (fi0 m c)) (c : Dev nD) (s : MemSt nD τ sig (Elt F)) : Prop :=
  s.mem ((c.tc : Thread nD τ).loc main_arg0) = V m c main_arg0
  ∧ s.mem ((c.tc : Thread nD τ).loc main_arg1) = V m c main_arg1
  ∧ s.mem ((c.tc : Thread nD τ).loc main_v1) = gathered (fs0 m c) (fi0 m c) (h c)

set_option backward.isDefEq.respectTransparency.types false in
theorem run_main (h : ∀ c, InRange (fi0 m c)) :
    θ_run defs (onTc (τ := τ) (main (F := F))) ⟨m, fun _ => 0, ρ⟩ (fun r => (∀ c, Left m h c r.2) ∧ r.2.sem = fun _ => 0) := by
  classical
  exact Pipeline.θ_run_region_kit_quiescent cfgs (dats m h) () 0 launch0 ownSemFacts0 embL defs₀ Variants.none m ρ main
    (hbody := fun c => (body_obligation m h c).loose) (hshare := fun c => (dats m h 0 c).share_full fun _ => rfl) (howed := fun _ _ => rfl)
    (G := fun _ => iprop(emp)) (u₀ := (initOf (Pipeline.cells cfgs launch0.cellOf_inj) (Pipeline.launchToks cfgs launch0.cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainU m) (hA := fun _ w => w.elim0)
    (X := fun c => iprop((srcPt c Finset.univ fullShare (fs0 m c) ∗ idxPt c Finset.univ (fi0 m c) ∗ dstPt c Finset.univ (fd0 m c))
      ∗ (idx0 c 0 ∗ idx0 c 1 ∗ row0 c 0 ∗ row0 c 1)))
    (Y := fun c => iprop(srcPt c Finset.univ fullShare (fs0 m c) ∗ idxPt c Finset.univ (fi0 m c) ∗ dstPt c Finset.univ (gathered (fs0 m c) (fi0 m c) (h c))))
    (Z := fun c => ((c.tc : Thread nD τ).loc main_arg1) ↦{fullShare} V m c main_arg1)
    (hX := fun c => by
      rw [unscopedRest0_eq, ownSems0_eq']
      iintro ⟨⟨H0, H1, Hv0, Hv1⟩, Ho, -⟩
      imodintro
      isplitr [H1]
      · isplitr [Ho]
        · isplitl [H0]; · iexact H0
          isplitl [Hv0]; · iexact Hv0
          iexact Hv1
        · iexact Ho
      · iexact H1)
    (hin := fun c => by
      rw [scopedRest0_eq]
      refine BIBase.Entails.trans ?_ (hin0 m h c)
      iintro ⟨⟨⟨H0, Hi, Hd⟩, Ho⟩, Hw⟩
      isplitl [H0]; · iexact H0
      isplitl [Hi]; · iexact Hi
      isplitl [Hd]; · iexact Hd
      isplitl [Ho]; · iexact Ho
      iexact Hw)
    (hout := fun c => by
      rw [scopedRest0_eq, ownSems0_eq']
      refine BIBase.Entails.trans (hout0 m h c) ?_
      iintro ⟨H0, Hi, Hd, Ho, Hw⟩
      isplitr [Ho Hw]
      · isplitl [H0]; · iexact H0
        isplitl [Hi]; · iexact Hi
        iexact Hd
      isplitl [Ho]; · iexact Ho
      iexact Hw)
    (QY := fun c s => Left m h c s)
    (hY := fun c s' => by
      iintro ⟨⟨H0, -, Hd⟩, H1, HSI⟩
      icombine HSI H0 gives %e0
      icombine HSI H1 gives %e1
      icombine HSI Hd gives %e2
      imodintro
      isplitr
      · ipureintro
        exact ⟨Buf.eq_of_forall_mem_univ e0, Buf.eq_of_forall_mem_univ e1, Buf.eq_of_forall_mem_univ e2⟩
      iexact HSI)
    (hQ := fun s h hz => ⟨fun c => (h c).2, hz⟩)

end Cert.KernelIdeal.Gen

end
-- ==== Proof.Value.lean ====
/-
  The claim's precondition read back, and the gathered rows as the reference's rows.
-/
module

public import proofs.«01_k».proof.Proof.Run
public import proofs.«01_k».proof.Proof.Gen.Reference
public import proofs.«01_k».proof.Proof.Gen.ReferenceIdeal.Run
public import proofs.«01_k».proof.Proof.Gen.Pre_rows_in_range
public import Idealize.ShloMosaic.Lib.ReduceAll
public import Idealize.ShloMosaic.Lib.Routing.Ops

@[expose] public section

noncomputable section

namespace Cert.KernelIdeal.Gen

open Idealize.ShloMosaic Idealize.ShloMosaic.TcCoe Idealize.ShloMosaic.ValueIdx
open Idealize.SL Idealize.SL.Sem

variable {F : FTy → Type} [FloatOps F]

/-- Every index names a row of the source. -/
abbrev RowsOk (i1 : IVec S74752 32) : Prop := ∀ j : Fin 74752, (i1 (ix1 j)).toNat < 16640

theorem toNat_lt_of_toInt (x : BitVec 32) (h0 : 0 ≤ x.toInt) (h1 : x.toInt < 16640) : x.toNat < 16640 := by
  have e := BitVec.toInt_eq_toNat_cond x
  have := x.isLt
  split at e <;> omega

/-- The precondition says so. -/
theorem rowsOk_of_pre (a0 : FVec F S16640x1024 .f32) (a1 : IVec S74752 32)
    (h : Cert.Pre_rows_in_range.fn (F := F) a0 a1 = fun _ => 1#1) : RowsOk a1 := by
  intro j
  have : Subsingleton Cert.Pre_rows_in_range.S_.Idx := ⟨fun a b => funext fun x => x.elim0⟩
  have e := congrFun h (fun a => a.elim0)
  have e1 := Host.reduce_andi_all _ _ _ _ _ e (ix1 j)
  have e2 := IntOp.andi_eq_one.1 e1
  exact toNat_lt_of_toInt _ (IntOp.cmpi_sge.1 e2.1) (IntOp.cmpi_slt.1 e2.2)

/-- The row of the source that row `j` of the result holds, off the index argument. -/
def rowAt (i1 : IVec S74752 32) (h : RowsOk i1) (j : Fin 74752) : Fin 16640 := ⟨(i1 (ix1 j)).toNat, h j⟩

/-! ## The reference's term -/

/-- The indices as the reference prepares them: a negative one counts from the end. -/
def refIdx (i1 : IVec S74752 32) : IVec Cert.ReferenceIdeal.S74752x1 32 :=
  broadcastInDim Cert.ReferenceIdeal.S74752x1 ![0] Cert.ReferenceIdeal.Gen.bcast_S74752_S74752x1_0
    (select (cmpi .slt i1 (broadcastInDim S74752 ![] Cert.ReferenceIdeal.Gen.bcast_S_S74752 (constantI Cert.ReferenceIdeal.S_ 32 0#32)))
      (addi i1 (broadcastInDim S74752 ![] Cert.ReferenceIdeal.Gen.bcast_S_S74752 (constantI Cert.ReferenceIdeal.S_ 32 16640#32))) i1)

theorem refIdx_apply (i1 : IVec S74752 32) (h : RowsOk i1) (j : Fin 74752) : refIdx i1 (ix2 j (0 : Fin 1)) = i1 (ix1 j) := by
  unfold refIdx
  rw [broadcastInDim_apply _ _ _ _ (ix1 j) (fun a => by
    match a with
    | ⟨0, _⟩ => rfl)]
  show (if IntOp.cmpi .slt (i1 (ix1 j)) 0#32 = 1#1 then _ else _) = _
  rw [if_neg]
  intro e
  have e' := IntOp.cmpi_slt.1 e
  have hj := h j
  have := BitVec.toInt_eq_toNat_cond (i1 (ix1 j))
  rw [if_pos (by omega)] at this
  have : (0#32 : BitVec 32).toInt = 0 := rfl
  omega

/-- The reference's rows. -/
theorem ref_row (x : FVec F S16640x1024 .f32) (i1 : IVec S74752 32) (h : RowsOk i1) :
    Host.gather Cert.ReferenceIdeal.gather_S16640x1024_S74752x1_S74752x1024_1_0_n_n_0_1_11024 x (refIdx i1)
      = fun i : S74752x1024.Idx => x (ix2 (rowAt i1 h (i 0)) (i 1)) := by
  funext i
  have e := Routing.gather_row (nb := 16640) (B := 1024) (n := 74752) Cert.ReferenceIdeal.gather_S16640x1024_S74752x1_S74752x1024_1_0_n_n_0_1_11024
    rfl rfl rfl rfl rfl x (refIdx i1) (i 0) (i 1) (rowAt i1 h (i 0))
    ((refIdx_apply i1 h (i 0)).trans (by show _ = BitVec.ofNat 32 (i1 (ix1 (i 0))).toNat; simp)) (by decide)
  rw [← e]
  congr 1
  funext a
  match a with
  | ⟨0, _⟩ => rfl
  | ⟨1, _⟩ => rfl

/-! ## The kernel's rows -/

variable (m : (ℓ : Loc nD τ sig) → Buf (Elt F) ℓ)

/-- The index argument as launched. -/
abbrev arg1 (c : Dev nD) : IVec S74752 32 := m ((c : Thread nD τ).loc main_arg1)

/-- The words the kernel finds are the index argument's. -/
theorem word_eq (c : Dev nD) (b : Fin 146) (k : Fin 512) : wordOf (fi0 m c) b k = arg1 m c (ix1 (J b k)) := by
  have e : V m c main_v0 = shapeCast S146x512 (arg1 m c) shapeCasts_S74752_S146x512 := by
    unfold V
    after_results <;> rfl
  unfold wordOf
  show V m c main_v0 (ix2 b k) = _
  rw [e]
  refine shapeCast_apply _ _ _ _ ?_
  rw [Shape.rowMajor_val_one, Shape.rowMajor_val_two]
  show (J b k).val = _
  have : (J b k).val = 512 * b.val + k.val := rfl
  show _ = b.val * 512 + k.val
  omega

theorem inRange_of (h : ∀ c, RowsOk (arg1 m c)) (c : Dev nD) : InRange (fi0 m c) := by
  intro b k
  rw [word_eq]
  exact h c _

theorem gathered_eq (h : ∀ c, RowsOk (arg1 m c)) (c : Dev nD) :
    gathered (fs0 m c) (fi0 m c) (inRange_of m h c)
      = fun i : S74752x1024.Idx => (m ((c : Thread nD τ).loc main_arg0) : FVec F S16640x1024 .f32) (ix2 (rowAt (arg1 m c) (h c) (i 0)) (i 1)) := by
  funext i
  have er : rowOf (fi0 m c) (inRange_of m h c) (i 0) = rowAt (arg1 m c) (h c) (i 0) := by
    apply Fin.ext
    show (wordOf _ _ _).toNat = (arg1 m c (ix1 (i 0))).toNat
    rw [word_eq]
    congr 3
    apply Fin.ext
    exact Nat.div_add_mod (i 0).val 512
  unfold gathered
  rw [er]
  show V m c main_arg0 _ = _
  rw [V_main_arg0]

/-- The kernel's rows are the reference's. -/
theorem kernel_eq_ref (h : ∀ c, RowsOk (arg1 m c)) (c : Dev nD) :
    gathered (fs0 m c) (fi0 m c) (inRange_of m h c)
      = Host.gather Cert.ReferenceIdeal.gather_S16640x1024_S74752x1_S74752x1024_1_0_n_n_0_1_11024 (m ((c : Thread nD τ).loc main_arg0)) (refIdx (arg1 m c)) :=
  (gathered_eq m h c).trans (ref_row _ _ (h c)).symm

end Cert.KernelIdeal.Gen

end
-- ==== Proof.FfnSetup.lean ====
/- The experts' products, the launch's set-up: what the region finds in the buffers, the prefetched tables, the windows'
   blocks and the staging memrefs at a point. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 5 (result 0 (%16)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; it follows from the precondition. -/
abbrev Ok : Prop := ok0 (F := F) (tbl m)
/-- The tables' contents as ADMISSIBLE contents, and the pipeline at them: what the launch theorem runs
    (`θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S292 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- The block of window `w` at point `t`, read off its array at the region's entry. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- At every point the staging buffer of input 0 holds that point's block, for any proof data over the
    entry contents whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- At every point the staging buffer of input 1 holds that point's block, for any proof data over the
    entry contents whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- At every point the staging buffer of input 2 holds that point's block, for any proof data over the
    entry contents whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- At every point the staging buffer of input 3 holds that point's block, for any proof data over the
    entry contents whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- At every point the staging buffer of input 4 holds that point's block, for any proof data over the
    entry contents whose body leaves the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to `FramePost`, read at the argument arrays: each argument ends as it began. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-- Each window's current staging memref at point `t`, spelled as the pipeline passes it (`bodyAt0`), and its wholeness. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1024 .f32 := spec0_5.stage ((cfgM m hO).slots t 5)
abbrev hs0_5 (hO : Ok m) (t : Fin (cfgM m hO).N) : (ms0_5 m hO t).IsWhole := hstage0_5 (((cfgM m hO).slots t 5).cast nbuf0_5)

end Cert.Kernel2Ideal.Gen

end
-- ==== Proof.FfnBody.lean ====
/- The experts' products, the body: at a used block it stores the block's products, at the others it stores zeros. -/
module

public import proofs.«01_k».proof.Proof.FfnSetup
public import Idealize.ShloMosaic.Lib.ValueIdxCore
public import Idealize.ShloMosaic.Lib.WritesUnit
public import Idealize.ShloMosaic.Lib.Pipeline.Value

@[expose] public section

set_option maxRecDepth 16384

noncomputable section

namespace Cert.Kernel2Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of used blocks, as the body reads it from its table. -/
def usedWord (c : Dev nD) (xt1 : TbBuf0 (F := F) c tbM0_1) : BitVec 32 := xt1 (ix1 (0 : Fin 1))

/-- The body's two conditions exclude each other and leave no third case. -/
theorem cond1_iff (i : grid0.Coords) (w : BitVec 32) : k0_cond1 i w = 1#1 ↔ (BitVec.ofNat 32 (i 0).val).toInt < w.toInt := by
  unfold k0_cond1
  show IntOp.cmpi .ne (BitVec.setWidth 32 (IntOp.cmpi .slt (BitVec.ofNat 32 (i 0).val) w)) 0#32 = 1#1 ↔ _
  rw [WordCmp.cmpi_slt_eq]
  by_cases h : (BitVec.ofNat 32 (i 0).val).toInt < w.toInt <;> simp only [h, decide_true, decide_false] <;> decide

theorem cond2_iff (i : grid0.Coords) (w : BitVec 32) : k0_cond2 i w = 1#1 ↔ ¬ k0_cond1 i w = 1#1 := by
  rw [cond1_iff, not_lt]
  unfold k0_cond2
  show IntOp.cmpi .ne (BitVec.setWidth 32 (IntOp.cmpi .sge (BitVec.ofNat 32 (i 0).val) w)) 0#32 = 1#1 ↔ _
  rw [WordCmp.cmpi_sge_eq]
  by_cases h : w.toInt ≤ (BitVec.ofNat 32 (i 0).val).toInt <;> simp only [h, decide_true, decide_false] <;> decide

/-- What the body leaves in the output's staging buffer at grid point `i`: the products of the block, or zeros when the
    block isn't used. -/
def leftAt (i : grid0.Coords) (x0 : Vec F S256x1024 .f32) (x1 : Vec F S1x1024x2048 .bf16) (x2 : Vec F S1x1x2048 .f32)
    (x3 : Vec F S1x1024x1024 .bf16) (x4 : Vec F S1x1x1024 .f32) (w : BitVec 32) : Vec F S256x1024 .f32 :=
  if k0_cond1 i w = 1#1 then k0_pay1 (k0_pay3 x0 x1 x2 x3) (k0_pay4 x4) else k0_pay2

theorem zeros2 {off : Fin 2 → ℕ} (h : off = ![0, 0]) : off = fun _ => 0 := by
  subst h; funext a; fin_cases a <;> rfl
theorem zeros3 {off : Fin 3 → ℕ} (h : off = ![0, 0, 0]) : off = fun _ => 0 := by
  subst h; funext a; fin_cases a <;> rfl

/-- A load of a whole memref reads what it holds. -/
theorem whole_load {S : Shape} {e : EltTy} {sp : Space} {M : Memref sig .tc sp S e} (hM : M.IsWhole) {off : Fin S.rank → ℕ}
    (h : off = fun _ => 0) (inb : ∀ a, off a + S.size a ≤ S.size a) (x : S.Idx → Elt F e) :
    View.readAt (Elt F) M.view (Rect.unit (s := S) off S.size inb).toLoadRect (hM.unread x) = x := by
  show View.ld (View.read (Elt F) M.view (hM.unread x)) (Rect.unit (s := S) off S.size inb) = x
  rw [hM.read_unread, View.ld_unit_zero h]

/-- A store over a whole memref leaves what it stored. -/
theorem whole_store {S : Shape} {e : EltTy} {sp : Space} (M : Memref sig .tc sp S e) {off : Fin S.rank → ℕ}
    (h : off = fun _ => 0) (inb : ∀ a, off a + S.size a ≤ S.size a) (f : M.view.ty.Contents (Elt F)) (w : S.Idx → Elt F e)
    (L : List (View.Piece (Elt F) S e)) :
    View.read (Elt F) M.view (M.view.writes (Elt F) f (⟨Rect.unit off S.size inb, w⟩ :: L)) = w :=
  funext fun y => View.read_writes_cons_unit_of_mem M.view f inb w L y y h fun a => (Nat.zero_add _).symm

set_option maxHeartbeats 1000000 in
theorem body_run (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .f32) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (leftAt i x0 x1 x2 x3 x4 (usedWord c xt1)) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7 arg8 harg8) K := by
  simp only [cc0_moe_ffn_eq_skeleton]; unfold cc0_moe_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec
  sl_step
  have ew : body_run.sl.r c xt1 = usedWord c xt1 := by
    unfold body_run.sl.r usedWord
    exact congrArg xt1 (funext fun a => Fin.ext (by fin_cases a; rfl))
  have e1 : body_run.sl.r_1 c arg3 harg3 arg4 harg4 arg5 harg5 arg6 harg6 x0 x1 x2 x3 = k0_pay3 x0 x1 x2 x3 := by
    unfold body_run.sl.r_1
    rw [whole_load harg3 (zeros2 rfl), whole_load harg4 (zeros3 rfl), whole_load harg5 (zeros3 rfl), whole_load harg6 (zeros3 rfl)]
  have e2 : body_run.sl.r_2 c arg7 harg7 x4 = k0_pay4 x4 := by
    unfold body_run.sl.r_2
    rw [whole_load harg7 (zeros3 rfl)]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    rw [ew, e1, e2]
    unfold leftAt
    by_cases h : k0_cond1 i (usedWord c xt1) = 1#1
    · rw [dif_neg (fun h' => (cond2_iff i _).1 h' h), dif_pos h, if_pos h]
      exact whole_store (F := F) (S := S256x1024) arg8 (zeros2 rfl) _ _ _ _
    · rw [dif_pos ((cond2_iff i _).2 h), dif_neg h, if_neg h]
      exact whole_store (F := F) (S := S256x1024) arg8 (zeros2 rfl) _ _ _ _
  isplitl [HT0]; · iexact HT0
  iexact HT1

end Cert.Kernel2Ideal.Gen

end
-- ==== Proof.FfnRun.lean ====
/- The experts' products, the run: the proof data, the body obligation and the launch. -/
module

public import proofs.«01_k».proof.Proof.FfnBody
public import Idealize.ShloMosaic.Lib.ValueIdxCore
public import Idealize.ShloMosaic.Lib.WritesUnit
public import Idealize.ShloMosaic.Lib.Pipeline.Value

@[expose] public section

set_option maxRecDepth 16384

noncomputable section

namespace Cert.Kernel2Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`. -/
def outsAt0 (hO : Ok m) (c : Dev nD) (t : Fin (cfgM m hO).N) : Vec F S256x1024 .f32 :=
  leftAt (grid0.coords t) (iblk m hO c 0 t) (iblk m hO c 1 t) (iblk m hO c 2 t) (iblk m hO c 3 t) (iblk m hO c 4 t)
    (usedWord c (tbl m 1))

/-- One of the body's two conditions holds at every point, so the output is stored at every point. -/
theorem idle_false (pf : pre0.Contents (Elt F)) (i : grid0.Coords) : idle0 (F := F) pf 5 i = false := by
  show (!(k0_cond1 i _ == 1#1) && !(k0_cond2 i _ == 1#1)) = false
  generalize (Pipeline.Prefetch.Contents.atD pf 1 ![0] : BitVec 32) = w
  by_cases h : k0_cond1 i w = 1#1
  · rw [h]; rfl
  · rw [(cond2_iff i w).2 h]; simp

theorem idle_pin (a : (pcfg0 (F := F)).Adm) (w : Fin 6) (i : grid0.Coords) : (cfg0 a).idle w i = idle0 a.1 w i := rfl

/-- No window is idle at any point. -/
theorem idle_none (a : (pcfg0 (F := F)).Adm) (w : Fin 6) (i : grid0.Coords) : (cfg0 a).idle w i = false := by
  rw [idle_pin]
  match w with
  | ⟨0, _⟩ => rfl
  | ⟨1, _⟩ => rfl
  | ⟨2, _⟩ => rfl
  | ⟨3, _⟩ => rfl
  | ⟨4, _⟩ => rfl
  | ⟨5, _⟩ => exact idle_false a.1 i

/-- The proof data of the one pipeline on core `c`: the arrays as the region finds them (`V`); after the body at
    point `t` each input's buffer at its block and the outputs' at `outsAt0`; the invariant the
    (`ΦA`: the scoped rest and the register of the random bits) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (the body obligation's precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m hO c 0 t) (iblk m hO c 1 t) (iblk m hO c 2 t) (iblk m hO c 3 t) (iblk m hO c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  generalize hid : (cfgM m hO).idle = f
  have hf : ∀ w i, f w i = false := fun w i => by rw [← hid]; exact idle_none (adm m hO) w i
  simp only [hf]
  exact .rfl

/-! ## The run and the frame -/

-- `θ_run_frameP`'s implicit arguments are found by unifying its conclusion with this one, which takes unfolding plain
-- definitions in a metavariable's type
set_option backward.isDefEq.respectTransparency.types false in
/-- The launch: what `run_main` says, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (`FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame: the arguments as they were and the semaphores drained, for every contents of the block table and
    the count under which the pipeline's blocks lie in their arrays (`Ok m`). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel2Ideal.Gen

end
-- ==== Proof.FfnIndex.lean ====
/- The experts' products, the tables: the range the precondition gives their words, and the blocks the windows then name. -/
module

public import proofs.«01_k».proof.Proof.FfnRun
public import proofs.«01_k».proof.Proof.Gen.Pre_blocks_in_range
public import Idealize.ShloMosaic.Lib.ReduceAll
public import Idealize.ShloMosaic.Lib.PairWhole

@[expose] public section

set_option maxRecDepth 16384

noncomputable section

namespace Cert.Kernel2Ideal.Gen

open Idealize.ShloMosaic Idealize.ShloMosaic.TcCoe Idealize.ShloMosaic.ValueIdx

variable {F : FTy → Type} [FloatOps F]

/-- Every block's expert is one of the 32, and between 1 and all 292 blocks are used. -/
structure TabOk (be : IVec S292 32) (nu : IVec S1 32) : Prop where
  expert : ∀ b : Fin 292, (be (ix1 b)).toNat < 32
  pos : 1 ≤ (nu (ix1 (0 : Fin 1))).toNat
  le : (nu (ix1 (0 : Fin 1))).toNat ≤ 292

theorem toNat_range (x : BitVec 32) (lo hi : ℕ) (h0 : (lo : ℤ) ≤ x.toInt) (h1 : x.toInt ≤ hi) : lo ≤ x.toNat ∧ x.toNat ≤ hi := by
  have e := BitVec.toInt_eq_toNat_cond x
  have := x.isLt
  split at e <;> omega

/-- The precondition says so. -/
theorem tabOk_of_pre (a0 : IVec S292 32) (a1 : IVec S1 32) (a2 : FVec F S74752x1024 .f32) (a3 : FVec F S1x32x1024x2048 .f32)
    (a4 : FVec F S1x32x2048 .f32) (a5 : FVec F S1x32x1024x1024 .f32) (a6 : FVec F S1x32x1024 .f32)
    (h : Cert.Pre_blocks_in_range.fn (F := F) a0 a1 a2 a3 a4 a5 a6 = fun _ => 1#1) : TabOk a0 a1 := by
  have sub : Subsingleton Cert.Pre_blocks_in_range.S_.Idx := ⟨fun a b => funext fun x => x.elim0⟩
  have e := congrFun h (fun a => a.elim0)
  have e1 := IntOp.andi_eq_one.1 e
  have e2 := IntOp.andi_eq_one.1 e1.1
  have hc : ∀ q, shapeCast Cert.Pre_blocks_in_range.S_ a1 Cert.Pre_blocks_in_range.Gen.shapeCasts_S1_S_ q = a1 (ix1 (0 : Fin 1)) := fun q =>
    congrArg a1 (Subsingleton.elim (α := S1.Idx) (h := ⟨fun a b => funext fun x => by
      match x with
      | ⟨0, _⟩ => exact Subsingleton.elim (α := Fin 1) _ _⟩) _ _)
  have g1 := IntOp.cmpi_sge.1 e2.2
  have g2 := IntOp.cmpi_sle.1 e1.2
  rw [hc] at g1 g2
  have r := toNat_range _ 1 292 g1 g2
  refine ⟨fun b => ?_, r.1, r.2⟩
  have f1 := Host.reduce_andi_all _ _ _ _ _ e2.1 (ix1 b)
  have f2 := IntOp.andi_eq_one.1 f1
  have k1 := IntOp.cmpi_sge.1 f2.1
  have k2 := IntOp.cmpi_slt.1 f2.2
  have := toNat_range (a0 (ix1 b)) 0 31 k1 (Int.le_of_lt_add_one k2)
  omega

/-! ## The blocks the windows name -/

variable (pf : pre0.Contents (Elt F))

/-- The tables as vectors of words. -/
abbrev beOf : IVec S292 32 := pf 0
abbrev nuOf : IVec S1 32 := pf 1

theorem ix1_eq {n : ℕ} (x : (⟨1, ![n]⟩ : Shape).Idx) (k : Fin n) (h : (x 0).val = k.val) : x = ix1 k := by
  funext a
  match a with
  | ⟨0, _⟩ => exact Fin.ext h

theorem point_word (i : grid0.Coords) : (Scalar.indexCast (BitVec.ofNat 32 (i 0).val) : Index).toNat = (i 0).val := by
  have h : (i 0).val < 292 := (i 0).isLt
  have := congrFun (k0_off1_eq i) 0
  exact this

/-- The block of an expert's array that the point takes: that of the expert in the table. -/
theorem expert_at (i : grid0.Coords) (b : Fin 292) (hb : (i 0).val = b.val) :
    pf.at 0 (Rect.unit (s := S292) ![(Scalar.indexCast (BitVec.ofNat 32 (i 0).val) : Index).toNat] S1.size (k0_off1_inb i)) numel1_S1 = beOf pf (ix1 b) := by
  refine congrArg (beOf pf) (ix1_eq _ _ ?_)
  show ![(Scalar.indexCast (BitVec.ofNat 32 (i 0).val) : Index).toNat] 0 + 1 * _ = _
  have e : ![(Scalar.indexCast (BitVec.ofNat 32 (i 0).val) : Index).toNat] (0 : Fin 1) = (i 0).val := point_word i
  rw [e]
  have : ∀ x : Fin 1, (i 0).val + 1 * x.val = b.val := fun x => by omega
  exact this _

theorem tr1_eq (i : grid0.Coords) (b : Fin 292) (hb : (i 0).val = b.val) :
    cc0_transform_1 k0_off1_inb numel1_S1 pf i = ![(beOf pf (ix1 b)).toNat, 0, 0] := by
  rw [← expert_at pf i b hb]; rfl
theorem tr2_eq (i : grid0.Coords) (b : Fin 292) (hb : (i 0).val = b.val) :
    cc0_transform_2 k0_off1_inb numel1_S1 pf i = ![(beOf pf (ix1 b)).toNat, 0, 0] := by
  rw [← expert_at pf i b hb]; rfl
theorem tr3_eq (i : grid0.Coords) (b : Fin 292) (hb : (i 0).val = b.val) :
    cc0_transform_3 k0_off1_inb numel1_S1 pf i = ![(beOf pf (ix1 b)).toNat, 0, 0] := by
  rw [← expert_at pf i b hb]; rfl
theorem tr4_eq (i : grid0.Coords) (b : Fin 292) (hb : (i 0).val = b.val) :
    cc0_transform_4 k0_off1_inb numel1_S1 pf i = ![(beOf pf (ix1 b)).toNat, 0, 0] := by
  rw [← expert_at pf i b hb]; rfl

/-- The number of used blocks, as the first window's map reads it. -/
theorem used_at : pf.at 1 (Rect.unit (s := S1) ![0] S1.size inb_S1_S1_0) numel1_S1 = nuOf pf (ix1 (0 : Fin 1)) :=
  congrArg (nuOf pf) (Subsingleton.elim (α := S1.Idx) (h := ⟨fun a b => funext fun x => by
      match x with
      | ⟨0, _⟩ => exact Subsingleton.elim (α := Fin 1) _ _⟩) _ _)

theorem minsi_toNat (a u : ℕ) (w : BitVec 32) (ha : a < 292) (hu : w.toNat = u) (h1 : 1 ≤ u) (h2 : u ≤ 292) :
    (Scalar.minsi (BitVec.ofNat 32 a) (Scalar.subi w 1#32)).toNat = min a (u - 1) := by
  have hs : (Scalar.subi w 1#32 : BitVec 32).toNat = u - 1 := by
    show (w - 1#32).toNat = _
    rw [BitVec.toNat_sub, hu]
    have : (1#32 : BitVec 32).toNat = 1 := rfl
    omega
  have hn : (BitVec.ofNat 32 a).toNat = a := by rw [BitVec.toNat_ofNat]; omega
  have i1 : (BitVec.ofNat 32 a).toInt = a := by
    rw [BitVec.toInt_eq_toNat_cond, if_pos (by omega), hn]
  have i2 : (Scalar.subi w 1#32 : BitVec 32).toInt = ((u - 1 : ℕ) : ℤ) := by
    rw [BitVec.toInt_eq_toNat_cond, if_pos (by omega), hs]
  generalize Scalar.subi w 1#32 = s at hs i2
  show (IntOp.minsi (BitVec.ofNat 32 a) s).toNat = _
  unfold IntOp.minsi
  split
  · rename_i h
    have h' : (BitVec.ofNat 32 a).toInt ≤ s.toInt := by first | exact h | (rw [BitVec.sle_eq_decide] at h; simpa using h) | (rw [BitVec.slt_eq_decide] at h; have := of_decide_eq_true h; omega)
    omega
  · rename_i h
    have h' : ¬ (BitVec.ofNat 32 a).toInt < s.toInt := by first | (rw [BitVec.sle_eq_decide] at h; simp at h; omega) | (rw [BitVec.slt_eq_decide] at h; simpa using h) | omega
    omega

theorem tr0_eq (h : TabOk (beOf pf) (nuOf pf)) (i : grid0.Coords) (b : Fin 292) (hb : (i 0).val = b.val) :
    cc0_transform_0 inb_S1_S1_0 numel1_S1 pf i = ![min b.val ((nuOf pf (ix1 (0 : Fin 1))).toNat - 1), 0] := by
  rw [← minsi_toNat b.val _ (nuOf pf (ix1 (0 : Fin 1))) b.isLt rfl h.pos h.le, ← used_at pf, ← hb]; rfl

theorem tr5_eq (i : grid0.Coords) (b : Fin 292) (hb : (i 0).val = b.val) : cc0_transform_5 i = ![b.val, 0] := by
  have : (BitVec.ofNat 32 (i 0).val).toNat = b.val := by
    rw [BitVec.toNat_ofNat, hb]; have := b.isLt; omega
  rw [← this]; rfl

/-- Then every window's block is inside its array, and the bf16 ones are whole rows. -/
theorem ok0_of (h : TabOk (beOf pf) (nuOf pf)) : ok0 (F := F) pf := by
  refine ⟨fun i => ⟨?_, .inl rfl⟩, fun i => ⟨?_, .inr ?_⟩, fun i => ⟨?_, .inl rfl⟩, fun i => ⟨?_, .inr ?_⟩, fun i => ⟨?_, .inl rfl⟩⟩
  · rw [tr0_eq pf h i ⟨(i 0).val, (i 0).isLt⟩ rfl]
    have := h.le; have := h.pos
    intro a
    match a with
    | ⟨0, _⟩ => show (min _ _ + 1) * 256 ≤ 74752; omega
    | ⟨1, _⟩ => show (0 + 1) * 1024 ≤ 1024; omega
  · rw [tr1_eq pf i ⟨(i 0).val, (i 0).isLt⟩ rfl]
    have := h.expert ⟨(i 0).val, (i 0).isLt⟩
    intro a
    match a with
    | ⟨0, _⟩ => show ((beOf pf (ix1 ⟨(i 0).val, (i 0).isLt⟩)).toNat + 1) * 1 ≤ 32; omega
    | ⟨1, _⟩ => show (0 + 1) * 1024 ≤ 1024; omega
    | ⟨2, _⟩ => show (0 + 1) * 2048 ≤ 2048; omega
  · refine Rect.WholeRows.wholeWords ⟨by decide, ?_, rfl, rfl⟩ _
    show cc0_transform_1 k0_off1_inb numel1_S1 pf i 1 * _ = 0
    rw [tr1_eq pf i ⟨(i 0).val, (i 0).isLt⟩ rfl]; exact Nat.zero_mul _
  · rw [tr2_eq pf i ⟨(i 0).val, (i 0).isLt⟩ rfl]
    have := h.expert ⟨(i 0).val, (i 0).isLt⟩
    intro a
    match a with
    | ⟨0, _⟩ => show ((beOf pf (ix1 ⟨(i 0).val, (i 0).isLt⟩)).toNat + 1) * 1 ≤ 32; omega
    | ⟨1, _⟩ => show (0 + 1) * 1 ≤ 1; omega
    | ⟨2, _⟩ => show (0 + 1) * 2048 ≤ 2048; omega
  · rw [tr3_eq pf i ⟨(i 0).val, (i 0).isLt⟩ rfl]
    have := h.expert ⟨(i 0).val, (i 0).isLt⟩
    intro a
    match a with
    | ⟨0, _⟩ => show ((beOf pf (ix1 ⟨(i 0).val, (i 0).isLt⟩)).toNat + 1) * 1 ≤ 32; omega
    | ⟨1, _⟩ => show (0 + 1) * 1024 ≤ 1024; omega
    | ⟨2, _⟩ => show (0 + 1) * 1024 ≤ 1024; omega
  · refine Rect.WholeRows.wholeWords ⟨by decide, ?_, rfl, rfl⟩ _
    show cc0_transform_3 k0_off1_inb numel1_S1 pf i 1 * _ = 0
    rw [tr3_eq pf i ⟨(i 0).val, (i 0).isLt⟩ rfl]; exact Nat.zero_mul _
  · rw [tr4_eq pf i ⟨(i 0).val, (i 0).isLt⟩ rfl]
    have := h.expert ⟨(i 0).val, (i 0).isLt⟩
    intro a
    match a with
    | ⟨0, _⟩ => show ((beOf pf (ix1 ⟨(i 0).val, (i 0).isLt⟩)).toNat + 1) * 1 ≤ 32; omega
    | ⟨1, _⟩ => show (0 + 1) * 1 ≤ 1; omega
    | ⟨2, _⟩ => show (0 + 1) * 1024 ≤ 1024; omega

end Cert.Kernel2Ideal.Gen

end
-- ==== Proof.FfnBlocks.lean ====
/- The experts' products, the windows' blocks at an index. -/
module

public import proofs.«01_k».proof.Proof.FfnIndex
public import Idealize.ShloMosaic.Lib.Pipeline.ValueKit.Geometry

@[expose] public section

set_option maxRecDepth 16384

noncomputable section

namespace Cert.Kernel2Ideal.Gen

open Idealize.ShloMosaic Idealize.ShloMosaic.TcCoe Idealize.ShloMosaic.ValueIdx

variable {F : FTy → Type} [FloatOps F]

variable (a : (pcfg0 (F := F)).Adm) (t : Fin (cfg0 a).N) (b : Fin 292) (hb : (grid0.coords t 0).val = b.val)

include hb

/-- Window 0: 256 rows, those of the block or of the last used one. -/
theorem blk0_read (h : TabOk (beOf a.1) (nuOf a.1)) (X : FVec F S74752x1024 .f32) (r : Fin 256) (k : Fin 1024) (j : Fin 74752)
    (hj : j.val = 256 * min b.val ((nuOf a.1 (ix1 (0 : Fin 1))).toNat - 1) + r.val) :
    (((cfg0 a).win 0).blk t).view.read (Elt F) X (ix2 r k) = X (ix2 j k) := by
  refine congrArg X (funext fun x => Fin.ext ?_)
  refine (((cfg0 a).win 0).rect_emb_val t (ix2 r k) x rfl).trans ?_
  have i0 : ((cfg0 a).win 0).index t = ![min b.val ((nuOf a.1 (ix1 (0 : Fin 1))).toNat - 1), 0] := tr0_eq a.1 h (grid0.coords t) b hb
  rw [i0]
  match x with
  | ⟨0, _⟩ => show min b.val ((nuOf a.1 (ix1 (0 : Fin 1))).toNat - 1) * 256 + r.val = j.val; omega
  | ⟨1, _⟩ => show 0 * 1024 + k.val = k.val; omega

/-- Window 1: the gate and up matrices of the block's expert. -/
theorem blk1_read (X : FVec F S32x1024x2048 .bf16) (z : Fin 1) (k : Fin 1024) (f : Fin 2048) (e : Fin 32)
    (he : e.val = (beOf a.1 (ix1 b)).toNat) :
    (((cfg0 a).win 1).blk t).view.read (Elt F) X (ix3 z k f) = X (ix3 e k f) := by
  refine congrArg X (funext fun x => Fin.ext ?_)
  refine (((cfg0 a).win 1).rect_emb_val t (ix3 z k f) x rfl).trans ?_
  have i0 : ((cfg0 a).win 1).index t = ![(beOf a.1 (ix1 b)).toNat, 0, 0] := tr1_eq a.1 (grid0.coords t) b hb
  rw [i0]
  match x with
  | ⟨0, _⟩ => show (beOf a.1 (ix1 b)).toNat * 1 + z.val = e.val; omega
  | ⟨1, _⟩ => show 0 * 1024 + k.val = k.val; omega
  | ⟨2, _⟩ => show 0 * 2048 + f.val = f.val; omega

/-- Window 2: their biases. -/
theorem blk2_read (X : FVec F S32x1x2048 .f32) (z : Fin 1) (k : Fin 1) (f : Fin 2048) (e : Fin 32)
    (he : e.val = (beOf a.1 (ix1 b)).toNat) :
    (((cfg0 a).win 2).blk t).view.read (Elt F) X (ix3 z k f) = X (ix3 e k f) := by
  refine congrArg X (funext fun x => Fin.ext ?_)
  refine (((cfg0 a).win 2).rect_emb_val t (ix3 z k f) x rfl).trans ?_
  have i0 : ((cfg0 a).win 2).index t = ![(beOf a.1 (ix1 b)).toNat, 0, 0] := tr2_eq a.1 (grid0.coords t) b hb
  rw [i0]
  match x with
  | ⟨0, _⟩ => show (beOf a.1 (ix1 b)).toNat * 1 + z.val = e.val; omega
  | ⟨1, _⟩ => show 0 * 1 + k.val = k.val; omega
  | ⟨2, _⟩ => show 0 * 2048 + f.val = f.val; omega

/-- Window 3: the down matrix. -/
theorem blk3_read (X : FVec F S32x1024x1024 .bf16) (z : Fin 1) (k : Fin 1024) (f : Fin 1024) (e : Fin 32)
    (he : e.val = (beOf a.1 (ix1 b)).toNat) :
    (((cfg0 a).win 3).blk t).view.read (Elt F) X (ix3 z k f) = X (ix3 e k f) := by
  refine congrArg X (funext fun x => Fin.ext ?_)
  refine (((cfg0 a).win 3).rect_emb_val t (ix3 z k f) x rfl).trans ?_
  have i0 : ((cfg0 a).win 3).index t = ![(beOf a.1 (ix1 b)).toNat, 0, 0] := tr3_eq a.1 (grid0.coords t) b hb
  rw [i0]
  match x with
  | ⟨0, _⟩ => show (beOf a.1 (ix1 b)).toNat * 1 + z.val = e.val; omega
  | ⟨1, _⟩ => show 0 * 1024 + k.val = k.val; omega
  | ⟨2, _⟩ => show 0 * 1024 + f.val = f.val; omega

/-- Window 4: its bias. -/
theorem blk4_read (X : FVec F S32x1x1024 .f32) (z : Fin 1) (k : Fin 1) (f : Fin 1024) (e : Fin 32)
    (he : e.val = (beOf a.1 (ix1 b)).toNat) :
    (((cfg0 a).win 4).blk t).view.read (Elt F) X (ix3 z k f) = X (ix3 e k f) := by
  refine congrArg X (funext fun x => Fin.ext ?_)
  refine (((cfg0 a).win 4).rect_emb_val t (ix3 z k f) x rfl).trans ?_
  have i0 : ((cfg0 a).win 4).index t = ![(beOf a.1 (ix1 b)).toNat, 0, 0] := tr4_eq a.1 (grid0.coords t) b hb
  rw [i0]
  match x with
  | ⟨0, _⟩ => show (beOf a.1 (ix1 b)).toNat * 1 + z.val = e.val; omega
  | ⟨1, _⟩ => show 0 * 1 + k.val = k.val; omega
  | ⟨2, _⟩ => show 0 * 1024 + f.val = f.val; omega

/-- The output's window: the block's own 256 rows. -/
theorem blk5_emb (r : Fin 256) (k : Fin 1024) (j : Fin 74752) (hj : j.val = 256 * b.val + r.val) :
    (((cfg0 a).win 5).blk t).view.emb (ix2 r k) = (ix2 j k : S74752x1024.Idx) := by
  refine funext fun x => Fin.ext ?_
  refine (((cfg0 a).win 5).rect_emb_val t (ix2 r k) x rfl).trans ?_
  have i0 : ((cfg0 a).win 5).index t = ![b.val, 0] := tr5_eq (grid0.coords t) b hb
  rw [i0]
  match x with
  | ⟨0, _⟩ => show b.val * 256 + r.val = j.val; omega
  | ⟨1, _⟩ => show 0 * 1024 + k.val = k.val; omega

omit hb

/-- The grid's point of a block. -/
theorem coords_val (t : Fin grid0.N) : (grid0.coords t 0).val = t.val := by
  have h : t.val < 292 := t.isLt
  show (t.val / 1) % 292 = t.val
  omega

/-- Every element of the result is in some written-back block. -/
theorem blk5_cover (i : S74752x1024.Idx) : ∃ t : Fin (cfg0 a).N, ((cfg0 a).win 5).flush t = true ∧ i ∈ (((cfg0 a).win 5).blk t).view.set := by
  have hi : (i 0).val < 74752 := (i 0).isLt
  have hlt : (i 0).val / 256 < 292 := by omega
  refine ⟨⟨(i 0).val / 256, hlt⟩, flush0_5 a _, ?_⟩
  have e := blk5_emb a ⟨(i 0).val / 256, hlt⟩ ⟨(i 0).val / 256, hlt⟩ (coords_val _) ⟨(i 0).val % 256, Nat.mod_lt _ (by decide)⟩ (i 1) (i 0)
    (Nat.div_add_mod _ _).symm
  have ei : i = (((cfg0 a).win 5).blk ⟨(i 0).val / 256, hlt⟩).view.emb (ix2 ⟨(i 0).val % 256, Nat.mod_lt _ (by decide)⟩ (i 1)) := by
    refine Eq.trans ?_ e.symm
    funext x
    match x with
    | ⟨0, _⟩ => rfl
    | ⟨1, _⟩ => rfl
  exact Finset.mem_map.2 ⟨_, Finset.mem_univ _, ei.symm⟩

end Cert.Kernel2Ideal.Gen

end
-- ==== Proof.FfnMath.lean ====
/- The experts' products, what one row comes to, over the extended reals. -/
module

public import Idealize.ShloMosaic.PureOps
public import Idealize.ShloMosaic.Lib.Pointwise

@[expose] public section

noncomputable section

namespace Cert.Ffn

open Idealize.ShloMosaic

/-- Entry `d` of what an expert makes of a row: gate and up interleaved in `wg`'s columns, clamped at 7, the gate
    through its logistic function, then the down matrix `wd` and its bias. -/
def expertRow (row : Fin 1024 → EReal) (wg : Fin 1024 → Fin 2048 → EReal) (bg : Fin 2048 → EReal) (wd : Fin 1024 → Fin 1024 → EReal)
    (bd : Fin 1024 → EReal) (d : Fin 1024) : EReal :=
  (∑ f : Fin 1024,
    (min (Ideal.ofBits .f32 0x40E00000#32) (max (Ideal.ofBits .f32 0xC0E00000#32)
        (∑ k : Fin 1024, row k * wg k ⟨1 + 2 * f.val, by omega⟩ + bg ⟨1 + 2 * f.val, by omega⟩)) + 1) *
      (min (∑ k : Fin 1024, row k * wg k ⟨2 * f.val, by omega⟩ + bg ⟨2 * f.val, by omega⟩) (Ideal.ofBits .f32 0x40E00000#32) *
        Ideal.div 1 (1 + Ideal.exp (-(Ideal.ofBits .f32 0x3FD9DB23#32 *
          min (∑ k : Fin 1024, row k * wg k ⟨2 * f.val, by omega⟩ + bg ⟨2 * f.val, by omega⟩) (Ideal.ofBits .f32 0x40E00000#32))))) *
      wd f d) + bd d

end Cert.Ffn

end
-- ==== Proof.FfnPay.lean ====
/- The experts' products, what the body stores at an index, and the weights as the host prepares them. -/
module

public import proofs.«01_k».proof.Proof.FfnSetup
public import proofs.«01_k».proof.Proof.FfnMath
public import Idealize.ShloMosaic.Lib.Pointwise

@[expose] public section

set_option maxRecDepth 16384

noncomputable section

namespace Cert.Kernel2Ideal.Gen

open Idealize.ShloMosaic Idealize.ShloMosaic.TcCoe

/-- The stored block at an index, off the blocks' entries: the gate's columns first, then the up part's. -/
theorem pay_apply (x0 : Vec Ideal S256x1024 .f32) (x1 : Vec Ideal S1x1024x2048 .bf16) (x2 : Vec Ideal S1x1x2048 .f32)
    (x3 : Vec Ideal S1x1024x1024 .bf16) (x4 : Vec Ideal S1x1x1024 .f32) (r : Fin 256) (d : Fin 1024)
    (row : Fin 1024 → EReal) (wg : Fin 1024 → Fin 2048 → EReal) (bg : Fin 2048 → EReal) (wd : Fin 1024 → Fin 1024 → EReal) (bd : Fin 1024 → EReal)
    (h0 : ∀ k, x0 (ix2 r k) = row k)
    (h1 : ∀ k (f : Fin 1024), x1 (ix3 0 k ⟨f.val, by omega⟩) = wg k ⟨2 * f.val, by omega⟩)
    (h1' : ∀ k (f : Fin 1024), x1 (ix3 0 k ⟨1024 + f.val, by omega⟩) = wg k ⟨1 + 2 * f.val, by omega⟩)
    (h2 : ∀ (f : Fin 1024), x2 (ix3 0 0 ⟨f.val, by omega⟩) = bg ⟨2 * f.val, by omega⟩)
    (h2' : ∀ (f : Fin 1024), x2 (ix3 0 0 ⟨1024 + f.val, by omega⟩) = bg ⟨1 + 2 * f.val, by omega⟩)
    (h3 : ∀ f, x3 (ix3 0 f d) = wd f d) (h4 : x4 (ix3 0 0 d) = bd d) :
    k0_pay1 (k0_pay3 x0 x1 x2 x3) (k0_pay4 x4) (ix2 r d) = Cert.Ffn.expertRow row wg bg wd bd d := by
  pointwise [k0_pay1, k0_pay3, k0_pay4]
  simp only [h0, h1, h1', h2, h2', h3, h4, zero_sub]
  rfl

theorem pay2_apply (r : Fin 256) (d : Fin 1024) : (k0_pay2 (F := Ideal)) (ix2 r d) = (0 : EReal) := by
  pointwise [k0_pay2]

variable (X3 : FVec Ideal S1x32x1024x2048 .f32) (X4 : FVec Ideal S1x32x2048 .f32) (X5 : FVec Ideal S1x32x1024x1024 .f32) (X6 : FVec Ideal S1x32x1024 .f32)

/-- The gate and up matrices: even columns, then odd ones. -/
def wgu : FVec Ideal S32x1024x2048 .bf16 :=
  truncf .bf16 (concatenate S32x1024x2048 2 [⟨S32x1024x1024, Host.slice S32x1024x1024 ![0, 0, 0] ![1, 1, 2] (shapeCast S32x1024x2048 X3 shapeCasts_S1x32x1024x2048_S32x1024x2048) slicesBy_S32x1024x2048_S32x1024x1024_0s1_0s1_0s2⟩, ⟨S32x1024x1024, Host.slice S32x1024x1024 ![0, 0, 1] ![1, 1, 2] (shapeCast S32x1024x2048 X3 shapeCasts_S1x32x1024x2048_S32x1024x2048) slicesBy_S32x1024x2048_S32x1024x1024_0s1_0s1_1s2⟩] concatenates_S32x1024x1024_S32x1024x1024_S32x1024x2048_d2) bitsLt_bf16_f32

theorem wgu_apply (e : Fin 32) (k : Fin 1024) (f : Fin 2048) :
    wgu X3 (ix3 e k f) = if h : f.val < 1024 then X3 (ix4 0 e k ⟨2 * f.val, by omega⟩) else X3 (ix4 0 e k ⟨1 + 2 * (f.val - 1024), by omega⟩) := by
  pointwise [wgu]

theorem wgu_gate (e : Fin 32) (k : Fin 1024) (f : Fin 1024) :
    wgu X3 (ix3 e k ⟨f.val, by omega⟩) = X3 (ix4 0 e k ⟨2 * f.val, by omega⟩) := by
  rw [wgu_apply]; exact dif_pos f.isLt

theorem wgu_up (e : Fin 32) (k : Fin 1024) (f : Fin 1024) :
    wgu X3 (ix3 e k ⟨1024 + f.val, by omega⟩) = X3 (ix4 0 e k ⟨1 + 2 * f.val, by omega⟩) := by
  rw [wgu_apply]
  refine (dif_neg (by show ¬ 1024 + f.val < 1024; omega)).trans ?_
  have q : (⟨1 + 2 * (1024 + f.val - 1024), by omega⟩ : Fin 2048) = ⟨1 + 2 * f.val, by omega⟩ := Fin.ext (by show 1 + 2 * (1024 + f.val - 1024) = 1 + 2 * f.val; omega)
  exact congrArg (fun z => X3 (ix4 0 e k z)) q

/-- Their biases, in the same order. -/
def bgu : FVec Ideal S32x1x2048 .f32 :=
  shapeCast S32x1x2048 (concatenate S32x2048 1 [⟨S32x1024, Host.slice S32x1024 ![0, 0] ![1, 2] (shapeCast S32x2048 X4 shapeCasts_S1x32x2048_S32x2048) slicesBy_S32x2048_S32x1024_0s1_0s2⟩, ⟨S32x1024, Host.slice S32x1024 ![0, 1] ![1, 2] (shapeCast S32x2048 X4 shapeCasts_S1x32x2048_S32x2048) slicesBy_S32x2048_S32x1024_0s1_1s2⟩] concatenates_S32x1024_S32x1024_S32x2048_d1) shapeCasts_S32x2048_S32x1x2048

theorem bgu_apply (e : Fin 32) (f : Fin 2048) :
    bgu X4 (ix3 e 0 f) = if h : f.val < 1024 then X4 (ix3 0 e ⟨2 * f.val, by omega⟩) else X4 (ix3 0 e ⟨1 + 2 * (f.val - 1024), by omega⟩) := by
  pointwise [bgu]

theorem bgu_gate (e : Fin 32) (f : Fin 1024) : bgu X4 (ix3 e 0 ⟨f.val, by omega⟩) = X4 (ix3 0 e ⟨2 * f.val, by omega⟩) := by
  rw [bgu_apply]; exact dif_pos f.isLt

theorem bgu_up (e : Fin 32) (f : Fin 1024) : bgu X4 (ix3 e 0 ⟨1024 + f.val, by omega⟩) = X4 (ix3 0 e ⟨1 + 2 * f.val, by omega⟩) := by
  rw [bgu_apply]
  refine (dif_neg (by show ¬ 1024 + f.val < 1024; omega)).trans ?_
  have q : (⟨1 + 2 * (1024 + f.val - 1024), by omega⟩ : Fin 2048) = ⟨1 + 2 * f.val, by omega⟩ := Fin.ext (by show 1 + 2 * (1024 + f.val - 1024) = 1 + 2 * f.val; omega)
  exact congrArg (fun z => X4 (ix3 0 e z)) q

/-- The down matrices and their biases. -/
def wdn : FVec Ideal S32x1024x1024 .bf16 := truncf .bf16 (shapeCast S32x1024x1024 X5 shapeCasts_S1x32x1024x1024_S32x1024x1024) bitsLt_bf16_f32

theorem wdn_apply (e : Fin 32) (f d : Fin 1024) : wdn X5 (ix3 e f d) = X5 (ix4 0 e f d) := by
  pointwise [wdn]

def bdn : FVec Ideal S32x1x1024 .f32 := shapeCast S32x1x1024 (shapeCast S32x1024 X6 shapeCasts_S1x32x1024_S32x1024) shapeCasts_S32x1024_S32x1x1024

theorem bdn_apply (e : Fin 32) (d : Fin 1024) : bdn X6 (ix3 e 0 d) = X6 (ix3 0 e d) := by
  pointwise [bdn]

/-! ## What the region finds -/

variable (m : (ℓ : Loc nD τ sig) → Buf (Elt Ideal) ℓ) (c : Dev nD)

theorem V_v5 : V m c main_v5 = wgu (m ((c : Thread nD τ).loc main_arg3)) := by
  unfold V
  after_results <;> rfl

theorem V_v11 : V m c main_v11 = bgu (m ((c : Thread nD τ).loc main_arg4)) := by
  unfold V
  after_results <;> rfl

theorem V_v13 : V m c main_v13 = wdn (m ((c : Thread nD τ).loc main_arg5)) := by
  unfold V
  after_results <;> rfl

theorem V_v15 : V m c main_v15 = bdn (m ((c : Thread nD τ).loc main_arg6)) := by
  unfold V
  after_results <;> rfl

end Cert.Kernel2Ideal.Gen
end
-- ==== Proof.FfnSlab.lean ====
/- Picking slabs of a rank-3 array by a column of words, read at an index. -/
module

public import Idealize.ShloMosaic.Lib.StableHlo
public import Idealize.ShloMosaic.PureOps
public import Idealize.ShloMosaic.Lib.ValueIdxCore
public import Idealize.ShloMosaic.Lib.StableHlo.Predicate

@[expose] public section

noncomputable section

namespace Cert.Slab

open Idealize.ShloMosaic Idealize.ShloMosaic.ValueIdx

variable {α : Type}

/-- The dimension numbers of `table[idx]` over the leading axis of an `[N, A, B]` table. -/
abbrev slabDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Slab `c` of the result is slab `b` of the table, when the word at `(c, 0)` is `b`'s. -/
theorem gather_slab {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (y : Fin A) (z : Fin B) (b : Fin N)
    (hb : idx (ix2 c (0 : Fin 1)) = BitVec.ofNat 32 b.val) (hN : N < 2 ^ 31) :
    Host.gather (slabDims N A B n wf) x idx (ix3 c y z) = x (ix3 b y z) := by
  unfold Host.gather
  refine congrArg x (funext fun a => Fin.ext ?_)
  show (slabDims N A B n wf).start (ix3 c y z) idx a + (slabDims N A B n wf).batchCoord (ix3 c y z) a
      + (slabDims N A B n wf).offCoord (ix3 c y z) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A B n wf).startIndexMap from List.mem_singleton.mpr rfl)]
    have hsi : (slabDims N A B n wf).siIdx (ix3 c y z) ⟨List.idxOf (0 : Fin 3) (slabDims N A B n wf).startIndexMap,
        List.idxOf_lt_length_iff.2 (List.mem_singleton.mpr rfl)⟩ = ix2 c (0 : Fin 1) := by
      funext b'; refine Fin.ext ?_
      match b' with
      | ⟨0, _⟩ => rfl
      | ⟨1, _⟩ => rfl
    have hbl := b.isLt
    rw [hsi, hb, StableHlo.Predicate.toInt_ofNat_small _ (by omega)]
    show min ((b.val : Int)).toNat (N - 1) = b.val
    omega
  · unfold GatherDims.start
    rw [dif_neg (show (1 : Fin 3) ∉ (slabDims N A B n wf).startIndexMap from fun h => absurd (List.mem_singleton.mp h) (by decide : ¬ (1 : Fin 3) = 0))]
    simp only [Nat.zero_add, Nat.add_zero]
    rfl
  · unfold GatherDims.start
    rw [dif_neg (show (2 : Fin 3) ∉ (slabDims N A B n wf).startIndexMap from fun h => absurd (List.mem_singleton.mp h) (by decide : ¬ (2 : Fin 3) = 0))]
    simp only [Nat.zero_add, Nat.add_zero]
    rfl

end Cert.Slab

end
-- ==== Proof.FfnRef.lean ====
/- The experts' products, the reference's term at an index. -/
module

public import proofs.«01_k».proof.Proof.Gen.Reference2Ideal.Run
public import proofs.«01_k».proof.Proof.FfnMath
public import proofs.«01_k».proof.Proof.FfnSlab
public import Idealize.ShloMosaic.Lib.Routing.Ops
public import Idealize.ShloMosaic.Lib.Pointwise

@[expose] public section

set_option maxRecDepth 16384

noncomputable section

namespace Cert.Reference2Ideal.Gen

open Idealize.ShloMosaic Idealize.ShloMosaic.TcCoe

/-- The products with the gate and up matrices `wg` of each block, with their biases. -/
def gateUp (x : FVec Ideal S74752x1024 .f32) (wg : FVec Ideal S292x1024x2048 .f32) (bg : FVec Ideal S292x2048 .f32) : FVec Ideal S292x256x2048 .f32 :=
  addf (Host.dotGeneral dot_S292x256x1024_S292x1024x2048_S292x256x2048_2_1_1_2_0_0 none (shapeCast S292x256x1024 x shapeCasts_S74752x1024_S292x256x1024) wg)
    (broadcastInDim S292x256x2048 ![0, 1, 2] bcast_S292x1x2048_S292x256x2048_0_1_2 (broadcastInDim S292x1x2048 ![0, 2] bcast_S292x2048_S292x1x2048_0_2 bg))

/-- The reference's result off the products and each block's down matrix `wd` and bias `bd`. -/
def outOf (nu : IVec S1 32) (gu : FVec Ideal S292x256x2048 .f32) (wd : FVec Ideal S292x1024x1024 .f32) (bd : FVec Ideal S292x1024 .f32) : FVec Ideal S74752x1024 .f32 :=
  shapeCast S74752x1024 (select (broadcastInDim S292x256x1024 ![0, 1, 2] bcast_S292x1x1_S292x256x1024_0_1_2 (broadcastInDim S292x1x1 ![0] bcast_S292_S292x1x1_0 (cmpi .slt (iotaInDim S292 32 0) (broadcastInDim S292 ![] bcast_S_S292 (shapeCast S_ nu shapeCasts_S1_S_))))) (addf (Host.dotGeneral dot_S292x256x1024_S292x1024x1024_S292x256x1024_2_1_1_2_0_0 none (mulf (addf (minimumf (broadcastInDim S292x256x1024 ![] bcast_S_S292x256x1024 (id (constant S_ .f32 0x40E00000#32))) (maximumf (broadcastInDim S292x256x1024 ![] bcast_S_S292x256x1024 (id (constant S_ .f32 0xC0E00000#32))) (Host.slice S292x256x1024 ![0, 0, 1] ![1, 1, 2] gu slicesBy_S292x256x2048_S292x256x1024_0s1_0s1_1s2))) (broadcastInDim S292x256x1024 ![] bcast_S_S292x256x1024 (constant S_ .f32 0x3F800000#32))) (mulf (minimumf (Host.slice S292x256x1024 ![0, 0, 0] ![1, 1, 2] gu slicesBy_S292x256x2048_S292x256x1024_0s1_0s1_0s2) (broadcastInDim S292x256x1024 ![] bcast_S_S292x256x1024 (constant S_ .f32 0x40E00000#32))) (Host.divf (broadcastInDim S292x256x1024 ![] bcast_S_S292x256x1024 (constant S_ .f32 0x3F800000#32)) (addf (broadcastInDim S292x256x1024 ![] bcast_S_S292x256x1024 (constant S_ .f32 0x3F800000#32)) (Host.exp (Host.negf (mulf (broadcastInDim S292x256x1024 ![] bcast_S_S292x256x1024 (constant S_ .f32 0x3FD9DB23#32)) (minimumf (Host.slice S292x256x1024 ![0, 0, 0] ![1, 1, 2] gu slicesBy_S292x256x2048_S292x256x1024_0s1_0s1_0s2) (broadcastInDim S292x256x1024 ![] bcast_S_S292x256x1024 (constant S_ .f32 0x40E00000#32)))))))))) wd) (broadcastInDim S292x256x1024 ![0, 1, 2] bcast_S292x1x1024_S292x256x1024_0_1_2 (broadcastInDim S292x1x1024 ![0, 2] bcast_S292x1024_S292x1x1024_0_2 bd))) (broadcastInDim S292x256x1024 ![] bcast_S_S292x256x1024 (id (constant S_ .f32 0x00000000#32)))) shapeCasts_S292x256x1024_S74752x1024

theorem gateUp_apply (x : FVec Ideal S74752x1024 .f32) (wg : FVec Ideal S292x1024x2048 .f32) (bg : FVec Ideal S292x2048 .f32) (b : Fin 292) (r : Fin 256) (f : Fin 2048)
    (j : Fin 74752) (hj : j.val = b.val * 256 + r.val) :
    gateUp x wg bg (ix3 b r f) = ∑ k : Fin 1024, x (ix2 j k) * wg (ix3 b k f) + bg (ix2 b f) := by
  have e : (⟨b.val * 256 + r.val, by omega⟩ : Fin 74752) = j := Fin.ext hj.symm
  rw [← e]
  pointwise [gateUp]

theorem outOf_apply (nu : IVec S1 32) (x : FVec Ideal S74752x1024 .f32) (wg : FVec Ideal S292x1024x2048 .f32) (bg : FVec Ideal S292x2048 .f32)
    (wd : FVec Ideal S292x1024x1024 .f32) (bd : FVec Ideal S292x1024 .f32) (j : Fin 74752) (d : Fin 1024) (b : Fin 292) (hb : b.val = j.val / 256) :
    outOf nu (gateUp x wg bg) wd bd (ix2 j d)
      = if (BitVec.ofNat 32 b.val).toInt < (nu (ix1 0)).toInt then
          Cert.Ffn.expertRow (fun k => x (ix2 j k)) (fun k f => wg (ix3 b k f)) (fun f => bg (ix2 b f)) (fun f d => wd (ix3 b f d)) (fun d => bd (ix2 b d)) d
        else 0 := by
  have hg : ∀ f, gateUp x wg bg (ix3 b ⟨j.val % 256, Nat.mod_lt _ (by decide)⟩ f) = ∑ k : Fin 1024, x (ix2 j k) * wg (ix3 b k f) + bg (ix2 b f) := fun f =>
    gateUp_apply x wg bg b ⟨j.val % 256, Nat.mod_lt _ (by decide)⟩ f j (by rw [hb]; show j.val = j.val / 256 * 256 + j.val % 256; omega)
  have hbe : b = ⟨j.val / 256, by omega⟩ := Fin.ext hb
  generalize gateUp x wg bg = gu at hg
  have e : outOf nu gu wd bd (ix2 j d) = Scalar.select (IntOp.cmpi .slt (BitVec.ofNat 32 b.val) (nu (ix1 0)))
      (Cert.Ffn.expertRow (fun k => x (ix2 j k)) (fun k f => wg (ix3 b k f)) (fun f => bg (ix2 b f)) (fun f d => wd (ix3 b f d)) (fun d => bd (ix2 b d)) d) (0 : EReal) := by
    unfold Cert.Ffn.expertRow
    simp only [← hg]
    rw [hbe]
    pointwise [outOf, id]
  rw [e]
  by_cases h : (BitVec.ofNat 32 b.val).toInt < (nu (ix1 0)).toInt
  · rw [if_pos h]; exact if_pos (IntOp.cmpi_slt.2 h)
  · rw [if_neg h]; exact if_neg (fun q => h (IntOp.cmpi_slt.1 q))

/-- The experts' numbers as the reference prepares them: a negative one counts from the end. -/
def expIdx (be : IVec S292 32) : IVec S292x1 32 :=
  broadcastInDim S292x1 ![0] bcast_S292_S292x1_0 (select (cmpi .slt be (broadcastInDim S292 ![] bcast_S_S292 (constantI S_ 32 0#32))) (addi be (broadcastInDim S292 ![] bcast_S_S292 (constantI S_ 32 32#32))) be)

theorem expIdx_apply (be : IVec S292 32) (b : Fin 292) (h : (be (ix1 b)).toNat < 32) : expIdx be (ix2 b 0) = be (ix1 b) := by
  pointwise [expIdx]
  have hn : ¬ IntOp.cmpi .slt (be (ix1 b)) 0#32 = 1#1 := fun e => by
    have e' := IntOp.cmpi_slt.1 e
    have := BitVec.toInt_eq_toNat_cond (be (ix1 b))
    rw [if_pos (by omega)] at this
    have : (0#32 : BitVec 32).toInt = 0 := rfl
    omega
  exact if_neg hn

theorem res_eq (m : (ℓ : Loc nD τ sig) → Buf (Elt Ideal) ℓ) (c : Dev nD) : Value.res_main_v64 m c =
   outOf (m ((c.tc : Thread nD τ).loc main_arg1)) (gateUp (m ((c.tc : Thread nD τ).loc main_arg2))
      (Host.gather gather_S32x1024x2048_S292x1_S292x1024x2048_12_0_n_n_0_1_110242048 (shapeCast S32x1024x2048 (m ((c.tc : Thread nD τ).loc main_arg3)) shapeCasts_S1x32x1024x2048_S32x1024x2048) (expIdx (m ((c.tc : Thread nD τ).loc main_arg0))))
      (Host.gather gather_S32x2048_S292x1_S292x2048_1_0_n_n_0_1_12048 (shapeCast S32x2048 (m ((c.tc : Thread nD τ).loc main_arg4)) shapeCasts_S1x32x2048_S32x2048) (expIdx (m ((c.tc : Thread nD τ).loc main_arg0)))))
      (Host.gather gather_S32x1024x1024_S292x1_S292x1024x1024_12_0_n_n_0_1_110241024 (shapeCast S32x1024x1024 (m ((c.tc : Thread nD τ).loc main_arg5)) shapeCasts_S1x32x1024x1024_S32x1024x1024) (expIdx (m ((c.tc : Thread nD τ).loc main_arg0))))
      (Host.gather gather_S32x1024_S292x1_S292x1024_1_0_n_n_0_1_11024 (shapeCast S32x1024 (m ((c.tc : Thread nD τ).loc main_arg6)) shapeCasts_S1x32x1024_S32x1024) (expIdx (m ((c.tc : Thread nD τ).loc main_arg0)))) := by
  unfold Value.res_main_v64
  rfl

theorem cast3 (w : FVec Ideal S1x32x1024x2048 .f32) (e : Fin 32) (k : Fin 1024) (f : Fin 2048) :
    shapeCast S32x1024x2048 w shapeCasts_S1x32x1024x2048_S32x1024x2048 (ix3 e k f) = w (ix4 0 e k f) := by
  pointwise

theorem cast4 (w : FVec Ideal S1x32x2048 .f32) (e : Fin 32) (f : Fin 2048) :
    shapeCast S32x2048 w shapeCasts_S1x32x2048_S32x2048 (ix2 e f) = w (ix3 0 e f) := by
  pointwise

theorem cast5 (w : FVec Ideal S1x32x1024x1024 .f32) (e : Fin 32) (k f : Fin 1024) :
    shapeCast S32x1024x1024 w shapeCasts_S1x32x1024x1024_S32x1024x1024 (ix3 e k f) = w (ix4 0 e k f) := by
  pointwise

theorem cast6 (w : FVec Ideal S1x32x1024 .f32) (e : Fin 32) (f : Fin 1024) :
    shapeCast S32x1024 w shapeCasts_S1x32x1024_S32x1024 (ix2 e f) = w (ix3 0 e f) := by
  pointwise

/-- The reference's result at an index. -/
theorem ref_apply (m : (ℓ : Loc nD τ sig) → Buf (Elt Ideal) ℓ) (c : Dev nD) (j : Fin 74752) (d : Fin 1024) (b : Fin 292) (hb : b.val = j.val / 256)
    (e : Fin 32) (he : ((m ((c.tc : Thread nD τ).loc main_arg0) : IVec S292 32) (ix1 b)) = BitVec.ofNat 32 e.val) :
    (Value.res_main_v64 m c : FVec Ideal S74752x1024 .f32) (ix2 j d)
      = if (BitVec.ofNat 32 b.val).toInt < ((m ((c.tc : Thread nD τ).loc main_arg1) : IVec S1 32) (ix1 0)).toInt then
          Cert.Ffn.expertRow (fun k => (m ((c.tc : Thread nD τ).loc main_arg2) : FVec Ideal S74752x1024 .f32) (ix2 j k))
            (fun k f => (m ((c.tc : Thread nD τ).loc main_arg3) : FVec Ideal S1x32x1024x2048 .f32) (ix4 0 e k f))
            (fun f => (m ((c.tc : Thread nD τ).loc main_arg4) : FVec Ideal S1x32x2048 .f32) (ix3 0 e f))
            (fun f d => (m ((c.tc : Thread nD τ).loc main_arg5) : FVec Ideal S1x32x1024x1024 .f32) (ix4 0 e f d))
            (fun d => (m ((c.tc : Thread nD τ).loc main_arg6) : FVec Ideal S1x32x1024 .f32) (ix3 0 e d)) d
        else 0 := by
  rw [res_eq]
  generalize (m ((c.tc : Thread nD τ).loc main_arg0) : IVec S292 32) = be at he ⊢
  generalize (m ((c.tc : Thread nD τ).loc main_arg1) : IVec S1 32) = nu
  generalize (m ((c.tc : Thread nD τ).loc main_arg2) : FVec Ideal S74752x1024 .f32) = x
  generalize (m ((c.tc : Thread nD τ).loc main_arg3) : FVec Ideal S1x32x1024x2048 .f32) = w3
  generalize (m ((c.tc : Thread nD τ).loc main_arg4) : FVec Ideal S1x32x2048 .f32) = w4
  generalize (m ((c.tc : Thread nD τ).loc main_arg5) : FVec Ideal S1x32x1024x1024 .f32) = w5
  generalize (m ((c.tc : Thread nD τ).loc main_arg6) : FVec Ideal S1x32x1024 .f32) = w6
  have hlt : (be (ix1 b)).toNat < 32 := by rw [he, BitVec.toNat_ofNat]; have := e.isLt; omega
  have hi : expIdx be (ix2 b 0) = BitVec.ofNat 32 e.val := (expIdx_apply be b hlt).trans he
  rw [outOf_apply nu x _ _ _ _ j d b hb]
  have g1 : ∀ k f, Host.gather gather_S32x1024x2048_S292x1_S292x1024x2048_12_0_n_n_0_1_110242048 (shapeCast S32x1024x2048 w3 shapeCasts_S1x32x1024x2048_S32x1024x2048) (expIdx be) (ix3 b k f) = w3 (ix4 0 e k f) := fun k f =>
    (Cert.Slab.gather_slab _ _ _ b k f e hi (by decide)).trans (cast3 w3 e k f)
  have g2 : ∀ f, Host.gather gather_S32x2048_S292x1_S292x2048_1_0_n_n_0_1_12048 (shapeCast S32x2048 w4 shapeCasts_S1x32x2048_S32x2048) (expIdx be) (ix2 b f) = w4 (ix3 0 e f) := fun f =>
    (Routing.gather_row _ rfl rfl rfl rfl rfl _ _ b f e hi (by decide)).trans (cast4 w4 e f)
  have g3 : ∀ k f, Host.gather gather_S32x1024x1024_S292x1_S292x1024x1024_12_0_n_n_0_1_110241024 (shapeCast S32x1024x1024 w5 shapeCasts_S1x32x1024x1024_S32x1024x1024) (expIdx be) (ix3 b k f) = w5 (ix4 0 e k f) := fun k f =>
    (Cert.Slab.gather_slab _ _ _ b k f e hi (by decide)).trans (cast5 w5 e k f)
  have g4 : ∀ f, Host.gather gather_S32x1024_S292x1_S292x1024_1_0_n_n_0_1_11024 (shapeCast S32x1024 w6 shapeCasts_S1x32x1024_S32x1024) (expIdx be) (ix2 b f) = w6 (ix3 0 e f) := fun f =>
    (Routing.gather_row _ rfl rfl rfl rfl rfl _ _ b f e hi (by decide)).trans (cast6 w6 e f)
  simp only [g1, g2, g3, g4]

end Cert.Reference2Ideal.Gen

end
-- ==== Proof.FfnValue.lean ====
/- The experts' products, the kernel's result at an index and its equality with the reference's. -/
module

public import proofs.«01_k».proof.Proof.FfnRun
public import proofs.«01_k».proof.Proof.FfnBlocks
public import proofs.«01_k».proof.Proof.FfnPay
public import proofs.«01_k».proof.Proof.FfnRef

@[expose] public section

set_option maxRecDepth 16384

noncomputable section

namespace Cert.Kernel2Ideal.Gen

open Idealize.ShloMosaic Idealize.ShloMosaic.TcCoe

section Point

variable (a : (pcfg0 (F := Ideal)).Adm) (t : Fin (cfg0 a).N) (b : Fin 292) (hb : (grid0.coords t 0).val = b.val)

include hb

/-- What the body leaves of block `b`, at an index, at any contents of the arrays. -/
theorem point_eq (h : TabOk (beOf a.1) (nuOf a.1)) (X2 : FVec Ideal S74752x1024 .f32) (X3 : FVec Ideal S1x32x1024x2048 .f32)
    (X4 : FVec Ideal S1x32x2048 .f32) (X5 : FVec Ideal S1x32x1024x1024 .f32) (X6 : FVec Ideal S1x32x1024 .f32)
    (r : Fin 256) (d : Fin 1024) (j : Fin 74752) (hj : j.val = 256 * b.val + r.val) (e : Fin 32) (he : e.val = (beOf a.1 (ix1 b)).toNat) :
    leftAt (grid0.coords t) ((((cfg0 a).win 0).blk t).view.read (Elt Ideal) X2) ((((cfg0 a).win 1).blk t).view.read (Elt Ideal) (wgu X3))
        ((((cfg0 a).win 2).blk t).view.read (Elt Ideal) (bgu X4)) ((((cfg0 a).win 3).blk t).view.read (Elt Ideal) (wdn X5))
        ((((cfg0 a).win 4).blk t).view.read (Elt Ideal) (bdn X6)) (nuOf a.1 (ix1 0)) (ix2 r d)
      = if (BitVec.ofNat 32 b.val).toInt < (nuOf a.1 (ix1 0)).toInt then
          Cert.Ffn.expertRow (fun k => X2 (ix2 j k)) (fun k f => X3 (ix4 0 e k f)) (fun f => X4 (ix3 0 e f)) (fun f d => X5 (ix4 0 e f d))
            (fun d => X6 (ix3 0 e d)) d
        else 0 := by
  unfold leftAt
  by_cases hc : (BitVec.ofNat 32 b.val).toInt < (nuOf a.1 (ix1 0)).toInt
  · rw [if_pos hc, if_pos ((cond1_iff _ _).2 (by rw [hb]; exact hc))]
    have hlt : b.val < (nuOf a.1 (ix1 0)).toNat := by
      have h1 : (nuOf a.1 (ix1 0)).toNat ≤ 292 := h.le
      have h2 := BitVec.toInt_eq_toNat_cond (nuOf a.1 (ix1 0))
      rw [if_pos (by omega)] at h2
      have h3 := BitVec.toInt_eq_toNat_cond (BitVec.ofNat 32 b.val)
      have h4 : (BitVec.ofNat 32 b.val).toNat = b.val := by rw [BitVec.toNat_ofNat]; have := b.isLt; omega
      have := b.isLt
      rw [if_pos (by omega)] at h3
      omega
    have hm : j.val = 256 * min b.val ((nuOf a.1 (ix1 0)).toNat - 1) + r.val := by
      rw [Nat.min_eq_left (by omega)]; exact hj
    exact pay_apply _ _ _ _ _ r d _ _ _ _ _
      (fun k => blk0_read a t b hb h X2 r k j hm)
      (fun k f => (blk1_read a t b hb (wgu X3) 0 k _ e he).trans (wgu_gate X3 e k f))
      (fun k f => (blk1_read a t b hb (wgu X3) 0 k _ e he).trans (wgu_up X3 e k f))
      (fun f => (blk2_read a t b hb (bgu X4) 0 0 _ e he).trans (bgu_gate X4 e f))
      (fun f => (blk2_read a t b hb (bgu X4) 0 0 _ e he).trans (bgu_up X4 e f))
      (fun f => (blk3_read a t b hb (wdn X5) 0 f d e he).trans (wdn_apply X5 e f d))
      ((blk4_read a t b hb (bdn X6) 0 0 d e he).trans (bdn_apply X6 e d))
  · rw [if_neg hc, if_neg (fun q => hc (by have := (cond1_iff _ _).1 q; rw [hb] at this; exact this))]
    exact pay2_apply r d

end Point

variable (m : (ℓ : Loc nD τ sig) → Buf (Elt Ideal) ℓ)

/-- The block a row of the result lies in. -/
def blockOf (j : Fin 74752) : Fin 292 := ⟨j.val / 256, by have := j.isLt; omega⟩

/-- The block's expert. -/
def expertOf (be : IVec S292 32) (b : Fin 292) : Fin 32 := ⟨(be (ix1 b)).toNat % 32, Nat.mod_lt _ (by decide)⟩

/-- The result, index by index. -/
def resOf (be : IVec S292 32) (nu : IVec S1 32) (X2 : FVec Ideal S74752x1024 .f32) (X3 : FVec Ideal S1x32x1024x2048 .f32)
    (X4 : FVec Ideal S1x32x2048 .f32) (X5 : FVec Ideal S1x32x1024x1024 .f32) (X6 : FVec Ideal S1x32x1024 .f32) : FVec Ideal S74752x1024 .f32 :=
  fun i =>
    if (BitVec.ofNat 32 (blockOf (i 0)).val).toInt < (nu (ix1 0)).toInt then
      Cert.Ffn.expertRow (fun k => X2 (ix2 (i 0) k)) (fun k f => X3 (ix4 0 (expertOf be (blockOf (i 0))) k f))
        (fun f => X4 (ix3 0 (expertOf be (blockOf (i 0))) f)) (fun f d => X5 (ix4 0 (expertOf be (blockOf (i 0))) f d))
        (fun d => X6 (ix3 0 (expertOf be (blockOf (i 0))) d)) (i 1)
    else 0

/-- An index of the result, by its coordinates. -/
theorem idx_eq (i : S74752x1024.Idx) : i = ix2 (i 0) (i 1) := by
  funext x
  match x with
  | ⟨0, _⟩ => rfl
  | ⟨1, _⟩ => rfl

/-- The table words the region finds are the arguments'. -/
theorem be_tbl : beOf (tbl m) = (m (((0 : Dev nD) : Thread nD τ).loc main_arg0) : IVec S292 32) := V_main_arg0 m 0
theorem nu_tbl : nuOf (tbl m) = (m (((0 : Dev nD) : Thread nD τ).loc main_arg1) : IVec S1 32) := V_main_arg1 m 0

theorem leftAt_congr (i : grid0.Coords) {x0 x0' : Vec Ideal S256x1024 .f32} {x1 x1' : Vec Ideal S1x1024x2048 .bf16} {x2 x2' : Vec Ideal S1x1x2048 .f32}
    {x3 x3' : Vec Ideal S1x1024x1024 .bf16} {x4 x4' : Vec Ideal S1x1x1024 .f32} {w w' : BitVec 32} (e0 : x0 = x0') (e1 : x1 = x1') (e2 : x2 = x2')
    (e3 : x3 = x3') (e4 : x4 = x4') (ew : w = w') : leftAt i x0 x1 x2 x3 x4 w = leftAt i x0' x1' x2' x3' x4' w' := by
  subst e0 e1 e2 e3 e4 ew; rfl

theorem V_main_arg2' (c : Dev nD) : V m c (Pipeline.arrRef spec0 0) = m ((c : Thread nD τ).loc main_arg2) := V_main_arg2 m c

/-- What the body leaves at a point, at an index. -/
theorem outsAt_apply (hO : Ok m) (h : TabOk (beOf (tbl m)) (nuOf (tbl m))) (c : Dev nD) (t : Fin (cfgM m hO).N) (b : Fin 292)
    (hb : (grid0.coords t 0).val = b.val) (r : Fin 256) (d : Fin 1024) (j : Fin 74752) (hj : j.val = 256 * b.val + r.val) :
    outsAt0 m hO c t (ix2 r d)
      = resOf (beOf (tbl m)) (nuOf (tbl m)) (m ((c : Thread nD τ).loc main_arg2)) (m ((c : Thread nD τ).loc main_arg3))
          (m ((c : Thread nD τ).loc main_arg4)) (m ((c : Thread nD τ).loc main_arg5)) (m ((c : Thread nD τ).loc main_arg6)) (ix2 j d) := by
  have hbj : blockOf j = b := Fin.ext (by show j.val / 256 = b.val; have := r.isLt; omega)
  have he : (expertOf (beOf (tbl m)) b).val = (beOf (tbl m) (ix1 b)).toNat := Nat.mod_eq_of_lt (h.expert b)
  have e := point_eq (adm m hO) t b hb h (m ((c : Thread nD τ).loc main_arg2)) (m ((c : Thread nD τ).loc main_arg3))
    (m ((c : Thread nD τ).loc main_arg4)) (m ((c : Thread nD τ).loc main_arg5)) (m ((c : Thread nD τ).loc main_arg6)) r d j hj _ he
  have e' : outsAt0 m hO c t = leftAt (grid0.coords t) _ _ _ _ _ _ :=
    leftAt_congr (grid0.coords t) (congrArg ((((cfgM m hO).win 0).blk t).view.read (Elt Ideal)) (V_main_arg2 m c))
      (congrArg ((((cfgM m hO).win 1).blk t).view.read (Elt Ideal)) (V_v5 m c)) (congrArg ((((cfgM m hO).win 2).blk t).view.read (Elt Ideal)) (V_v11 m c))
      (congrArg ((((cfgM m hO).win 3).blk t).view.read (Elt Ideal)) (V_v13 m c)) (congrArg ((((cfgM m hO).win 4).blk t).view.read (Elt Ideal)) (V_v15 m c))
      (rfl : usedWord c (tbl m 1) = nuOf (tbl m) (ix1 0))
  refine (congrFun e' _).trans (e.trans ?_)
  rw [← hbj]
  rfl

/-- The same at the index of the whole result the block places it at. -/
theorem outsAt_emb (hO : Ok m) (h : TabOk (beOf (tbl m)) (nuOf (tbl m))) (c : Dev nD) (t : Fin (cfgM m hO).N) (y : S256x1024.Idx) :
    outsAt0 m hO c t y
      = resOf (beOf (tbl m)) (nuOf (tbl m)) (m ((c : Thread nD τ).loc main_arg2)) (m ((c : Thread nD τ).loc main_arg3))
          (m ((c : Thread nD τ).loc main_arg4)) (m ((c : Thread nD τ).loc main_arg5)) (m ((c : Thread nD τ).loc main_arg6)) ((((cfgM m hO).win 5).blk t).view.emb y) := by
  have ht : t.val < 292 := t.isLt
  have hr : (y 0).val < 256 := (y 0).isLt
  have hj : 256 * t.val + (y 0).val < 74752 := by omega
  have hb : (grid0.coords t 0).val = (⟨t.val, ht⟩ : Fin 292).val := coords_val t
  have hy : y = ix2 (⟨(y 0).val, hr⟩ : Fin 256) (y 1) := by
    funext x
    match x with
    | ⟨0, _⟩ => rfl
    | ⟨1, _⟩ => rfl
  have e1 := outsAt_apply m hO h c t ⟨t.val, ht⟩ hb ⟨(y 0).val, hr⟩ (y 1) ⟨256 * t.val + (y 0).val, hj⟩ rfl
  have e2 := blk5_emb (adm m hO) t ⟨t.val, ht⟩ hb ⟨(y 0).val, hr⟩ (y 1) ⟨256 * t.val + (y 0).val, hj⟩ rfl
  refine (congrArg (outsAt0 m hO c t) hy).trans (e1.trans (congrArg _ (e2.symm.trans ?_)))
  exact congrArg _ hy.symm

/-- The kernel's result. -/
theorem out_eq (hO : Ok m) (h : TabOk (beOf (tbl m)) (nuOf (tbl m))) (c : Dev nD) :
    (dats m hO 0 c).arrAt 5 (cfgM m hO).N
      = resOf (beOf (tbl m)) (nuOf (tbl m)) (m ((c : Thread nD τ).loc main_arg2)) (m ((c : Thread nD τ).loc main_arg3))
          (m ((c : Thread nD τ).loc main_arg4)) (m ((c : Thread nD τ).loc main_arg5)) (m ((c : Thread nD τ).loc main_arg6)) := by
  have key := outsAt_emb m hO h c
  generalize resOf (beOf (tbl m)) (nuOf (tbl m)) (m ((c : Thread nD τ).loc main_arg2)) (m ((c : Thread nD τ).loc main_arg3))
          (m ((c : Thread nD τ).loc main_arg4)) (m ((c : Thread nD τ).loc main_arg5)) (m ((c : Thread nD τ).loc main_arg6)) = G at key ⊢
  refine (dats m hO 0 c).arrAt_eq_of_emb 5 G (fun t _ y => ?_) (blk5_cover (adm m hO))
  rw [after0_5]
  generalize outsAt0 m hO c = o at key ⊢
  exact key t y

/-! ## The reference's result -/

theorem ref_eq (m' : (ℓ : Loc Cert.Reference2Ideal.nD Cert.Reference2Ideal.τ Cert.Reference2Ideal.sig) → Buf (Elt Ideal) ℓ) (c : Dev Cert.Reference2Ideal.nD)
    (h : ∀ b, ((m' ((c.tc : Thread _ _).loc Cert.Reference2Ideal.main_arg0) : IVec S292 32) (ix1 b)).toNat < 32) :
    (Cert.Reference2Ideal.Value.res_main_v64 m' c : FVec Ideal S74752x1024 .f32)
      = resOf (m' ((c.tc : Thread _ _).loc Cert.Reference2Ideal.main_arg0)) (m' ((c.tc : Thread _ _).loc Cert.Reference2Ideal.main_arg1))
          (m' ((c.tc : Thread _ _).loc Cert.Reference2Ideal.main_arg2)) (m' ((c.tc : Thread _ _).loc Cert.Reference2Ideal.main_arg3))
          (m' ((c.tc : Thread _ _).loc Cert.Reference2Ideal.main_arg4)) (m' ((c.tc : Thread _ _).loc Cert.Reference2Ideal.main_arg5))
          (m' ((c.tc : Thread _ _).loc Cert.Reference2Ideal.main_arg6)) := by
  funext i
  have hlt : (i 0).val < 74752 := (i 0).isLt
  refine (congrArg (Cert.Reference2Ideal.Value.res_main_v64 m' c : FVec Ideal S74752x1024 .f32) (idx_eq i)).trans ?_
  refine (Cert.Reference2Ideal.Gen.ref_apply m' c (i 0) (i 1) (blockOf (i 0)) rfl
    (expertOf (m' ((c.tc : Thread _ _).loc Cert.Reference2Ideal.main_arg0)) (blockOf (i 0))) ?_).trans rfl
  have := h (blockOf (i 0))
  apply BitVec.eq_of_toNat_eq
  show _ = (BitVec.ofNat 32 (_ % 32)).toNat
  rw [BitVec.toNat_ofNat, Nat.mod_eq_of_lt this, Nat.mod_eq_of_lt (by omega)]

end Cert.Kernel2Ideal.Gen
end
-- ==== Proof.FfnClaim.lean ====
/- The experts' products, the claims: the frames, and that the kernel's result is the reference's. -/
module

public import proofs.«01_k».proof.Defs
public import proofs.«01_k».proof.Proof.FfnValue
public import proofs.«01_k».proof.Proof.Gen.Kernel2
public import proofs.«01_k».proof.Proof.Gen.Reference2Ideal

@[expose] public section

noncomputable section

namespace Cert.Proof.Ffn

open Idealize.ShloMosaic Idealize.ShloMosaic.TcCoe Idealize.SL.Sem
open Cert.Kernel2Ideal Cert.Kernel2Ideal.Gen

variable {F : FTy → Type} [FloatOps F]

/-- The two table arguments as launched. -/
abbrev beArg (m : (ℓ : Loc nD τ sig) → Buf (Elt F) ℓ) (c : Dev nD) : IVec S292 32 := m ((c : Thread nD τ).loc main_arg0)
abbrev nuArg (m : (ℓ : Loc nD τ sig) → Buf (Elt F) ℓ) (c : Dev nD) : IVec S1 32 := m ((c : Thread nD τ).loc main_arg1)

theorem tab_of (m : (ℓ : Loc nD τ sig) → Buf (Elt F) ℓ) (h : TabOk (beArg m 0) (nuArg m 0)) : TabOk (beOf (tbl m)) (nuOf (tbl m)) := by
  have e0 : beOf (tbl m) = beArg m 0 := V_main_arg0 m 0
  have e1 : nuOf (tbl m) = nuArg m 0 := V_main_arg1 m 0
  rw [e0, e1]; exact h

theorem ok_of (m : (ℓ : Loc nD τ sig) → Buf (Elt F) ℓ) (h : TabOk (beArg m 0) (nuArg m 0)) : Ok m := ok0_of (tbl m) (tab_of m h)

theorem tab_of_pre_ideal (m : (ℓ : Loc nD τ sig) → Buf (Elt Ideal) ℓ) (h : Cert.Pre_Kernel2Ideal m) (c : Dev nD) :
    TabOk (beArg m c) (nuArg m c) := tabOk_of_pre _ _ _ _ _ _ _ (h c)

/-- The frame at `Bits`, of the program read for the extended reals. -/
def FrameBits : Prop := ∀ (m : (ℓ : Loc nD τ sig) → Buf (Elt Bits) ℓ) (g : Dev nD → PrngReg),
    (∀ c : Dev nD, Cert.Pre_blocks_in_range.fn (F := Bits) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0)

theorem frame_bits : FrameBits := fun m g hp => frame (F := Bits) m g (ok_of m (tabOk_of_pre _ _ _ _ _ _ _ (hp 0)))

/-- The two printed programs are the same text, so the two statements are one. -/
theorem frame_same : FrameBits = Cert.quiescent_Kernel2 := by sl_kernel_rfl

theorem frame_kernel : Cert.quiescent_Kernel2 := frame_same ▸ frame_bits

theorem frame_kernel_ideal : Cert.quiescent_Kernel2Ideal := fun m g hp =>
  (θ_run Cert.Kernel2Ideal.defs _ _).mono (fun _ h => h) (frame (F := Ideal) m g (ok_of m (tab_of_pre_ideal m hp 0)))
theorem frame_reference_ideal : Cert.quiescent_Reference2Ideal := fun m g _ =>
  (θ_run Cert.Reference2Ideal.defs _ _).mono (fun _ h => ⟨fun c => (h c).2, sem_eq_zero_of_no_sems (by decide) _⟩) (Cert.Reference2Ideal.Value.run m g)

/-- The kernel's run over the extended reals: its result, and the arguments unchanged. -/
theorem kernel_run (m : (ℓ : Loc nD τ sig) → Buf (Elt Ideal) ℓ) (g : Dev nD → PrngReg) (h : TabOk (beArg m 0) (nuArg m 0)) :
    θ_run defs (onTc (τ := τ) (main (F := Ideal))) ⟨m, fun _ => 0, g⟩ (fun r => ∀ c : Dev nD,
      r.2.mem ((c.tc : Thread nD τ).loc main_v16)
        = resOf (beArg m c) (nuArg m c) (m ((c : Thread nD τ).loc main_arg2)) (m ((c : Thread nD τ).loc main_arg3))
          (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have e0 : ∀ c : Dev nD, beOf (tbl m) = beArg m c := fun c => by obtain rfl : c = 0 := Subsingleton.elim _ _; exact V_main_arg0 m 0
  have e1 : ∀ c : Dev nD, nuOf (tbl m) = nuArg m c := fun c => by obtain rfl : c = 0 := Subsingleton.elim _ _; exact V_main_arg1 m 0
  have o := out_eq m (ok_of m h) (tab_of m h)
  refine (θ_run defs _ _).mono (fun r hr c => ⟨?_, hr.2 c⟩) (θ_run_and (run_main m g (ok_of m h)) (unchanged m g (ok_of m h)))
  refine ((hr.1 c).1 5).trans ((o c).trans ?_)
  rw [e0 c, e1 c]

theorem algebraic : Cert.algebraic_Kernel2Ideal_Reference2Ideal := fun m g m' g' hp hm =>
  ⟨fun c => resOf (beArg m c) (nuArg m c) (m ((c : Thread nD τ).loc main_arg2)) (m ((c : Thread nD τ).loc main_arg3))
      (m ((c : Thread nD τ).loc main_arg4)) (m ((c : Thread nD τ).loc main_arg5)) (m ((c : Thread nD τ).loc main_arg6)),
    kernel_run m g (tab_of_pre_ideal m hp 0),
    (θ_run Cert.Reference2Ideal.defs _ _).mono (fun _ h c => ⟨by
      obtain ⟨h0, h1, h2, h3, h4, h5, h6⟩ := hm c
      have t := (tab_of_pre_ideal m hp c).expert
      refine (h c).1.trans ((ref_eq m' c (fun b => ?_)).trans ?_)
      · have q := t b
        rw [show beArg m c = _ from h0.symm] at q
        exact q
      · rw [h0, h1, h2, h3, h4, h5, h6], (h c).2⟩) (Cert.Reference2Ideal.Value.run m' g')⟩

end Cert.Proof.Ffn

end
-- ==== Proof.ProjX.lean ====
/- The projection to the convolution's channels, and their last rows kept for the next step: the kernel's results and the
   reference's, index by index. -/
module

public import proofs.«01_k».proof.Defs
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import Idealize.ShloMosaic.Lib.Pipeline.ValueKit.Geometry
public import Idealize.ShloMosaic.Lib.Pointwise

@[expose] public section

set_option maxRecDepth 16384

noncomputable section

namespace Cert.Kernel3Ideal.Gen

open Idealize.ShloMosaic Idealize.ShloMosaic.TcCoe

/-- The tokens' rows: the prompts', then the samples'. -/
def rows (x0 : FVec Ideal S8x2048x1024 .f32) (x1 : FVec Ideal S32x8x1024 .f32) : FVec Ideal S16640x1024 .f32 :=
  concatenate S16640x1024 0 [⟨S16384x1024, shapeCast S16384x1024 x0 shapeCasts_S8x2048x1024_S16384x1024⟩, ⟨S256x1024, shapeCast S256x1024 x1 shapeCasts_S32x8x1024_S256x1024⟩] concatenates_S16384x1024_S256x1024_S16640x1024_d0

/-- The weight's columns for these channels. -/
def cols (w : FVec Ideal S1x1024x7776 .f32) : FVec Ideal S1024x3072 .bf16 :=
  truncf .bf16 (extractStridedSlice S1024x3072 ![0, 2624] (shapeCast S1024x7776 w shapeCasts_S1x1024x7776_S1024x7776) slices_S1024x7776_S1024x3072_0_2624) bitsLt_bf16_f32

theorem cols_apply (w : FVec Ideal S1x1024x7776 .f32) (k : Fin 1024) (f : Fin 3072) :
    cols w (ix2 k f) = w (ix3 0 k ⟨2624 + f.val, by omega⟩) := by
  pointwise [cols]

/-- The result, index by index: a row of the tokens against a column of the weight. -/
def resOf (x : FVec Ideal S16640x1024 .f32) (w : FVec Ideal S1x1024x7776 .f32) : FVec Ideal S16640x3072 .f32 :=
  fun i => ∑ k : Fin 1024, x (ix2 (i 0) k) * w (ix3 0 k ⟨2624 + (i 1).val, by have : (i 1).val < 3072 := (i 1).isLt; omega⟩)

/-- What one point of the grid stores, at an index. -/
theorem pay_apply (x : Vec Ideal S640x1024 .f32) (w : Vec Ideal S1024x3072 .bf16) (r : Fin 640) (f : Fin 3072) :
    k0_pay1 x w (ix2 r f) = ∑ k : Fin 1024, x (ix2 r k) * w (ix2 k f) := by
  pointwise [k0_pay1]

theorem out_pay (x : Vec Ideal S640x1024 .f32) (w : Vec Ideal S1024x3072 .bf16) : out0_2 x w = k0_pay1 x w := by
  unfold out0_2
  rw [View.canon_cons_unit_lit _ _ _ (by decide), View.ld_unit_lit _ _ (by decide), View.ld_unit_lit _ _ (by decide)]

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

section Blocks

variable (t : Fin cfg0.N)

/-- The tokens' window: 640 rows of the point's own. -/
theorem blk0_read (X : FVec Ideal S16640x1024 .f32) (r : Fin 640) (k : Fin 1024) (j : Fin 16640) (hj : j.val = 640 * t.val + r.val) :
    ((cfg0.win 0).blk t).view.read (Elt Ideal) X (ix2 r k) = X (ix2 j k) := by
  refine congrArg X (funext fun x => Fin.ext ?_)
  refine ((cfg0.win 0).rect_emb_val t (ix2 r k) x rfl).trans ?_
  have i0 : (cfg0.win 0).index t = ![t.val, 0] := index0 t
  rw [i0]
  match x with
  | ⟨0, _⟩ => show t.val * 640 + r.val = j.val; omega
  | ⟨1, _⟩ => show 0 * 1024 + k.val = k.val; omega

/-- The weight's window: the whole weight. -/
theorem blk1_read (X : FVec Ideal S1024x3072 .bf16) (k : Fin 1024) (f : Fin 3072) :
    ((cfg0.win 1).blk t).view.read (Elt Ideal) X (ix2 k f) = X (ix2 k f) := by
  refine congrArg X (funext fun x => Fin.ext ?_)
  refine ((cfg0.win 1).rect_emb_val t (ix2 k f) x rfl).trans ?_
  have i0 : (cfg0.win 1).index t = ![0, 0] := index1 t
  rw [i0]
  match x with
  | ⟨0, _⟩ => show 0 * 1024 + k.val = k.val; omega
  | ⟨1, _⟩ => show 0 * 3072 + f.val = f.val; omega

/-- The result's window: 640 rows of the point's own. -/
theorem blk2_emb (r : Fin 640) (f : Fin 3072) (j : Fin 16640) (hj : j.val = 640 * t.val + r.val) :
    ((cfg0.win 2).blk t).view.emb (ix2 r f) = (ix2 j f : S16640x3072.Idx) := by
  refine funext fun x => Fin.ext ?_
  refine ((cfg0.win 2).rect_emb_val t (ix2 r f) x rfl).trans ?_
  have i0 : (cfg0.win 2).index t = ![t.val, 0] := index2 t
  rw [i0]
  match x with
  | ⟨0, _⟩ => show t.val * 640 + r.val = j.val; omega
  | ⟨1, _⟩ => show 0 * 3072 + f.val = f.val; omega

/-- Every element of the result is in some written-back block. -/
theorem blk2_cover (i : S16640x3072.Idx) : ∃ t : Fin cfg0.N, (cfg0.win 2).flush t = true ∧ i ∈ ((cfg0.win 2).blk t).view.set := by
  have hi : (i 0).val < 16640 := (i 0).isLt
  have hlt : (i 0).val / 640 < 26 := by omega
  have hc : (i 1).val < 3072 := (i 1).isLt
  refine ⟨⟨(i 0).val / 640, hlt⟩, flush0_2 _, ?_⟩
  have e := blk2_emb ⟨(i 0).val / 640, hlt⟩ ⟨(i 0).val % 640, Nat.mod_lt _ (by decide)⟩ ⟨(i 1).val, hc⟩ ⟨(i 0).val, hi⟩ (Nat.div_add_mod _ _).symm
  have ei : i = ((cfg0.win 2).blk ⟨(i 0).val / 640, hlt⟩).view.emb (ix2 ⟨(i 0).val % 640, Nat.mod_lt _ (by decide)⟩ ⟨(i 1).val, hc⟩) := by
    refine Eq.trans ?_ e.symm
    funext x
    match x with
    | ⟨0, _⟩ => rfl
    | ⟨1, _⟩ => rfl
  exact Finset.mem_map.2 ⟨_, Finset.mem_univ _, ei.symm⟩

end Blocks

/-! ## What the region finds, and the result -/

variable (m : (ℓ : Loc nD τ sig) → Buf (Elt Ideal) ℓ) (c : Dev nD)

theorem V_v2 : V m c main_v2 = rows (m ((c : Thread nD τ).loc main_arg0)) (m ((c : Thread nD τ).loc main_arg1)) := by
  show StableHlo.after hostOps0 (fun b => m (c, b)) (Proc.devRef .tc main_v2) = _
  after_results <;> rfl

theorem V_v5 : V m c main_v5 = cols (m ((c : Thread nD τ).loc main_arg2)) := by
  show StableHlo.after hostOps0 (fun b => m (c, b)) (Proc.devRef .tc main_v5) = _
  after_results <;> rfl

/-- The block a point stores, at the index of the whole result it is placed at. -/
theorem out_emb (X : FVec Ideal S16640x1024 .f32) (w : FVec Ideal S1x1024x7776 .f32) (t : Fin cfg0.N) (y : S640x3072.Idx) :
    out0_2 (((cfg0.win 0).blk t).view.read (Elt Ideal) X) (((cfg0.win 1).blk t).view.read (Elt Ideal) (cols w)) y
      = resOf X w (((cfg0.win 2).blk t).view.emb y) := by
  have ht : t.val < 26 := t.isLt
  have hr : (y 0).val < 640 := (y 0).isLt
  have hc : (y 1).val < 3072 := (y 1).isLt
  have hj : 640 * t.val + (y 0).val < 16640 := by omega
  have hy : y = ix2 (⟨(y 0).val, hr⟩ : Fin 640) (⟨(y 1).val, hc⟩ : Fin 3072) := by
    funext x
    match x with
    | ⟨0, _⟩ => rfl
    | ⟨1, _⟩ => rfl
  have e2 := blk2_emb t ⟨(y 0).val, hr⟩ ⟨(y 1).val, hc⟩ ⟨640 * t.val + (y 0).val, hj⟩ rfl
  have e1 : out0_2 (((cfg0.win 0).blk t).view.read (Elt Ideal) X) (((cfg0.win 1).blk t).view.read (Elt Ideal) (cols w)) (ix2 (⟨(y 0).val, hr⟩ : Fin 640) (⟨(y 1).val, hc⟩ : Fin 3072))
      = resOf X w (ix2 (⟨640 * t.val + (y 0).val, hj⟩ : Fin 16640) (⟨(y 1).val, hc⟩ : Fin 3072)) := by
    rw [out_pay]
    refine (pay_apply _ _ _ _).trans (Finset.sum_congr rfl fun k _ => ?_)
    rw [blk0_read t X ⟨(y 0).val, hr⟩ k ⟨640 * t.val + (y 0).val, hj⟩ rfl, blk1_read t (cols w) k ⟨(y 1).val, hc⟩, cols_apply]
    rfl
  refine (congrArg _ hy).trans (e1.trans (congrArg _ (e2.symm.trans ?_)))
  exact congrArg _ hy.symm

/-- The kernel's result. -/
theorem out_eq : (dats m 0 c).arrAt 2 cfg0.N
    = resOf (rows (m ((c : Thread nD τ).loc main_arg0)) (m ((c : Thread nD τ).loc main_arg1))) (m ((c : Thread nD τ).loc main_arg2)) := by
  have key : ∀ (t : Fin cfg0.N) (y : S640x3072.Idx), out0_2 (iblk m c 0 t) (iblk m c 1 t) y
      = resOf (rows (m ((c : Thread nD τ).loc main_arg0)) (m ((c : Thread nD τ).loc main_arg1))) (m ((c : Thread nD τ).loc main_arg2)) (((cfg0.win 2).blk t).view.emb y) := fun t y => by
    have e : out0_2 (iblk m c 0 t) (iblk m c 1 t) = out0_2 (((cfg0.win 0).blk t).view.read (Elt Ideal) (rows (m ((c : Thread nD τ).loc main_arg0)) (m ((c : Thread nD τ).loc main_arg1))))
        (((cfg0.win 1).blk t).view.read (Elt Ideal) (cols (m ((c : Thread nD τ).loc main_arg2)))) :=
      congrArg₂ out0_2 (congrArg (((cfg0.win 0).blk t).view.read (Elt Ideal)) (V_v2 m c)) (congrArg (((cfg0.win 1).blk t).view.read (Elt Ideal)) (V_v5 m c))
    exact (congrFun e y).trans (out_emb _ _ t y)
  generalize resOf (rows (m ((c : Thread nD τ).loc main_arg0)) (m ((c : Thread nD τ).loc main_arg1))) (m ((c : Thread nD τ).loc main_arg2)) = G at key ⊢
  refine (dats m 0 c).arrAt_eq_of_emb 2 G (fun t _ y => ?_) blk2_cover
  rw [after0_2]
  have k := key t y
  generalize out0_2 (iblk m c 0 t) (iblk m c 1 t) = o at k ⊢
  exact k

/-! ## The last rows of each sequence, kept for the next step's convolution -/

/-- The prompts' last three rows of channels. -/
def convP (x : FVec Ideal S16640x3072 .f32) : FVec Ideal S1x8x3x3072 .f32 :=
  broadcastInDim S1x8x3x3072 ![1, 2, 3] bcast_S8x3x3072_S1x8x3x3072_1_2_3 (extractStridedSlice S8x3x3072 ![0, 2045, 0]
    (shapeCast S8x2048x3072 (extractStridedSlice S16384x3072 ![0, 0] x slices_S16640x3072_S16384x3072_0_0) shapeCasts_S16384x3072_S8x2048x3072) slices_S8x2048x3072_S8x3x3072_0_2045_0)

/-- The last three rows of the samples' states with their rows of channels behind them. -/
def convS (s : FVec Ideal S1x32x3x3072 .f32) (x : FVec Ideal S16640x3072 .f32) : FVec Ideal S1x32x3x3072 .f32 :=
  broadcastInDim S1x32x3x3072 ![1, 2, 3] bcast_S32x3x3072_S1x32x3x3072_1_2_3 (extractStridedSlice S32x3x3072 ![0, 8, 0]
    (concatenate S32x11x3072 1 [⟨S32x3x3072, shapeCast S32x3x3072 s shapeCasts_S1x32x3x3072_S32x3x3072⟩, ⟨S32x8x3072, shapeCast S32x8x3072 (extractStridedSlice S256x3072 ![16384, 0] x slices_S16640x3072_S256x3072_16384_0) shapeCasts_S256x3072_S32x8x3072⟩] concatenates_S32x3x3072_S32x8x3072_S32x11x3072_d1) slices_S32x11x3072_S32x3x3072_0_8_0)

theorem convP_apply (x : FVec Ideal S16640x3072 .f32) (b : Fin 8) (j : Fin 3) (f : Fin 3072) :
    convP x (ix4 0 b j f) = x (ix2 ⟨b.val * 2048 + (2045 + j.val), by omega⟩ f) := by
  pointwise [convP]

theorem convS_apply (s : FVec Ideal S1x32x3x3072 .f32) (x : FVec Ideal S16640x3072 .f32) (b : Fin 32) (j : Fin 3) (f : Fin 3072) :
    convS s x (ix4 0 b j f) = x (ix2 ⟨16384 + (b.val * 8 + (5 + j.val)), by omega⟩ f) := by
  pointwise [convS]
  rw [dif_neg (by omega)]
  exact congrArg x (congrArg (ix2 · f) (Fin.ext (by simp only []; omega)))

theorem rows_apply (x0 : FVec Ideal S8x2048x1024 .f32) (x1 : FVec Ideal S32x8x1024 .f32) (r : Fin 16640) (k : Fin 1024) :
    rows x0 x1 (ix2 r k) = if h : r.val < 16384 then x0 (ix3 ⟨r.val / 2048, by omega⟩ ⟨r.val % 2048, by omega⟩ k)
      else x1 (ix3 ⟨(r.val - 16384) / 8, by omega⟩ ⟨(r.val - 16384) % 8, by omega⟩ k) := by
  pointwise [rows]

theorem rows_prompt (x0 : FVec Ideal S8x2048x1024 .f32) (x1 : FVec Ideal S32x8x1024 .f32) (b : Fin 8) (t : Fin 2048) (k : Fin 1024) :
    rows x0 x1 (ix2 ⟨b.val * 2048 + t.val, by omega⟩ k) = x0 (ix3 b t k) := by
  rw [rows_apply, dif_pos (by simp only []; omega)]
  exact congrArg₂ (fun b t => x0 (ix3 b t k)) (Fin.ext (by simp only []; omega)) (Fin.ext (by simp only []; omega))

theorem rows_sample (x0 : FVec Ideal S8x2048x1024 .f32) (x1 : FVec Ideal S32x8x1024 .f32) (b : Fin 32) (t : Fin 8) (k : Fin 1024) :
    rows x0 x1 (ix2 ⟨16384 + (b.val * 8 + t.val), by omega⟩ k) = x1 (ix3 b t k) := by
  rw [rows_apply, dif_neg (by simp only []; omega)]
  exact congrArg₂ (fun b t => x1 (ix3 b t k)) (Fin.ext (by simp only []; omega)) (Fin.ext (by simp only []; omega))

/-- Every buffer as the region leaves it. -/
abbrev exitV : Valuation τ sig (Elt Ideal) :=
  Pipeline.withArrays spec0 c (V0 m c) fun w => (dats m 0 c).arrAt w cfg0.N

theorem exit_v6 : exitV m c (Proc.devRef .tc main_v6) = (dats m 0 c).arrAt 2 cfg0.N :=
  Pipeline.withArrays_arr spec0 launch0.win.arr_inj c (V0 m c) _ 2

theorem exit_arg3 : exitV m c (Proc.devRef .tc main_arg3) = m ((c : Thread nD τ).loc main_arg3) :=
  (Pipeline.withArrays_of_ne spec0 c (V0 m c) _ main_arg3 (by decide)).trans (V_main_arg3 m c)

theorem tail_v15 (W : Valuation τ sig (Elt Ideal)) : StableHlo.after (hostOps1 (F := Ideal)) W (Proc.devRef .tc main_v15) = convP (W (Proc.devRef .tc main_v6)) := by
  after_results <;> rfl

theorem tail_v16 (W : Valuation τ sig (Elt Ideal)) : StableHlo.after (hostOps1 (F := Ideal)) W (Proc.devRef .tc main_v16)
    = convS (W (Proc.devRef .tc main_arg3)) (W (Proc.devRef .tc main_v6)) := by
  after_results <;> rfl

/-- The kernel's channels, at the arguments the launch finds. -/
abbrev chan : FVec Ideal S16640x3072 .f32 :=
  resOf (rows (m ((c : Thread nD τ).loc main_arg0)) (m ((c : Thread nD τ).loc main_arg1))) (m ((c : Thread nD τ).loc main_arg2))

/-- The kernel's run: its results, and the arguments as they were. -/
theorem run_val (ρ : Dev nD → PrngReg) : θ_run defs (onTc (τ := τ) (main (F := Ideal))) ⟨m, fun _ => 0, ρ⟩ fun r => ∀ c : Dev nD,
      r.2.mem ((c : Thread nD τ).loc main_v6) = chan m c
      ∧ r.2.mem ((c : Thread nD τ).loc main_v15) = convP (chan m c)
      ∧ r.2.mem ((c : Thread nD τ).loc main_v16) = convS (m ((c : Thread nD τ).loc main_arg3)) (chan m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 2).trans (out_eq m c),
      (((h.1 c).2 main_v15 (Pipeline.mem_restRefs_of main_v15 (by decide) (by decide))).trans (tail_v15 (exitV m c))).trans (congrArg convP ((exit_v6 m c).trans (out_eq m c))),
      (((h.1 c).2 main_v16 (Pipeline.mem_restRefs_of main_v16 (by decide) (by decide))).trans (tail_v16 (exitV m c))).trans
        (congrArg₂ convS (exit_arg3 m c) ((exit_v6 m c).trans (out_eq m c))), h.2 c⟩)
    (θ_run_and (run_main m ρ) (unchanged m ρ))

end Cert.Kernel3Ideal.Gen

namespace Cert.Proof.ProjX

open Idealize.ShloMosaic Idealize.ShloMosaic.TcCoe Idealize.SL.Sem
open Cert.Kernel3Ideal.Gen (rows resOf convP convS chan convP_apply convS_apply)

/-- The reference's term is the same sum. -/
theorem ref_eq (X : FVec Ideal Cert.Kernel3Ideal.S16640x1024 .f32) (w : FVec Ideal Cert.Kernel3Ideal.S1x1024x7776 .f32) :
    extractStridedSlice Cert.Reference3Ideal.S16640x3072 ![0, 2624] (Host.dotGeneral Cert.Reference3Ideal.dot_S16640x1024_S1024x7776_S16640x7776_1_0_0_1_n_n none X
      (shapeCast Cert.Reference3Ideal.S1024x7776 w Cert.Reference3Ideal.Gen.shapeCasts_S1x1024x7776_S1024x7776)) Cert.Reference3Ideal.Gen.slices_S16640x7776_S16640x3072_0_2624
      = resOf X w := by
  funext i
  obtain ⟨r, f, rfl⟩ : ∃ (r : Fin 16640) (f : Fin 3072), i = ix2 r f := ⟨i 0, i 1, by
    funext x
    match x with
    | ⟨0, _⟩ => rfl
    | ⟨1, _⟩ => rfl⟩
  pointwise [resOf]

/-- The reference's last rows of the prompts: the channels of each prompt behind three rows of zeros. -/
def refP (x0 : FVec Ideal Cert.Kernel3Ideal.S8x2048x1024 .f32) (w : FVec Ideal Cert.Kernel3Ideal.S1x1024x7776 .f32) : FVec Ideal Cert.Reference3Ideal.S1x8x3x3072 .f32 :=
  open Cert.Reference3Ideal Cert.Reference3Ideal.Gen in
  broadcastInDim S1x8x3x3072 ![1, 2, 3] bcast_S8x3x3072_S1x8x3x3072_1_2_3 (extractStridedSlice S8x3x3072 ![0, 2048, 0] (concatenate S8x2051x3072 1 [⟨S8x3x3072, (broadcastInDim S8x3x3072 ![] bcast_S_S8x3x3072 (constant S_ .f32 0x00000000#32))⟩, ⟨S8x2048x3072, (extractStridedSlice S8x2048x3072 ![0, 0, 2624] (Host.dotGeneral dot_S8x2048x1024_S1024x7776_S8x2048x7776_2_0_01_1_n_n none x0 (shapeCast S1024x7776 w shapeCasts_S1x1024x7776_S1024x7776)) slices_S8x2048x7776_S8x2048x3072_0_0_2624)⟩] concatenates_S8x3x3072_S8x2048x3072_S8x2051x3072_d1) slices_S8x2051x3072_S8x3x3072_0_2048_0)

/-- The reference's last rows of the samples: the channels of each sample behind its state. -/
def refS (x1 : FVec Ideal Cert.Kernel3Ideal.S32x8x1024 .f32) (w : FVec Ideal Cert.Kernel3Ideal.S1x1024x7776 .f32) (s : FVec Ideal Cert.Kernel3Ideal.S1x32x3x3072 .f32) : FVec Ideal Cert.Reference3Ideal.S1x32x3x3072 .f32 :=
  open Cert.Reference3Ideal Cert.Reference3Ideal.Gen in
  broadcastInDim S1x32x3x3072 ![1, 2, 3] bcast_S32x3x3072_S1x32x3x3072_1_2_3 (extractStridedSlice S32x3x3072 ![0, 8, 0] (concatenate S32x11x3072 1 [⟨S32x3x3072, (shapeCast S32x3x3072 s shapeCasts_S1x32x3x3072_S32x3x3072)⟩, ⟨S32x8x3072, (extractStridedSlice S32x8x3072 ![0, 0, 2624] (Host.dotGeneral dot_S32x8x1024_S1024x7776_S32x8x7776_2_0_01_1_n_n none x1 (shapeCast S1024x7776 w shapeCasts_S1x1024x7776_S1024x7776)) slices_S32x8x7776_S32x8x3072_0_0_2624)⟩] concatenates_S32x3x3072_S32x8x3072_S32x11x3072_d1) slices_S32x11x3072_S32x3x3072_0_8_0)

theorem refP_apply (x0 : FVec Ideal Cert.Kernel3Ideal.S8x2048x1024 .f32) (w : FVec Ideal Cert.Kernel3Ideal.S1x1024x7776 .f32) (b : Fin 8) (j : Fin 3) (f : Fin 3072) :
    refP x0 w (ix4 0 b j f) = ∑ k : Fin 1024, x0 (ix3 b ⟨2045 + j.val, by omega⟩ k) * w (ix3 0 k ⟨2624 + f.val, by omega⟩) := by
  pointwise [refP]
  rw [dif_neg (by omega)]
  exact Finset.sum_congr rfl fun k _ => congrArg (· * _) (congrArg (fun t => x0 (ix3 b t k)) (Fin.ext (by simp only []; omega)))

theorem refS_apply (x1 : FVec Ideal Cert.Kernel3Ideal.S32x8x1024 .f32) (w : FVec Ideal Cert.Kernel3Ideal.S1x1024x7776 .f32) (s : FVec Ideal Cert.Kernel3Ideal.S1x32x3x3072 .f32) (b : Fin 32) (j : Fin 3) (f : Fin 3072) :
    refS x1 w s (ix4 0 b j f) = ∑ k : Fin 1024, x1 (ix3 b ⟨5 + j.val, by omega⟩ k) * w (ix3 0 k ⟨2624 + f.val, by omega⟩) := by
  pointwise [refS]
  rw [dif_neg (by omega)]
  exact Finset.sum_congr rfl fun k _ => congrArg (· * _) (congrArg (fun t => x1 (ix3 b t k)) (Fin.ext (by simp only []; omega)))

/-- An index of a list of arrays of rows is its four coordinates, the first being zero. -/
theorem idx_four {a b c : Nat} (i : (⟨4, ![1, a, b, c]⟩ : Shape).Idx) : ∃ (x : Fin a) (y : Fin b) (z : Fin c), i = ix4 0 x y z :=
  ⟨i 1, i 2, i 3, by
    funext x
    match x with
    | ⟨0, _⟩ => exact Subsingleton.elim (α := Fin 1) _ _
    | ⟨1, _⟩ => rfl
    | ⟨2, _⟩ => rfl
    | ⟨3, _⟩ => rfl⟩

theorem refP_eq (x0 : FVec Ideal Cert.Kernel3Ideal.S8x2048x1024 .f32) (x1 : FVec Ideal Cert.Kernel3Ideal.S32x8x1024 .f32) (w : FVec Ideal Cert.Kernel3Ideal.S1x1024x7776 .f32) :
    refP x0 w = convP (resOf (rows x0 x1) w) := by
  funext i
  obtain ⟨b, j, f, rfl⟩ := idx_four i
  rw [refP_apply, convP_apply]
  exact Finset.sum_congr rfl fun k _ => congrArg (· * _) (Cert.Kernel3Ideal.Gen.rows_prompt x0 x1 b ⟨2045 + j.val, by omega⟩ k).symm

theorem refS_eq (x0 : FVec Ideal Cert.Kernel3Ideal.S8x2048x1024 .f32) (x1 : FVec Ideal Cert.Kernel3Ideal.S32x8x1024 .f32) (w : FVec Ideal Cert.Kernel3Ideal.S1x1024x7776 .f32) (s : FVec Ideal Cert.Kernel3Ideal.S1x32x3x3072 .f32) :
    refS x1 w s = convS s (resOf (rows x0 x1) w) := by
  funext i
  obtain ⟨b, j, f, rfl⟩ := idx_four i
  rw [refS_apply, convS_apply]
  exact Finset.sum_congr rfl fun k _ => congrArg (· * _) (Cert.Kernel3Ideal.Gen.rows_sample x0 x1 b ⟨5 + j.val, by omega⟩ k).symm

/-- The frame at the machine's words, of the program read for the extended reals. -/
def FrameBits : Prop := ∀ (m : (ℓ : Loc Cert.Kernel3Ideal.nD Cert.Kernel3Ideal.τ Cert.Kernel3Ideal.sig) → Buf (Elt Bits) ℓ) (g : Dev Cert.Kernel3Ideal.nD → PrngReg),
    True → θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)) ∧ r.2.sem = fun _ => 0)

theorem frame_bits : FrameBits := fun m g _ => Cert.Kernel3Ideal.Gen.frame (F := Bits) m g

/-- The two printed programs are the same text, so the two statements are one. -/
theorem frame_same : FrameBits = Cert.quiescent_Kernel3 := by sl_kernel_rfl
theorem frame_kernel : Cert.quiescent_Kernel3 := frame_same ▸ frame_bits
theorem frame_kernel_ideal : Cert.quiescent_Kernel3Ideal := fun m g _ => Cert.Kernel3Ideal.Gen.frame (F := Ideal) m g
theorem frame_reference_ideal : Cert.quiescent_Reference3Ideal := fun m g _ =>
  (θ_run Cert.Reference3Ideal.defs _ _).mono (fun _ h => ⟨fun c => (h c).2.2.2, sem_eq_zero_of_no_sems (by decide) _⟩) (Cert.Reference3Ideal.Value.run m g)

theorem algebraic : Cert.algebraic_Kernel3Ideal_Reference3Ideal := fun m g m' g' _ hm =>
  ⟨fun c => chan m c, fun c => convP (chan m c), fun c => convS (m ((c.tc : Thread _ _).loc Cert.Kernel3Ideal.main_arg3)) (chan m c),
    Cert.Kernel3Ideal.Gen.run_val m g,
    (θ_run Cert.Reference3Ideal.defs _ _).mono (fun _ h c => by
      obtain ⟨h0, h1, h2, h3⟩ := hm c
      refine ⟨(h c).1.trans ?_, (h c).2.1.trans ?_, (h c).2.2.1.trans ?_, (h c).2.2.2⟩
      · rw [h0, h1, h2]
        exact ref_eq _ _
      · rw [h0, h2]
        exact refP_eq _ _ _
      · rw [h1, h2, h3]
        exact refS_eq _ _ _ _) (Cert.Reference3Ideal.Value.run m' g')⟩

end Cert.Proof.ProjX
end
-- ==== Proof.ProjZ.lean ====
/- The projection to the gate z: the kernel's result and the reference's, index by index. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pointwise

@[expose] public section

set_option maxRecDepth 16384

noncomputable section

namespace Cert.Kernel4Ideal.Gen

open Idealize.ShloMosaic Idealize.ShloMosaic.TcCoe

/-- The tokens' rows: the prompts', then the samples'. -/
def rows (x0 : FVec Ideal S8x2048x1024 .f32) (x1 : FVec Ideal S32x8x1024 .f32) : FVec Ideal S16640x1024 .f32 :=
  concatenate S16640x1024 0 [⟨S16384x1024, shapeCast S16384x1024 x0 shapeCasts_S8x2048x1024_S16384x1024⟩, ⟨S256x1024, shapeCast S256x1024 x1 shapeCasts_S32x8x1024_S256x1024⟩] concatenates_S16384x1024_S256x1024_S16640x1024_d0

/-- The weight's columns for these channels. -/
def cols (w : FVec Ideal S1x1024x7776 .f32) : FVec Ideal S1024x2048 .bf16 :=
  truncf .bf16 (extractStridedSlice S1024x2048 ![0, 576] (shapeCast S1024x7776 w shapeCasts_S1x1024x7776_S1024x7776) slices_S1024x7776_S1024x2048_0_576) bitsLt_bf16_f32

theorem cols_apply (w : FVec Ideal S1x1024x7776 .f32) (k : Fin 1024) (f : Fin 2048) :
    cols w (ix2 k f) = w (ix3 0 k ⟨576 + f.val, by omega⟩) := by
  pointwise [cols]

/-- The result, index by index: a row of the tokens against a column of the weight. -/
def resOf (x : FVec Ideal S16640x1024 .f32) (w : FVec Ideal S1x1024x7776 .f32) : FVec Ideal S16640x2048 .f32 :=
  fun i => ∑ k : Fin 1024, x (ix2 (i 0) k) * w (ix3 0 k ⟨576 + (i 1).val, by have : (i 1).val < 2048 := (i 1).isLt; omega⟩)

/-- What one point of the grid stores, at an index. -/
theorem pay_apply (x : Vec Ideal S640x1024 .f32) (w : Vec Ideal S1024x2048 .bf16) (r : Fin 640) (f : Fin 2048) :
    k0_pay1 x w (ix2 r f) = ∑ k : Fin 1024, x (ix2 r k) * w (ix2 k f) := by
  pointwise [k0_pay1]

theorem out_pay (x : Vec Ideal S640x1024 .f32) (w : Vec Ideal S1024x2048 .bf16) : out0_2 x w = k0_pay1 x w := by
  unfold out0_2
  rw [View.canon_cons_unit_lit _ _ _ (by decide), View.ld_unit_lit _ _ (by decide), View.ld_unit_lit _ _ (by decide)]

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

section Blocks

variable (t : Fin cfg0.N)

/-- The tokens' window: 640 rows of the point's own. -/
theorem blk0_read (X : FVec Ideal S16640x1024 .f32) (r : Fin 640) (k : Fin 1024) (j : Fin 16640) (hj : j.val = 640 * t.val + r.val) :
    ((cfg0.win 0).blk t).view.read (Elt Ideal) X (ix2 r k) = X (ix2 j k) := by
  refine congrArg X (funext fun x => Fin.ext ?_)
  refine ((cfg0.win 0).rect_emb_val t (ix2 r k) x rfl).trans ?_
  have i0 : (cfg0.win 0).index t = ![t.val, 0] := index0 t
  rw [i0]
  match x with
  | ⟨0, _⟩ => show t.val * 640 + r.val = j.val; omega
  | ⟨1, _⟩ => show 0 * 1024 + k.val = k.val; omega

/-- The weight's window: the whole weight. -/
theorem blk1_read (X : FVec Ideal S1024x2048 .bf16) (k : Fin 1024) (f : Fin 2048) :
    ((cfg0.win 1).blk t).view.read (Elt Ideal) X (ix2 k f) = X (ix2 k f) := by
  refine congrArg X (funext fun x => Fin.ext ?_)
  refine ((cfg0.win 1).rect_emb_val t (ix2 k f) x rfl).trans ?_
  have i0 : (cfg0.win 1).index t = ![0, 0] := index1 t
  rw [i0]
  match x with
  | ⟨0, _⟩ => show 0 * 1024 + k.val = k.val; omega
  | ⟨1, _⟩ => show 0 * 2048 + f.val = f.val; omega

/-- The result's window: 640 rows of the point's own. -/
theorem blk2_emb (r : Fin 640) (f : Fin 2048) (j : Fin 16640) (hj : j.val = 640 * t.val + r.val) :
    ((cfg0.win 2).blk t).view.emb (ix2 r f) = (ix2 j f : S16640x2048.Idx) := by
  refine funext fun x => Fin.ext ?_
  refine ((cfg0.win 2).rect_emb_val t (ix2 r f) x rfl).trans ?_
  have i0 : (cfg0.win 2).index t = ![t.val, 0] := index2 t
  rw [i0]
  match x with
  | ⟨0, _⟩ => show t.val * 640 + r.val = j.val; omega
  | ⟨1, _⟩ => show 0 * 2048 + f.val = f.val; omega

/-- Every element of the result is in some written-back block. -/
theorem blk2_cover (i : S16640x2048.Idx) : ∃ t : Fin cfg0.N, (cfg0.win 2).flush t = true ∧ i ∈ ((cfg0.win 2).blk t).view.set := by
  have hi : (i 0).val < 16640 := (i 0).isLt
  have hlt : (i 0).val / 640 < 26 := by omega
  have hc : (i 1).val < 2048 := (i 1).isLt
  refine ⟨⟨(i 0).val / 640, hlt⟩, flush0_2 _, ?_⟩
  have e := blk2_emb ⟨(i 0).val / 640, hlt⟩ ⟨(i 0).val % 640, Nat.mod_lt _ (by decide)⟩ ⟨(i 1).val, hc⟩ ⟨(i 0).val, hi⟩ (Nat.div_add_mod _ _).symm
  have ei : i = ((cfg0.win 2).blk ⟨(i 0).val / 640, hlt⟩).view.emb (ix2 ⟨(i 0).val % 640, Nat.mod_lt _ (by decide)⟩ ⟨(i 1).val, hc⟩) := by
    refine Eq.trans ?_ e.symm
    funext x
    match x with
    | ⟨0, _⟩ => rfl
    | ⟨1, _⟩ => rfl
  exact Finset.mem_map.2 ⟨_, Finset.mem_univ _, ei.symm⟩

end Blocks

/-! ## What the region finds, and the result -/

variable (m : (ℓ : Loc nD τ sig) → Buf (Elt Ideal) ℓ) (c : Dev nD)

theorem V_v2 : V m c main_v2 = rows (m ((c : Thread nD τ).loc main_arg0)) (m ((c : Thread nD τ).loc main_arg1)) := by
  unfold V
  after_results <;> rfl

theorem V_v5 : V m c main_v5 = cols (m ((c : Thread nD τ).loc main_arg2)) := by
  unfold V
  after_results <;> rfl

/-- The block a point stores, at the index of the whole result it is placed at. -/
theorem out_emb (X : FVec Ideal S16640x1024 .f32) (w : FVec Ideal S1x1024x7776 .f32) (t : Fin cfg0.N) (y : S640x2048.Idx) :
    out0_2 (((cfg0.win 0).blk t).view.read (Elt Ideal) X) (((cfg0.win 1).blk t).view.read (Elt Ideal) (cols w)) y
      = resOf X w (((cfg0.win 2).blk t).view.emb y) := by
  have ht : t.val < 26 := t.isLt
  have hr : (y 0).val < 640 := (y 0).isLt
  have hc : (y 1).val < 2048 := (y 1).isLt
  have hj : 640 * t.val + (y 0).val < 16640 := by omega
  have hy : y = ix2 (⟨(y 0).val, hr⟩ : Fin 640) (⟨(y 1).val, hc⟩ : Fin 2048) := by
    funext x
    match x with
    | ⟨0, _⟩ => rfl
    | ⟨1, _⟩ => rfl
  have e2 := blk2_emb t ⟨(y 0).val, hr⟩ ⟨(y 1).val, hc⟩ ⟨640 * t.val + (y 0).val, hj⟩ rfl
  have e1 : out0_2 (((cfg0.win 0).blk t).view.read (Elt Ideal) X) (((cfg0.win 1).blk t).view.read (Elt Ideal) (cols w)) (ix2 (⟨(y 0).val, hr⟩ : Fin 640) (⟨(y 1).val, hc⟩ : Fin 2048))
      = resOf X w (ix2 (⟨640 * t.val + (y 0).val, hj⟩ : Fin 16640) (⟨(y 1).val, hc⟩ : Fin 2048)) := by
    rw [out_pay]
    refine (pay_apply _ _ _ _).trans (Finset.sum_congr rfl fun k _ => ?_)
    rw [blk0_read t X ⟨(y 0).val, hr⟩ k ⟨640 * t.val + (y 0).val, hj⟩ rfl, blk1_read t (cols w) k ⟨(y 1).val, hc⟩, cols_apply]
    rfl
  refine (congrArg _ hy).trans (e1.trans (congrArg _ (e2.symm.trans ?_)))
  exact congrArg _ hy.symm

/-- The kernel's result. -/
theorem out_eq : (dats m 0 c).arrAt 2 cfg0.N
    = resOf (rows (m ((c : Thread nD τ).loc main_arg0)) (m ((c : Thread nD τ).loc main_arg1))) (m ((c : Thread nD τ).loc main_arg2)) := by
  have key : ∀ (t : Fin cfg0.N) (y : S640x2048.Idx), out0_2 (iblk m c 0 t) (iblk m c 1 t) y
      = resOf (rows (m ((c : Thread nD τ).loc main_arg0)) (m ((c : Thread nD τ).loc main_arg1))) (m ((c : Thread nD τ).loc main_arg2)) (((cfg0.win 2).blk t).view.emb y) := fun t y => by
    have e : out0_2 (iblk m c 0 t) (iblk m c 1 t) = out0_2 (((cfg0.win 0).blk t).view.read (Elt Ideal) (rows (m ((c : Thread nD τ).loc main_arg0)) (m ((c : Thread nD τ).loc main_arg1))))
        (((cfg0.win 1).blk t).view.read (Elt Ideal) (cols (m ((c : Thread nD τ).loc main_arg2)))) :=
      congrArg₂ out0_2 (congrArg (((cfg0.win 0).blk t).view.read (Elt Ideal)) (V_v2 m c)) (congrArg (((cfg0.win 1).blk t).view.read (Elt Ideal)) (V_v5 m c))
    exact (congrFun e y).trans (out_emb _ _ t y)
  generalize resOf (rows (m ((c : Thread nD τ).loc main_arg0)) (m ((c : Thread nD τ).loc main_arg1))) (m ((c : Thread nD τ).loc main_arg2)) = G at key ⊢
  refine (dats m 0 c).arrAt_eq_of_emb 2 G (fun t _ y => ?_) blk2_cover
  rw [after0_2]
  have k := key t y
  generalize out0_2 (iblk m c 0 t) (iblk m c 1 t) = o at k ⊢
  exact k

/-- The kernel's run: its result, and the arguments as they were. -/
theorem run_val (ρ : Dev nD → PrngReg) : θ_run defs (onTc (τ := τ) (main (F := Ideal))) ⟨m, fun _ => 0, ρ⟩ fun r => ∀ c : Dev nD,
      r.2.mem ((c : Thread nD τ).loc main_v6) = resOf (rows (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (out_eq m c), (h c).2⟩) (Value.run_blocks m ρ)

end Cert.Kernel4Ideal.Gen

namespace Cert.Proof.ProjZ

open Idealize.ShloMosaic Idealize.ShloMosaic.TcCoe Idealize.SL.Sem
open Cert.Kernel4Ideal.Gen (rows resOf)

/-- The reference's term is the same sum. -/
theorem ref_eq (X : FVec Ideal Cert.Kernel4Ideal.S16640x1024 .f32) (w : FVec Ideal Cert.Kernel4Ideal.S1x1024x7776 .f32) :
    extractStridedSlice Cert.Reference4Ideal.S16640x2048 ![0, 576] (Host.dotGeneral Cert.Reference4Ideal.dot_S16640x1024_S1024x7776_S16640x7776_1_0_0_1_n_n none X
      (shapeCast Cert.Reference4Ideal.S1024x7776 w Cert.Reference4Ideal.Gen.shapeCasts_S1x1024x7776_S1024x7776)) Cert.Reference4Ideal.Gen.slices_S16640x7776_S16640x2048_0_576
      = resOf X w := by
  funext i
  obtain ⟨r, f, rfl⟩ : ∃ (r : Fin 16640) (f : Fin 2048), i = ix2 r f := ⟨i 0, i 1, by
    funext x
    match x with
    | ⟨0, _⟩ => rfl
    | ⟨1, _⟩ => rfl⟩
  pointwise [resOf]

/-- The frame at the machine's words, of the program read for the extended reals. -/
def FrameBits : Prop := ∀ (m : (ℓ : Loc Cert.Kernel4Ideal.nD Cert.Kernel4Ideal.τ Cert.Kernel4Ideal.sig) → Buf (Elt Bits) ℓ) (g : Dev Cert.Kernel4Ideal.nD → PrngReg),
    True → θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)) ∧ r.2.sem = fun _ => 0)

theorem frame_bits : FrameBits := fun m g _ => Cert.Kernel4Ideal.Gen.frame (F := Bits) m g

/-- The two printed programs are the same text, so the two statements are one. -/
theorem frame_same : FrameBits = Cert.quiescent_Kernel4 := by sl_kernel_rfl
theorem frame_kernel : Cert.quiescent_Kernel4 := frame_same ▸ frame_bits
theorem frame_kernel_ideal : Cert.quiescent_Kernel4Ideal := fun m g _ => Cert.Kernel4Ideal.Gen.frame (F := Ideal) m g
theorem frame_reference_ideal : Cert.quiescent_Reference4Ideal := fun m g _ =>
  (θ_run Cert.Reference4Ideal.defs _ _).mono (fun _ h => ⟨fun c => (h c).2, sem_eq_zero_of_no_sems (by decide) _⟩) (Cert.Reference4Ideal.Value.run m g)

theorem algebraic : Cert.algebraic_Kernel4Ideal_Reference4Ideal := fun m g m' g' _ hm =>
  ⟨fun c => resOf (rows (m ((c.tc : Thread _ _).loc Cert.Kernel4Ideal.main_arg0)) (m ((c.tc : Thread _ _).loc Cert.Kernel4Ideal.main_arg1))) (m ((c.tc : Thread _ _).loc Cert.Kernel4Ideal.main_arg2)),
    Cert.Kernel4Ideal.Gen.run_val m g,
    (θ_run Cert.Reference4Ideal.defs _ _).mono (fun _ h c => ⟨by
      obtain ⟨h0, h1, h2⟩ := hm c
      refine (h c).1.trans ?_
      rw [h0, h1, h2]
      exact ref_eq _ _, (h c).2⟩) (Cert.Reference4Ideal.Value.run m' g')⟩

end Cert.Proof.ProjZ
end
-- ==== Proof.MergeMath.lean ====
/- The merge of the two branches, row by row: what a point of the grid stores, and the reference's terms. -/
module

public import proofs.«01_k».proof.Proof.Gen.Kernel5Ideal.Value
public import proofs.«01_k».proof.Proof.Gen.Reference5Ideal.Run
public import Idealize.ShloMosaic.Lib.Pipeline.ValueKit.Geometry
public import Idealize.ShloMosaic.Lib.Pointwise

@[expose] public section

set_option maxRecDepth 16384

noncomputable section

namespace Cert.Proof.Merge

open Idealize.ShloMosaic Idealize.ShloMosaic.TcCoe

/-! ## One row -/

/-- The two branches' outputs through their weights, each weighed by its gate's sigmoid. -/
def mgRow (y : Fin 2048 → EReal) (o : Fin 1024 → EReal) (g : Fin 2048 → EReal) (wa : Fin 2048 → Fin 1024 → EReal) (wb : Fin 1024 → Fin 1024 → EReal) (f : Fin 1024) : EReal :=
  Ideal.div 1 (1 + Ideal.exp (-g ⟨f.val, by omega⟩)) * (∑ x, y x * wa x f) + Ideal.div 1 (1 + Ideal.exp (-g ⟨1024 + f.val, by omega⟩)) * (∑ x, o x * wb x f)

/-- The residual: the scaled token and the merged row through the output's weight. -/
def preRow (mg : Fin 1024 → EReal) (x : Fin 1024 → EReal) (wo : Fin 1024 → Fin 1024 → EReal) (f : Fin 1024) : EReal :=
  Ideal.ofBits .f32 0x3F9837F0#32 * x f + ∑ k, mg k * wo k f

/-- A row less its mean. -/
def cenRow (p : Fin 1024 → EReal) (f : Fin 1024) : EReal := p f - Ideal.div (∑ k, p k) (Ideal.ofBits .f32 0x44800000#32)

/-- The norm of a centred row. -/
def lnRow (d g b : Fin 1024 → EReal) (f : Fin 1024) : EReal :=
  d f * Ideal.rsqrt (Ideal.div (∑ k, d k * d k) (Ideal.ofBits .f32 0x44800000#32) + Ideal.ofBits .f32 0x3727C5AC#32) * g f + b f

/-- The result's row. -/
def hRow (y : Fin 2048 → EReal) (o : Fin 1024 → EReal) (g : Fin 2048 → EReal) (x : Fin 1024 → EReal) (wa : Fin 2048 → Fin 1024 → EReal)
    (wb wo : Fin 1024 → Fin 1024 → EReal) (lg lb : Fin 1024 → EReal) (f : Fin 1024) : EReal :=
  lnRow (cenRow (preRow (mgRow y o g wa wb) x wo)) lg lb f

/-! ## What a point of the grid stores -/

section Kernel
open Cert.Kernel5Ideal Cert.Kernel5Ideal.Gen

theorem pay3_apply (i : grid0.Coords) (v1 v2 : Vec Ideal S256x2048 .bf16) (v4 v5 : Vec Ideal S256x1024 .bf16) (v7 : Vec Ideal S2048x1024 .bf16)
    (v10 : Vec Ideal S1024x1024 .bf16) (v13 : Vec Ideal S256x2048 .f32) (r : Fin 256) (f : Fin 1024) :
    k0_pay3 i v1 v2 v4 v5 v7 v10 v13 (ix2 r f)
      = mgRow (fun x => Scalar.select (Scalar.cmpi .slt (BitVec.ofNat 32 (i 0).val) 64#32) (v1 (ix2 r x)) (v2 (ix2 r x)))
          (fun x => Scalar.select (Scalar.cmpi .slt (BitVec.ofNat 32 (i 0).val) 64#32) (v4 (ix2 r x)) (v5 (ix2 r x)))
          (fun x => v13 (ix2 r x)) (fun k f => v7 (ix2 k f)) (fun k f => v10 (ix2 k f)) f := by
  pointwise [k0_pay3]
  simp only [zero_sub]
  rfl

theorem pay4_apply (v33 : FVec Ideal S256x1024 .bf16) (v34 : Vec Ideal S1024x1024 .bf16) (v37 : Vec Ideal S256x1024 .f32) (v41 v43 : Vec Ideal S1x1024 .f32)
    (r : Fin 256) (f : Fin 1024) :
    k0_pay4 v33 v34 v37 v41 v43 (ix2 r f)
      = lnRow (cenRow (preRow (fun k => v33 (ix2 r k)) (fun x => v37 (ix2 r x)) (fun k f => v34 (ix2 k f)))) (fun x => v41 (ix2 0 x)) (fun x => v43 (ix2 0 x)) f := by
  pointwise [k0_pay4]
  rfl

end Kernel

/-! ## The reference's terms -/

section Reference
open Cert.Reference5Ideal Cert.Reference5Ideal.Gen

def refMg (y : FVec Ideal S16640x2048 .bf16) (o : FVec Ideal S16640x1024 .bf16) (g : FVec Ideal S16640x2048 .f32) (wa : FVec Ideal S1x2048x1024 .f32)
    (wb : FVec Ideal S1x1024x1024 .f32) : FVec Ideal S16640x1024 .f32 :=
  (addf (mulf (Host.divf (broadcastInDim S16640x1024 ![] bcast_S_S16640x1024 (constant S_ .f32 0x3F800000#32)) (addf (broadcastInDim S16640x1024 ![] bcast_S_S16640x1024 (constant S_ .f32 0x3F800000#32)) (Host.exp (Host.negf (extractStridedSlice S16640x1024 ![0, 0] g slices_S16640x2048_S16640x1024_0_0))))) (Host.dotGeneral dot_S16640x2048_S2048x1024_S16640x1024_1_0_0_1_n_n none (extf .f32 y bitsLt_bf16_f32) (shapeCast S2048x1024 wa shapeCasts_S1x2048x1024_S2048x1024))) (mulf (Host.divf (broadcastInDim S16640x1024 ![] bcast_S_S16640x1024 (constant S_ .f32 0x3F800000#32)) (addf (broadcastInDim S16640x1024 ![] bcast_S_S16640x1024 (constant S_ .f32 0x3F800000#32)) (Host.exp (Host.negf (extractStridedSlice S16640x1024 ![0, 1024] g slices_S16640x2048_S16640x1024_0_1024))))) (Host.dotGeneral dot_S16640x1024_S1024x1024_S16640x1024_1_0_0_1_n_n none (extf .f32 o bitsLt_bf16_f32) (shapeCast S1024x1024 wb shapeCasts_S1x1024x1024_S1024x1024))))

def refPre (mg x : FVec Ideal S16640x1024 .f32) (wo : FVec Ideal S1x1024x1024 .f32) : FVec Ideal S16640x1024 .f32 :=
  (addf (mulf (broadcastInDim S16640x1024 ![] bcast_S_S16640x1024 (constant S_ .f32 0x3F9837F0#32)) x) (Host.dotGeneral dot_S16640x1024_S1024x1024_S16640x1024_1_0_0_1_n_n none mg (shapeCast S1024x1024 wo shapeCasts_S1x1024x1024_S1024x1024)))

def refCen (p : FVec Ideal S16640x1024 .f32) : FVec Ideal S16640x1024 .f32 :=
  (subf p (broadcastInDim S16640x1024 ![0, 1] bcast_S16640x1_S16640x1024_0_1 (Host.divf (broadcastInDim S16640x1 ![0] bcast_S16640_S16640x1_0 (Host.reduceAdd p (constant S_ .f32 0x00000000#32) reducesTo_S16640x1024_S16640_d1 h_S_)) (broadcastInDim S16640x1 ![] bcast_S_S16640x1 (constant S_ .f32 0x44800000#32)))))

def refLn (d : FVec Ideal S16640x1024 .f32) (g b : FVec Ideal S1x1024 .f32) : FVec Ideal S16640x1024 .f32 :=
  addf (mulf (mulf d (broadcastInDim S16640x1024 ![0, 1] bcast_S16640x1_S16640x1024_0_1 (Host.rsqrt (addf (Host.divf (broadcastInDim S16640x1 ![0] bcast_S16640_S16640x1_0 (Host.reduceAdd (mulf d d) (constant S_ .f32 0x00000000#32) reducesTo_S16640x1024_S16640_d1 h_S_)) (broadcastInDim S16640x1 ![] bcast_S_S16640x1 (constant S_ .f32 0x44800000#32))) (broadcastInDim S16640x1 ![] bcast_S_S16640x1 (constant S_ .f32 0x3727C5AC#32)))))) (broadcastInDim S16640x1024 ![0, 1] bcast_S1x1024_S16640x1024_0_1 (broadcastInDim S1x1024 ![1] bcast_S1024_S1x1024_1 (shapeCast S1024 g shapeCasts_S1x1024_S1024)))) (broadcastInDim S16640x1024 ![0, 1] bcast_S1x1024_S16640x1024_0_1 (broadcastInDim S1x1024 ![1] bcast_S1024_S1x1024_1 (shapeCast S1024 b shapeCasts_S1x1024_S1024)))

theorem refMg_apply (y : FVec Ideal S16640x2048 .bf16) (o : FVec Ideal S16640x1024 .bf16) (g : FVec Ideal S16640x2048 .f32) (wa : FVec Ideal S1x2048x1024 .f32)
    (wb : FVec Ideal S1x1024x1024 .f32) (r : Fin 16640) (f : Fin 1024) :
    refMg y o g wa wb (ix2 r f)
      = mgRow (fun x => y (ix2 r x)) (fun x => o (ix2 r x)) (fun x => g (ix2 r x)) (fun k f => wa (ix3 0 k f)) (fun k f => wb (ix3 0 k f)) f := by
  pointwise [refMg]
  rfl

theorem refPre_apply (mg x : FVec Ideal S16640x1024 .f32) (wo : FVec Ideal S1x1024x1024 .f32) (r : Fin 16640) (f : Fin 1024) :
    refPre mg x wo (ix2 r f) = preRow (fun k => mg (ix2 r k)) (fun k => x (ix2 r k)) (fun k f => wo (ix3 0 k f)) f := by
  pointwise [refPre]
  rfl

theorem refCen_apply (p : FVec Ideal S16640x1024 .f32) (r : Fin 16640) (f : Fin 1024) :
    refCen p (ix2 r f) = cenRow (fun k => p (ix2 r k)) f := by
  pointwise [refCen]
  rfl

theorem refLn_apply (d : FVec Ideal S16640x1024 .f32) (g b : FVec Ideal S1x1024 .f32) (r : Fin 16640) (f : Fin 1024) :
    refLn d g b (ix2 r f) = lnRow (fun k => d (ix2 r k)) (fun k => g (ix2 0 k)) (fun k => b (ix2 0 k)) f := by
  pointwise [refLn]
  rfl

/-- The reference's result, at an index. -/
theorem ref_apply (y : FVec Ideal S16640x2048 .bf16) (o : FVec Ideal S16640x1024 .bf16) (g : FVec Ideal S16640x2048 .f32) (x : FVec Ideal S16640x1024 .f32)
    (wa : FVec Ideal S1x2048x1024 .f32) (wb wo : FVec Ideal S1x1024x1024 .f32) (lg lb : FVec Ideal S1x1024 .f32) (r : Fin 16640) (f : Fin 1024) :
    refLn (refCen (refPre (refMg y o g wa wb) x wo)) lg lb (ix2 r f)
      = hRow (fun k => y (ix2 r k)) (fun k => o (ix2 r k)) (fun k => g (ix2 r k)) (fun k => x (ix2 r k)) (fun k f => wa (ix3 0 k f)) (fun k f => wb (ix3 0 k f))
          (fun k f => wo (ix3 0 k f)) (fun k => lg (ix2 0 k)) (fun k => lb (ix2 0 k)) f := by
  rw [refLn_apply]
  simp only [refCen_apply, refPre_apply, refMg_apply]
  rfl

set_option maxHeartbeats 4000000 in
theorem res_eq (m : (ℓ : Loc nD τ sig) → Buf (Elt Ideal) ℓ) (c : Dev nD) :
    (Cert.Reference5Ideal.Value.res_main_v55 m c : FVec Ideal S16640x1024 .f32)
      = refLn (refCen (refPre (refMg (concatenate S16640x2048 0 [⟨S16384x2048, m ((c.tc : Thread nD τ).loc main_arg0)⟩, ⟨S256x2048, m ((c.tc : Thread nD τ).loc main_arg1)⟩] concatenates_S16384x2048_S256x2048_S16640x2048_d0)
          (concatenate S16640x1024 0 [⟨S16384x1024, m ((c.tc : Thread nD τ).loc main_arg2)⟩, ⟨S256x1024, m ((c.tc : Thread nD τ).loc main_arg3)⟩] concatenates_S16384x1024_S256x1024_S16640x1024_d0)
          (m ((c.tc : Thread nD τ).loc main_arg4)) (m ((c.tc : Thread nD τ).loc main_arg6)) (m ((c.tc : Thread nD τ).loc main_arg7)))
          (m ((c.tc : Thread nD τ).loc main_arg5)) (m ((c.tc : Thread nD τ).loc main_arg8))))
          (m ((c.tc : Thread nD τ).loc main_arg9)) (m ((c.tc : Thread nD τ).loc main_arg10)) := by
  unfold Cert.Reference5Ideal.Value.res_main_v55 refLn refCen refPre refMg
  rfl

end Reference

end Cert.Proof.Merge
end
-- ==== Proof.Merge.lean ====
/- The merge of the two branches: the kernel's blocks and its result, and the claims. -/
module

public import proofs.«01_k».proof.Defs
public import proofs.«01_k».proof.Proof.MergeMath
public import proofs.«01_k».proof.Proof.Gen.Kernel5
public import proofs.«01_k».proof.Proof.Gen.Kernel5Ideal
public import proofs.«01_k».proof.Proof.Gen.Reference5Ideal

@[expose] public section

set_option maxRecDepth 16384

noncomputable section

namespace Cert.Kernel5Ideal.Gen

open Idealize.ShloMosaic Idealize.ShloMosaic.TcCoe Idealize.SL.Sem
open Cert.Proof.Merge

/-! ## One point -/

/-- The row a point stores, from the rows its windows hold. -/
theorem out_rows (i : grid0.Coords) (x0 x1 : Vec Ideal S256x2048 .bf16) (x2 x3 : Vec Ideal S256x1024 .bf16) (x4 : Vec Ideal S256x2048 .f32) (x5 : Vec Ideal S256x1024 .f32)
    (x6 : Vec Ideal S2048x1024 .bf16) (x7 x8 : Vec Ideal S1024x1024 .bf16) (x9 x10 : Vec Ideal S1x1024 .f32) (x11 x12 : Vec Ideal S1024x128 .bf16) (x13 : Vec Ideal S1x128 .f32)
    (r : Fin 256) (f : Fin 1024)
    (y : Fin 2048 → EReal) (o : Fin 1024 → EReal) (g : Fin 2048 → EReal) (x : Fin 1024 → EReal) (wa : Fin 2048 → Fin 1024 → EReal)
    (wb wo : Fin 1024 → Fin 1024 → EReal) (lg lb : Fin 1024 → EReal)
    (hy : ∀ k, Scalar.select (Scalar.cmpi .slt (BitVec.ofNat 32 (i 0).val) 64#32) (x0 (ix2 r k)) (x1 (ix2 r k)) = y k)
    (ho : ∀ k, Scalar.select (Scalar.cmpi .slt (BitVec.ofNat 32 (i 0).val) 64#32) (x2 (ix2 r k)) (x3 (ix2 r k)) = o k)
    (hg : ∀ k, x4 (ix2 r k) = g k) (hx : ∀ k, x5 (ix2 r k) = x k) (hwa : ∀ k f, x6 (ix2 k f) = wa k f) (hwb : ∀ k f, x7 (ix2 k f) = wb k f)
    (hwo : ∀ k f, x8 (ix2 k f) = wo k f) (hlg : ∀ k, x9 (ix2 0 k) = lg k) (hlb : ∀ k, x10 (ix2 0 k) = lb k) :
    out0_14 i x0 x1 x2 x3 x4 x5 x6 x7 x8 x9 x10 x11 x12 x13 (ix2 r f) = hRow y o g x wa wb wo lg lb f := by
  obtain rfl : y = _ := funext fun k => (hy k).symm
  obtain rfl : o = _ := funext fun k => (ho k).symm
  obtain rfl : g = _ := funext fun k => (hg k).symm
  obtain rfl : x = _ := funext fun k => (hx k).symm
  obtain rfl : wa = _ := funext fun k => funext fun f => (hwa k f).symm
  obtain rfl : wb = _ := funext fun k => funext fun f => (hwb k f).symm
  obtain rfl : wo = _ := funext fun k => funext fun f => (hwo k f).symm
  obtain rfl : lg = _ := funext fun k => (hlg k).symm
  obtain rfl : lb = _ := funext fun k => (hlb k).symm
  unfold out0_14 k0_pay26
  rw [View.canon_cons_unit_lit _ _ _ (by decide)]
  rw [View.ld_unit_lit _ _ (by decide), View.ld_unit_lit _ _ (by decide), View.ld_unit_lit _ _ (by decide), View.ld_unit_lit _ _ (by decide), View.ld_unit_lit _ _ (by decide),
    View.ld_unit_lit _ _ (by decide), View.ld_unit_lit _ _ (by decide), View.ld_unit_lit _ _ (by decide), View.ld_unit_lit _ _ (by decide), View.ld_unit_lit _ _ (by decide), View.ld_unit_lit _ _ (by decide)]
  rw [pay4_apply]
  simp only [pay3_apply]
  rfl

/-! ## The windows' blocks -/
theorem index0 : ∀ t : Fin cfg0.N, win0_0.index t = ![min t.val 63, 0] := (by decide +kernel : ∀ t : Fin grid0.N, win0_0.index t = ![min t.val 63, 0])
theorem index1 : ∀ t : Fin cfg0.N, win0_1.index t = ![t.val - 64, 0] := (by decide +kernel : ∀ t : Fin grid0.N, win0_1.index t = ![t.val - 64, 0])
theorem index2 : ∀ t : Fin cfg0.N, win0_2.index t = ![min t.val 63, 0] := (by decide +kernel : ∀ t : Fin grid0.N, win0_2.index t = ![min t.val 63, 0])
theorem index3 : ∀ t : Fin cfg0.N, win0_3.index t = ![t.val - 64, 0] := (by decide +kernel : ∀ t : Fin grid0.N, win0_3.index t = ![t.val - 64, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index14 : ∀ t : Fin cfg0.N, win0_14.index t = ![t.val, 0] := (by decide +kernel : ∀ t : Fin grid0.N, win0_14.index t = ![t.val, 0])
theorem coords_val : ∀ t : Fin cfg0.N, (grid0.coords t 0).val = t.val := (by decide +kernel : ∀ t : Fin grid0.N, (grid0.coords t 0).val = t.val)

section Blocks

variable (t : Fin cfg0.N)

theorem blk0_read (X : FVec Ideal S16384x2048 .bf16) (r : Fin 256) (k : Fin 2048) (j : Fin 16384) (hj : j.val = 256 * (min t.val 63) + r.val) :
    ((cfg0.win 0).blk t).view.read (Elt Ideal) X (ix2 r k) = X (ix2 j k) := by
  refine congrArg X (funext fun x => Fin.ext ?_)
  refine ((cfg0.win 0).rect_emb_val t (ix2 r k) x rfl).trans ?_
  have i0 : (cfg0.win 0).index t = ![min t.val 63, 0] := index0 t
  rw [i0]
  match x with
  | ⟨0, _⟩ => show (min t.val 63) * 256 + r.val = j.val; omega
  | ⟨1, _⟩ => show 0 * 2048 + k.val = k.val; omega

theorem blk1_read (X : FVec Ideal S256x2048 .bf16) (r : Fin 256) (k : Fin 2048) (j : Fin 256) (hj : j.val = 256 * ((t.val - 64)) + r.val) :
    ((cfg0.win 1).blk t).view.read (Elt Ideal) X (ix2 r k) = X (ix2 j k) := by
  refine congrArg X (funext fun x => Fin.ext ?_)
  refine ((cfg0.win 1).rect_emb_val t (ix2 r k) x rfl).trans ?_
  have i0 : (cfg0.win 1).index t = ![t.val - 64, 0] := index1 t
  rw [i0]
  match x with
  | ⟨0, _⟩ => show ((t.val - 64)) * 256 + r.val = j.val; omega
  | ⟨1, _⟩ => show 0 * 2048 + k.val = k.val; omega

theorem blk2_read (X : FVec Ideal S16384x1024 .bf16) (r : Fin 256) (k : Fin 1024) (j : Fin 16384) (hj : j.val = 256 * (min t.val 63) + r.val) :
    ((cfg0.win 2).blk t).view.read (Elt Ideal) X (ix2 r k) = X (ix2 j k) := by
  refine congrArg X (funext fun x => Fin.ext ?_)
  refine ((cfg0.win 2).rect_emb_val t (ix2 r k) x rfl).trans ?_
  have i0 : (cfg0.win 2).index t = ![min t.val 63, 0] := index2 t
  rw [i0]
  match x with
  | ⟨0, _⟩ => show (min t.val 63) * 256 + r.val = j.val; omega
  | ⟨1, _⟩ => show 0 * 1024 + k.val = k.val; omega

theorem blk3_read (X : FVec Ideal S256x1024 .bf16) (r : Fin 256) (k : Fin 1024) (j : Fin 256) (hj : j.val = 256 * ((t.val - 64)) + r.val) :
    ((cfg0.win 3).blk t).view.read (Elt Ideal) X (ix2 r k) = X (ix2 j k) := by
  refine congrArg X (funext fun x => Fin.ext ?_)
  refine ((cfg0.win 3).rect_emb_val t (ix2 r k) x rfl).trans ?_
  have i0 : (cfg0.win 3).index t = ![t.val - 64, 0] := index3 t
  rw [i0]
  match x with
  | ⟨0, _⟩ => show ((t.val - 64)) * 256 + r.val = j.val; omega
  | ⟨1, _⟩ => show 0 * 1024 + k.val = k.val; omega

theorem blk4_read (X : FVec Ideal S16640x2048 .f32) (r : Fin 256) (k : Fin 2048) (j : Fin 16640) (hj : j.val = 256 * (t.val) + r.val) :
    ((cfg0.win 4).blk t).view.read (Elt Ideal) X (ix2 r k) = X (ix2 j k) := by
  refine congrArg X (funext fun x => Fin.ext ?_)
  refine ((cfg0.win 4).rect_emb_val t (ix2 r k) x rfl).trans ?_
  have i0 : (cfg0.win 4).index t = ![t.val, 0] := index4 t
  rw [i0]
  match x with
  | ⟨0, _⟩ => show (t.val) * 256 + r.val = j.val; omega
  | ⟨1, _⟩ => show 0 * 2048 + k.val = k.val; omega

theorem blk5_read (X : FVec Ideal S16640x1024 .f32) (r : Fin 256) (k : Fin 1024) (j : Fin 16640) (hj : j.val = 256 * (t.val) + r.val) :
    ((cfg0.win 5).blk t).view.read (Elt Ideal) X (ix2 r k) = X (ix2 j k) := by
  refine congrArg X (funext fun x => Fin.ext ?_)
  refine ((cfg0.win 5).rect_emb_val t (ix2 r k) x rfl).trans ?_
  have i0 : (cfg0.win 5).index t = ![t.val, 0] := index5 t
  rw [i0]
  match x with
  | ⟨0, _⟩ => show (t.val) * 256 + r.val = j.val; omega
  | ⟨1, _⟩ => show 0 * 1024 + k.val = k.val; omega

theorem blk6_read (X : FVec Ideal S2048x1024 .bf16) (k : Fin 2048) (f : Fin 1024) :
    ((cfg0.win 6).blk t).view.read (Elt Ideal) X (ix2 k f) = X (ix2 k f) := by
  refine congrArg X (funext fun x => Fin.ext ?_)
  refine ((cfg0.win 6).rect_emb_val t (ix2 k f) x rfl).trans ?_
  have i0 : (cfg0.win 6).index t = ![0, 0] := index6 t
  rw [i0]
  match x with
  | ⟨0, _⟩ => show 0 * 2048 + k.val = k.val; omega
  | ⟨1, _⟩ => show 0 * 1024 + f.val = f.val; omega

theorem blk7_read (X : FVec Ideal S1024x1024 .bf16) (k : Fin 1024) (f : Fin 1024) :
    ((cfg0.win 7).blk t).view.read (Elt Ideal) X (ix2 k f) = X (ix2 k f) := by
  refine congrArg X (funext fun x => Fin.ext ?_)
  refine ((cfg0.win 7).rect_emb_val t (ix2 k f) x rfl).trans ?_
  have i0 : (cfg0.win 7).index t = ![0, 0] := index7 t
  rw [i0]
  match x with
  | ⟨0, _⟩ => show 0 * 1024 + k.val = k.val; omega
  | ⟨1, _⟩ => show 0 * 1024 + f.val = f.val; omega

theorem blk8_read (X : FVec Ideal S1024x1024 .bf16) (k : Fin 1024) (f : Fin 1024) :
    ((cfg0.win 8).blk t).view.read (Elt Ideal) X (ix2 k f) = X (ix2 k f) := by
  refine congrArg X (funext fun x => Fin.ext ?_)
  refine ((cfg0.win 8).rect_emb_val t (ix2 k f) x rfl).trans ?_
  have i0 : (cfg0.win 8).index t = ![0, 0] := index8 t
  rw [i0]
  match x with
  | ⟨0, _⟩ => show 0 * 1024 + k.val = k.val; omega
  | ⟨1, _⟩ => show 0 * 1024 + f.val = f.val; omega

theorem blk9_read (X : FVec Ideal S1x1024 .f32) (k : Fin 1) (f : Fin 1024) :
    ((cfg0.win 9).blk t).view.read (Elt Ideal) X (ix2 k f) = X (ix2 k f) := by
  refine congrArg X (funext fun x => Fin.ext ?_)
  refine ((cfg0.win 9).rect_emb_val t (ix2 k f) x rfl).trans ?_
  have i0 : (cfg0.win 9).index t = ![0, 0] := index9 t
  rw [i0]
  match x with
  | ⟨0, _⟩ => show 0 * 1 + k.val = k.val; omega
  | ⟨1, _⟩ => show 0 * 1024 + f.val = f.val; omega

theorem blk10_read (X : FVec Ideal S1x1024 .f32) (k : Fin 1) (f : Fin 1024) :
    ((cfg0.win 10).blk t).view.read (Elt Ideal) X (ix2 k f) = X (ix2 k f) := by
  refine congrArg X (funext fun x => Fin.ext ?_)
  refine ((cfg0.win 10).rect_emb_val t (ix2 k f) x rfl).trans ?_
  have i0 : (cfg0.win 10).index t = ![0, 0] := index10 t
  rw [i0]
  match x with
  | ⟨0, _⟩ => show 0 * 1 + k.val = k.val; omega
  | ⟨1, _⟩ => show 0 * 1024 + f.val = f.val; omega

/-- The result's window: 256 rows of the point's own. -/
theorem blk14_emb (r : Fin 256) (f : Fin 1024) (j : Fin 16640) (hj : j.val = 256 * t.val + r.val) :
    ((cfg0.win 14).blk t).view.emb (ix2 r f) = (ix2 j f : S16640x1024.Idx) := by
  refine funext fun x => Fin.ext ?_
  refine ((cfg0.win 14).rect_emb_val t (ix2 r f) x rfl).trans ?_
  have i0 : (cfg0.win 14).index t = ![t.val, 0] := index14 t
  rw [i0]
  match x with
  | ⟨0, _⟩ => show t.val * 256 + r.val = j.val; omega
  | ⟨1, _⟩ => show 0 * 1024 + f.val = f.val; omega

/-- Every element of the result is in some written-back block. -/
theorem blk14_cover (i : S16640x1024.Idx) : ∃ t : Fin cfg0.N, (cfg0.win 14).flush t = true ∧ i ∈ ((cfg0.win 14).blk t).view.set := by
  have hi : (i 0).val < 16640 := (i 0).isLt
  have hlt : (i 0).val / 256 < 65 := by omega
  have hc : (i 1).val < 1024 := (i 1).isLt
  refine ⟨⟨(i 0).val / 256, hlt⟩, flush0_14 _, ?_⟩
  have e := blk14_emb ⟨(i 0).val / 256, hlt⟩ ⟨(i 0).val % 256, Nat.mod_lt _ (by decide)⟩ ⟨(i 1).val, hc⟩ ⟨(i 0).val, hi⟩ (Nat.div_add_mod _ _).symm
  have ei : i = ((cfg0.win 14).blk ⟨(i 0).val / 256, hlt⟩).view.emb (ix2 ⟨(i 0).val % 256, Nat.mod_lt _ (by decide)⟩ ⟨(i 1).val, hc⟩) := by
    refine Eq.trans ?_ e.symm
    funext x
    match x with
    | ⟨0, _⟩ => rfl
    | ⟨1, _⟩ => rfl
  exact Finset.mem_map.2 ⟨_, Finset.mem_univ _, ei.symm⟩

end Blocks

/-! ## The weights the region finds -/

theorem cast2048_apply (w : FVec Ideal S1x2048x1024 .f32) (k : Fin 2048) (f : Fin 1024) :
    (truncf .bf16 (shapeCast S2048x1024 w shapeCasts_S1x2048x1024_S2048x1024 : FVec Ideal S2048x1024 .f32) bitsLt_bf16_f32 : FVec Ideal S2048x1024 .bf16) (ix2 k f) = w (ix3 0 k f) := by
  pointwise

theorem cast1024_apply (w : FVec Ideal S1x1024x1024 .f32) (k : Fin 1024) (f : Fin 1024) :
    (truncf .bf16 (shapeCast S1024x1024 w shapeCasts_S1x1024x1024_S1024x1024 : FVec Ideal S1024x1024 .f32) bitsLt_bf16_f32 : FVec Ideal S1024x1024 .bf16) (ix2 k f) = w (ix3 0 k f) := by
  pointwise

theorem castRow_apply (w : FVec Ideal S1x1024 .f32) (f : Fin 1024) :
    (shapeCast S1x1024 (shapeCast S1024 w shapeCasts_S1x1024_S1024) shapeCasts_S1024_S1x1024 : FVec Ideal S1x1024 .f32) (ix2 0 f) = w (ix2 0 f) := by
  pointwise

variable (m : (ℓ : Loc nD τ sig) → Buf (Elt Ideal) ℓ) (c : Dev nD)

set_option maxHeartbeats 4000000 in
theorem V_v11 : V m c main_v11 = (truncf .bf16 (shapeCast S2048x1024 (m ((c : Thread nD τ).loc main_arg6)) shapeCasts_S1x2048x1024_S2048x1024 : FVec Ideal S2048x1024 .f32) bitsLt_bf16_f32 : FVec Ideal S2048x1024 .bf16) := by
  dsimp only [V, hostOps0, hostOps0_1, hostOps0_2, List.flatten_cons, List.flatten_nil, List.append_nil, List.cons_append, List.nil_append]
  after_results <;> rfl

theorem rd6 (t : Fin cfg0.N) (k : Fin 2048) (f : Fin 1024) :
    (iblk m c 6 t : FVec Ideal S2048x1024 .bf16) (ix2 k f) = (m ((c : Thread nD τ).loc main_arg6) : FVec Ideal S1x2048x1024 .f32) (ix3 0 k f) := by
  refine (blk6_read t (V m c main_v11) k f).trans ((congrFun (V_v11 m c) (ix2 k f)).trans ?_)
  exact cast2048_apply _ k f

set_option maxHeartbeats 4000000 in
theorem V_v13 : V m c main_v13 = (truncf .bf16 (shapeCast S1024x1024 (m ((c : Thread nD τ).loc main_arg7)) shapeCasts_S1x1024x1024_S1024x1024 : FVec Ideal S1024x1024 .f32) bitsLt_bf16_f32 : FVec Ideal S1024x1024 .bf16) := by
  dsimp only [V, hostOps0, hostOps0_1, hostOps0_2, List.flatten_cons, List.flatten_nil, List.append_nil, List.cons_append, List.nil_append]
  after_results <;> rfl

theorem rd7 (t : Fin cfg0.N) (k : Fin 1024) (f : Fin 1024) :
    (iblk m c 7 t : FVec Ideal S1024x1024 .bf16) (ix2 k f) = (m ((c : Thread nD τ).loc main_arg7) : FVec Ideal S1x1024x1024 .f32) (ix3 0 k f) := by
  refine (blk7_read t (V m c main_v13) k f).trans ((congrFun (V_v13 m c) (ix2 k f)).trans ?_)
  exact cast1024_apply _ k f

set_option maxHeartbeats 4000000 in
theorem V_v15 : V m c main_v15 = (truncf .bf16 (shapeCast S1024x1024 (m ((c : Thread nD τ).loc main_arg8)) shapeCasts_S1x1024x1024_S1024x1024 : FVec Ideal S1024x1024 .f32) bitsLt_bf16_f32 : FVec Ideal S1024x1024 .bf16) := by
  dsimp only [V, hostOps0, hostOps0_1, hostOps0_2, List.flatten_cons, List.flatten_nil, List.append_nil, List.cons_append, List.nil_append]
  after_results <;> rfl

theorem rd8 (t : Fin cfg0.N) (k : Fin 1024) (f : Fin 1024) :
    (iblk m c 8 t : FVec Ideal S1024x1024 .bf16) (ix2 k f) = (m ((c : Thread nD τ).loc main_arg8) : FVec Ideal S1x1024x1024 .f32) (ix3 0 k f) := by
  refine (blk8_read t (V m c main_v15) k f).trans ((congrFun (V_v15 m c) (ix2 k f)).trans ?_)
  exact cast1024_apply _ k f

set_option maxHeartbeats 4000000 in
theorem V_v17 : V m c main_v17 = (shapeCast S1x1024 (shapeCast S1024 (m ((c : Thread nD τ).loc main_arg9) : FVec Ideal S1x1024 .f32) shapeCasts_S1x1024_S1024) shapeCasts_S1024_S1x1024 : FVec Ideal S1x1024 .f32) := by
  dsimp only [V, hostOps0, hostOps0_1, hostOps0_2, List.flatten_cons, List.flatten_nil, List.append_nil, List.cons_append, List.nil_append]
  after_results <;> rfl

theorem rd9 (t : Fin cfg0.N) (f : Fin 1024) :
    (iblk m c 9 t : FVec Ideal S1x1024 .f32) (ix2 0 f) = (m ((c : Thread nD τ).loc main_arg9) : FVec Ideal S1x1024 .f32) (ix2 0 f) := by
  refine (blk9_read t (V m c main_v17) 0 f).trans ((congrFun (V_v17 m c) (ix2 0 f)).trans ?_)
  exact castRow_apply _ f

set_option maxHeartbeats 4000000 in
theorem V_v19 : V m c main_v19 = (shapeCast S1x1024 (shapeCast S1024 (m ((c : Thread nD τ).loc main_arg10) : FVec Ideal S1x1024 .f32) shapeCasts_S1x1024_S1024) shapeCasts_S1024_S1x1024 : FVec Ideal S1x1024 .f32) := by
  dsimp only [V, hostOps0, hostOps0_1, hostOps0_2, List.flatten_cons, List.flatten_nil, List.append_nil, List.cons_append, List.nil_append]
  after_results <;> rfl

theorem rd10 (t : Fin cfg0.N) (f : Fin 1024) :
    (iblk m c 10 t : FVec Ideal S1x1024 .f32) (ix2 0 f) = (m ((c : Thread nD τ).loc main_arg10) : FVec Ideal S1x1024 .f32) (ix2 0 f) := by
  refine (blk10_read t (V m c main_v19) 0 f).trans ((congrFun (V_v19 m c) (ix2 0 f)).trans ?_)
  exact castRow_apply _ f

theorem rd4 (t : Fin cfg0.N) (r : Fin 256) (k : Fin 2048) (j : Fin 16640) (hj : j.val = 256 * t.val + r.val) :
    (iblk m c 4 t : FVec Ideal S256x2048 .f32) (ix2 r k) = (m ((c : Thread nD τ).loc main_arg4) : FVec Ideal S16640x2048 .f32) (ix2 j k) :=
  (blk4_read t (V m c main_arg4) r k j hj).trans (congrFun (V_main_arg4 m c) (ix2 j k))

theorem rd5 (t : Fin cfg0.N) (r : Fin 256) (k : Fin 1024) (j : Fin 16640) (hj : j.val = 256 * t.val + r.val) :
    (iblk m c 5 t : FVec Ideal S256x1024 .f32) (ix2 r k) = (m ((c : Thread nD τ).loc main_arg5) : FVec Ideal S16640x1024 .f32) (ix2 j k) :=
  (blk5_read t (V m c main_arg5) r k j hj).trans (congrFun (V_main_arg5 m c) (ix2 j k))

/-- The rows of the prompts', then of the samples'. -/
def cat2048 (a : FVec Ideal S16384x2048 .bf16) (b : FVec Ideal S256x2048 .bf16) : FVec Ideal Cert.Reference5Ideal.S16640x2048 .bf16 :=
  concatenate Cert.Reference5Ideal.S16640x2048 0 [⟨S16384x2048, a⟩, ⟨S256x2048, b⟩] Cert.Reference5Ideal.Gen.concatenates_S16384x2048_S256x2048_S16640x2048_d0

theorem cat2048_lt (a : FVec Ideal S16384x2048 .bf16) (b : FVec Ideal S256x2048 .bf16) (j : Fin 16640) (k : Fin 2048) (h : j.val < 16384) :
    cat2048 a b (ix2 j k) = a (ix2 ⟨j.val, h⟩ k) := by
  pointwise [cat2048]
  exact dif_pos h

theorem cat2048_ge (a : FVec Ideal S16384x2048 .bf16) (b : FVec Ideal S256x2048 .bf16) (j : Fin 16640) (k : Fin 2048) (h : 16384 ≤ j.val) :
    cat2048 a b (ix2 j k) = b (ix2 ⟨j.val - 16384, by omega⟩ k) := by
  pointwise [cat2048]
  exact dif_neg (by omega)

theorem sel2048 (t : Fin cfg0.N) (r : Fin 256) (k : Fin 2048) (j : Fin 16640) (hj : j.val = 256 * t.val + r.val) :
    Scalar.select (Scalar.cmpi .slt (BitVec.ofNat 32 (grid0.coords t 0).val) 64#32) ((iblk m c 0 t : FVec Ideal S256x2048 .bf16) (ix2 r k)) ((iblk m c 1 t : FVec Ideal S256x2048 .bf16) (ix2 r k))
      = cat2048 (m ((c : Thread nD τ).loc main_arg0)) (m ((c : Thread nD τ).loc main_arg1)) (ix2 j k) := by
  rw [coords_val t]
  have ht : t.val < 65 := t.isLt
  by_cases h : t.val < 64
  · have e : Scalar.cmpi .slt (BitVec.ofNat 32 t.val) 64#32 = 1#1 := (by decide +kernel : ∀ n : Fin 64, Scalar.cmpi .slt (BitVec.ofNat 32 n.val) 64#32 = 1#1) ⟨t.val, h⟩
    rw [e, cat2048_lt _ _ _ _ (by omega : j.val < 16384)]
    refine Eq.trans (if_pos rfl) ?_
    exact (blk0_read t (V m c main_arg0) r k ⟨j.val, by omega⟩ (by show j.val = _; omega)).trans (congrFun (V_main_arg0 m c) _)
  · have e : Scalar.cmpi .slt (BitVec.ofNat 32 t.val) 64#32 = 0#1 := by
      have : t.val = 64 := by omega
      rw [this]; decide
    rw [e, cat2048_ge _ _ _ _ (by omega : 16384 ≤ j.val)]
    refine Eq.trans (if_neg (by decide)) ?_
    exact (blk1_read t (V m c main_arg1) r k ⟨j.val - 16384, by omega⟩ (by show j.val - 16384 = _; omega)).trans (congrFun (V_main_arg1 m c) _)

/-- The rows of the prompts', then of the samples'. -/
def cat1024 (a : FVec Ideal S16384x1024 .bf16) (b : FVec Ideal S256x1024 .bf16) : FVec Ideal Cert.Reference5Ideal.S16640x1024 .bf16 :=
  concatenate Cert.Reference5Ideal.S16640x1024 0 [⟨S16384x1024, a⟩, ⟨S256x1024, b⟩] Cert.Reference5Ideal.Gen.concatenates_S16384x1024_S256x1024_S16640x1024_d0

theorem cat1024_lt (a : FVec Ideal S16384x1024 .bf16) (b : FVec Ideal S256x1024 .bf16) (j : Fin 16640) (k : Fin 1024) (h : j.val < 16384) :
    cat1024 a b (ix2 j k) = a (ix2 ⟨j.val, h⟩ k) := by
  pointwise [cat1024]
  exact dif_pos h

theorem cat1024_ge (a : FVec Ideal S16384x1024 .bf16) (b : FVec Ideal S256x1024 .bf16) (j : Fin 16640) (k : Fin 1024) (h : 16384 ≤ j.val) :
    cat1024 a b (ix2 j k) = b (ix2 ⟨j.val - 16384, by omega⟩ k) := by
  pointwise [cat1024]
  exact dif_neg (by omega)

theorem sel1024 (t : Fin cfg0.N) (r : Fin 256) (k : Fin 1024) (j : Fin 16640) (hj : j.val = 256 * t.val + r.val) :
    Scalar.select (Scalar.cmpi .slt (BitVec.ofNat 32 (grid0.coords t 0).val) 64#32) ((iblk m c 2 t : FVec Ideal S256x1024 .bf16) (ix2 r k)) ((iblk m c 3 t : FVec Ideal S256x1024 .bf16) (ix2 r k))
      = cat1024 (m ((c : Thread nD τ).loc main_arg2)) (m ((c : Thread nD τ).loc main_arg3)) (ix2 j k) := by
  rw [coords_val t]
  have ht : t.val < 65 := t.isLt
  by_cases h : t.val < 64
  · have e : Scalar.cmpi .slt (BitVec.ofNat 32 t.val) 64#32 = 1#1 := (by decide +kernel : ∀ n : Fin 64, Scalar.cmpi .slt (BitVec.ofNat 32 n.val) 64#32 = 1#1) ⟨t.val, h⟩
    rw [e, cat1024_lt _ _ _ _ (by omega : j.val < 16384)]
    refine Eq.trans (if_pos rfl) ?_
    exact (blk2_read t (V m c main_arg2) r k ⟨j.val, by omega⟩ (by show j.val = _; omega)).trans (congrFun (V_main_arg2 m c) _)
  · have e : Scalar.cmpi .slt (BitVec.ofNat 32 t.val) 64#32 = 0#1 := by
      have : t.val = 64 := by omega
      rw [this]; decide
    rw [e, cat1024_ge _ _ _ _ (by omega : 16384 ≤ j.val)]
    refine Eq.trans (if_neg (by decide)) ?_
    exact (blk3_read t (V m c main_arg3) r k ⟨j.val - 16384, by omega⟩ (by show j.val - 16384 = _; omega)).trans (congrFun (V_main_arg3 m c) _)

/-! ## The result -/

/-- The result as the reference's terms give it. -/
def resOf (a0 : FVec Ideal S16384x2048 .bf16) (a1 : FVec Ideal S256x2048 .bf16) (a2 : FVec Ideal S16384x1024 .bf16) (a3 : FVec Ideal S256x1024 .bf16)
    (g : FVec Ideal S16640x2048 .f32) (x : FVec Ideal S16640x1024 .f32) (wa : FVec Ideal S1x2048x1024 .f32) (wb wo : FVec Ideal S1x1024x1024 .f32)
    (lg lb : FVec Ideal S1x1024 .f32) : FVec Ideal S16640x1024 .f32 :=
  refLn (refCen (refPre (refMg (cat2048 a0 a1) (cat1024 a2 a3) g wa wb) x wo)) lg lb

/-- The block a point stores. -/
def outAt (t : Fin cfg0.N) : S256x1024.Idx → EReal :=
  out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem out_emb (t : Fin cfg0.N) (y : S256x1024.Idx) :
    outAt m c t y = resOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 14).blk t).view.emb y) := by
  have ht : t.val < 65 := t.isLt
  have hr : (y 0).val < 256 := (y 0).isLt
  have hc : (y 1).val < 1024 := (y 1).isLt
  have hj : 256 * t.val + (y 0).val < 16640 := by omega
  have hy : y = ix2 (⟨(y 0).val, hr⟩ : Fin 256) (⟨(y 1).val, hc⟩ : Fin 1024) := by
    funext x
    match x with
    | ⟨0, _⟩ => rfl
    | ⟨1, _⟩ => rfl
  have e2 := blk14_emb t ⟨(y 0).val, hr⟩ ⟨(y 1).val, hc⟩ ⟨256 * t.val + (y 0).val, hj⟩ rfl
  have e1 : outAt m c t (ix2 (⟨(y 0).val, hr⟩ : Fin 256) (⟨(y 1).val, hc⟩ : Fin 1024))
      = resOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨256 * t.val + (y 0).val, hj⟩ : Fin 16640) (⟨(y 1).val, hc⟩ : Fin 1024)) := by
    refine (out_rows (grid0.coords t) _ _ _ _ _ _ _ _ _ _ _ _ _ _ ⟨(y 0).val, hr⟩ ⟨(y 1).val, hc⟩ _ _ _ _ _ _ _ _ _
      (fun k => sel2048 m c t _ k ⟨256 * t.val + (y 0).val, hj⟩ rfl) (fun k => sel1024 m c t _ k ⟨256 * t.val + (y 0).val, hj⟩ rfl)
      (fun k => rd4 m c t _ k ⟨256 * t.val + (y 0).val, hj⟩ rfl) (fun k => rd5 m c t _ k ⟨256 * t.val + (y 0).val, hj⟩ rfl)
      (rd6 m c t) (rd7 m c t) (rd8 m c t) (rd9 m c t) (rd10 m c t)).trans ?_
    exact (ref_apply _ _ _ _ _ _ _ _ _ _ _).symm
  refine (congrArg _ hy).trans (e1.trans (congrArg _ (e2.symm.trans ?_)))
  exact congrArg _ hy.symm

/-- The kernel's result. -/
theorem out_eq : (dats m 0 c).arrAt 14 cfg0.N = resOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have key := out_emb m c
  generalize resOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = G at key ⊢
  refine (dats m 0 c).arrAt_eq_of_emb 14 G (fun t _ y => ?_) blk14_cover
  rw [after0_14]
  have k := key t y
  unfold outAt at k
  generalize out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = o at k ⊢
  exact k

end Cert.Kernel5Ideal.Gen

namespace Cert.Proof.Merge

open Idealize.ShloMosaic Idealize.ShloMosaic.TcCoe Idealize.SL.Sem
open Cert.Kernel5Ideal.Gen (resOf)

/-- The frame at the machine's words, of the program read for the extended reals. -/
def FrameBits : Prop := ∀ (m : (ℓ : Loc Cert.Kernel5Ideal.nD Cert.Kernel5Ideal.τ Cert.Kernel5Ideal.sig) → Buf (Elt Bits) ℓ) (g : Dev Cert.Kernel5Ideal.nD → PrngReg),
    True → θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0) ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1) ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2) ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3) ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4) ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5) ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6) ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7) ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8) ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9) ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10) ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11) ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)) ∧ r.2.sem = fun _ => 0)

theorem frame_bits : FrameBits := fun m g _ => Cert.Kernel5Ideal.Gen.frame (F := Bits) m g

/-- The two printed programs are the same text, so the two statements are one. -/
theorem frame_same : FrameBits = Cert.quiescent_Kernel5 := by sl_kernel_rfl
theorem frame_kernel : Cert.quiescent_Kernel5 := frame_same ▸ frame_bits
theorem frame_kernel_ideal : Cert.quiescent_Kernel5Ideal := fun m g _ => Cert.Kernel5Ideal.Gen.frame (F := Ideal) m g
theorem frame_reference_ideal : Cert.quiescent_Reference5Ideal := fun m g _ =>
  (θ_run Cert.Reference5Ideal.defs _ _).mono (fun _ h => ⟨fun c => (h c).2, sem_eq_zero_of_no_sems (by decide) _⟩) (Cert.Reference5Ideal.Value.run m g)

theorem algebraic : Cert.algebraic_Kernel5Ideal_Reference5Ideal := fun m g m' g' _ hm =>
  ⟨fun c => resOf (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)) (m ((c.tc : Thread _ _).loc Cert.Kernel5Ideal.main_arg4)) (m ((c.tc : Thread _ _).loc Cert.Kernel5Ideal.main_arg5)) (m ((c.tc : Thread _ _).loc Cert.Kernel5Ideal.main_arg6)) (m ((c.tc : Thread _ _).loc Cert.Kernel5Ideal.main_arg7)) (m ((c.tc : Thread _ _).loc Cert.Kernel5Ideal.main_arg8)) (m ((c.tc : Thread _ _).loc Cert.Kernel5Ideal.main_arg9)) (m ((c.tc : Thread _ _).loc Cert.Kernel5Ideal.main_arg10)),
    (θ_run Cert.Kernel5Ideal.defs _ _).mono (fun _ h c => ⟨(h c).1.trans (Cert.Kernel5Ideal.Gen.out_eq m c), (h c).2.2.2⟩) (Cert.Kernel5Ideal.Value.run_blocks m g),
    (θ_run Cert.Reference5Ideal.defs _ _).mono (fun _ h c => ⟨by
      obtain ⟨h0, h1, h2, h3, h4, h5, h6, h7, h8, h9, h10, h11, h12⟩ := hm c
      refine (h c).1.trans ((res_eq m' c).trans ?_)
      rw [h0, h1, h2, h3, h4, h5, h6, h7, h8, h9, h10]
      rfl, (h c).2⟩) (Cert.Reference5Ideal.Value.run m' g')⟩

end Cert.Proof.Merge
end
-- ==== Proof.MlaMath.lean ====
/- The attention's latent rows and rotated keys, row by row: what a point of the grid stores, and the reference's terms. -/
module

public import proofs.«01_k».proof.Proof.Gen.Kernel6Ideal.Frame
public import proofs.«01_k».proof.Proof.Gen.Reference6Ideal.Run
public import Idealize.ShloMosaic.Lib.Pipeline.ValueKit.Geometry
public import Idealize.ShloMosaic.Lib.Pointwise

@[expose] public section

set_option maxRecDepth 16384

noncomputable section

namespace Cert.Proof.MlaIn

open Idealize.ShloMosaic Idealize.ShloMosaic.TcCoe

/-! ## One row -/

/-- A row over its root mean square, times the gain. -/
def nrmRow (q g : Fin 256 → EReal) (f : Fin 256) : EReal :=
  q f * Ideal.rsqrt (Ideal.div (∑ k, q k * q k) (Ideal.ofBits .f32 0x43800000#32) + Ideal.ofBits .f32 0x358637BD#32) * g f

/-- A row turned by its position's angles: its two halves are the two coordinates of 32 points. -/
def rotRow (q : Fin 64 → EReal) (cs sn : Fin 32 → EReal) (f : Fin 64) : EReal :=
  if h : f.val < 32 then q ⟨f.val, by omega⟩ * cs ⟨f.val, h⟩ - q ⟨32 + f.val, by omega⟩ * sn ⟨f.val, h⟩
  else q ⟨32 + (f.val - 32), by omega⟩ * cs ⟨f.val - 32, by omega⟩ + q ⟨f.val - 32, by omega⟩ * sn ⟨f.val - 32, by omega⟩

/-- Thirty-two columns, then zeros. -/
def padRow (q : Fin 32 → EReal) (f : Fin 128) : EReal := if h : f.val < 32 then q ⟨f.val, h⟩ else 0

theorem sitofp_zero : (FloatOps.sitofp FTy.f32 0#32 : Ideal .f32) = (0 : EReal) := by
  show ((((0#32 : BitVec 32).toInt : ℤ) : ℝ) : EReal) = 0
  simp

/-! ## What a point of the grid stores -/

section Kernel
open Cert.Kernel6Ideal Cert.Kernel6Ideal.Gen

theorem pay4_apply (x : Vec Ideal S256x1024 .f32) (w : Vec Ideal S1024x896 .bf16) (r : Fin 256) (f : Fin 896) :
    k0_pay4 x w (ix2 r f) = ∑ k : Fin 1024, x (ix2 r k) * w (ix2 k f) := by
  pointwise [k0_pay4]

theorem pay6_apply (x : Vec Ideal S256x1024 .f32) (w : Vec Ideal S1024x896 .bf16) (r : Fin 256) (f : Fin 128) :
    k0_pay6 x w (ix2 r f) = k0_pay4 x w (ix2 r ⟨768 + f.val, by omega⟩) := by
  unfold k0_pay6
  generalize k0_pay4 x w = p
  pointwise

theorem pay9_apply (x : Vec Ideal S256x1024 .f32) (w : Vec Ideal S1024x896 .bf16) (g : Vec Ideal S1x256 .f32) (r f : Fin 256) :
    k0_pay9 x w g (ix2 r f) = nrmRow (fun f => k0_pay4 x w (ix2 r ⟨256 + f.val, by omega⟩)) (fun f => g (ix2 0 f)) f := by
  unfold k0_pay9
  generalize k0_pay4 x w = p
  pointwise
  rfl

theorem pay11_apply (x : Vec Ideal S256x1024 .f32) (w : Vec Ideal S1024x896 .bf16) (cs sn : Vec Ideal S256x128 .f32) (r : Fin 256) (f : Fin 128) :
    k0_pay11 x w cs sn (ix2 r f)
      = k0_pay4 x w (ix2 r ⟨512 + f.val, by omega⟩) * cs (ix2 r f) + k0_pay4 x w (ix2 r ⟨640 + f.val, by omega⟩) * sn (ix2 r f) := by
  unfold k0_pay11 k0_pay7 k0_pay8
  generalize k0_pay4 x w = p
  pointwise

theorem pay12_apply (v : FVec Ideal S256x128 .f32) (r : Fin 256) (f : Fin 64) : k0_pay12 v (ix2 r f) = v (ix2 r ⟨f.val, by omega⟩) := by
  pointwise [k0_pay12]

theorem pay13_apply (v : FVec Ideal S256x128 .f32) (r : Fin 256) (f : Fin 64) : k0_pay13 v (ix2 r f) = v (ix2 r ⟨f.val, by omega⟩) := by
  pointwise [k0_pay13]

/-- The weight's columns as the call takes them: the queries', the latent's, the key's and the key's with its halves
    exchanged, each with 64 columns of zeros, and the steps' with 96. -/
def wPad64 (w : FVec Ideal S1024x64 .f32) : FVec Ideal S1024x128 .f32 := pad S1024x128 ![0, 0] ![0, 64] ![0, 0] w (sitofp (F := Ideal) .f32 (constantI S_ 32 0#32)) pads_S1024x64_S1024x128_000_0640 h_S_
def wPad32 (w : FVec Ideal S1024x32 .f32) : FVec Ideal S1024x128 .f32 := pad S1024x128 ![0, 0] ![0, 96] ![0, 0] w (sitofp (F := Ideal) .f32 (constantI S_ 32 0#32)) pads_S1024x32_S1024x128_000_0960 h_S_
def wKey (w : FVec Ideal S1024x7776 .f32) : FVec Ideal S1024x64 .f32 := extractStridedSlice S1024x64 ![0, 512] w slices_S1024x7776_S1024x64_0_512
def wRot (w : FVec Ideal S1024x64 .f32) : FVec Ideal S1024x64 .f32 :=
  concatenate S1024x64 1 [⟨S1024x32, extractStridedSlice S1024x32 ![0, 32] w slices_S1024x64_S1024x32_0_32⟩, ⟨S1024x32, extractStridedSlice S1024x32 ![0, 0] w slices_S1024x64_S1024x32_0_0⟩] concatenates_S1024x32_S1024x32_S1024x64_d1
def wCat (a b : FVec Ideal S1024x256 .f32) (d e f : FVec Ideal S1024x128 .f32) : FVec Ideal S1024x896 .bf16 :=
  truncf .bf16 (concatenate S1024x896 1 [⟨S1024x256, a⟩, ⟨S1024x256, b⟩, ⟨S1024x128, d⟩, ⟨S1024x128, e⟩, ⟨S1024x128, f⟩] concatenates_S1024x256_S1024x256_S1024x128_S1024x128_S1024x128_S1024x896_d1) bitsLt_bf16_f32
def wMla (w : FVec Ideal S1024x7776 .f32) : FVec Ideal S1024x896 .bf16 :=
  wCat (extractStridedSlice S1024x256 ![0, 0] w slices_S1024x7776_S1024x256_0_0) (extractStridedSlice S1024x256 ![0, 256] w slices_S1024x7776_S1024x256_0_256)
    (wPad64 (wKey w)) (wPad64 (wRot (wKey w))) (wPad32 (extractStridedSlice S1024x32 ![0, 5696] w slices_S1024x7776_S1024x32_0_5696))

theorem wPad64_apply (w : FVec Ideal S1024x64 .f32) (k : Fin 1024) (f : Fin 64) : wPad64 w (ix2 k ⟨f.val, by omega⟩) = w (ix2 k f) := by
  pointwise [wPad64]

theorem wPad32_apply (w : FVec Ideal S1024x32 .f32) (k : Fin 1024) (f : Fin 128) : wPad32 w (ix2 k f) = padRow (fun f => w (ix2 k f)) f := by
  pointwise [wPad32]
  rw [sitofp_zero]
  rfl

theorem wRot_apply (w : FVec Ideal S1024x64 .f32) (k : Fin 1024) (f : Fin 64) :
    wRot w (ix2 k f) = if h : f.val < 32 then w (ix2 k ⟨32 + f.val, by omega⟩) else w (ix2 k ⟨f.val - 32, by omega⟩) := by
  pointwise [wRot]

theorem wKey_apply (w : FVec Ideal S1024x7776 .f32) (k : Fin 1024) (f : Fin 64) : wKey w (ix2 k f) = w (ix2 k ⟨512 + f.val, by omega⟩) := by
  pointwise [wKey]

theorem wCat_kv (a b : FVec Ideal S1024x256 .f32) (d e z : FVec Ideal S1024x128 .f32) (k : Fin 1024) (f : Fin 256) :
    wCat a b d e z (ix2 k ⟨256 + f.val, by omega⟩) = b (ix2 k f) := by
  pointwise [wCat]

theorem wCat_key (a b : FVec Ideal S1024x256 .f32) (d e z : FVec Ideal S1024x128 .f32) (k : Fin 1024) (f : Fin 128) :
    wCat a b d e z (ix2 k ⟨512 + f.val, by omega⟩) = d (ix2 k f) := by
  pointwise [wCat]
  exact (dif_neg (by omega)).trans ((dif_neg (by omega)).trans ((dif_pos (by omega)).trans (congrArg d (congrArg (ix2 k) (Fin.ext (by show _ = f.val; simp only []; omega))))))

theorem wCat_rot (a b : FVec Ideal S1024x256 .f32) (d e z : FVec Ideal S1024x128 .f32) (k : Fin 1024) (f : Fin 128) :
    wCat a b d e z (ix2 k ⟨640 + f.val, by omega⟩) = e (ix2 k f) := by
  pointwise [wCat]
  exact (dif_neg (by omega)).trans ((dif_neg (by omega)).trans ((dif_neg (by omega)).trans ((dif_pos (by omega)).trans (congrArg e (congrArg (ix2 k) (Fin.ext (by show _ = f.val; simp only []; omega)))))))

theorem wCat_dt (a b : FVec Ideal S1024x256 .f32) (d e z : FVec Ideal S1024x128 .f32) (k : Fin 1024) (f : Fin 128) :
    wCat a b d e z (ix2 k ⟨768 + f.val, by omega⟩) = z (ix2 k f) := by
  pointwise [wCat]
  exact (dif_neg (by omega)).trans ((dif_neg (by omega)).trans ((dif_neg (by omega)).trans ((dif_neg (by omega)).trans (congrArg z (congrArg (ix2 k) (Fin.ext (by show _ = f.val; simp only []; omega)))))))

end Kernel

/-! ## The reference's terms -/

section Reference
open Cert.Reference6Ideal Cert.Reference6Ideal.Gen

def refX (a : FVec Ideal S8x2048x1024 .f32) (b : FVec Ideal S32x8x1024 .f32) : FVec Ideal S16640x1024 .f32 :=
  concatenate S16640x1024 0 [⟨S16384x1024, shapeCast S16384x1024 a shapeCasts_S8x2048x1024_S16384x1024⟩, ⟨S256x1024, shapeCast S256x1024 b shapeCasts_S32x8x1024_S256x1024⟩] concatenates_S16384x1024_S256x1024_S16640x1024_d0

def refP (x : FVec Ideal S16640x1024 .f32) (w : FVec Ideal S1x1024x7776 .f32) : FVec Ideal S16640x7776 .f32 :=
  Host.dotGeneral dot_S16640x1024_S1024x7776_S16640x7776_1_0_0_1_n_n none x (shapeCast S1024x7776 w shapeCasts_S1x1024x7776_S1024x7776)

def refC (p : FVec Ideal S16640x7776 .f32) (g : FVec Ideal S1x256 .f32) : FVec Ideal S16640x256 .f32 :=
  mulf (mulf (extractStridedSlice S16640x256 ![0, 256] p slices_S16640x7776_S16640x256_0_256) (broadcastInDim S16640x256 ![0, 1] bcast_S16640x1_S16640x256_0_1 (Host.rsqrt (addf (Host.divf (broadcastInDim S16640x1 ![0] bcast_S16640_S16640x1_0 (Host.reduceAdd (mulf (extractStridedSlice S16640x256 ![0, 256] p slices_S16640x7776_S16640x256_0_256) (extractStridedSlice S16640x256 ![0, 256] p slices_S16640x7776_S16640x256_0_256)) (constant S_ .f32 0x00000000#32) reducesTo_S16640x256_S16640_d1 h_S_)) (broadcastInDim S16640x1 ![] bcast_S_S16640x1 (constant S_ .f32 0x43800000#32))) (broadcastInDim S16640x1 ![] bcast_S_S16640x1 (constant S_ .f32 0x358637BD#32)))))) (broadcastInDim S16640x256 ![0, 1] bcast_S1x256_S16640x256_0_1 (broadcastInDim S1x256 ![1] bcast_S256_S1x256_1 (shapeCast S256 g shapeCasts_S1x256_S256)))

/-- The angles: a row's position times each of the 32 frequencies. -/
def refA : FVec Ideal S16640x32 .f32 :=
  mulf (broadcastInDim S16640x32 ![0, 1] bcast_S16640x1_S16640x32_0_1 (broadcastInDim S16640x1 ![0] bcast_S16640_S16640x1_0 (sitofp .f32 (concatenate S16640 0 [⟨S16384, (shapeCast S16384 (broadcastInDim S8x2048 ![0, 1] bcast_S1x2048_S8x2048_0_1 (shapeCast S1x2048 (iotaInDim S2048 32 0) shapeCasts_S2048_S1x2048)) shapeCasts_S8x2048_S16384)⟩, ⟨S256, (shapeCast S256 (broadcastInDim S32x8 ![0, 1] bcast_S1x8_S32x8_0_1 (shapeCast S1x8 (addi (broadcastInDim S8 ![] bcast_S_S8 (constantI S_ 32 16384#32)) (iotaInDim S8 32 0)) shapeCasts_S8_S1x8)) shapeCasts_S32x8_S256)⟩] concatenates_S16384_S256_S16640_d0)))) (broadcastInDim S16640x32 ![0, 1] bcast_S1x32_S16640x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

def refRot (k : FVec Ideal S16640x64 .f32) (cs sn : FVec Ideal S16640x32 .f32) : FVec Ideal S16640x64 .f32 :=
  concatenate S16640x64 1 [⟨S16640x32, subf (mulf (extractStridedSlice S16640x32 ![0, 0] k slices_S16640x64_S16640x32_0_0) cs) (mulf (extractStridedSlice S16640x32 ![0, 32] k slices_S16640x64_S16640x32_0_32) sn)⟩,
    ⟨S16640x32, addf (mulf (extractStridedSlice S16640x32 ![0, 32] k slices_S16640x64_S16640x32_0_32) cs) (mulf (extractStridedSlice S16640x32 ![0, 0] k slices_S16640x64_S16640x32_0_0) sn)⟩] concatenates_S16640x32_S16640x32_S16640x64_d1

def refKr (p : FVec Ideal S16640x7776 .f32) (a : FVec Ideal S16640x32 .f32) : FVec Ideal S16640x64 .f32 :=
  refRot (extractStridedSlice S16640x64 ![0, 512] p slices_S16640x7776_S16640x64_0_512) (Host.cos a) (Host.sin a)

def refDt (p : FVec Ideal S16640x7776 .f32) : FVec Ideal S16640x128 .f32 :=
  pad S16640x128 ![0, 0] ![0, 96] ![0, 0] (extractStridedSlice S16640x32 ![0, 5696] p slices_S16640x7776_S16640x32_0_5696) (sitofp (F := Ideal) .f32 (constantI S_ 32 0#32)) pads_S16640x32_S16640x128_000_0960 h_S_

theorem refP_apply (x : FVec Ideal S16640x1024 .f32) (w : FVec Ideal S1x1024x7776 .f32) (r : Fin 16640) (f : Fin 7776) :
    refP x w (ix2 r f) = ∑ k : Fin 1024, x (ix2 r k) * w (ix3 0 k f) := by
  pointwise [refP]

theorem refC_apply (p : FVec Ideal S16640x7776 .f32) (g : FVec Ideal S1x256 .f32) (r : Fin 16640) (f : Fin 256) :
    refC p g (ix2 r f) = nrmRow (fun f => p (ix2 r ⟨256 + f.val, by omega⟩)) (fun f => g (ix2 0 f)) f := by
  pointwise [refC]
  rfl

theorem refRot_apply (k : FVec Ideal S16640x64 .f32) (cs sn : FVec Ideal S16640x32 .f32) (r : Fin 16640) (f : Fin 64) :
    refRot k cs sn (ix2 r f) = rotRow (fun f => k (ix2 r f)) (fun f => cs (ix2 r f)) (fun f => sn (ix2 r f)) f := by
  pointwise [refRot]
  rfl

theorem refKr_apply (p : FVec Ideal S16640x7776 .f32) (a : FVec Ideal S16640x32 .f32) (r : Fin 16640) (f : Fin 64) :
    refKr p a (ix2 r f) = rotRow (fun f => p (ix2 r ⟨512 + f.val, by omega⟩)) (fun f => Ideal.cos (a (ix2 r f))) (fun f => Ideal.sin (a (ix2 r f))) f := by
  unfold refKr
  rw [refRot_apply]
  pointwise

theorem refDt_apply (p : FVec Ideal S16640x7776 .f32) (r : Fin 16640) (f : Fin 128) :
    refDt p (ix2 r f) = padRow (fun f => p (ix2 r ⟨5696 + f.val, by omega⟩)) f := by
  pointwise [refDt]
  rw [sitofp_zero]
  rfl

variable (m : (ℓ : Loc nD τ sig) → Buf (Elt Ideal) ℓ) (c : Dev nD)

set_option maxHeartbeats 4000000 in
theorem res2_eq : (Cert.Reference6Ideal.Value.res_main_v106 m c : FVec Ideal S16640x64 .f32)
    = refKr (refP (refX (m ((c.tc : Thread nD τ).loc main_arg0)) (m ((c.tc : Thread nD τ).loc main_arg1))) (m ((c.tc : Thread nD τ).loc main_arg2))) refA := by
  unfold Cert.Reference6Ideal.Value.res_main_v106 refKr refRot refA refP refX
  rfl

set_option maxHeartbeats 4000000 in
theorem res3_eq : (Cert.Reference6Ideal.Value.res_main_v120 m c : FVec Ideal S16640x64 .bf16)
    = (refKr (refP (refX (m ((c.tc : Thread nD τ).loc main_arg0)) (m ((c.tc : Thread nD τ).loc main_arg1))) (m ((c.tc : Thread nD τ).loc main_arg2))) refA : S16640x64.Idx → EReal) := by
  unfold Cert.Reference6Ideal.Value.res_main_v120 refKr refRot refA refP refX
  rfl

end Reference

end Cert.Proof.MlaIn
end
-- ==== Proof.MlaRow.lean ====
/- The attention's inputs: the weights as the call takes them, and a point's rows of latents, keys and steps. -/
module

public import proofs.«01_k».proof.Proof.MlaMath

@[expose] public section

set_option maxRecDepth 16384

noncomputable section

namespace Cert.Kernel6Ideal.Gen

open Idealize.ShloMosaic Idealize.ShloMosaic.TcCoe Idealize.SL.Sem
open Cert.Proof.MlaIn

/-! ## The host's arrays -/

/-- The layer's weight as a matrix. -/
def w2 (w : FVec Ideal S1x1024x7776 .f32) : FVec Ideal S1024x7776 .f32 := shapeCast S1024x7776 w shapeCasts_S1x1024x7776_S1024x7776

theorem w2_apply (w : FVec Ideal S1x1024x7776 .f32) (k : Fin 1024) (f : Fin 7776) : w2 w (ix2 k f) = w (ix3 0 k f) := by
  pointwise [w2]

theorem wMla_kv (w : FVec Ideal S1024x7776 .f32) (k : Fin 1024) (f : Fin 256) : wMla w (ix2 k ⟨256 + f.val, by omega⟩) = w (ix2 k ⟨256 + f.val, by omega⟩) := by
  unfold wMla
  rw [wCat_kv]
  pointwise

theorem wMla_key (w : FVec Ideal S1024x7776 .f32) (k : Fin 1024) (f : Fin 64) : wMla w (ix2 k ⟨512 + f.val, by omega⟩) = w (ix2 k ⟨512 + f.val, by omega⟩) := by
  unfold wMla
  exact (wCat_key _ _ _ _ _ k ⟨f.val, by omega⟩).trans ((wPad64_apply _ k f).trans (wKey_apply w k f))

theorem wMla_rot (w : FVec Ideal S1024x7776 .f32) (k : Fin 1024) (f : Fin 64) : wMla w (ix2 k ⟨640 + f.val, by omega⟩)
    = if h : f.val < 32 then w (ix2 k ⟨512 + (32 + f.val), by omega⟩) else w (ix2 k ⟨512 + (f.val - 32), by omega⟩) := by
  unfold wMla
  refine (wCat_rot _ _ _ _ _ k ⟨f.val, by omega⟩).trans ((wPad64_apply _ k f).trans ((wRot_apply _ k f).trans ?_))
  simp only [wKey_apply]

theorem wMla_dt (w : FVec Ideal S1024x7776 .f32) (k : Fin 1024) (f : Fin 128) : wMla w (ix2 k ⟨768 + f.val, by omega⟩)
    = padRow (fun f => w (ix2 k ⟨5696 + f.val, by omega⟩)) f := by
  unfold wMla
  rw [wCat_dt, wPad32_apply]
  pointwise

/-- The tables' rows: the 32 cosines four times over; the sines less and more, twice over. -/
def cosT (a : FVec Ideal S16640x32 .f32) : FVec Ideal S16640x128 .f32 :=
  concatenate S16640x128 1 [⟨S16640x32, Host.cos a⟩, ⟨S16640x32, Host.cos a⟩, ⟨S16640x32, Host.cos a⟩, ⟨S16640x32, Host.cos a⟩] concatenates_S16640x32_S16640x32_S16640x32_S16640x32_S16640x128_d1
def sinT (a : FVec Ideal S16640x32 .f32) : FVec Ideal S16640x128 .f32 :=
  concatenate S16640x128 1 [⟨S16640x32, Host.negf (Host.sin a)⟩, ⟨S16640x32, Host.sin a⟩, ⟨S16640x32, Host.negf (Host.sin a)⟩, ⟨S16640x32, Host.sin a⟩] concatenates_S16640x32_S16640x32_S16640x32_S16640x32_S16640x128_d1

theorem cosT_apply (a : FVec Ideal S16640x32 .f32) (j : Fin 16640) (f : Fin 64) : cosT a (ix2 j ⟨f.val, by omega⟩)
    = if h : f.val < 32 then Ideal.cos (a (ix2 j ⟨f.val, h⟩)) else Ideal.cos (a (ix2 j ⟨f.val - 32, by omega⟩)) := by
  pointwise [cosT]
  have h2 : f.val - 32 < 32 := by omega
  simp only [dif_pos h2]

theorem sinT_apply (a : FVec Ideal S16640x32 .f32) (j : Fin 16640) (f : Fin 64) : sinT a (ix2 j ⟨f.val, by omega⟩)
    = if h : f.val < 32 then -Ideal.sin (a (ix2 j ⟨f.val, h⟩)) else Ideal.sin (a (ix2 j ⟨f.val - 32, by omega⟩)) := by
  pointwise [sinT]
  have h2 : f.val - 32 < 32 := by omega
  simp only [dif_pos h2]

/-! ## One point -/

section Point

variable (x0 : Vec Ideal S256x1024 .f32) (x1 : Vec Ideal S1024x896 .bf16) (x2 x3 : Vec Ideal S1x256 .f32) (x4 : Vec Ideal S256x2048 .bf16) (x5 : Vec Ideal S8x128x256 .bf16)
  (x6 x7 : Vec Ideal S256x128 .f32) (r : Fin 256)
  (X : Fin 1024 → EReal) (w : FVec Ideal S1x1024x7776 .f32) (hx : ∀ k, x0 (ix2 r k) = X k) (hw : ∀ k f, x1 (ix2 k f) = wMla (w2 w) (ix2 k f))

/-- A row of the tokens against a column of the layer's weight. -/
def prj (X : Fin 1024 → EReal) (w : FVec Ideal S1x1024x7776 .f32) (f : Fin 7776) : EReal := ∑ k, X k * w (ix3 0 k f)

include hx hw

theorem prj_kv (f : Fin 256) : k0_pay4 x0 x1 (ix2 r ⟨256 + f.val, by omega⟩) = prj X w ⟨256 + f.val, by omega⟩ :=
  (pay4_apply x0 x1 r _).trans (Finset.sum_congr rfl fun k _ => by rw [hx, hw, wMla_kv, w2_apply])

theorem prj_key (f : Fin 64) : k0_pay4 x0 x1 (ix2 r ⟨512 + f.val, by omega⟩) = prj X w ⟨512 + f.val, by omega⟩ :=
  (pay4_apply x0 x1 r _).trans (Finset.sum_congr rfl fun k _ => by rw [hx, hw, wMla_key, w2_apply])

theorem prj_rot (f : Fin 64) : k0_pay4 x0 x1 (ix2 r ⟨640 + f.val, by omega⟩)
    = if h : f.val < 32 then prj X w ⟨512 + (32 + f.val), by omega⟩ else prj X w ⟨512 + (f.val - 32), by omega⟩ := by
  refine (pay4_apply x0 x1 r _).trans ?_
  by_cases h : f.val < 32
  · rw [dif_pos h]
    exact Finset.sum_congr rfl fun k _ => by rw [hx, hw, wMla_rot, dif_pos h, w2_apply]
  · rw [dif_neg h]
    exact Finset.sum_congr rfl fun k _ => by rw [hx, hw, wMla_rot, dif_neg h, w2_apply]

theorem prj_dt (f : Fin 128) : k0_pay4 x0 x1 (ix2 r ⟨768 + f.val, by omega⟩) = padRow (fun f => prj X w ⟨5696 + f.val, by omega⟩) f := by
  refine (pay4_apply x0 x1 r _).trans ?_
  unfold padRow
  by_cases h : f.val < 32
  · rw [dif_pos h]
    exact Finset.sum_congr rfl fun k _ => by rw [hx, hw, wMla_dt, padRow, dif_pos h, w2_apply]
  · rw [dif_neg h]
    exact Finset.sum_eq_zero fun k _ => by rw [hw, wMla_dt, padRow, dif_neg h, mul_zero]

theorem row10 (g : Fin 256 → EReal) (hg : ∀ f, x3 (ix2 0 f) = g f) (f : Fin 256) :
    out0_10 x0 x1 x2 x3 x4 x5 x6 x7 (ix2 r f) = nrmRow (fun f => prj X w ⟨256 + f.val, by omega⟩) g f := by
  obtain rfl : g = _ := funext fun k => (hg k).symm
  unfold out0_10
  rw [View.canon_cons_unit_lit _ _ _ (by decide), View.ld_unit_lit _ _ (by decide), View.ld_unit_lit _ _ (by decide), View.ld_unit_lit _ _ (by decide), pay9_apply]
  simp only [prj_kv x0 x1 r X w hx hw]

theorem row11 (g : Fin 256 → EReal) (hg : ∀ f, x3 (ix2 0 f) = g f) (f : Fin 256) :
    out0_11 x0 x1 x2 x3 x4 x5 x6 x7 (ix2 r f) = nrmRow (fun f => prj X w ⟨256 + f.val, by omega⟩) g f := by
  refine Eq.trans ?_ (row10 x0 x1 x2 x3 x4 x5 x6 x7 r X w hx hw g hg f)
  unfold out0_10 out0_11 k0_pay10
  rw [View.canon_cons_unit_lit _ _ _ (by decide), View.canon_cons_unit_lit _ _ _ (by decide)]
  rfl

theorem key_row (a : FVec Ideal S16640x32 .f32) (j : Fin 16640) (hc : ∀ f, x6 (ix2 r f) = cosT a (ix2 j f)) (hs : ∀ f, x7 (ix2 r f) = sinT a (ix2 j f)) (f : Fin 64) :
    k0_pay11 x0 x1 x6 x7 (ix2 r ⟨f.val, by omega⟩)
      = rotRow (fun f => prj X w ⟨512 + f.val, by omega⟩) (fun f => Ideal.cos (a (ix2 j f))) (fun f => Ideal.sin (a (ix2 j f))) f := by
  refine (pay11_apply x0 x1 x6 x7 r ⟨f.val, by omega⟩).trans ?_
  have e1 := prj_key x0 x1 r X w hx hw f
  have e2 := prj_rot x0 x1 r X w hx hw f
  have e3 := (hc ⟨f.val, by omega⟩).trans (cosT_apply a j f)
  have e4 := (hs ⟨f.val, by omega⟩).trans (sinT_apply a j f)
  refine (congrArg₂ (· + ·) (congrArg₂ (· * ·) e1 e3) (congrArg₂ (· * ·) e2 e4)).trans ?_
  unfold rotRow
  by_cases h : f.val < 32
  · simp only [dif_pos h, mul_neg, sub_eq_add_neg]
  · have e : (⟨512 + f.val, by omega⟩ : Fin 7776) = ⟨512 + (32 + (f.val - 32)), by omega⟩ := Fin.ext (by show 512 + f.val = 512 + (32 + (f.val - 32)); omega)
    simp only [dif_neg h, e]

theorem row12 (a : FVec Ideal S16640x32 .f32) (j : Fin 16640) (hc : ∀ f, x6 (ix2 r f) = cosT a (ix2 j f)) (hs : ∀ f, x7 (ix2 r f) = sinT a (ix2 j f)) (f : Fin 64) :
    out0_12 x0 x1 x2 x3 x4 x5 x6 x7 (ix2 r f)
      = rotRow (fun f => prj X w ⟨512 + f.val, by omega⟩) (fun f => Ideal.cos (a (ix2 j f))) (fun f => Ideal.sin (a (ix2 j f))) f := by
  unfold out0_12 k0_pay37
  rw [View.canon_cons_unit_lit _ _ _ (by decide), View.ld_unit_lit _ _ (by decide), View.ld_unit_lit _ _ (by decide), View.ld_unit_lit _ _ (by decide), View.ld_unit_lit _ _ (by decide), pay12_apply]
  exact key_row x0 x1 x6 x7 r X w hx hw a j hc hs f

theorem row13 (a : FVec Ideal S16640x32 .f32) (j : Fin 16640) (hc : ∀ f, x6 (ix2 r f) = cosT a (ix2 j f)) (hs : ∀ f, x7 (ix2 r f) = sinT a (ix2 j f)) (f : Fin 64) :
    out0_13 x0 x1 x2 x3 x4 x5 x6 x7 (ix2 r f)
      = rotRow (fun f => prj X w ⟨512 + f.val, by omega⟩) (fun f => Ideal.cos (a (ix2 j f))) (fun f => Ideal.sin (a (ix2 j f))) f := by
  unfold out0_13 k0_pay37
  rw [View.canon_cons_unit_lit _ _ _ (by decide), View.ld_unit_lit _ _ (by decide), View.ld_unit_lit _ _ (by decide), View.ld_unit_lit _ _ (by decide), View.ld_unit_lit _ _ (by decide), pay13_apply]
  exact key_row x0 x1 x6 x7 r X w hx hw a j hc hs f

theorem row14 (f : Fin 128) : out0_14 x0 x1 x2 x3 x4 x5 x6 x7 (ix2 r f) = padRow (fun f => prj X w ⟨5696 + f.val, by omega⟩) f := by
  unfold out0_14
  rw [View.canon_cons_unit_lit _ _ _ (by decide), View.ld_unit_lit _ _ (by decide), View.ld_unit_lit _ _ (by decide), pay6_apply]
  exact prj_dt x0 x1 r X w hx hw f

end Point

end Cert.Kernel6Ideal.Gen
end
-- ==== Proof.MlaQ.lean ====
/- The attention's queries, row by row: what a point of the grid stores, and the reference's terms. -/
module

public import proofs.«01_k».proof.Proof.MlaRow
public import Idealize.ShloMosaic.Lib.Pipeline.ValueKit.Tiles

@[expose] public section

set_option maxRecDepth 16384

noncomputable section

namespace Cert.Proof.MlaIn

open Idealize.ShloMosaic Idealize.ShloMosaic.TcCoe

/-- The factor the scores are scaled by. -/
def qScale : EReal := Ideal.ofBits .f32 0x3D93CD3A#32

/-- A latent row of queries against a column of the queries' weight. -/
def qPrj (q : Fin 256 → EReal) (w : Fin 256 → Fin 1536 → EReal) (f : Fin 1536) : EReal := ∑ k, q k * w k f

/-- One head's query carried to the latent's coordinates. -/
def latRow (q : Fin 128 → EReal) (w : Fin 128 → EReal) : EReal := (∑ n, q n * w n) * qScale

/-- Four copies of 128 columns, read at a column of the 512. -/
theorem four_copies (c : Fin 128 → EReal) (f : Fin 512) :
    (if h : f.val < 128 then c ⟨f.val, h⟩ else if h : f.val - 128 < 128 then c ⟨f.val - 128, h⟩ else if h : f.val - 128 - 128 < 128 then c ⟨f.val - 128 - 128, h⟩ else c ⟨f.val - 128 - 128 - 128, by omega⟩)
      = c ⟨f.val % 128, by omega⟩ := by
  split_ifs <;> exact congrArg c (Fin.ext (by simp only []; omega))

section Kernel
open Cert.Kernel6Ideal Cert.Kernel6Ideal.Gen

theorem pay5_apply (x : Vec Ideal S256x1024 .f32) (w : Vec Ideal S1024x896 .bf16) (r f : Fin 256) :
    k0_pay5 x w (ix2 r f) = k0_pay4 x w (ix2 r ⟨f.val, by omega⟩) := by
  unfold k0_pay5
  generalize k0_pay4 x w = p
  pointwise

theorem pay14_apply (q : FVec Ideal S256x256 .f32) (g : Vec Ideal S1x256 .f32) (w : Vec Ideal S256x2048 .bf16) (r : Fin 256) (f : Fin 2048) :
    k0_pay14 q g w (ix2 r f) = ∑ k : Fin 256, nrmRow (fun f => q (ix2 r f)) (fun f => g (ix2 0 f)) k * w (ix2 k f) := by
  pointwise [k0_pay14]
  rfl

theorem pay15_apply (q : FVec Ideal S256x256 .f32) (cs sn : FVec Ideal S256x128 .f32) (g : Vec Ideal S1x256 .f32) (w : Vec Ideal S256x2048 .bf16) (r : Fin 256) (f : Fin 512) :
    k0_pay15 q cs sn g w (ix2 r f)
      = (k0_pay14 q g w (ix2 r ⟨1024 + f.val, by omega⟩) * cs (ix2 r ⟨f.val % 128, by omega⟩) + k0_pay14 q g w (ix2 r ⟨1536 + f.val, by omega⟩) * sn (ix2 r ⟨f.val % 128, by omega⟩)) * qScale := by
  unfold k0_pay15
  generalize k0_pay14 q g w = p
  pointwise
  rw [four_copies (fun f => cs (ix2 r f)) f, four_copies (fun f => sn (ix2 r f)) f]
  rfl

section Heads
variable (p : FVec Ideal S256x2048 .f32) (v : Vec Ideal S1x128x256 .bf16) (r f : Fin 256)

theorem head7 : k0_pay3 p v (ix3 0 r f) = latRow (fun n => p (ix2 r ⟨896 + n.val, by omega⟩)) (fun n => v (ix3 0 n f)) := by
  pointwise [k0_pay3]
  rfl
theorem head6 : k0_pay1 (k0_pay33 p v) (Scalar.ofBits .f32 0x3D93CD3A#32) (ix3 0 r f) = latRow (fun n => p (ix2 r ⟨768 + n.val, by omega⟩)) (fun n => v (ix3 0 n f)) := by
  pointwise [k0_pay1, k0_pay33]
  rfl
theorem head5 : k0_pay31 p v (ix3 0 r f) = latRow (fun n => p (ix2 r ⟨640 + n.val, by omega⟩)) (fun n => v (ix3 0 n f)) := by
  pointwise [k0_pay31]
  rfl
theorem head4 : k0_pay29 (k0_pay27 p) (k0_pay28 v) (constant S256x256 .f32 0x00000000#32) (ix3 0 r f) = latRow (fun n => p (ix2 r ⟨512 + n.val, by omega⟩)) (fun n => v (ix3 0 n f)) := by
  pointwise [k0_pay29, k0_pay27, k0_pay28]
  rfl
theorem head3 : k0_pay25 p v (ix3 0 r f) = latRow (fun n => p (ix2 r ⟨384 + n.val, by omega⟩)) (fun n => v (ix3 0 n f)) := by
  pointwise [k0_pay25]
  rfl
theorem head2 : k0_pay23 (k0_pay22 p) v (ix3 0 r f) = latRow (fun n => p (ix2 r ⟨256 + n.val, by omega⟩)) (fun n => v (ix3 0 n f)) := by
  pointwise [k0_pay23, k0_pay22]
  rfl
theorem head1 : k0_pay20 p v (ix3 0 r f) = latRow (fun n => p (ix2 r ⟨128 + n.val, by omega⟩)) (fun n => v (ix3 0 n f)) := by
  pointwise [k0_pay20]
  rfl
theorem head0 (q : FVec Ideal S256x256 .f32) (g : Vec Ideal S1x256 .f32) (w : Vec Ideal S256x2048 .bf16) :
    k0_pay18 (k0_pay17 q g w) v (ix3 0 r f) = latRow (fun n => k0_pay14 q g w (ix2 r ⟨0 + n.val, by omega⟩)) (fun n => v (ix3 0 n f)) := by
  unfold k0_pay17
  generalize k0_pay14 q g w = p
  pointwise [k0_pay18]
  exact congrArg (· * qScale) (Finset.sum_congr rfl fun n _ => congrArg (· * v (ix3 0 n f)) (congrArg p (congrArg (ix2 r) (Fin.ext (by simp only [Nat.zero_add])))))
end Heads

section Turned
variable (p : FVec Ideal S256x512 .f32) (r : Fin 256) (f : Fin 64)

theorem turned7 : k0_pay2 p (ix3 0 r f) = p (ix2 r ⟨448 + f.val, by omega⟩) := by pointwise [k0_pay2]
theorem turned6 : k0_pay32 p (ix3 0 r f) = p (ix2 r ⟨384 + f.val, by omega⟩) := by pointwise [k0_pay32]
theorem turned5 : k0_pay30 p (ix3 0 r f) = p (ix2 r ⟨320 + f.val, by omega⟩) := by pointwise [k0_pay30]
theorem turned4 : k0_pay26 p (ix3 0 r f) = p (ix2 r ⟨256 + f.val, by omega⟩) := by pointwise [k0_pay26]
theorem turned3 : k0_pay24 p (ix3 0 r f) = p (ix2 r ⟨192 + f.val, by omega⟩) := by pointwise [k0_pay24]
theorem turned2 : k0_pay21 p (ix3 0 r f) = p (ix2 r ⟨128 + f.val, by omega⟩) := by pointwise [k0_pay21]
theorem turned1 : k0_pay19 p (ix3 0 r f) = p (ix2 r ⟨64 + f.val, by omega⟩) := by pointwise [k0_pay19]
theorem turned0 (q : FVec Ideal S256x256 .f32) (cs sn : FVec Ideal S256x128 .f32) (g : Vec Ideal S1x256 .f32) (w : Vec Ideal S256x2048 .bf16) :
    k0_pay16 q cs sn g w (ix3 0 r f) = k0_pay15 q cs sn g w (ix2 r ⟨0 + f.val, by omega⟩) := by
  unfold k0_pay16
  generalize k0_pay15 q cs sn g w = p
  pointwise
end Turned

/-! ### The eight slabs -/

theorem ld_slab (x : Vec Ideal S8x128x256 .bf16) (h : Nat) (hh : h < 8) (inb : ∀ a, (![h, 0, 0] : Fin 3 → Nat) a + S1x128x256.size a ≤ S8x128x256.size a) (n : Fin 128) (f : Fin 256) :
    View.ld (S := S8x128x256) x (Rect.unit (s := S8x128x256) ![h, 0, 0] S1x128x256.size inb) (ix3 (0 : Fin 1) n f) = x (ix3 ⟨h, hh⟩ n f) := by
  refine congrArg x (funext fun a => Fin.ext ?_)
  match a with
  | ⟨0, _⟩ => show h + 1 * 0 = h; omega
  | ⟨1, _⟩ => show 0 + 1 * n.val = n.val; omega
  | ⟨2, _⟩ => show 0 + 1 * f.val = f.val; omega

/-- A slab that agrees with the array on its own head agrees with it wherever it lies. -/
theorem slab_at {n : Nat} (h : Nat) (hh : h < 8) (inb : ∀ a, (![h, 0, 0] : Fin 3 → Nat) a + (![1, 256, n] : Fin 3 → Nat) a ≤ (![8, 256, n] : Fin 3 → Nat) a)
    (P : (⟨3, ![1, 256, n]⟩ : Shape).Idx → EReal) (G : Fin 8 → Fin 256 → Fin n → EReal) (hP : ∀ r f, P (ix3 (0 : Fin 1) r f) = G ⟨h, hh⟩ r f)
    (h' : Fin 8) (r : Fin 256) (f : Fin n) :
    ∀ x : (⟨3, ![1, 256, n]⟩ : Shape).Idx, (Rect.unit (s := ⟨3, ![8, 256, n]⟩) ![h, 0, 0] ![1, 256, n] inb).emb x = ix3 h' r f → P x = G h' r f := by
  intro x hx
  have e0 : h + 1 * (x 0).val = h'.val := congrArg Fin.val (congrFun hx 0)
  have e1 : 0 + 1 * (x 1).val = r.val := congrArg Fin.val (congrFun hx 1)
  have e2 : 0 + 1 * (x 2).val = f.val := congrArg Fin.val (congrFun hx 2)
  have l0 : (x 0).val < 1 := (x 0).isLt
  have q0 : h' = ⟨h, hh⟩ := Fin.ext (by show h'.val = h; omega)
  have q : x = ix3 (0 : Fin 1) r f := by
    funext a
    match a with
    | ⟨0, _⟩ => exact Fin.ext (by show (x 0).val = 0; omega)
    | ⟨1, _⟩ => exact Fin.ext (by show (x 1).val = r.val; omega)
    | ⟨2, _⟩ => exact Fin.ext (by show (x 2).val = f.val; omega)
  rw [q, hP, q0]

section Slabs
variable (x0 : Vec Ideal S256x1024 .f32) (x1 : Vec Ideal S1024x896 .bf16) (x2 x3 : Vec Ideal S1x256 .f32) (x4 : Vec Ideal S256x2048 .bf16) (x5 : Vec Ideal S8x128x256 .bf16)
  (x6 x7 : Vec Ideal S256x128 .f32) (h : Fin 8) (r : Fin 256)

theorem out8_apply (f : Fin 256) : out0_8 x0 x1 x2 x3 x4 x5 x6 x7 (ix3 h r f)
    = latRow (fun n => k0_pay14 (k0_pay5 x0 x1) x2 x4 (ix2 r ⟨128 * h.val + n.val, by omega⟩)) (fun n => x5 (ix3 h n f)) := by
  unfold out0_8
  refine View.canon_eq_of_allAt _ _ _ (cover0_8 _ _ _ _ _ _ _ _ _) ?_
  have hp : k0_pay38 x0 x1 x2 x3 x4 x5 x6 x7 = k0_pay14 (k0_pay5 x0 x1) x2 x4 := by
    unfold k0_pay38 k0_pay34
    rw [View.ld_unit_lit _ _ (by decide), View.ld_unit_lit _ _ (by decide), View.ld_unit_lit _ _ (by decide), View.ld_unit_lit _ _ (by decide)]
  have hp0 : k0_pay17 (k0_pay34 x0 x1 x2 x3 x4 x5 x6 x7) (View.ld x2 r0_3) (View.ld x4 r0_6) = k0_pay17 (k0_pay5 x0 x1) x2 x4 := by
    unfold k0_pay34
    rw [View.ld_unit_lit _ _ (by decide), View.ld_unit_lit _ _ (by decide), View.ld_unit_lit _ _ (by decide), View.ld_unit_lit _ _ (by decide)]
  rw [hp, hp0]
  have H := fun k hk inb P hP => slab_at (n := 256) k hk inb P (fun h r f => latRow (fun n => k0_pay14 (k0_pay5 x0 x1) x2 x4 (ix2 r ⟨128 * h.val + n.val, by omega⟩)) (fun n => x5 (ix3 h n f))) hP h r f
  refine View.allAt_cons _ _ _ (H 7 (by decide) _ _ fun r f => (head7 _ _ r f).trans (by simp only [ld_slab x5 7 (by decide)])) ?_
  refine View.allAt_cons _ _ _ (H 6 (by decide) _ _ fun r f => (head6 _ _ r f).trans (by simp only [ld_slab x5 6 (by decide)])) ?_
  refine View.allAt_cons _ _ _ (H 5 (by decide) _ _ fun r f => (head5 _ _ r f).trans (by simp only [ld_slab x5 5 (by decide)])) ?_
  refine View.allAt_cons _ _ _ (H 4 (by decide) _ _ fun r f => (head4 _ _ r f).trans (by simp only [ld_slab x5 4 (by decide)])) ?_
  refine View.allAt_cons _ _ _ (H 3 (by decide) _ _ fun r f => (head3 _ _ r f).trans (by simp only [ld_slab x5 3 (by decide)])) ?_
  refine View.allAt_cons _ _ _ (H 2 (by decide) _ _ fun r f => (head2 _ _ r f).trans (by simp only [ld_slab x5 2 (by decide)])) ?_
  refine View.allAt_cons _ _ _ (H 1 (by decide) _ _ fun r f => (head1 _ _ r f).trans (by simp only [ld_slab x5 1 (by decide)])) ?_
  exact View.allAt_cons _ _ _ (H 0 (by decide) _ _ fun r f => (head0 _ r f _ _ _).trans (by simp only [ld_slab x5 0 (by decide)])) (View.allAt_nil _ _)

theorem out9_apply (f : Fin 64) : out0_9 x0 x1 x2 x3 x4 x5 x6 x7 (ix3 h r f)
    = k0_pay15 (k0_pay5 x0 x1) (k0_pay7 x6) (k0_pay8 x7) x2 x4 (ix2 r ⟨64 * h.val + f.val, by omega⟩) := by
  unfold out0_9
  refine View.canon_eq_of_allAt _ _ _ (cover0_9 _ _ _ _ _ _ _ _ _) ?_
  have hp : k0_pay39 x0 x1 x2 x3 x4 x5 x6 x7 = k0_pay15 (k0_pay5 x0 x1) (k0_pay7 x6) (k0_pay8 x7) x2 x4 := by
    unfold k0_pay39 k0_pay34 k0_pay35 k0_pay36
    rw [View.ld_unit_lit _ _ (by decide), View.ld_unit_lit _ _ (by decide), View.ld_unit_lit _ _ (by decide), View.ld_unit_lit _ _ (by decide), View.ld_unit_lit _ _ (by decide), View.ld_unit_lit _ _ (by decide)]
  have hp0 : k0_pay16 (k0_pay34 x0 x1 x2 x3 x4 x5 x6 x7) (k0_pay35 x0 x1 x2 x3 x4 x5 x6 x7) (k0_pay36 x0 x1 x2 x3 x4 x5 x6 x7) (View.ld x2 r0_3) (View.ld x4 r0_6) = k0_pay16 (k0_pay5 x0 x1) (k0_pay7 x6) (k0_pay8 x7) x2 x4 := by
    unfold k0_pay34 k0_pay35 k0_pay36
    rw [View.ld_unit_lit _ _ (by decide), View.ld_unit_lit _ _ (by decide), View.ld_unit_lit _ _ (by decide), View.ld_unit_lit _ _ (by decide), View.ld_unit_lit _ _ (by decide), View.ld_unit_lit _ _ (by decide)]
  rw [hp, hp0]
  have H := fun k hk inb P hP => slab_at (n := 64) k hk inb P (fun h r f => k0_pay15 (k0_pay5 x0 x1) (k0_pay7 x6) (k0_pay8 x7) x2 x4 (ix2 r ⟨64 * h.val + f.val, by omega⟩)) hP h r f
  refine View.allAt_cons _ _ _ (H 7 (by decide) _ _ fun r f => turned7 _ r f) ?_
  refine View.allAt_cons _ _ _ (H 6 (by decide) _ _ fun r f => turned6 _ r f) ?_
  refine View.allAt_cons _ _ _ (H 5 (by decide) _ _ fun r f => turned5 _ r f) ?_
  refine View.allAt_cons _ _ _ (H 4 (by decide) _ _ fun r f => turned4 _ r f) ?_
  refine View.allAt_cons _ _ _ (H 3 (by decide) _ _ fun r f => turned3 _ r f) ?_
  refine View.allAt_cons _ _ _ (H 2 (by decide) _ _ fun r f => turned2 _ r f) ?_
  refine View.allAt_cons _ _ _ (H 1 (by decide) _ _ fun r f => turned1 _ r f) ?_
  exact View.allAt_cons _ _ _ (H 0 (by decide) _ _ fun r f => turned0 r f _ _ _ _ _) (View.allAt_nil _ _)
end Slabs

/-! ### The weights as the call takes them -/

def q3 (w : FVec Ideal S1x256x1536 .f32) : FVec Ideal S256x8x192 .f32 := shapeCast S256x8x192 (shapeCast S256x1536 w shapeCasts_S1x256x1536_S256x1536) shapeCasts_S256x1536_S256x8x192
def wLat (q : FVec Ideal S256x8x192 .f32) : FVec Ideal S256x1024 .f32 := shapeCast S256x1024 (extractStridedSlice S256x8x128 ![0, 0, 0] q slices_S256x8x192_S256x8x128_0_0_0) shapeCasts_S256x8x128_S256x1024
def wTrn (q : FVec Ideal S256x8x192 .f32) : FVec Ideal S256x8x64 .f32 := extractStridedSlice S256x8x64 ![0, 0, 128] q slices_S256x8x192_S256x8x64_0_0_128
def wSwp (q : FVec Ideal S256x8x64 .f32) : FVec Ideal S256x8x64 .f32 :=
  concatenate S256x8x64 2 [⟨S256x8x32, extractStridedSlice S256x8x32 ![0, 0, 32] q slices_S256x8x64_S256x8x32_0_0_32⟩, ⟨S256x8x32, extractStridedSlice S256x8x32 ![0, 0, 0] q slices_S256x8x64_S256x8x32_0_0_0⟩] concatenates_S256x8x32_S256x8x32_S256x8x64_d2
def wFlat (q : FVec Ideal S256x8x64 .f32) : FVec Ideal S256x512 .f32 := shapeCast S256x512 q shapeCasts_S256x8x64_S256x512
def wCat3 (a : FVec Ideal S256x1024 .f32) (b d : FVec Ideal S256x512 .f32) : FVec Ideal S256x2048 .bf16 :=
  truncf .bf16 (concatenate S256x2048 1 [⟨S256x1024, a⟩, ⟨S256x512, b⟩, ⟨S256x512, d⟩] concatenates_S256x1024_S256x512_S256x512_S256x2048_d1) bitsLt_bf16_f32
/-- The queries' weight: the heads' latent columns, their columns to be turned, and those with their halves exchanged. -/
def wQ (w : FVec Ideal S1x256x1536 .f32) : FVec Ideal S256x2048 .bf16 := wCat3 (wLat (q3 w)) (wFlat (wTrn (q3 w))) (wFlat (wSwp (wTrn (q3 w))))
/-- The heads' weights that carry a query to the latent's coordinates. -/
def wU (w : FVec Ideal S1x256x2048 .f32) : FVec Ideal S8x128x256 .bf16 :=
  truncf .bf16 (transpose S8x128x256 [1, 2, 0] (extractStridedSlice S256x8x128 ![0, 0, 0] (shapeCast S256x8x256 (shapeCast S256x2048 w shapeCasts_S1x256x2048_S256x2048) shapeCasts_S256x2048_S256x8x256) slices_S256x8x256_S256x8x128_0_0_0) transposes_S256x8x128_S8x128x256_1_2_0) bitsLt_bf16_f32

theorem q3_apply (w : FVec Ideal S1x256x1536 .f32) (k : Fin 256) (h : Fin 8) (e : Fin 192) : q3 w (ix3 k h e) = w (ix3 0 k ⟨h.val * 192 + e.val, by omega⟩) := by
  pointwise [q3]
theorem wLat_apply (q : FVec Ideal S256x8x192 .f32) (k : Fin 256) (h : Fin 8) (n : Fin 128) : wLat q (ix2 k ⟨128 * h.val + n.val, by omega⟩) = q (ix3 k h ⟨n.val, by omega⟩) := by
  pointwise [wLat]
theorem wTrn_apply (q : FVec Ideal S256x8x192 .f32) (k : Fin 256) (h : Fin 8) (p : Fin 64) : wTrn q (ix3 k h p) = q (ix3 k h ⟨128 + p.val, by omega⟩) := by
  pointwise [wTrn]
theorem wSwp_apply (q : FVec Ideal S256x8x64 .f32) (k : Fin 256) (h : Fin 8) (p : Fin 64) :
    wSwp q (ix3 k h p) = if e : p.val < 32 then q (ix3 k h ⟨32 + p.val, by omega⟩) else q (ix3 k h ⟨p.val - 32, by omega⟩) := by
  pointwise [wSwp]
theorem wFlat_apply (q : FVec Ideal S256x8x64 .f32) (k : Fin 256) (h : Fin 8) (p : Fin 64) : wFlat q (ix2 k ⟨64 * h.val + p.val, by omega⟩) = q (ix3 k h p) := by
  pointwise [wFlat]
theorem wCat3_a (a : FVec Ideal S256x1024 .f32) (b d : FVec Ideal S256x512 .f32) (k : Fin 256) (f : Fin 1024) : wCat3 a b d (ix2 k ⟨f.val, by omega⟩) = a (ix2 k f) := by
  pointwise [wCat3]
theorem wCat3_b (a : FVec Ideal S256x1024 .f32) (b d : FVec Ideal S256x512 .f32) (k : Fin 256) (f : Fin 512) : wCat3 a b d (ix2 k ⟨1024 + f.val, by omega⟩) = b (ix2 k f) := by
  pointwise [wCat3]
theorem wCat3_d (a : FVec Ideal S256x1024 .f32) (b d : FVec Ideal S256x512 .f32) (k : Fin 256) (f : Fin 512) : wCat3 a b d (ix2 k ⟨1536 + f.val, by omega⟩) = d (ix2 k f) := by
  pointwise [wCat3]
  exact (dif_neg (by omega)).trans ((dif_neg (by omega)).trans (congrArg d (congrArg (ix2 k) (Fin.ext (by show _ = f.val; simp only []; omega)))))
theorem wU_apply (w : FVec Ideal S1x256x2048 .f32) (h : Fin 8) (n : Fin 128) (f : Fin 256) : wU w (ix3 h n f) = w (ix3 0 f ⟨h.val * 256 + n.val, by omega⟩) := by
  pointwise [wU]

/-! ### A point's rows of queries -/

theorem wCat_q (a b : FVec Ideal S1024x256 .f32) (d e z : FVec Ideal S1024x128 .f32) (k : Fin 1024) (f : Fin 256) :
    wCat a b d e z (ix2 k ⟨f.val, by omega⟩) = a (ix2 k f) := by
  pointwise [wCat]

theorem wMla_q (w : FVec Ideal S1024x7776 .f32) (k : Fin 1024) (f : Fin 256) : wMla w (ix2 k ⟨f.val, by omega⟩) = w (ix2 k ⟨f.val, by omega⟩) := by
  unfold wMla
  rw [wCat_q]
  pointwise

theorem pay7_apply (v : Vec Ideal S256x128 .f32) (r : Fin 256) (f : Fin 128) : k0_pay7 v (ix2 r f) = v (ix2 r f) := by
  pointwise [k0_pay7]

theorem pay8_apply (v : Vec Ideal S256x128 .f32) (r : Fin 256) (f : Fin 128) : k0_pay8 v (ix2 r f) = v (ix2 r f) := by
  pointwise [k0_pay8]

theorem cosT_lane (a : FVec Ideal S16640x32 .f32) (j : Fin 16640) (f : Fin 128) : cosT a (ix2 j f) = Ideal.cos (a (ix2 j ⟨f.val % 32, by omega⟩)) := by
  pointwise [cosT]
  split_ifs <;> exact congrArg (fun e => Ideal.cos (a (ix2 j e))) (Fin.ext (by simp only []; omega))

theorem sinT_lane (a : FVec Ideal S16640x32 .f32) (j : Fin 16640) (f : Fin 128) :
    sinT a (ix2 j f) = if f.val / 32 % 2 = 0 then -Ideal.sin (a (ix2 j ⟨f.val % 32, by omega⟩)) else Ideal.sin (a (ix2 j ⟨f.val % 32, by omega⟩)) := by
  pointwise [sinT]
  split_ifs <;> first
    | contradiction
    | (rw [if_pos (c := f.val / 32 % 2 = 0) (by omega)]
       refine congrArg Neg.neg (congrArg Ideal.sin (congrArg a (congrArg (ix2 j) (Fin.ext ?_))))
       first | omega | (simp only []; omega))
    | (rw [if_neg (c := f.val / 32 % 2 = 0) (by omega)]
       refine congrArg Ideal.sin (congrArg a (congrArg (ix2 j) (Fin.ext ?_)))
       first | omega | (simp only []; omega))

/-- A row's latent queries: its first 256 projected columns, normalised. -/
def qRow (X : Fin 1024 → EReal) (w : FVec Ideal S1x1024x7776 .f32) (g : Fin 256 → EReal) : Fin 256 → EReal := nrmRow (fun f => prj X w ⟨f.val, by omega⟩) g

section Rows
variable (x0 : Vec Ideal S256x1024 .f32) (x1 : Vec Ideal S1024x896 .bf16) (x2 x3 : Vec Ideal S1x256 .f32) (x4 : Vec Ideal S256x2048 .bf16) (x5 : Vec Ideal S8x128x256 .bf16)
  (x6 x7 : Vec Ideal S256x128 .f32) (r : Fin 256)
  (X : Fin 1024 → EReal) (w : FVec Ideal S1x1024x7776 .f32) (hx : ∀ k, x0 (ix2 r k) = X k) (hw : ∀ k f, x1 (ix2 k f) = wMla (w2 w) (ix2 k f))
  (g : Fin 256 → EReal) (hg : ∀ f, x2 (ix2 0 f) = g f) (w4 : FVec Ideal S1x256x1536 .f32) (h4 : ∀ k f, x4 (ix2 k f) = wQ w4 (ix2 k f))
include hx hw hg h4

theorem pay14_row (f : Fin 2048) : k0_pay14 (k0_pay5 x0 x1) x2 x4 (ix2 r f) = ∑ k, qRow X w g k * wQ w4 (ix2 k f) := by
  obtain rfl : g = _ := funext fun k => (hg k).symm
  rw [pay14_apply]
  refine Finset.sum_congr rfl fun k _ => congrArg₂ (· * ·) ?_ (h4 k f)
  refine congrFun (congrFun (congrArg nrmRow (funext fun f => ?_)) _) k
  rw [pay5_apply, pay4_apply]
  exact Finset.sum_congr rfl fun k _ => by rw [hx, hw, wMla_q, w2_apply]

theorem row8 (w6 : FVec Ideal S1x256x2048 .f32) (h5 : ∀ h n f, x5 (ix3 h n f) = wU w6 (ix3 h n f)) (h : Fin 8) (f : Fin 256) :
    out0_8 x0 x1 x2 x3 x4 x5 x6 x7 (ix3 h r f)
      = latRow (fun n => qPrj (qRow X w g) (fun k f => w4 (ix3 0 k f)) ⟨h.val * 192 + n.val, by omega⟩) (fun n => w6 (ix3 0 f ⟨h.val * 256 + n.val, by omega⟩)) := by
  rw [out8_apply]
  refine congrArg₂ latRow (funext fun n => ?_) (funext fun n => (h5 h n f).trans (wU_apply w6 h n f))
  rw [pay14_row x0 x1 x2 x4 r X w hx hw g hg w4 h4]
  refine Finset.sum_congr rfl fun k _ => congrArg (qRow X w g k * ·) ?_
  exact (wCat3_a _ _ _ k ⟨128 * h.val + n.val, by omega⟩).trans ((wLat_apply _ k h n).trans (q3_apply w4 k h ⟨n.val, by omega⟩))

theorem row9 (a : FVec Ideal S16640x32 .f32) (j : Fin 16640) (hc : ∀ f, x6 (ix2 r f) = cosT a (ix2 j f)) (hs : ∀ f, x7 (ix2 r f) = sinT a (ix2 j f)) (h : Fin 8) (p : Fin 64) :
    out0_9 x0 x1 x2 x3 x4 x5 x6 x7 (ix3 h r p)
      = rotRow (fun e => qPrj (qRow X w g) (fun k f => w4 (ix3 0 k f)) ⟨h.val * 192 + (128 + e.val), by omega⟩) (fun f => Ideal.cos (a (ix2 j f))) (fun f => Ideal.sin (a (ix2 j f))) p * qScale := by
  rw [out9_apply, pay15_apply, pay14_row x0 x1 x2 x4 r X w hx hw g hg w4 h4, pay14_row x0 x1 x2 x4 r X w hx hw g hg w4 h4, pay7_apply, pay8_apply, hc, hs, cosT_lane, sinT_lane]
  refine congrArg (· * qScale) ?_
  have e1 : ∀ k, wQ w4 (ix2 k ⟨1024 + (64 * h.val + p.val), by omega⟩) = w4 (ix3 0 k ⟨h.val * 192 + (128 + p.val), by omega⟩) := fun k =>
    (wCat3_b _ _ _ k ⟨64 * h.val + p.val, by omega⟩).trans ((wFlat_apply _ k h p).trans ((wTrn_apply _ k h p).trans (q3_apply w4 k h ⟨128 + p.val, by omega⟩)))
  have e2 : ∀ k, wQ w4 (ix2 k ⟨1536 + (64 * h.val + p.val), by omega⟩)
      = if e : p.val < 32 then w4 (ix3 0 k ⟨h.val * 192 + (128 + (32 + p.val)), by omega⟩) else w4 (ix3 0 k ⟨h.val * 192 + (128 + (p.val - 32)), by omega⟩) := fun k => by
    refine (wCat3_d _ _ _ k ⟨64 * h.val + p.val, by omega⟩).trans ((wFlat_apply _ k h p).trans ((wSwp_apply _ k h p).trans ?_))
    simp only [wTrn_apply, q3_apply]
  have l1 : (64 * h.val + p.val) % 128 % 32 = p.val % 32 := by omega
  have l2 : (64 * h.val + p.val) % 128 / 32 % 2 = p.val / 32 := by omega
  simp only [e1, e2, l1, l2]
  unfold rotRow qPrj
  by_cases q : p.val < 32
  · have d : p.val / 32 = 0 := by omega
    have d' : p.val % 32 = p.val := by omega
    simp only [dif_pos q, if_pos d, d', mul_neg, sub_eq_add_neg]
  · have d : ¬ p.val / 32 = 0 := by omega
    have d' : p.val % 32 = p.val - 32 := by omega
    have d'' : 32 + (p.val - 32) = p.val := by omega
    simp only [dif_neg q, if_neg d, d', d'']
end Rows

end Kernel

/-! ## The reference's terms -/

section Reference
open Cert.Reference6Ideal Cert.Reference6Ideal.Gen

def refQn (p : FVec Ideal S16640x7776 .f32) (g : FVec Ideal S1x256 .f32) : FVec Ideal S16640x256 .f32 :=
  mulf (mulf (extractStridedSlice S16640x256 ![0, 0] p slices_S16640x7776_S16640x256_0_0) (broadcastInDim S16640x256 ![0, 1] bcast_S16640x1_S16640x256_0_1 (Host.rsqrt (addf (Host.divf (broadcastInDim S16640x1 ![0] bcast_S16640_S16640x1_0 (Host.reduceAdd (mulf (extractStridedSlice S16640x256 ![0, 0] p slices_S16640x7776_S16640x256_0_0) (extractStridedSlice S16640x256 ![0, 0] p slices_S16640x7776_S16640x256_0_0)) (constant S_ .f32 0x00000000#32) reducesTo_S16640x256_S16640_d1 h_S_)) (broadcastInDim S16640x1 ![] bcast_S_S16640x1 (constant S_ .f32 0x43800000#32))) (broadcastInDim S16640x1 ![] bcast_S_S16640x1 (constant S_ .f32 0x358637BD#32)))))) (broadcastInDim S16640x256 ![0, 1] bcast_S1x256_S16640x256_0_1 (broadcastInDim S1x256 ![1] bcast_S256_S1x256_1 (shapeCast S256 g shapeCasts_S1x256_S256)))

def refQ (q : FVec Ideal S16640x256 .f32) (w : FVec Ideal S1x256x1536 .f32) : FVec Ideal S16640x8x192 .f32 :=
  shapeCast S16640x8x192 (Host.dotGeneral dot_S16640x256_S256x1536_S16640x1536_1_0_0_1_n_n none q (shapeCast S256x1536 w shapeCasts_S1x256x1536_S256x1536)) shapeCasts_S16640x1536_S16640x8x192

def refLat (q : FVec Ideal S16640x8x192 .f32) (w : FVec Ideal S1x256x2048 .f32) : FVec Ideal S8x16640x256 .bf16 :=
  truncf .bf16 (mulf (Host.dotGeneral dot_S16640x8x128_S256x8x128_S8x16640x256_2_2_0_0_1_1 none (extractStridedSlice S16640x8x128 ![0, 0, 0] q slices_S16640x8x192_S16640x8x128_0_0_0) (extractStridedSlice S256x8x128 ![0, 0, 0] (shapeCast S256x8x256 (shapeCast S256x2048 w shapeCasts_S1x256x2048_S256x2048) shapeCasts_S256x2048_S256x8x256) slices_S256x8x256_S256x8x128_0_0_0)) (broadcastInDim S8x16640x256 ![] bcast_S_S8x16640x256 (constant S_ .f32 0x3D93CD3A#32))) bitsLt_bf16_f32

def refAng (a : FVec Ideal S16640x1x32 .f32) : FVec Ideal S16640x8x32 .f32 := broadcastInDim S16640x8x32 ![0, 1, 2] bcast_S16640x1x32_S16640x8x32_0_1_2 a

def refTurn (q : FVec Ideal S16640x8x64 .f32) (cs sn : FVec Ideal S16640x8x32 .f32) : FVec Ideal S16640x8x64 .f32 :=
  concatenate S16640x8x64 2 [⟨S16640x8x32, subf (mulf (extractStridedSlice S16640x8x32 ![0, 0, 0] q slices_S16640x8x64_S16640x8x32_0_0_0) cs) (mulf (extractStridedSlice S16640x8x32 ![0, 0, 32] q slices_S16640x8x64_S16640x8x32_0_0_32) sn)⟩,
    ⟨S16640x8x32, addf (mulf (extractStridedSlice S16640x8x32 ![0, 0, 32] q slices_S16640x8x64_S16640x8x32_0_0_32) cs) (mulf (extractStridedSlice S16640x8x32 ![0, 0, 0] q slices_S16640x8x64_S16640x8x32_0_0_0) sn)⟩] concatenates_S16640x8x32_S16640x8x32_S16640x8x64_d2

def refQr (q : FVec Ideal S16640x8x192 .f32) (a : FVec Ideal S16640x32 .f32) : FVec Ideal S8x16640x64 .bf16 :=
  truncf .bf16 (mulf (transpose S8x16640x64 [1, 0, 2] (refTurn (extractStridedSlice S16640x8x64 ![0, 0, 128] q slices_S16640x8x192_S16640x8x64_0_0_128) (refAng (Host.cos (shapeCast S16640x1x32 a shapeCasts_S16640x32_S16640x1x32))) (refAng (Host.sin (shapeCast S16640x1x32 a shapeCasts_S16640x32_S16640x1x32)))) transposes_S16640x8x64_S8x16640x64_1_0_2) (broadcastInDim S8x16640x64 ![] bcast_S_S8x16640x64 (constant S_ .f32 0x3D93CD3A#32))) bitsLt_bf16_f32

theorem refQn_apply (p : FVec Ideal S16640x7776 .f32) (g : FVec Ideal S1x256 .f32) (r : Fin 16640) (f : Fin 256) :
    refQn p g (ix2 r f) = nrmRow (fun f => p (ix2 r ⟨f.val, by omega⟩)) (fun f => g (ix2 0 f)) f := by
  pointwise [refQn]
  rfl

theorem refQ_apply (q : FVec Ideal S16640x256 .f32) (w : FVec Ideal S1x256x1536 .f32) (r : Fin 16640) (h : Fin 8) (e : Fin 192) :
    refQ q w (ix3 r h e) = qPrj (fun k => q (ix2 r k)) (fun k f => w (ix3 0 k f)) ⟨h.val * 192 + e.val, by omega⟩ := by
  pointwise [refQ]
  rfl

theorem refLat_apply (q : FVec Ideal S16640x8x192 .f32) (w : FVec Ideal S1x256x2048 .f32) (h : Fin 8) (r : Fin 16640) (f : Fin 256) :
    refLat q w (ix3 h r f) = latRow (fun n => q (ix3 r h ⟨n.val, by omega⟩)) (fun n => w (ix3 0 f ⟨h.val * 256 + n.val, by omega⟩)) := by
  pointwise [refLat]
  rfl

theorem refAng_apply (a : FVec Ideal S16640x1x32 .f32) (r : Fin 16640) (h : Fin 8) (f : Fin 32) : refAng a (ix3 r h f) = a (ix3 r 0 f) := by
  pointwise [refAng]

theorem refTurn_apply (q : FVec Ideal S16640x8x64 .f32) (cs sn : FVec Ideal S16640x8x32 .f32) (r : Fin 16640) (h : Fin 8) (f : Fin 64) :
    refTurn q cs sn (ix3 r h f) = rotRow (fun f => q (ix3 r h f)) (fun f => cs (ix3 r h f)) (fun f => sn (ix3 r h f)) f := by
  pointwise [refTurn]
  rfl

theorem refQr_apply (q : FVec Ideal S16640x8x192 .f32) (a : FVec Ideal S16640x32 .f32) (h : Fin 8) (r : Fin 16640) (f : Fin 64) :
    refQr q a (ix3 h r f) = rotRow (fun f => q (ix3 r h ⟨128 + f.val, by omega⟩)) (fun f => Ideal.cos (a (ix2 r f))) (fun f => Ideal.sin (a (ix2 r f))) f * qScale := by
  pointwise [refQr]
  rw [refTurn_apply]
  refine congrArg (· * qScale) (congrFun (congr (congr (congrArg rotRow (funext fun f => ?_)) (funext fun f => ?_)) (funext fun f => ?_)) f)
  · pointwise
  · rw [refAng_apply]
    pointwise
  · rw [refAng_apply]
    pointwise

variable (m : (ℓ : Loc nD τ sig) → Buf (Elt Ideal) ℓ) (c : Dev nD)

set_option maxHeartbeats 4000000 in
theorem res1_eq : (Cert.Reference6Ideal.Value.res_main_v118 m c : FVec Ideal S8x16640x64 .bf16)
    = refQr (refQ (refQn (refP (refX (m ((c.tc : Thread nD τ).loc main_arg0)) (m ((c.tc : Thread nD τ).loc main_arg1))) (m ((c.tc : Thread nD τ).loc main_arg2))) (m ((c.tc : Thread nD τ).loc main_arg3))) (m ((c.tc : Thread nD τ).loc main_arg4))) refA := by
  unfold Cert.Reference6Ideal.Value.res_main_v118 refQr refTurn refAng refQ refQn refA refP refX
  rfl

end Reference

end Cert.Proof.MlaIn
end
-- ==== Proof.MlaIn.lean ====
/- The attention's inputs: the kernel's blocks and its results, and the claims. -/
module

public import proofs.«01_k».proof.Defs
public import proofs.«01_k».proof.Proof.MlaQ
public import proofs.«01_k».proof.Proof.Gen.Kernel6
public import proofs.«01_k».proof.Proof.Gen.Kernel6Ideal
public import proofs.«01_k».proof.Proof.Gen.Reference6Ideal

@[expose] public section

set_option maxRecDepth 16384

noncomputable section

namespace Cert.Kernel6Ideal.Gen

open Idealize.ShloMosaic Idealize.ShloMosaic.TcCoe Idealize.SL.Sem
open Cert.Proof.MlaIn

/-! ## The windows' blocks -/

/-- A family of blocks of 256 rows each, one per point, holds every element of the array. -/
theorem rows_cover {n : Nat} (E : Fin cfg0.N → ((⟨2, ![256, n]⟩ : Shape).Idx ↪ (⟨2, ![16640, n]⟩ : Shape).Idx))
    (hE : ∀ (t : Fin cfg0.N) (r : Fin 256) (f : Fin n) (j : Fin 16640), j.val = 256 * t.val + r.val → E t (ix2 r f) = ix2 j f)
    (i : (⟨2, ![16640, n]⟩ : Shape).Idx) : ∃ t, i ∈ Finset.univ.map (E t) := by
  have hi : (i 0).val < 16640 := (i 0).isLt
  have hlt : (i 0).val / 256 < 65 := by omega
  have hc : (i 1).val < n := (i 1).isLt
  refine ⟨⟨(i 0).val / 256, hlt⟩, Finset.mem_map.2 ⟨ix2 ⟨(i 0).val % 256, Nat.mod_lt _ (by decide)⟩ ⟨(i 1).val, hc⟩, Finset.mem_univ _, ?_⟩⟩
  refine (hE ⟨(i 0).val / 256, hlt⟩ ⟨(i 0).val % 256, Nat.mod_lt _ (by decide)⟩ ⟨(i 1).val, hc⟩ ⟨(i 0).val, hi⟩ (Nat.div_add_mod _ _).symm).trans ?_
  funext x
  match x with
  | ⟨0, _⟩ => rfl
  | ⟨1, _⟩ => rfl

/-- A block that agrees with the array row by row is the array's block. -/
theorem rows_eq {n : Nat} (E : Fin cfg0.N → ((⟨2, ![256, n]⟩ : Shape).Idx ↪ (⟨2, ![16640, n]⟩ : Shape).Idx))
    (hE : ∀ (t : Fin cfg0.N) (r : Fin 256) (f : Fin n) (j : Fin 16640), j.val = 256 * t.val + r.val → E t (ix2 r f) = ix2 j f)
    (out : Fin cfg0.N → (⟨2, ![256, n]⟩ : Shape).Idx → EReal) (G : (⟨2, ![16640, n]⟩ : Shape).Idx → EReal)
    (h : ∀ (t : Fin cfg0.N) (r : Fin 256) (f : Fin n) (j : Fin 16640), j.val = 256 * t.val + r.val → out t (ix2 r f) = G (ix2 j f))
    (t : Fin cfg0.N) (y : (⟨2, ![256, n]⟩ : Shape).Idx) : out t y = G (E t y) := by
  have ht : t.val < 65 := t.isLt
  have hr : (y 0).val < 256 := (y 0).isLt
  have hc : (y 1).val < n := (y 1).isLt
  have hj : 256 * t.val + (y 0).val < 16640 := by omega
  have hy : y = ix2 (⟨(y 0).val, hr⟩ : Fin 256) (⟨(y 1).val, hc⟩ : Fin n) := by
    funext x
    match x with
    | ⟨0, _⟩ => rfl
    | ⟨1, _⟩ => rfl
  rw [hy]
  exact (h t ⟨(y 0).val, hr⟩ ⟨(y 1).val, hc⟩ ⟨256 * t.val + (y 0).val, hj⟩ rfl).trans (congrArg G (hE t ⟨(y 0).val, hr⟩ ⟨(y 1).val, hc⟩ ⟨256 * t.val + (y 0).val, hj⟩ rfl).symm)

/-- The same of blocks that hold 256 rows of each of the eight heads. -/
theorem heads_cover {n : Nat} (E : Fin cfg0.N → ((⟨3, ![8, 256, n]⟩ : Shape).Idx ↪ (⟨3, ![8, 16640, n]⟩ : Shape).Idx))
    (hE : ∀ (t : Fin cfg0.N) (h : Fin 8) (r : Fin 256) (f : Fin n) (j : Fin 16640), j.val = 256 * t.val + r.val → E t (ix3 h r f) = ix3 h j f)
    (i : (⟨3, ![8, 16640, n]⟩ : Shape).Idx) : ∃ t, i ∈ Finset.univ.map (E t) := by
  have hh : (i 0).val < 8 := (i 0).isLt
  have hi : (i 1).val < 16640 := (i 1).isLt
  have hlt : (i 1).val / 256 < 65 := by omega
  have hc : (i 2).val < n := (i 2).isLt
  refine ⟨⟨(i 1).val / 256, hlt⟩, Finset.mem_map.2 ⟨ix3 ⟨(i 0).val, hh⟩ ⟨(i 1).val % 256, Nat.mod_lt _ (by decide)⟩ ⟨(i 2).val, hc⟩, Finset.mem_univ _, ?_⟩⟩
  refine (hE ⟨(i 1).val / 256, hlt⟩ ⟨(i 0).val, hh⟩ ⟨(i 1).val % 256, Nat.mod_lt _ (by decide)⟩ ⟨(i 2).val, hc⟩ ⟨(i 1).val, hi⟩ (Nat.div_add_mod _ _).symm).trans ?_
  funext x
  match x with
  | ⟨0, _⟩ => rfl
  | ⟨1, _⟩ => rfl
  | ⟨2, _⟩ => rfl

theorem heads_eq {n : Nat} (E : Fin cfg0.N → ((⟨3, ![8, 256, n]⟩ : Shape).Idx ↪ (⟨3, ![8, 16640, n]⟩ : Shape).Idx))
    (hE : ∀ (t : Fin cfg0.N) (h : Fin 8) (r : Fin 256) (f : Fin n) (j : Fin 16640), j.val = 256 * t.val + r.val → E t (ix3 h r f) = ix3 h j f)
    (out : Fin cfg0.N → (⟨3, ![8, 256, n]⟩ : Shape).Idx → EReal) (G : (⟨3, ![8, 16640, n]⟩ : Shape).Idx → EReal)
    (hG : ∀ (t : Fin cfg0.N) (h : Fin 8) (r : Fin 256) (f : Fin n) (j : Fin 16640), j.val = 256 * t.val + r.val → out t (ix3 h r f) = G (ix3 h j f))
    (t : Fin cfg0.N) (y : (⟨3, ![8, 256, n]⟩ : Shape).Idx) : out t y = G (E t y) := by
  have ht : t.val < 65 := t.isLt
  have hh : (y 0).val < 8 := (y 0).isLt
  have hr : (y 1).val < 256 := (y 1).isLt
  have hc : (y 2).val < n := (y 2).isLt
  have hj : 256 * t.val + (y 1).val < 16640 := by omega
  have hy : y = ix3 (⟨(y 0).val, hh⟩ : Fin 8) (⟨(y 1).val, hr⟩ : Fin 256) (⟨(y 2).val, hc⟩ : Fin n) := by
    funext x
    match x with
    | ⟨0, _⟩ => rfl
    | ⟨1, _⟩ => rfl
    | ⟨2, _⟩ => rfl
  rw [hy]
  exact (hG t ⟨(y 0).val, hh⟩ ⟨(y 1).val, hr⟩ ⟨(y 2).val, hc⟩ ⟨256 * t.val + (y 1).val, hj⟩ rfl).trans (congrArg G (hE t ⟨(y 0).val, hh⟩ ⟨(y 1).val, hr⟩ ⟨(y 2).val, hc⟩ ⟨256 * t.val + (y 1).val, hj⟩ rfl).symm)

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index3 : ∀ t : Fin cfg0.N, win0_3.index t = ![0, 0] := (by decide +kernel : ∀ t : Fin grid0.N, win0_3.index t = ![0, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index13 : ∀ t : Fin cfg0.N, win0_13.index t = ![t.val, 0] := (by decide +kernel : ∀ t : Fin grid0.N, win0_13.index t = ![t.val, 0])
theorem index14 : ∀ t : Fin cfg0.N, win0_14.index t = ![t.val, 0] := (by decide +kernel : ∀ t : Fin grid0.N, win0_14.index t = ![t.val, 0])

theorem index2 : ∀ t : Fin cfg0.N, win0_2.index t = ![0, 0] := (by decide +kernel : ∀ t : Fin grid0.N, win0_2.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0, 0] := (by decide +kernel : ∀ t : Fin grid0.N, win0_5.index t = ![0, 0, 0])
theorem index8 : ∀ t : Fin cfg0.N, win0_8.index t = ![0, t.val, 0] := (by decide +kernel : ∀ t : Fin grid0.N, win0_8.index t = ![0, t.val, 0])
theorem index9 : ∀ t : Fin cfg0.N, win0_9.index t = ![0, t.val, 0] := (by decide +kernel : ∀ t : Fin grid0.N, win0_9.index t = ![0, t.val, 0])

section Blocks

variable (t : Fin cfg0.N)

theorem blk0_read (X : FVec Ideal S16640x1024 .f32) (r : Fin 256) (k : Fin 1024) (j : Fin 16640) (hj : j.val = 256 * t.val + r.val) :
    ((cfg0.win 0).blk t).view.read (Elt Ideal) X (ix2 r k) = X (ix2 j k) := by
  refine congrArg X (funext fun x => Fin.ext ?_)
  refine ((cfg0.win 0).rect_emb_val t (ix2 r k) x rfl).trans ?_
  have i0 : (cfg0.win 0).index t = ![t.val, 0] := index0 t
  rw [i0]
  match x with
  | ⟨0, _⟩ => show t.val * 256 + r.val = j.val; omega
  | ⟨1, _⟩ => show 0 * 1024 + k.val = k.val; omega

theorem blk6_read (X : FVec Ideal S16640x128 .f32) (r : Fin 256) (k : Fin 128) (j : Fin 16640) (hj : j.val = 256 * t.val + r.val) :
    ((cfg0.win 6).blk t).view.read (Elt Ideal) X (ix2 r k) = X (ix2 j k) := by
  refine congrArg X (funext fun x => Fin.ext ?_)
  refine ((cfg0.win 6).rect_emb_val t (ix2 r k) x rfl).trans ?_
  have i0 : (cfg0.win 6).index t = ![t.val, 0] := index6 t
  rw [i0]
  match x with
  | ⟨0, _⟩ => show t.val * 256 + r.val = j.val; omega
  | ⟨1, _⟩ => show 0 * 128 + k.val = k.val; omega

theorem blk7_read (X : FVec Ideal S16640x128 .f32) (r : Fin 256) (k : Fin 128) (j : Fin 16640) (hj : j.val = 256 * t.val + r.val) :
    ((cfg0.win 7).blk t).view.read (Elt Ideal) X (ix2 r k) = X (ix2 j k) := by
  refine congrArg X (funext fun x => Fin.ext ?_)
  refine ((cfg0.win 7).rect_emb_val t (ix2 r k) x rfl).trans ?_
  have i0 : (cfg0.win 7).index t = ![t.val, 0] := index7 t
  rw [i0]
  match x with
  | ⟨0, _⟩ => show t.val * 256 + r.val = j.val; omega
  | ⟨1, _⟩ => show 0 * 128 + k.val = k.val; omega

theorem blk1_read (X : FVec Ideal S1024x896 .bf16) (k : Fin 1024) (f : Fin 896) :
    ((cfg0.win 1).blk t).view.read (Elt Ideal) X (ix2 k f) = X (ix2 k f) := by
  refine congrArg X (funext fun x => Fin.ext ?_)
  refine ((cfg0.win 1).rect_emb_val t (ix2 k f) x rfl).trans ?_
  have i0 : (cfg0.win 1).index t = ![0, 0] := index1 t
  rw [i0]
  match x with
  | ⟨0, _⟩ => show 0 * 1024 + k.val = k.val; omega
  | ⟨1, _⟩ => show 0 * 896 + f.val = f.val; omega

theorem blk3_read (X : FVec Ideal S1x256 .f32) (k : Fin 1) (f : Fin 256) :
    ((cfg0.win 3).blk t).view.read (Elt Ideal) X (ix2 k f) = X (ix2 k f) := by
  refine congrArg X (funext fun x => Fin.ext ?_)
  refine ((cfg0.win 3).rect_emb_val t (ix2 k f) x rfl).trans ?_
  have i0 : (cfg0.win 3).index t = ![0, 0] := index3 t
  rw [i0]
  match x with
  | ⟨0, _⟩ => show 0 * 1 + k.val = k.val; omega
  | ⟨1, _⟩ => show 0 * 256 + f.val = f.val; omega

theorem blk10_emb (r : Fin 256) (f : Fin 256) (j : Fin 16640) (hj : j.val = 256 * t.val + r.val) :
    ((cfg0.win 10).blk t).view.emb (ix2 r f) = (ix2 j f : S16640x256.Idx) := by
  refine funext fun x => Fin.ext ?_
  refine ((cfg0.win 10).rect_emb_val t (ix2 r f) x rfl).trans ?_
  have i0 : (cfg0.win 10).index t = ![t.val, 0] := index10 t
  rw [i0]
  match x with
  | ⟨0, _⟩ => show t.val * 256 + r.val = j.val; omega
  | ⟨1, _⟩ => show 0 * 256 + f.val = f.val; omega

theorem blk11_emb (r : Fin 256) (f : Fin 256) (j : Fin 16640) (hj : j.val = 256 * t.val + r.val) :
    ((cfg0.win 11).blk t).view.emb (ix2 r f) = (ix2 j f : S16640x256.Idx) := by
  refine funext fun x => Fin.ext ?_
  refine ((cfg0.win 11).rect_emb_val t (ix2 r f) x rfl).trans ?_
  have i0 : (cfg0.win 11).index t = ![t.val, 0] := index11 t
  rw [i0]
  match x with
  | ⟨0, _⟩ => show t.val * 256 + r.val = j.val; omega
  | ⟨1, _⟩ => show 0 * 256 + f.val = f.val; omega

theorem blk12_emb (r : Fin 256) (f : Fin 64) (j : Fin 16640) (hj : j.val = 256 * t.val + r.val) :
    ((cfg0.win 12).blk t).view.emb (ix2 r f) = (ix2 j f : S16640x64.Idx) := by
  refine funext fun x => Fin.ext ?_
  refine ((cfg0.win 12).rect_emb_val t (ix2 r f) x rfl).trans ?_
  have i0 : (cfg0.win 12).index t = ![t.val, 0] := index12 t
  rw [i0]
  match x with
  | ⟨0, _⟩ => show t.val * 256 + r.val = j.val; omega
  | ⟨1, _⟩ => show 0 * 64 + f.val = f.val; omega

theorem blk13_emb (r : Fin 256) (f : Fin 64) (j : Fin 16640) (hj : j.val = 256 * t.val + r.val) :
    ((cfg0.win 13).blk t).view.emb (ix2 r f) = (ix2 j f : S16640x64.Idx) := by
  refine funext fun x => Fin.ext ?_
  refine ((cfg0.win 13).rect_emb_val t (ix2 r f) x rfl).trans ?_
  have i0 : (cfg0.win 13).index t = ![t.val, 0] := index13 t
  rw [i0]
  match x with
  | ⟨0, _⟩ => show t.val * 256 + r.val = j.val; omega
  | ⟨1, _⟩ => show 0 * 64 + f.val = f.val; omega

theorem blk14_emb (r : Fin 256) (f : Fin 128) (j : Fin 16640) (hj : j.val = 256 * t.val + r.val) :
    ((cfg0.win 14).blk t).view.emb (ix2 r f) = (ix2 j f : S16640x128.Idx) := by
  refine funext fun x => Fin.ext ?_
  refine ((cfg0.win 14).rect_emb_val t (ix2 r f) x rfl).trans ?_
  have i0 : (cfg0.win 14).index t = ![t.val, 0] := index14 t
  rw [i0]
  match x with
  | ⟨0, _⟩ => show t.val * 256 + r.val = j.val; omega
  | ⟨1, _⟩ => show 0 * 128 + f.val = f.val; omega

theorem blk2_read (X : FVec Ideal S1x256 .f32) (k : Fin 1) (f : Fin 256) :
    ((cfg0.win 2).blk t).view.read (Elt Ideal) X (ix2 k f) = X (ix2 k f) := by
  refine congrArg X (funext fun x => Fin.ext ?_)
  refine ((cfg0.win 2).rect_emb_val t (ix2 k f) x rfl).trans ?_
  have i0 : (cfg0.win 2).index t = ![0, 0] := index2 t
  rw [i0]
  match x with
  | ⟨0, _⟩ => show 0 * 1 + k.val = k.val; omega
  | ⟨1, _⟩ => show 0 * 256 + f.val = f.val; omega

theorem blk4_read (X : FVec Ideal S256x2048 .bf16) (k : Fin 256) (f : Fin 2048) :
    ((cfg0.win 4).blk t).view.read (Elt Ideal) X (ix2 k f) = X (ix2 k f) := by
  refine congrArg X (funext fun x => Fin.ext ?_)
  refine ((cfg0.win 4).rect_emb_val t (ix2 k f) x rfl).trans ?_
  have i0 : (cfg0.win 4).index t = ![0, 0] := index4 t
  rw [i0]
  match x with
  | ⟨0, _⟩ => show 0 * 256 + k.val = k.val; omega
  | ⟨1, _⟩ => show 0 * 2048 + f.val = f.val; omega

theorem blk5_read (X : FVec Ideal S8x128x256 .bf16) (h : Fin 8) (n : Fin 128) (f : Fin 256) :
    ((cfg0.win 5).blk t).view.read (Elt Ideal) X (ix3 h n f) = X (ix3 h n f) := by
  refine congrArg X (funext fun x => Fin.ext ?_)
  refine ((cfg0.win 5).rect_emb_val t (ix3 h n f) x rfl).trans ?_
  have i0 : (cfg0.win 5).index t = ![0, 0, 0] := index5 t
  rw [i0]
  match x with
  | ⟨0, _⟩ => show 0 * 8 + h.val = h.val; omega
  | ⟨1, _⟩ => show 0 * 128 + n.val = n.val; omega
  | ⟨2, _⟩ => show 0 * 256 + f.val = f.val; omega

theorem blk8_emb (h : Fin 8) (r : Fin 256) (f : Fin 256) (j : Fin 16640) (hj : j.val = 256 * t.val + r.val) :
    ((cfg0.win 8).blk t).view.emb (ix3 h r f) = (ix3 h j f : S8x16640x256.Idx) := by
  refine funext fun x => Fin.ext ?_
  refine ((cfg0.win 8).rect_emb_val t (ix3 h r f) x rfl).trans ?_
  have i0 : (cfg0.win 8).index t = ![0, t.val, 0] := index8 t
  rw [i0]
  match x with
  | ⟨0, _⟩ => show 0 * 8 + h.val = h.val; omega
  | ⟨1, _⟩ => show t.val * 256 + r.val = j.val; omega
  | ⟨2, _⟩ => show 0 * 256 + f.val = f.val; omega

theorem blk9_emb (h : Fin 8) (r : Fin 256) (f : Fin 64) (j : Fin 16640) (hj : j.val = 256 * t.val + r.val) :
    ((cfg0.win 9).blk t).view.emb (ix3 h r f) = (ix3 h j f : S8x16640x64.Idx) := by
  refine funext fun x => Fin.ext ?_
  refine ((cfg0.win 9).rect_emb_val t (ix3 h r f) x rfl).trans ?_
  have i0 : (cfg0.win 9).index t = ![0, t.val, 0] := index9 t
  rw [i0]
  match x with
  | ⟨0, _⟩ => show 0 * 8 + h.val = h.val; omega
  | ⟨1, _⟩ => show t.val * 256 + r.val = j.val; omega
  | ⟨2, _⟩ => show 0 * 64 + f.val = f.val; omega

end Blocks

/-! ## What the region finds -/

variable (m : (ℓ : Loc nD τ sig) → Buf (Elt Ideal) ℓ) (c : Dev nD)

set_option maxHeartbeats 8000000 in
theorem V_v64 : V m c main_v64 = (refX (m ((c : Thread nD τ).loc main_arg0)) (m ((c : Thread nD τ).loc main_arg1)) : FVec Ideal S16640x1024 .f32) := by
  dsimp only [V, V0, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results <;> rfl

set_option maxHeartbeats 8000000 in
theorem V_v12 : V m c main_v12 = wMla (w2 (m ((c : Thread nD τ).loc main_arg2))) := by
  dsimp only [V, V0, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results <;> rfl

set_option maxHeartbeats 8000000 in
theorem V_v33 : V m c main_v33 = (shapeCast S1x256 (shapeCast S256 (m ((c : Thread nD τ).loc main_arg5)) shapeCasts_S1x256_S256 : FVec Ideal S256 .f32) shapeCasts_S256_S1x256 : FVec Ideal S1x256 .f32) := by
  dsimp only [V, V0, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results <;> rfl

set_option maxHeartbeats 8000000 in
theorem V_v59 : V m c main_v59 = cosT refA := by
  dsimp only [V, V0, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results <;> rfl

set_option maxHeartbeats 8000000 in
theorem V_v61 : V m c main_v61 = sinT refA := by
  dsimp only [V, V0, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results <;> rfl

set_option maxHeartbeats 8000000 in
theorem V_v31 : V m c main_v31 = (shapeCast S1x256 (shapeCast S256 (m ((c : Thread nD τ).loc main_arg3)) shapeCasts_S1x256_S256 : FVec Ideal S256 .f32) shapeCasts_S256_S1x256 : FVec Ideal S1x256 .f32) := by
  dsimp only [V, V0, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results <;> rfl

set_option maxHeartbeats 8000000 in
theorem V_v24 : V m c main_v24 = wQ (m ((c : Thread nD τ).loc main_arg4)) := by
  dsimp only [V, V0, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results <;> rfl

set_option maxHeartbeats 8000000 in
theorem V_v29 : V m c main_v29 = wU (m ((c : Thread nD τ).loc main_arg6)) := by
  dsimp only [V, V0, hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results <;> rfl

theorem gain_apply (g : FVec Ideal S1x256 .f32) (f : Fin 256) :
    (shapeCast S1x256 (shapeCast S256 g shapeCasts_S1x256_S256 : FVec Ideal S256 .f32) shapeCasts_S256_S1x256 : FVec Ideal S1x256 .f32) (ix2 0 f) = g (ix2 0 f) := by
  pointwise

theorem rd0 (t : Fin cfg0.N) (r : Fin 256) (k : Fin 1024) (j : Fin 16640) (hj : j.val = 256 * t.val + r.val) :
    (iblk m c 0 t : FVec Ideal S256x1024 .f32) (ix2 r k) = (refX (m ((c : Thread nD τ).loc main_arg0)) (m ((c : Thread nD τ).loc main_arg1)) : FVec Ideal S16640x1024 .f32) (ix2 j k) :=
  (blk0_read t (V m c main_v64) r k j hj).trans (congrFun (V_v64 m c) (ix2 j k))

theorem rd1 (t : Fin cfg0.N) (k : Fin 1024) (f : Fin 896) :
    (iblk m c 1 t : FVec Ideal S1024x896 .bf16) (ix2 k f) = wMla (w2 (m ((c : Thread nD τ).loc main_arg2))) (ix2 k f) :=
  (blk1_read t (V m c main_v12) k f).trans (congrFun (V_v12 m c) (ix2 k f))

theorem rd3 (t : Fin cfg0.N) (f : Fin 256) :
    (iblk m c 3 t : FVec Ideal S1x256 .f32) (ix2 0 f) = ((m ((c : Thread nD τ).loc main_arg5)) : FVec Ideal S1x256 .f32) (ix2 0 f) :=
  (blk3_read t (V m c main_v33) 0 f).trans ((congrFun (V_v33 m c) (ix2 0 f)).trans (gain_apply _ f))

theorem rd2 (t : Fin cfg0.N) (f : Fin 256) :
    (iblk m c 2 t : FVec Ideal S1x256 .f32) (ix2 0 f) = ((m ((c : Thread nD τ).loc main_arg3)) : FVec Ideal S1x256 .f32) (ix2 0 f) :=
  (blk2_read t (V m c main_v31) 0 f).trans ((congrFun (V_v31 m c) (ix2 0 f)).trans (gain_apply _ f))

theorem rd4 (t : Fin cfg0.N) (k : Fin 256) (f : Fin 2048) : (iblk m c 4 t : FVec Ideal S256x2048 .bf16) (ix2 k f) = wQ (m ((c : Thread nD τ).loc main_arg4)) (ix2 k f) :=
  (blk4_read t (V m c main_v24) k f).trans (congrFun (V_v24 m c) (ix2 k f))

theorem rd5 (t : Fin cfg0.N) (h : Fin 8) (n : Fin 128) (f : Fin 256) : (iblk m c 5 t : FVec Ideal S8x128x256 .bf16) (ix3 h n f) = wU (m ((c : Thread nD τ).loc main_arg6)) (ix3 h n f) :=
  (blk5_read t (V m c main_v29) h n f).trans (congrFun (V_v29 m c) (ix3 h n f))

theorem rd6 (t : Fin cfg0.N) (r : Fin 256) (k : Fin 128) (j : Fin 16640) (hj : j.val = 256 * t.val + r.val) :
    (iblk m c 6 t : FVec Ideal S256x128 .f32) (ix2 r k) = cosT refA (ix2 j k) :=
  (blk6_read t (V m c main_v59) r k j hj).trans (congrFun (V_v59 m c) (ix2 j k))

theorem rd7 (t : Fin cfg0.N) (r : Fin 256) (k : Fin 128) (j : Fin 16640) (hj : j.val = 256 * t.val + r.val) :
    (iblk m c 7 t : FVec Ideal S256x128 .f32) (ix2 r k) = sinT refA (ix2 j k) :=
  (blk7_read t (V m c main_v61) r k j hj).trans (congrFun (V_v61 m c) (ix2 j k))

/-! ## The results -/

/-- The results as the reference's terms give them. -/
def cOf (a : FVec Ideal S8x2048x1024 .f32) (b : FVec Ideal S32x8x1024 .f32) (w : FVec Ideal S1x1024x7776 .f32) (g : FVec Ideal S1x256 .f32) : FVec Ideal S16640x256 .f32 := refC (refP (refX a b) w) g
def krOf (a : FVec Ideal S8x2048x1024 .f32) (b : FVec Ideal S32x8x1024 .f32) (w : FVec Ideal S1x1024x7776 .f32) : FVec Ideal S16640x64 .f32 := refKr (refP (refX a b) w) refA
def dtOf (a : FVec Ideal S8x2048x1024 .f32) (b : FVec Ideal S32x8x1024 .f32) (w : FVec Ideal S1x1024x7776 .f32) : FVec Ideal S16640x128 .f32 := refDt (refP (refX a b) w)

def qOf (a : FVec Ideal S8x2048x1024 .f32) (b : FVec Ideal S32x8x1024 .f32) (w : FVec Ideal S1x1024x7776 .f32) (g : FVec Ideal S1x256 .f32) (w4 : FVec Ideal S1x256x1536 .f32) : FVec Ideal Cert.Reference6Ideal.S16640x8x192 .f32 := refQ (refQn (refP (refX a b) w) g) w4
def latOf (a : FVec Ideal S8x2048x1024 .f32) (b : FVec Ideal S32x8x1024 .f32) (w : FVec Ideal S1x1024x7776 .f32) (g : FVec Ideal S1x256 .f32) (w4 : FVec Ideal S1x256x1536 .f32) (w6 : FVec Ideal S1x256x2048 .f32) : FVec Ideal S8x16640x256 .bf16 := refLat (qOf a b w g w4) w6
def qrOf (a : FVec Ideal S8x2048x1024 .f32) (b : FVec Ideal S32x8x1024 .f32) (w : FVec Ideal S1x1024x7776 .f32) (g : FVec Ideal S1x256 .f32) (w4 : FVec Ideal S1x256x1536 .f32) : FVec Ideal S8x16640x64 .bf16 := refQr (qOf a b w g w4) refA

theorem qOf_apply (a : FVec Ideal S8x2048x1024 .f32) (b : FVec Ideal S32x8x1024 .f32) (w : FVec Ideal S1x1024x7776 .f32) (g : FVec Ideal S1x256 .f32) (w4 : FVec Ideal S1x256x1536 .f32) (j : Fin 16640) (h : Fin 8) (e : Fin 192) :
    qOf a b w g w4 (ix3 j h e) = qPrj (qRow (fun k => refX a b (ix2 j k)) w (fun f => g (ix2 0 f))) (fun k f => w4 (ix3 0 k f)) ⟨h.val * 192 + e.val, by omega⟩ := by
  refine (refQ_apply _ w4 j h e).trans ?_
  simp only [refQn_apply, refP_apply]
  rfl

theorem latOf_apply (a : FVec Ideal S8x2048x1024 .f32) (b : FVec Ideal S32x8x1024 .f32) (w : FVec Ideal S1x1024x7776 .f32) (g : FVec Ideal S1x256 .f32) (w4 : FVec Ideal S1x256x1536 .f32) (w6 : FVec Ideal S1x256x2048 .f32) (h : Fin 8) (j : Fin 16640) (f : Fin 256) :
    latOf a b w g w4 w6 (ix3 h j f)
      = latRow (fun n => qPrj (qRow (fun k => refX a b (ix2 j k)) w (fun f => g (ix2 0 f))) (fun k f => w4 (ix3 0 k f)) ⟨h.val * 192 + n.val, by omega⟩) (fun n => w6 (ix3 0 f ⟨h.val * 256 + n.val, by omega⟩)) := by
  refine (refLat_apply _ w6 h j f).trans ?_
  simp only [qOf_apply]

theorem qrOf_apply (a : FVec Ideal S8x2048x1024 .f32) (b : FVec Ideal S32x8x1024 .f32) (w : FVec Ideal S1x1024x7776 .f32) (g : FVec Ideal S1x256 .f32) (w4 : FVec Ideal S1x256x1536 .f32) (h : Fin 8) (j : Fin 16640) (f : Fin 64) :
    qrOf a b w g w4 (ix3 h j f)
      = rotRow (fun e => qPrj (qRow (fun k => refX a b (ix2 j k)) w (fun f => g (ix2 0 f))) (fun k f => w4 (ix3 0 k f)) ⟨h.val * 192 + (128 + e.val), by omega⟩) (fun f => Ideal.cos (refA (ix2 j f))) (fun f => Ideal.sin (refA (ix2 j f))) f * qScale := by
  refine (refQr_apply _ refA h j f).trans ?_
  simp only [qOf_apply]

theorem cOf_apply (a : FVec Ideal S8x2048x1024 .f32) (b : FVec Ideal S32x8x1024 .f32) (w : FVec Ideal S1x1024x7776 .f32) (g : FVec Ideal S1x256 .f32) (j : Fin 16640) (f : Fin 256) :
    cOf a b w g (ix2 j f) = nrmRow (fun f => prj (fun k => refX a b (ix2 j k)) w ⟨256 + f.val, by omega⟩) (fun f => g (ix2 0 f)) f := by
  refine (refC_apply _ g j f).trans ?_
  simp only [refP_apply]
  rfl

theorem krOf_apply (a : FVec Ideal S8x2048x1024 .f32) (b : FVec Ideal S32x8x1024 .f32) (w : FVec Ideal S1x1024x7776 .f32) (j : Fin 16640) (f : Fin 64) :
    krOf a b w (ix2 j f)
      = rotRow (fun f => prj (fun k => refX a b (ix2 j k)) w ⟨512 + f.val, by omega⟩) (fun f => Ideal.cos (refA (ix2 j f))) (fun f => Ideal.sin (refA (ix2 j f))) f := by
  refine (refKr_apply _ refA j f).trans ?_
  simp only [refP_apply]
  rfl

theorem dtOf_apply (a : FVec Ideal S8x2048x1024 .f32) (b : FVec Ideal S32x8x1024 .f32) (w : FVec Ideal S1x1024x7776 .f32) (j : Fin 16640) (f : Fin 128) :
    dtOf a b w (ix2 j f) = padRow (fun f => prj (fun k => refX a b (ix2 j k)) w ⟨5696 + f.val, by omega⟩) f := by
  refine (refDt_apply _ j f).trans ?_
  simp only [refP_apply]
  rfl

theorem out8_eq : (dats m 0 c).arrAt 8 cfg0.N = (latOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) : S8x16640x256.Idx → EReal) := by
  have key := heads_eq (fun t => ((cfg0.win 8).blk t).view.emb) blk8_emb (fun t => out0_8 (iblk m c 0 t) (iblk m c 1 t) (iblk m c 2 t) (iblk m c 3 t) (iblk m c 4 t) (iblk m c 5 t) (iblk m c 6 t) (iblk m c 7 t)) (latOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)))
    (fun t h r f j hj => (row8 _ _ _ _ _ _ _ _ r _ (m ((c : Thread nD τ).loc main_arg2)) (fun k => rd0 m c t r k j hj) (rd1 m c t) _ (rd2 m c t) (m ((c : Thread nD τ).loc main_arg4)) (rd4 m c t) (m ((c : Thread nD τ).loc main_arg6)) (rd5 m c t) h f).trans (latOf_apply _ _ _ _ _ _ h j f).symm)
  generalize (latOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) : S8x16640x256.Idx → EReal) = G at key ⊢
  refine (dats m 0 c).arrAt_eq_of_emb 8 G (fun t _ y => ?_) (fun i => (heads_cover (fun t => ((cfg0.win 8).blk t).view.emb) blk8_emb i).imp fun t h => ⟨flush0_8 t, h⟩)
  rw [after0_8]
  have k := key t y
  generalize out0_8 (iblk m c 0 t) (iblk m c 1 t) (iblk m c 2 t) (iblk m c 3 t) (iblk m c 4 t) (iblk m c 5 t) (iblk m c 6 t) (iblk m c 7 t) = o at k ⊢
  exact k

theorem out9_eq : (dats m 0 c).arrAt 9 cfg0.N = (qrOf (m ((c : Thread nD τ).loc main_arg0)) (m ((c : Thread nD τ).loc main_arg1)) (m ((c : Thread nD τ).loc main_arg2)) (m ((c : Thread nD τ).loc main_arg3)) (m ((c : Thread nD τ).loc main_arg4)) : S8x16640x64.Idx → EReal) := by
  have key := heads_eq (fun t => ((cfg0.win 9).blk t).view.emb) blk9_emb (fun t => out0_9 (iblk m c 0 t) (iblk m c 1 t) (iblk m c 2 t) (iblk m c 3 t) (iblk m c 4 t) (iblk m c 5 t) (iblk m c 6 t) (iblk m c 7 t)) (qrOf (m ((c : Thread nD τ).loc main_arg0)) (m ((c : Thread nD τ).loc main_arg1)) (m ((c : Thread nD τ).loc main_arg2)) (m ((c : Thread nD τ).loc main_arg3)) (m ((c : Thread nD τ).loc main_arg4)))
    (fun t h r f j hj => (row9 _ _ _ _ _ _ _ _ r _ (m ((c : Thread nD τ).loc main_arg2)) (fun k => rd0 m c t r k j hj) (rd1 m c t) _ (rd2 m c t) (m ((c : Thread nD τ).loc main_arg4)) (rd4 m c t) refA j (fun k => rd6 m c t r k j hj) (fun k => rd7 m c t r k j hj) h f).trans (qrOf_apply _ _ _ _ _ h j f).symm)
  generalize (qrOf (m ((c : Thread nD τ).loc main_arg0)) (m ((c : Thread nD τ).loc main_arg1)) (m ((c : Thread nD τ).loc main_arg2)) (m ((c : Thread nD τ).loc main_arg3)) (m ((c : Thread nD τ).loc main_arg4)) : S8x16640x64.Idx → EReal) = G at key ⊢
  refine (dats m 0 c).arrAt_eq_of_emb 9 G (fun t _ y => ?_) (fun i => (heads_cover (fun t => ((cfg0.win 9).blk t).view.emb) blk9_emb i).imp fun t h => ⟨flush0_9 t, h⟩)
  rw [after0_9]
  have k := key t y
  generalize out0_9 (iblk m c 0 t) (iblk m c 1 t) (iblk m c 2 t) (iblk m c 3 t) (iblk m c 4 t) (iblk m c 5 t) (iblk m c 6 t) (iblk m c 7 t) = o at k ⊢
  exact k

theorem out10_eq : (dats m 0 c).arrAt 10 cfg0.N = (cOf (m ((c : Thread nD τ).loc main_arg0)) (m ((c : Thread nD τ).loc main_arg1)) (m ((c : Thread nD τ).loc main_arg2)) (m ((c : Thread nD τ).loc main_arg5)) : S16640x256.Idx → EReal) := by
  have key := rows_eq (fun t => ((cfg0.win 10).blk t).view.emb) blk10_emb (fun t => out0_10 (iblk m c 0 t) (iblk m c 1 t) (iblk m c 2 t) (iblk m c 3 t) (iblk m c 4 t) (iblk m c 5 t) (iblk m c 6 t) (iblk m c 7 t)) (cOf (m ((c : Thread nD τ).loc main_arg0)) (m ((c : Thread nD τ).loc main_arg1)) (m ((c : Thread nD τ).loc main_arg2)) (m ((c : Thread nD τ).loc main_arg5)))
    (fun t r f j hj => (row10 _ _ _ _ _ _ _ _ r _ (m ((c : Thread nD τ).loc main_arg2)) (fun k => rd0 m c t r k j hj) (rd1 m c t) _ (rd3 m c t) f).trans (cOf_apply _ _ _ _ j f).symm)
  generalize (cOf (m ((c : Thread nD τ).loc main_arg0)) (m ((c : Thread nD τ).loc main_arg1)) (m ((c : Thread nD τ).loc main_arg2)) (m ((c : Thread nD τ).loc main_arg5)) : S16640x256.Idx → EReal) = G at key ⊢
  refine (dats m 0 c).arrAt_eq_of_emb 10 G (fun t _ y => ?_) (fun i => (rows_cover (fun t => ((cfg0.win 10).blk t).view.emb) blk10_emb i).imp fun t h => ⟨flush0_10 t, h⟩)
  rw [after0_10]
  have k := key t y
  generalize out0_10 (iblk m c 0 t) (iblk m c 1 t) (iblk m c 2 t) (iblk m c 3 t) (iblk m c 4 t) (iblk m c 5 t) (iblk m c 6 t) (iblk m c 7 t) = o at k ⊢
  exact k

theorem out11_eq : (dats m 0 c).arrAt 11 cfg0.N = (cOf (m ((c : Thread nD τ).loc main_arg0)) (m ((c : Thread nD τ).loc main_arg1)) (m ((c : Thread nD τ).loc main_arg2)) (m ((c : Thread nD τ).loc main_arg5)) : S16640x256.Idx → EReal) := by
  have key := rows_eq (fun t => ((cfg0.win 11).blk t).view.emb) blk11_emb (fun t => out0_11 (iblk m c 0 t) (iblk m c 1 t) (iblk m c 2 t) (iblk m c 3 t) (iblk m c 4 t) (iblk m c 5 t) (iblk m c 6 t) (iblk m c 7 t)) (cOf (m ((c : Thread nD τ).loc main_arg0)) (m ((c : Thread nD τ).loc main_arg1)) (m ((c : Thread nD τ).loc main_arg2)) (m ((c : Thread nD τ).loc main_arg5)))
    (fun t r f j hj => (row11 _ _ _ _ _ _ _ _ r _ (m ((c : Thread nD τ).loc main_arg2)) (fun k => rd0 m c t r k j hj) (rd1 m c t) _ (rd3 m c t) f).trans (cOf_apply _ _ _ _ j f).symm)
  generalize (cOf (m ((c : Thread nD τ).loc main_arg0)) (m ((c : Thread nD τ).loc main_arg1)) (m ((c : Thread nD τ).loc main_arg2)) (m ((c : Thread nD τ).loc main_arg5)) : S16640x256.Idx → EReal) = G at key ⊢
  refine (dats m 0 c).arrAt_eq_of_emb 11 G (fun t _ y => ?_) (fun i => (rows_cover (fun t => ((cfg0.win 11).blk t).view.emb) blk11_emb i).imp fun t h => ⟨flush0_11 t, h⟩)
  rw [after0_11]
  have k := key t y
  generalize out0_11 (iblk m c 0 t) (iblk m c 1 t) (iblk m c 2 t) (iblk m c 3 t) (iblk m c 4 t) (iblk m c 5 t) (iblk m c 6 t) (iblk m c 7 t) = o at k ⊢
  exact k

theorem out12_eq : (dats m 0 c).arrAt 12 cfg0.N = (krOf (m ((c : Thread nD τ).loc main_arg0)) (m ((c : Thread nD τ).loc main_arg1)) (m ((c : Thread nD τ).loc main_arg2)) : S16640x64.Idx → EReal) := by
  have key := rows_eq (fun t => ((cfg0.win 12).blk t).view.emb) blk12_emb (fun t => out0_12 (iblk m c 0 t) (iblk m c 1 t) (iblk m c 2 t) (iblk m c 3 t) (iblk m c 4 t) (iblk m c 5 t) (iblk m c 6 t) (iblk m c 7 t)) (krOf (m ((c : Thread nD τ).loc main_arg0)) (m ((c : Thread nD τ).loc main_arg1)) (m ((c : Thread nD τ).loc main_arg2)))
    (fun t r f j hj => (row12 _ _ _ _ _ _ _ _ r _ (m ((c : Thread nD τ).loc main_arg2)) (fun k => rd0 m c t r k j hj) (rd1 m c t) refA j (fun k => rd6 m c t r k j hj) (fun k => rd7 m c t r k j hj) f).trans (krOf_apply _ _ _ j f).symm)
  generalize (krOf (m ((c : Thread nD τ).loc main_arg0)) (m ((c : Thread nD τ).loc main_arg1)) (m ((c : Thread nD τ).loc main_arg2)) : S16640x64.Idx → EReal) = G at key ⊢
  refine (dats m 0 c).arrAt_eq_of_emb 12 G (fun t _ y => ?_) (fun i => (rows_cover (fun t => ((cfg0.win 12).blk t).view.emb) blk12_emb i).imp fun t h => ⟨flush0_12 t, h⟩)
  rw [after0_12]
  have k := key t y
  generalize out0_12 (iblk m c 0 t) (iblk m c 1 t) (iblk m c 2 t) (iblk m c 3 t) (iblk m c 4 t) (iblk m c 5 t) (iblk m c 6 t) (iblk m c 7 t) = o at k ⊢
  exact k

theorem out13_eq : (dats m 0 c).arrAt 13 cfg0.N = (krOf (m ((c : Thread nD τ).loc main_arg0)) (m ((c : Thread nD τ).loc main_arg1)) (m ((c : Thread nD τ).loc main_arg2)) : S16640x64.Idx → EReal) := by
  have key := rows_eq (fun t => ((cfg0.win 13).blk t).view.emb) blk13_emb (fun t => out0_13 (iblk m c 0 t) (iblk m c 1 t) (iblk m c 2 t) (iblk m c 3 t) (iblk m c 4 t) (iblk m c 5 t) (iblk m c 6 t) (iblk m c 7 t)) (krOf (m ((c : Thread nD τ).loc main_arg0)) (m ((c : Thread nD τ).loc main_arg1)) (m ((c : Thread nD τ).loc main_arg2)))
    (fun t r f j hj => (row13 _ _ _ _ _ _ _ _ r _ (m ((c : Thread nD τ).loc main_arg2)) (fun k => rd0 m c t r k j hj) (rd1 m c t) refA j (fun k => rd6 m c t r k j hj) (fun k => rd7 m c t r k j hj) f).trans (krOf_apply _ _ _ j f).symm)
  generalize (krOf (m ((c : Thread nD τ).loc main_arg0)) (m ((c : Thread nD τ).loc main_arg1)) (m ((c : Thread nD τ).loc main_arg2)) : S16640x64.Idx → EReal) = G at key ⊢
  refine (dats m 0 c).arrAt_eq_of_emb 13 G (fun t _ y => ?_) (fun i => (rows_cover (fun t => ((cfg0.win 13).blk t).view.emb) blk13_emb i).imp fun t h => ⟨flush0_13 t, h⟩)
  rw [after0_13]
  have k := key t y
  generalize out0_13 (iblk m c 0 t) (iblk m c 1 t) (iblk m c 2 t) (iblk m c 3 t) (iblk m c 4 t) (iblk m c 5 t) (iblk m c 6 t) (iblk m c 7 t) = o at k ⊢
  exact k

theorem out14_eq : (dats m 0 c).arrAt 14 cfg0.N = (dtOf (m ((c : Thread nD τ).loc main_arg0)) (m ((c : Thread nD τ).loc main_arg1)) (m ((c : Thread nD τ).loc main_arg2)) : S16640x128.Idx → EReal) := by
  have key := rows_eq (fun t => ((cfg0.win 14).blk t).view.emb) blk14_emb (fun t => out0_14 (iblk m c 0 t) (iblk m c 1 t) (iblk m c 2 t) (iblk m c 3 t) (iblk m c 4 t) (iblk m c 5 t) (iblk m c 6 t) (iblk m c 7 t)) (dtOf (m ((c : Thread nD τ).loc main_arg0)) (m ((c : Thread nD τ).loc main_arg1)) (m ((c : Thread nD τ).loc main_arg2)))
    (fun t r f j hj => (row14 _ _ _ _ _ _ _ _ r _ (m ((c : Thread nD τ).loc main_arg2)) (fun k => rd0 m c t r k j hj) (rd1 m c t) f).trans (dtOf_apply _ _ _ j f).symm)
  generalize (dtOf (m ((c : Thread nD τ).loc main_arg0)) (m ((c : Thread nD τ).loc main_arg1)) (m ((c : Thread nD τ).loc main_arg2)) : S16640x128.Idx → EReal) = G at key ⊢
  refine (dats m 0 c).arrAt_eq_of_emb 14 G (fun t _ y => ?_) (fun i => (rows_cover (fun t => ((cfg0.win 14).blk t).view.emb) blk14_emb i).imp fun t h => ⟨flush0_14 t, h⟩)
  rw [after0_14]
  have k := key t y
  generalize out0_14 (iblk m c 0 t) (iblk m c 1 t) (iblk m c 2 t) (iblk m c 3 t) (iblk m c 4 t) (iblk m c 5 t) (iblk m c 6 t) (iblk m c 7 t) = o at k ⊢
  exact k

/-- The latent of the prompts' rows. -/
def cPrompt (x : FVec Ideal S16640x256 .f32) : FVec Ideal S1x8x2048x256 .f32 :=
  shapeCast S1x8x2048x256 (extractStridedSlice S16384x256 ![0, 0] x slices_S16640x256_S16384x256_0_0) shapeCasts_S16384x256_S1x8x2048x256

/-- The rotated key of the prompts' rows. -/
def krPrompt (x : FVec Ideal S16640x64 .f32) : FVec Ideal S1x8x2048x64 .f32 :=
  shapeCast S1x8x2048x64 (extractStridedSlice S16384x64 ![0, 0] x slices_S16640x64_S16384x64_0_0) shapeCasts_S16384x64_S1x8x2048x64

/-- The latent of the samples' rows. -/
def cSample (x : FVec Ideal S16640x256 .f32) : FVec Ideal S1x32x8x256 .f32 :=
  shapeCast S1x32x8x256 (extractStridedSlice S256x256 ![16384, 0] x slices_S16640x256_S256x256_16384_0) shapeCasts_S256x256_S1x32x8x256

/-- The rotated key of the samples' rows. -/
def krSample (x : FVec Ideal S16640x64 .f32) : FVec Ideal S1x32x8x64 .f32 :=
  shapeCast S1x32x8x64 (extractStridedSlice S256x64 ![16384, 0] x slices_S16640x64_S256x64_16384_0) shapeCasts_S256x64_S1x32x8x64

/-- Every buffer as the region leaves it. -/
abbrev exitV : Valuation τ sig (Elt Ideal) :=
  Pipeline.withArrays spec0 c (V0 m c) fun w => (dats m 0 c).arrAt w cfg0.N

theorem exit_c : exitV m c (Proc.devRef .tc main_v65_2) = cOf (m ((c : Thread nD τ).loc main_arg0)) (m ((c : Thread nD τ).loc main_arg1)) (m ((c : Thread nD τ).loc main_arg2)) (m ((c : Thread nD τ).loc main_arg5)) :=
  (Pipeline.withArrays_arr spec0 launch0.win.arr_inj c (V0 m c) _ 10).trans (out10_eq m c)

theorem exit_kr : exitV m c (Proc.devRef .tc main_v65_4) = krOf (m ((c : Thread nD τ).loc main_arg0)) (m ((c : Thread nD τ).loc main_arg1)) (m ((c : Thread nD τ).loc main_arg2)) :=
  (Pipeline.withArrays_arr spec0 launch0.win.arr_inj c (V0 m c) _ 12).trans (out12_eq m c)

theorem tail_v67 (W : Valuation τ sig (Elt Ideal)) : StableHlo.after (hostOps1 (F := Ideal)) W (Proc.devRef .tc main_v67) = cPrompt (W (Proc.devRef .tc main_v65_2)) := by
  after_results <;> rfl

theorem tail_v69 (W : Valuation τ sig (Elt Ideal)) : StableHlo.after (hostOps1 (F := Ideal)) W (Proc.devRef .tc main_v69) = krPrompt (W (Proc.devRef .tc main_v65_4)) := by
  after_results <;> rfl

theorem tail_v71 (W : Valuation τ sig (Elt Ideal)) : StableHlo.after (hostOps1 (F := Ideal)) W (Proc.devRef .tc main_v71) = cSample (W (Proc.devRef .tc main_v65_2)) := by
  after_results <;> rfl

theorem tail_v73 (W : Valuation τ sig (Elt Ideal)) : StableHlo.after (hostOps1 (F := Ideal)) W (Proc.devRef .tc main_v73) = krSample (W (Proc.devRef .tc main_v65_4)) := by
  after_results <;> rfl

set_option maxHeartbeats 4000000 in
/-- The kernel's results are the reference's terms, and its arguments are kept. -/
theorem run_val (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v65_0) = latOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v65_1) = qrOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v65_2) = cOf (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v65_3) = cOf (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v65_4) = krOf (m ((c.tc : Thread nD τ).loc main_arg0)) (m ((c.tc : Thread nD τ).loc main_arg1)) (m ((c.tc : Thread nD τ).loc main_arg2))
      ∧ r.2.mem ((c.tc : Thread nD τ).loc main_v65_5) = krOf (m ((c.tc : Thread nD τ).loc main_arg0)) (m ((c.tc : Thread nD τ).loc main_arg1)) (m ((c.tc : Thread nD τ).loc main_arg2))
      ∧ r.2.mem ((c.tc : Thread nD τ).loc main_v65_6) = dtOf (m ((c.tc : Thread nD τ).loc main_arg0)) (m ((c.tc : Thread nD τ).loc main_arg1)) (m ((c.tc : Thread nD τ).loc main_arg2))
      ∧ r.2.mem ((c.tc : Thread nD τ).loc main_v67) = cPrompt (cOf (m ((c.tc : Thread nD τ).loc main_arg0)) (m ((c.tc : Thread nD τ).loc main_arg1)) (m ((c.tc : Thread nD τ).loc main_arg2)) (m ((c.tc : Thread nD τ).loc main_arg5)))
      ∧ r.2.mem ((c.tc : Thread nD τ).loc main_v69) = krPrompt (krOf (m ((c.tc : Thread nD τ).loc main_arg0)) (m ((c.tc : Thread nD τ).loc main_arg1)) (m ((c.tc : Thread nD τ).loc main_arg2)))
      ∧ r.2.mem ((c.tc : Thread nD τ).loc main_v71) = cSample (cOf (m ((c.tc : Thread nD τ).loc main_arg0)) (m ((c.tc : Thread nD τ).loc main_arg1)) (m ((c.tc : Thread nD τ).loc main_arg2)) (m ((c.tc : Thread nD τ).loc main_arg5)))
      ∧ r.2.mem ((c.tc : Thread nD τ).loc main_v73) = krSample (krOf (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun _ h c => ⟨((h.1 c).1 8).trans (out8_eq m c), ((h.1 c).1 9).trans (out9_eq m c), ((h.1 c).1 10).trans (out10_eq m c), ((h.1 c).1 11).trans (out11_eq m c), ((h.1 c).1 12).trans (out12_eq m c), ((h.1 c).1 13).trans (out13_eq m c), ((h.1 c).1 14).trans (out14_eq m c),
      (((h.1 c).2 main_v67 (Pipeline.mem_restRefs_of main_v67 (by decide) (by decide))).trans (tail_v67 (exitV m c))).trans (congrArg cPrompt (exit_c m c)),
      (((h.1 c).2 main_v69 (Pipeline.mem_restRefs_of main_v69 (by decide) (by decide))).trans (tail_v69 (exitV m c))).trans (congrArg krPrompt (exit_kr m c)),
      (((h.1 c).2 main_v71 (Pipeline.mem_restRefs_of main_v71 (by decide) (by decide))).trans (tail_v71 (exitV m c))).trans (congrArg cSample (exit_c m c)),
      (((h.1 c).2 main_v73 (Pipeline.mem_restRefs_of main_v73 (by decide) (by decide))).trans (tail_v73 (exitV m c))).trans (congrArg krSample (exit_kr m c)),
      h.2 c⟩) (θ_run_and (run_main m g) (unchanged m g))

end Cert.Kernel6Ideal.Gen

namespace Cert.Proof.MlaIn

open Idealize.ShloMosaic Idealize.ShloMosaic.TcCoe Idealize.SL.Sem
open Cert.Kernel6Ideal.Gen (cOf krOf dtOf qOf latOf qrOf cPrompt krPrompt cSample krSample)

/-- The frame at the machine's words, of the program read for the extended reals. -/
def FrameBits : Prop := ∀ (m : (ℓ : Loc Cert.Kernel6Ideal.nD Cert.Kernel6Ideal.τ Cert.Kernel6Ideal.sig) → Buf (Elt Bits) ℓ) (g : Dev Cert.Kernel6Ideal.nD → PrngReg),
    True → θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0) ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1) ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2) ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3) ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4) ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5) ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)) ∧ r.2.sem = fun _ => 0)

theorem frame_bits : FrameBits := fun m g _ => Cert.Kernel6Ideal.Gen.frame (F := Bits) m g

/-- The two printed programs are the same text, so the two statements are one. -/
theorem frame_same : FrameBits = Cert.quiescent_Kernel6 := by sl_kernel_rfl
theorem frame_kernel : Cert.quiescent_Kernel6 := frame_same ▸ frame_bits
theorem frame_kernel_ideal : Cert.quiescent_Kernel6Ideal := fun m g _ => Cert.Kernel6Ideal.Gen.frame (F := Ideal) m g
theorem frame_reference_ideal : Cert.quiescent_Reference6Ideal := fun m g _ =>
  (θ_run Cert.Reference6Ideal.defs _ _).mono (fun _ h => ⟨fun c => (h c).2.2.2.2.2.2.2.2.2.2.2, sem_eq_zero_of_no_sems (by decide) _⟩) (Cert.Reference6Ideal.Value.run m g)

theorem res8_eq (m : (ℓ : Loc Cert.Reference6Ideal.nD Cert.Reference6Ideal.τ Cert.Reference6Ideal.sig) → Buf (Elt Ideal) ℓ) (c : Dev Cert.Reference6Ideal.nD) :
    Cert.Reference6Ideal.Value.res_main_v125 m c = krPrompt (krOf (m ((c.tc : Thread _ _).loc Cert.Reference6Ideal.main_arg0)) (m ((c.tc : Thread _ _).loc Cert.Reference6Ideal.main_arg1)) (m ((c.tc : Thread _ _).loc Cert.Reference6Ideal.main_arg2))) := by
  unfold Cert.Reference6Ideal.Value.res_main_v125 krPrompt krOf refKr refRot refA refP refX
  rfl

theorem res10_eq (m : (ℓ : Loc Cert.Reference6Ideal.nD Cert.Reference6Ideal.τ Cert.Reference6Ideal.sig) → Buf (Elt Ideal) ℓ) (c : Dev Cert.Reference6Ideal.nD) :
    Cert.Reference6Ideal.Value.res_main_v129 m c = krSample (krOf (m ((c.tc : Thread _ _).loc Cert.Reference6Ideal.main_arg0)) (m ((c.tc : Thread _ _).loc Cert.Reference6Ideal.main_arg1)) (m ((c.tc : Thread _ _).loc Cert.Reference6Ideal.main_arg2))) := by
  unfold Cert.Reference6Ideal.Value.res_main_v129 krSample krOf refKr refRot refA refP refX
  rfl

theorem algebraic : Cert.algebraic_Kernel6Ideal_Reference6Ideal := fun m g m' g' _ hm =>
  ⟨fun c => latOf (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)) (m ((c.tc : Thread _ _).loc Cert.Kernel6Ideal.main_arg4)) (m ((c.tc : Thread _ _).loc Cert.Kernel6Ideal.main_arg6)), fun c => qrOf (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)) (m ((c.tc : Thread _ _).loc Cert.Kernel6Ideal.main_arg4)),
    fun c => cOf (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg5)), fun c => cOf (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg5)), fun c => krOf (m ((c.tc : Thread _ _).loc Cert.Kernel6Ideal.main_arg0)) (m ((c.tc : Thread _ _).loc Cert.Kernel6Ideal.main_arg1)) (m ((c.tc : Thread _ _).loc Cert.Kernel6Ideal.main_arg2)), fun c => krOf (m ((c.tc : Thread _ _).loc Cert.Kernel6Ideal.main_arg0)) (m ((c.tc : Thread _ _).loc Cert.Kernel6Ideal.main_arg1)) (m ((c.tc : Thread _ _).loc Cert.Kernel6Ideal.main_arg2)), fun c => dtOf (m ((c.tc : Thread _ _).loc Cert.Kernel6Ideal.main_arg0)) (m ((c.tc : Thread _ _).loc Cert.Kernel6Ideal.main_arg1)) (m ((c.tc : Thread _ _).loc Cert.Kernel6Ideal.main_arg2)),
    fun c => cPrompt (cOf (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg5))), fun c => krPrompt (krOf (m ((c.tc : Thread _ _).loc Cert.Kernel6Ideal.main_arg0)) (m ((c.tc : Thread _ _).loc Cert.Kernel6Ideal.main_arg1)) (m ((c.tc : Thread _ _).loc Cert.Kernel6Ideal.main_arg2))), fun c => cSample (cOf (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg5))), fun c => krSample (krOf (m ((c.tc : Thread _ _).loc Cert.Kernel6Ideal.main_arg0)) (m ((c.tc : Thread _ _).loc Cert.Kernel6Ideal.main_arg1)) (m ((c.tc : Thread _ _).loc Cert.Kernel6Ideal.main_arg2))),
    Cert.Kernel6Ideal.Gen.run_val m g,
    (θ_run Cert.Reference6Ideal.defs _ _).mono (fun _ h c => by
      obtain ⟨a0, a1, a2, a3, a4, a5, a6⟩ := hm c
      obtain ⟨h0, h1, h2, h3, h4, h5, h6, h7, h8, h9, h10, hk⟩ := h c
      refine ⟨h0.trans ?_, (h1.trans (res1_eq m' c)).trans ?_, h2.trans ?_, h3.trans ?_, (h4.trans (res2_eq m' c)).trans ?_, (h5.trans (res3_eq m' c)).trans ?_, h6.trans ?_, h7.trans ?_, (h8.trans (res8_eq m' c)).trans ?_, h9.trans ?_, (h10.trans (res10_eq m' c)).trans ?_, hk⟩
      · rw [a0, a1, a2, a3, a4, a6]; unfold latOf qOf refLat refQ refQn refP refX; rfl
      · rw [a0, a1, a2, a3, a4]; rfl
      · rw [a0, a1, a2, a5]; unfold cOf refC refP refX; rfl
      · rw [a0, a1, a2, a5]; unfold cOf refC refP refX; rfl
      · rw [a0, a1, a2]; rfl
      · rw [a0, a1, a2]; rfl
      · rw [a0, a1, a2]; unfold dtOf refDt refP refX; rfl
      · rw [a0, a1, a2, a5]; unfold cPrompt cOf refC refP refX; rfl
      · rw [a0, a1, a2]
      · rw [a0, a1, a2, a5]; unfold cSample cOf refC refP refX; rfl
      · rw [a0, a1, a2]) (Cert.Reference6Ideal.Value.run m' g')⟩

end Cert.Proof.MlaIn
end
-- ==== Proof.CombineBody.lean ====
/- The combination of the experts' rows, the body: what a point of the grid stores, and into which of the two results. -/
module

public import proofs.«01_k».proof.Proof.Gen.Kernel7Ideal.Frame
public import proofs.«01_k».proof.Proof.Gen.Kernel7Ideal.Skeleton
public import Idealize.ShloMosaic.Lib.ValueIdxCore
public import Idealize.ShloMosaic.Lib.WritesUnit
public import Idealize.ShloMosaic.Lib.Pipeline.Value

@[expose] public section

set_option maxRecDepth 16384

noncomputable section

namespace Cert.Kernel7Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's two conditions exclude each other and leave no third case. -/
theorem cond1_iff (i : grid0.Coords) : k0_cond1 i = 1#1 ↔ (BitVec.ofNat 32 (i 0).val).toInt < (64#32 : BitVec 32).toInt := by
  unfold k0_cond1
  show IntOp.cmpi .ne (BitVec.setWidth 32 (IntOp.cmpi .slt (BitVec.ofNat 32 (i 0).val) 64#32)) 0#32 = 1#1 ↔ _
  rw [WordCmp.cmpi_slt_eq]
  by_cases h : (BitVec.ofNat 32 (i 0).val).toInt < (64#32 : BitVec 32).toInt <;> simp only [h, decide_true, decide_false] <;> decide

theorem cond2_iff (i : grid0.Coords) : k0_cond2 i = 1#1 ↔ ¬ k0_cond1 i = 1#1 := by
  rw [cond1_iff, not_lt]
  unfold k0_cond2
  show IntOp.cmpi .ne (BitVec.setWidth 32 (IntOp.cmpi .sge (BitVec.ofNat 32 (i 0).val) 64#32)) 0#32 = 1#1 ↔ _
  rw [WordCmp.cmpi_sge_eq]
  by_cases h : (64#32 : BitVec 32).toInt ≤ (BitVec.ofNat 32 (i 0).val).toInt <;> simp only [h, decide_true, decide_false] <;> decide

/-- The rows of the `k`-th choice, out of the block that holds the four choices side by side. -/
def choice0 (x0 : Vec F S256x4096 .f32) : Vec F S256x1024 .f32 := View.ld x0 (Rect.unit (s := S256x4096) ![0, 0] S256x1024.size inb_S256x4096_S256x1024_0_0)
def choice1 (x0 : Vec F S256x4096 .f32) : Vec F S256x1024 .f32 := View.ld x0 (Rect.unit (s := S256x4096) ![0, 1024] S256x1024.size inb_S256x4096_S256x1024_0_1024)
def choice2 (x0 : Vec F S256x4096 .f32) : Vec F S256x1024 .f32 := View.ld x0 (Rect.unit (s := S256x4096) ![0, 2048] S256x1024.size inb_S256x4096_S256x1024_0_2048)
def choice3 (x0 : Vec F S256x4096 .f32) : Vec F S256x1024 .f32 := View.ld x0 (Rect.unit (s := S256x4096) ![0, 3072] S256x1024.size inb_S256x4096_S256x1024_0_3072)

/-- What a point stores, from its blocks. -/
def stored (x0 : Vec F S256x4096 .f32) (x1 : Vec F S256x128 .f32) (x2 : Vec F S256x1024 .f32) (x3 x4 : Vec F S1x1024 .f32) : Vec F S256x1024 .f32 :=
  k0_pay1 (k0_pay2 x3) (k0_pay3 x4) (k0_pay4 x1 (choice0 x0) (choice1 x0) (choice2 x0) (choice3 x0) x2)
    (k0_pay5 x1 (choice0 x0) (choice1 x0) (choice2 x0) (choice3 x0) x2)

theorem zeros2 {off : Fin 2 → ℕ} (h : off = ![0, 0]) : off = fun _ => 0 := by
  subst h; funext a; fin_cases a <;> rfl

/-- A load of a whole memref reads what it holds. -/
theorem whole_load {S : Shape} {e : EltTy} {sp : Space} {M : Memref sig .tc sp S e} (hM : M.IsWhole) {off : Fin S.rank → ℕ}
    (h : off = fun _ => 0) (inb : ∀ a, off a + S.size a ≤ S.size a) (x : S.Idx → Elt F e) :
    View.readAt (Elt F) M.view (Rect.unit (s := S) off S.size inb).toLoadRect (hM.unread x) = x := by
  show View.ld (View.read (Elt F) M.view (hM.unread x)) (Rect.unit (s := S) off S.size inb) = x
  rw [hM.read_unread, View.ld_unit_zero h]

/-- A store over a whole memref leaves what it stored. -/
theorem whole_store {S : Shape} {e : EltTy} {sp : Space} (M : Memref sig .tc sp S e) {off : Fin S.rank → ℕ}
    (h : off = fun _ => 0) (inb : ∀ a, off a + S.size a ≤ S.size a) (f : M.view.ty.Contents (Elt F)) (w : S.Idx → Elt F e)
    (L : List (View.Piece (Elt F) S e)) :
    View.read (Elt F) M.view (M.view.writes (Elt F) f (⟨Rect.unit off S.size inb, w⟩ :: L)) = w :=
  funext fun y => View.read_writes_cons_unit_of_mem M.view f inb w L y y h fun a => (Nat.zero_add _).symm

/-- A load of a part of a whole memref reads that part of what it holds. -/
theorem part_load {S : Shape} {e : EltTy} {sp : Space} {M : Memref sig .tc sp S e} (hM : M.IsWhole) (R : Rect S) (x : S.Idx → Elt F e) :
    View.readAt (Elt F) M.view R.toLoadRect (hM.unread x) = View.ld x R := by
  show View.ld (View.read (Elt F) M.view (hM.unread x)) R = View.ld x R
  rw [hM.read_unread]

set_option maxHeartbeats 1000000 in
theorem body_run (c : Dev nD) (i : grid0.Coords) (arg1 : Memref sig .tc .vmem S256x4096 .f32) (harg1 : arg1.IsWhole) (arg2 : Memref sig .tc .vmem S256x128 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole)
    (x0 : Vec F S256x4096 .f32) (x1 : Vec F S256x128 .f32) (x2 : Vec F S256x1024 .f32) (x3 x4 : Vec F S1x1024 .f32) (d5 d6 : Vec F S256x1024 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d5 ∗ owns (c : Thread nD τ) arg7 fullShare d6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (if k0_cond1 i = 1#1 then stored x0 x1 x2 x3 x4 else d5) ∗ owns (c : Thread nD τ) arg7 fullShare (if k0_cond1 i = 1#1 then d6 else stored x0 x1 x2 x3 x4)) -∗ K ⟨⟩))
          ⊢ wp frame (wpE (defs₀ (F := F)) Variants.none c none) E (cc0_combine i arg1 harg1 arg2 harg2 arg3 harg3 arg4 harg4 arg5 harg5 arg6 harg6 arg7 harg7) K := by
  simp only [cc0_combine_eq_skeleton]; unfold cc0_combine_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hf5; obtain rfl := harg7.eq_unread hf6
  sl_exec
  sl_step
  have e0 : body_run.sl.r c arg4 harg4 x3 = k0_pay2 x3 := by
    unfold body_run.sl.r
    rw [whole_load harg4 (zeros2 rfl)]
  have e1 : body_run.sl.r_1 c arg5 harg5 x4 = k0_pay3 x4 := by
    unfold body_run.sl.r_1
    rw [whole_load harg5 (zeros2 rfl)]
  have e2 : body_run.sl.r_2 c arg1 harg1 arg2 harg2 arg3 harg3 x0 x1 x2 = k0_pay4 x1 (choice0 x0) (choice1 x0) (choice2 x0) (choice3 x0) x2 := by
    unfold body_run.sl.r_2 choice0 choice1 choice2 choice3
    rw [whole_load harg2 (zeros2 rfl), whole_load harg3 (zeros2 rfl)]
    simp only [part_load harg1]
  have e3 : body_run.sl.r_3 c arg1 harg1 arg2 harg2 arg3 harg3 x0 x1 x2 = k0_pay5 x1 (choice0 x0) (choice1 x0) (choice2 x0) (choice3 x0) x2 := by
    unfold body_run.sl.r_3 choice0 choice1 choice2 choice3
    rw [whole_load harg2 (zeros2 rfl), whole_load harg3 (zeros2 rfl)]
    simp only [part_load harg1]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [e0, e1, e2, e3]
    by_cases h : k0_cond1 i = 1#1
    · rw [dif_pos h, if_pos h]
      exact whole_store (F := F) (S := S256x1024) arg6 (zeros2 rfl) _ _ _ _
    · rw [dif_neg h, if_neg h]
      exact hf5
  · iexists _; isplitr
    swap; · iexact H6
    ipureintro
    rw [e0, e1, e2, e3]
    by_cases h : k0_cond1 i = 1#1
    · rw [dif_neg (fun h' => (cond2_iff i).1 h' h), if_pos h]
      exact hf6
    · rw [dif_pos ((cond2_iff i).2 h), if_neg h]
      exact whole_store (F := F) (S := S256x1024) arg7 (zeros2 rfl) _ _ _ _

end Cert.Kernel7Ideal.Gen

end
-- ==== Proof.CombineRun.lean ====
/- The combination of the experts' rows, the run: the proof data, the body obligation and the launch. -/
module

public import proofs.«01_k».proof.Proof.CombineBody
public import Idealize.ShloMosaic.Lib.Claim

@[expose] public section

set_option maxRecDepth 16384

noncomputable section

namespace Cert.Kernel7Ideal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid: which result a point stores, and when it is written back -/

theorem cond1_val : ∀ t : Fin cfg0.N, k0_cond1 (cfg0.grid.coords t) = 1#1 ↔ t.val < 64 :=
  (by decide +kernel : ∀ t : Fin grid0.N, k0_cond1 (grid0.coords t) = 1#1 ↔ t.val < 64)
theorem cond2_val : ∀ t : Fin cfg0.N, k0_cond2 (cfg0.grid.coords t) = 1#1 ↔ t.val = 64 :=
  (by decide +kernel : ∀ t : Fin grid0.N, k0_cond2 (grid0.coords t) = 1#1 ↔ t.val = 64)
theorem flush0_5 : ∀ t : Fin cfg0.N, (cfg0.win 5).flush t = true ↔ t.val ≠ 63 :=
  (by decide +kernel : ∀ t : Fin grid0.N, win0_5.flush t = true ↔ t.val ≠ 63)

theorem idle5_of_lt (t : Fin cfg0.N) (h : t.val < 64) : cfg0.idle 5 (cfg0.grid.coords t) = false := by
  show (!(k0_cond1 (cfg0.grid.coords t) == 1#1)) = false
  rw [(cond1_val t).2 h]; rfl
theorem idle5_last (t : Fin cfg0.N) (h : ¬ t.val < 64) : cfg0.idle 5 (cfg0.grid.coords t) = true := by
  show (!(k0_cond1 (cfg0.grid.coords t) == 1#1)) = true
  rw [beq_eq_false_iff_ne.2 (fun e => h ((cond1_val t).1 e))]; rfl
theorem idle6_of_lt (t : Fin cfg0.N) (h : t.val < 64) : cfg0.idle 6 (cfg0.grid.coords t) = true := by
  show (!(k0_cond2 (cfg0.grid.coords t) == 1#1)) = true
  rw [beq_eq_false_iff_ne.2 (fun e => absurd ((cond2_val t).1 e) (Nat.ne_of_lt h))]; rfl
theorem idle6_last (t : Fin cfg0.N) (h : ¬ t.val < 64) : cfg0.idle 6 (cfg0.grid.coords t) = false := by
  have ht : t.val < 65 := t.isLt
  show (!(k0_cond2 (cfg0.grid.coords t) == 1#1)) = false
  rw [(cond2_val t).2 (by omega)]; rfl
theorem flush6_of_lt (t : Fin cfg0.N) (h : t.val < 64) : (cfg0.win 6).flush t = false :=
  Bool.eq_false_iff.2 fun e => by have := (flush0_6 t).1 e; omega

/-- The last point at or before `t` that stores the first result. -/
def upTo (t : Fin cfg0.N) : Fin cfg0.N := ⟨min t.val 63, Nat.lt_of_le_of_lt (Nat.min_le_left _ _) t.isLt⟩
theorem upTo_of_lt (t : Fin cfg0.N) (h : t.val < 64) : upTo t = t := Fin.ext (by show min t.val 63 = t.val; omega)

variable (m : (ℓ : Loc nD τ sig) → Buf (Elt F) ℓ) (ρ : Dev nD → PrngReg)

/-- What the body computes at point `t`. -/
def storedAt (c : Dev nD) (t : Fin cfg0.N) : Vec F S256x1024 .f32 :=
  stored (iblk m c 0 t) (iblk m c 1 t) (iblk m c 2 t) (iblk m c 3 t) (iblk m c 4 t)

/-- The proof data of the one pipeline on core `c`: the arrays as the region finds them; after the body each input's buffer
    at its block, the first result's at what the last of its points stored, the second's at what the point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => storedAt m c (upTo t)
    | ⟨6, _⟩ => storedAt m c t
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = storedAt m c (upTo t) := by dsimp only [dats]
theorem after0_6 (c : Dev nD) (t : Fin cfg0.N) : (dats m 0 c).after 6 t = storedAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The last point finds in the first result's buffer what the point before it stored: it was not written back yet. -/
theorem before0_5_last (c : Dev nD) (t : Fin cfg0.N) (h : ¬ t.val < 64) (d) : (dats m 0 c).before 5 t d = (dats m 0 c).after 5 t := by
  have ht : t.val < 65 := t.isLt
  have e : t.val = 64 := by omega
  rw [(dats m 0 c).before_of_pos 5 t (by omega) ((cfg0.win 5).fetch_out rfl t) d, if_neg (fun hf => (flush0_5 _).1 hf (by show t.val - 1 = 63; omega))]
  unfold Dat.left
  rw [idle5_of_lt ⟨t.val - 1, Nat.lt_of_le_of_lt (Nat.sub_le _ _) t.isLt⟩ (by show t.val - 1 < 64; omega)]
  have e5 : (dats m 0 c).after 5 ⟨t.val - 1, Nat.lt_of_le_of_lt (Nat.sub_le _ _) t.isLt⟩ = (dats m 0 c).after 5 t := by
    rw [after0_5, after0_5]
    exact congrArg (storedAt m c) (Fin.ext (by show min (t.val - 1) 63 = min t.val 63; omega))
  exact e5

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- what it leaves in a result's buffer: where it stores nothing and nothing is written back, what it found; else what the
    proof data says, -/
def leaves5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)
def leaves6 (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ leaves5 m c t ∗ leaves6 m c t)

theorem leaves5_of (c : Dev nD) (t : Fin cfg0.N) (d) :
    owns (c : Thread nD τ) (st0_5 t) fullShare (if k0_cond1 (grid0.coords t) = 1#1 then storedAt m c t else (dats m 0 c).before 5 t d) ⊢ leaves5 m c t := by
  unfold leaves5
  by_cases h : t.val < 64
  · rw [idle5_of_lt t h, if_pos ((cond1_val t).2 h), after0_5, upTo_of_lt t h]
  · rw [idle5_last t h, if_neg (fun e => h ((cond1_val t).1 e)), (flush0_5 t).2 (by omega), before0_5_last m c t h d]

theorem leaves6_of (c : Dev nD) (t : Fin cfg0.N) (d) :
    owns (c : Thread nD τ) (st0_6 t) fullShare (if k0_cond1 (grid0.coords t) = 1#1 then (dats m 0 c).before 6 t d else storedAt m c t) ⊢ leaves6 m c t := by
  unfold leaves6
  by_cases h : t.val < 64
  · rw [idle6_of_lt t h, if_pos ((cond1_val t).2 h), flush6_of_lt t h]
    iintro H
    iexists d
    iexact H
  · rw [idle6_last t h, if_neg (fun e => h ((cond1_val t).1 e)), after0_6]

set_option maxHeartbeats 1000000 in
/-- The body at any point: the inputs' memrefs hold their blocks, so the run applies; the invariant and what the core owes
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m c 0 t) (iblk m c 1 t) (iblk m c 2 t) (iblk m c 3 t) (iblk m c 4 t) ((dats m 0 c).before 5 t d5) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (leaves5_of m c t d5)
    iexact H5
  · iapply (leaves6_of m c t d6)
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments are found by unifying the conclusion with this one, which takes unfolding plain definitions in a
-- metavariable's type
set_option backward.isDefEq.respectTransparency.types false in
set_option maxHeartbeats 800000 in
/-- The launch: what `run_main` says, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_main_quiescent m ρ))

end Cert.Kernel7Ideal.Gen

end
-- ==== Proof.CombineMath.lean ====
/- The combination of the experts' rows, row by row: what a point of the grid stores, and the reference's terms. -/
module

public import proofs.«01_k».proof.Proof.CombineRun
public import proofs.«01_k».proof.Proof.Gen.Reference7Ideal.Run
public import Idealize.ShloMosaic.Lib.Pipeline.ValueKit.Geometry
public import Idealize.ShloMosaic.Lib.Pointwise

@[expose] public section

set_option maxRecDepth 16384

noncomputable section

namespace Cert.Proof.Combine

open Idealize.ShloMosaic Idealize.ShloMosaic.TcCoe

/-! ## One row -/

/-- The residual: the scaled row, and the four choices' rows each weighed by its gate. -/
def preRow (y : Fin 4 → Fin 1024 → EReal) (g : Fin 4 → EReal) (h : Fin 1024 → EReal) (f : Fin 1024) : EReal :=
  Ideal.ofBits .f32 0x3F9837F0#32 * h f + ∑ k, y k f * g k

/-- A row less its mean. -/
def cenRow (p : Fin 1024 → EReal) (f : Fin 1024) : EReal := p f - Ideal.div (∑ k, p k) (Ideal.ofBits .f32 0x44800000#32)

/-- The norm of a centred row. -/
def lnRow (d g b : Fin 1024 → EReal) (f : Fin 1024) : EReal :=
  d f * Ideal.rsqrt (Ideal.div (∑ k, d k * d k) (Ideal.ofBits .f32 0x44800000#32) + Ideal.ofBits .f32 0x3727C5AC#32) * g f + b f

/-- The result's row. -/
def outRow (y : Fin 4 → Fin 1024 → EReal) (g : Fin 4 → EReal) (h lg lb : Fin 1024 → EReal) (f : Fin 1024) : EReal :=
  lnRow (cenRow (preRow y g h)) lg lb f

/-! ## What a point of the grid stores -/

section Kernel
open Cert.Kernel7Ideal Cert.Kernel7Ideal.Gen

theorem choice0_apply (x : Vec Ideal S256x4096 .f32) (r : Fin 256) (f : Fin 1024) : choice0 x (ix2 r f) = x (ix2 r ⟨f.val, by omega⟩) := by
  pointwise [choice0]
theorem choice1_apply (x : Vec Ideal S256x4096 .f32) (r : Fin 256) (f : Fin 1024) : choice1 x (ix2 r f) = x (ix2 r ⟨1024 + f.val, by omega⟩) := by
  pointwise [choice1]
theorem choice2_apply (x : Vec Ideal S256x4096 .f32) (r : Fin 256) (f : Fin 1024) : choice2 x (ix2 r f) = x (ix2 r ⟨2048 + f.val, by omega⟩) := by
  pointwise [choice2]
theorem choice3_apply (x : Vec Ideal S256x4096 .f32) (r : Fin 256) (f : Fin 1024) : choice3 x (ix2 r f) = x (ix2 r ⟨3072 + f.val, by omega⟩) := by
  pointwise [choice3]

/-- The rows of the four choices by their number. -/
def rows4 (y0 y1 y2 y3 : Fin 1024 → EReal) (k : Fin 4) : Fin 1024 → EReal := ![y0, y1, y2, y3] k

theorem pay4_apply (v0 : Vec Ideal S256x128 .f32) (v2 v7 v13 v19 v24 : Vec Ideal S256x1024 .f32) (r : Fin 256) (f : Fin 1024) :
    k0_pay4 v0 v2 v7 v13 v19 v24 (ix2 r f)
      = cenRow (preRow (rows4 (fun x => v2 (ix2 r x)) (fun x => v7 (ix2 r x)) (fun x => v13 (ix2 r x)) (fun x => v19 (ix2 r x))) (fun k => v0 (ix2 r ⟨k.val, by omega⟩))
          (fun x => v24 (ix2 r x))) f := by
  pointwise [k0_pay4]
  unfold cenRow preRow
  simp only [Fin.sum_univ_four, mul_comm (v0 (ix2 r 0)), mul_comm (v0 (ix2 r 1)), mul_comm (v0 (ix2 r 2)), mul_comm (v0 (ix2 r 3))]
  rfl

theorem pay1_apply (v29 v31 : FVec Ideal S1x1024 .f32) (d : FVec Ideal S256x1024 .f32) (r : Fin 256) (f : Fin 1024) :
    k0_pay1 (k0_pay2 v29) (k0_pay3 v31) d (mulf d d) (ix2 r f) = lnRow (fun k => d (ix2 r k)) (fun k => v29 (ix2 0 k)) (fun k => v31 (ix2 0 k)) f := by
  pointwise [k0_pay1, k0_pay2, k0_pay3]
  rfl

end Kernel

/-! ## The reference's terms -/

section Reference
open Cert.Reference7Ideal Cert.Reference7Ideal.Gen

def refPre (y : FVec Ideal S66560x1024 .f32) (g : FVec Ideal S16640x128 .f32) (h : FVec Ideal S16640x1024 .f32) : FVec Ideal S16640x1024 .f32 :=
  (addf (mulf (broadcastInDim S16640x1024 ![] bcast_S_S16640x1024 (constant S_ .f32 0x3F9837F0#32)) h) (Host.reduceAdd (mulf (shapeCast _ y shapeCasts_S66560x1024_S16640x4x1024) (broadcastInDim S16640x4x1024 ![0, 1, 2] bcast_S16640x4x1_S16640x4x1024_0_1_2 (broadcastInDim S16640x4x1 ![0, 1] bcast_S16640x4_S16640x4x1_0_1 (extractStridedSlice S16640x4 ![0, 0] g slices_S16640x128_S16640x4_0_0)))) (constant S_ .f32 0x00000000#32) reducesTo_S16640x4x1024_S16640x1024_d1 h_S_))

def refCen (p : FVec Ideal S16640x1024 .f32) : FVec Ideal S16640x1024 .f32 :=
  (subf p (broadcastInDim S16640x1024 ![0, 1] bcast_S16640x1_S16640x1024_0_1 (Host.divf (broadcastInDim S16640x1 ![0] bcast_S16640_S16640x1_0 (Host.reduceAdd p (constant S_ .f32 0x00000000#32) reducesTo_S16640x1024_S16640_d1 h_S_)) (broadcastInDim S16640x1 ![] bcast_S_S16640x1 (constant S_ .f32 0x44800000#32)))))

def refLn (d : FVec Ideal S16640x1024 .f32) (g b : FVec Ideal S1x1024 .f32) : FVec Ideal S16640x1024 .f32 :=
  addf (mulf (mulf d (broadcastInDim S16640x1024 ![0, 1] bcast_S16640x1_S16640x1024_0_1 (Host.rsqrt (addf (Host.divf (broadcastInDim S16640x1 ![0] bcast_S16640_S16640x1_0 (Host.reduceAdd (mulf d d) (constant S_ .f32 0x00000000#32) reducesTo_S16640x1024_S16640_d1 h_S_)) (broadcastInDim S16640x1 ![] bcast_S_S16640x1 (constant S_ .f32 0x44800000#32))) (broadcastInDim S16640x1 ![] bcast_S_S16640x1 (constant S_ .f32 0x3727C5AC#32)))))) (broadcastInDim S16640x1024 ![0, 1] bcast_S1x1024_S16640x1024_0_1 (broadcastInDim S1x1024 ![1] bcast_S1024_S1x1024_1 (shapeCast S1024 g shapeCasts_S1x1024_S1024)))) (broadcastInDim S16640x1024 ![0, 1] bcast_S1x1024_S16640x1024_0_1 (broadcastInDim S1x1024 ![1] bcast_S1024_S1x1024_1 (shapeCast S1024 b shapeCasts_S1x1024_S1024)))

theorem refPre_apply (y : FVec Ideal S66560x1024 .f32) (g : FVec Ideal S16640x128 .f32) (h : FVec Ideal S16640x1024 .f32) (j : Fin 16640) (f : Fin 1024) :
    refPre y g h (ix2 j f) = preRow (fun k f => y (ix2 ⟨j.val * 4 + k.val, by omega⟩ f)) (fun k => g (ix2 j ⟨k.val, by omega⟩)) (fun f => h (ix2 j f)) f := by
  pointwise [refPre]
  rfl

theorem refCen_apply (p : FVec Ideal S16640x1024 .f32) (r : Fin 16640) (f : Fin 1024) :
    refCen p (ix2 r f) = cenRow (fun k => p (ix2 r k)) f := by
  pointwise [refCen]
  rfl

theorem refLn_apply (d : FVec Ideal S16640x1024 .f32) (g b : FVec Ideal S1x1024 .f32) (r : Fin 16640) (f : Fin 1024) :
    refLn d g b (ix2 r f) = lnRow (fun k => d (ix2 r k)) (fun k => g (ix2 0 k)) (fun k => b (ix2 0 k)) f := by
  pointwise [refLn]
  rfl

/-- The norm over all the rows. -/
def refOut (y : FVec Ideal S66560x1024 .f32) (g : FVec Ideal S16640x128 .f32) (h : FVec Ideal S16640x1024 .f32) (lg lb : FVec Ideal S1x1024 .f32) : FVec Ideal S16640x1024 .f32 :=
  refLn (refCen (refPre y g h)) lg lb

theorem refOut_apply (y : FVec Ideal S66560x1024 .f32) (g : FVec Ideal S16640x128 .f32) (h : FVec Ideal S16640x1024 .f32) (lg lb : FVec Ideal S1x1024 .f32) (j : Fin 16640) (f : Fin 1024) :
    refOut y g h lg lb (ix2 j f)
      = outRow (fun k f => y (ix2 ⟨j.val * 4 + k.val, by omega⟩ f)) (fun k => g (ix2 j ⟨k.val, by omega⟩)) (fun f => h (ix2 j f)) (fun k => lg (ix2 0 k)) (fun k => lb (ix2 0 k)) f := by
  unfold refOut
  rw [refLn_apply]
  simp only [refCen_apply, refPre_apply]
  rfl

/-- Its first rows are the prompt's, the others the sample's. -/
def refPrompt (o : FVec Ideal S16640x1024 .f32) : FVec Ideal S16384x1024 .f32 := extractStridedSlice S16384x1024 ![0, 0] o slices_S16640x1024_S16384x1024_0_0
def refSample (o : FVec Ideal S16640x1024 .f32) : FVec Ideal S256x1024 .f32 := extractStridedSlice S256x1024 ![16384, 0] o slices_S16640x1024_S256x1024_16384_0

theorem refPrompt_apply (o : FVec Ideal S16640x1024 .f32) (j : Fin 16384) (f : Fin 1024) : refPrompt o (ix2 j f) = o (ix2 ⟨j.val, by omega⟩ f) := by
  pointwise [refPrompt]
theorem refSample_apply (o : FVec Ideal S16640x1024 .f32) (j : Fin 256) (f : Fin 1024) : refSample o (ix2 j f) = o (ix2 ⟨16384 + j.val, by omega⟩ f) := by
  pointwise [refSample]

set_option maxHeartbeats 4000000 in
theorem res0_eq (m : (ℓ : Loc nD τ sig) → Buf (Elt Ideal) ℓ) (c : Dev nD) :
    (Cert.Reference7Ideal.Value.res_main_v35 m c : FVec Ideal S16384x1024 .f32) = refPrompt (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  unfold Cert.Reference7Ideal.Value.res_main_v35 refPrompt refOut refLn refCen refPre
  rfl

set_option maxHeartbeats 4000000 in
theorem res1_eq (m : (ℓ : Loc nD τ sig) → Buf (Elt Ideal) ℓ) (c : Dev nD) :
    (Cert.Reference7Ideal.Value.res_main_v36 m c : FVec Ideal S256x1024 .f32) = refSample (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  unfold Cert.Reference7Ideal.Value.res_main_v36 refSample refOut refLn refCen refPre
  rfl

end Reference

end Cert.Proof.Combine
end
-- ==== Proof.Combine.lean ====
/- The combination of the experts' rows: the kernel's blocks and its two results, and the claims. -/
module

public import proofs.«01_k».proof.Defs
public import proofs.«01_k».proof.Proof.CombineMath
public import proofs.«01_k».proof.Proof.Gen.Kernel7
public import proofs.«01_k».proof.Proof.Gen.Kernel7Ideal
public import proofs.«01_k».proof.Proof.Gen.Reference7Ideal

@[expose] public section

set_option maxRecDepth 16384

noncomputable section

namespace Cert.Kernel7Ideal.Gen

open Idealize.ShloMosaic Idealize.ShloMosaic.TcCoe Idealize.SL.Sem
open Cert.Proof.Combine

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![min t.val 63, 0] := (by decide +kernel : ∀ t : Fin grid0.N, win0_5.index t = ![min t.val 63, 0])
theorem index6 : ∀ t : Fin cfg0.N, win0_6.index t = ![0, 0] := (by decide +kernel : ∀ t : Fin grid0.N, win0_6.index t = ![0, 0])

section Blocks

variable (t : Fin cfg0.N)

theorem blk0_read (X : FVec Ideal S16640x4096 .f32) (r : Fin 256) (k : Fin 4096) (j : Fin 16640) (hj : j.val = 256 * t.val + r.val) :
    ((cfg0.win 0).blk t).view.read (Elt Ideal) X (ix2 r k) = X (ix2 j k) := by
  refine congrArg X (funext fun x => Fin.ext ?_)
  refine ((cfg0.win 0).rect_emb_val t (ix2 r k) x rfl).trans ?_
  have i0 : (cfg0.win 0).index t = ![t.val, 0] := index0 t
  rw [i0]
  match x with
  | ⟨0, _⟩ => show t.val * 256 + r.val = j.val; omega
  | ⟨1, _⟩ => show 0 * 4096 + k.val = k.val; omega

theorem blk1_read (X : FVec Ideal S16640x128 .f32) (r : Fin 256) (k : Fin 128) (j : Fin 16640) (hj : j.val = 256 * t.val + r.val) :
    ((cfg0.win 1).blk t).view.read (Elt Ideal) X (ix2 r k) = X (ix2 j k) := by
  refine congrArg X (funext fun x => Fin.ext ?_)
  refine ((cfg0.win 1).rect_emb_val t (ix2 r k) x rfl).trans ?_
  have i0 : (cfg0.win 1).index t = ![t.val, 0] := index1 t
  rw [i0]
  match x with
  | ⟨0, _⟩ => show t.val * 256 + r.val = j.val; omega
  | ⟨1, _⟩ => show 0 * 128 + k.val = k.val; omega

theorem blk2_read (X : FVec Ideal S16640x1024 .f32) (r : Fin 256) (k : Fin 1024) (j : Fin 16640) (hj : j.val = 256 * t.val + r.val) :
    ((cfg0.win 2).blk t).view.read (Elt Ideal) X (ix2 r k) = X (ix2 j k) := by
  refine congrArg X (funext fun x => Fin.ext ?_)
  refine ((cfg0.win 2).rect_emb_val t (ix2 r k) x rfl).trans ?_
  have i0 : (cfg0.win 2).index t = ![t.val, 0] := index2 t
  rw [i0]
  match x with
  | ⟨0, _⟩ => show t.val * 256 + r.val = j.val; omega
  | ⟨1, _⟩ => show 0 * 1024 + k.val = k.val; omega

theorem blk3_read (X : FVec Ideal S1x1024 .f32) (k : Fin 1) (f : Fin 1024) :
    ((cfg0.win 3).blk t).view.read (Elt Ideal) X (ix2 k f) = X (ix2 k f) := by
  refine congrArg X (funext fun x => Fin.ext ?_)
  refine ((cfg0.win 3).rect_emb_val t (ix2 k f) x rfl).trans ?_
  have i0 : (cfg0.win 3).index t = ![0, 0] := index3 t
  rw [i0]
  match x with
  | ⟨0, _⟩ => show 0 * 1 + k.val = k.val; omega
  | ⟨1, _⟩ => show 0 * 1024 + f.val = f.val; omega

theorem blk4_read (X : FVec Ideal S1x1024 .f32) (k : Fin 1) (f : Fin 1024) :
    ((cfg0.win 4).blk t).view.read (Elt Ideal) X (ix2 k f) = X (ix2 k f) := by
  refine congrArg X (funext fun x => Fin.ext ?_)
  refine ((cfg0.win 4).rect_emb_val t (ix2 k f) x rfl).trans ?_
  have i0 : (cfg0.win 4).index t = ![0, 0] := index4 t
  rw [i0]
  match x with
  | ⟨0, _⟩ => show 0 * 1 + k.val = k.val; omega
  | ⟨1, _⟩ => show 0 * 1024 + f.val = f.val; omega

theorem blk5_emb (r : Fin 256) (f : Fin 1024) (j : Fin 16384) (hj : j.val = 256 * (upTo t).val + r.val) :
    ((cfg0.win 5).blk t).view.emb (ix2 r f) = (ix2 j f : S16384x1024.Idx) := by
  refine funext fun x => Fin.ext ?_
  refine ((cfg0.win 5).rect_emb_val t (ix2 r f) x rfl).trans ?_
  have i0 : (cfg0.win 5).index t = ![(upTo t).val, 0] := index5 t
  rw [i0]
  match x with
  | ⟨0, _⟩ => show (upTo t).val * 256 + r.val = j.val; omega
  | ⟨1, _⟩ => show 0 * 1024 + f.val = f.val; omega

theorem blk6_emb (r : Fin 256) (f : Fin 1024) :
    ((cfg0.win 6).blk t).view.emb (ix2 r f) = (ix2 r f : S256x1024.Idx) := by
  refine funext fun x => Fin.ext ?_
  refine ((cfg0.win 6).rect_emb_val t (ix2 r f) x rfl).trans ?_
  have i0 : (cfg0.win 6).index t = ![0, 0] := index6 t
  rw [i0]
  match x with
  | ⟨0, _⟩ => show 0 * 256 + r.val = r.val; omega
  | ⟨1, _⟩ => show 0 * 1024 + f.val = f.val; omega

end Blocks

/-- An index of a matrix is its row and its column. -/
theorem ix2_eta {n k : Nat} (y : (⟨2, ![n, k]⟩ : Shape).Idx) : ∃ (r : Fin n) (f : Fin k), y = ix2 r f :=
  ⟨⟨(y 0).val, (y 0).isLt⟩, ⟨(y 1).val, (y 1).isLt⟩, funext fun x => match x with
    | ⟨0, _⟩ => rfl
    | ⟨1, _⟩ => rfl⟩

/-- The first result's blocks, each written back once, hold every element of it. -/
theorem rows_cover (E : Fin cfg0.N → (S256x1024.Idx ↪ S16384x1024.Idx))
    (hE : ∀ (t : Fin cfg0.N) (r : Fin 256) (f : Fin 1024) (j : Fin 16384), j.val = 256 * (upTo t).val + r.val → E t (ix2 r f) = ix2 j f)
    (i : S16384x1024.Idx) : ∃ t : Fin cfg0.N, t.val ≠ 63 ∧ i ∈ Finset.univ.map (E t) := by
  obtain ⟨j, f, rfl⟩ : ∃ (j : Fin 16384) (f : Fin 1024), i = ix2 j f := ix2_eta i
  have hj : j.val < 16384 := j.isLt
  have hm : j.val % 256 < 256 := Nat.mod_lt _ (by decide)
  by_cases h : j.val / 256 < 63
  · have ht : j.val / 256 < 65 := by omega
    exact ⟨⟨j.val / 256, ht⟩, by show j.val / 256 ≠ 63; omega, Finset.mem_map.2 ⟨ix2 ⟨j.val % 256, hm⟩ f, Finset.mem_univ _,
      hE _ _ f j (by show j.val = 256 * min (j.val / 256) 63 + j.val % 256; omega)⟩⟩
  · have ht : 64 < 65 := by decide
    exact ⟨⟨64, ht⟩, by show 64 ≠ 63; decide, Finset.mem_map.2 ⟨ix2 ⟨j.val % 256, hm⟩ f, Finset.mem_univ _,
      hE _ _ f j (by show j.val = 256 * min 64 63 + j.val % 256; omega)⟩⟩

/-! ## What the region finds -/

variable (m : (ℓ : Loc nD τ sig) → Buf (Elt Ideal) ℓ) (c : Dev nD)

/-- The four choices' rows of a token side by side. -/
def sideBySide (y : FVec Ideal S66560x1024 .f32) : FVec Ideal S16640x4096 .f32 := shapeCast S16640x4096 y shapeCasts_S66560x1024_S16640x4096

theorem side0 (y : FVec Ideal S66560x1024 .f32) (j : Fin 16640) (f : Fin 1024) : sideBySide y (ix2 j ⟨f.val, by omega⟩) = y (ix2 ⟨j.val * 4 + (0 : Fin 4).val, by omega⟩ f) := by
  pointwise [sideBySide]
  exact congrArg y (congrArg₂ ix2 (Fin.ext (by show j.val * 4 + f.val / 1024 = j.val * 4 + 0; omega)) (Fin.ext (by show f.val % 1024 = f.val; omega)))
theorem side1 (y : FVec Ideal S66560x1024 .f32) (j : Fin 16640) (f : Fin 1024) : sideBySide y (ix2 j ⟨1024 + f.val, by omega⟩) = y (ix2 ⟨j.val * 4 + (1 : Fin 4).val, by omega⟩ f) := by
  pointwise [sideBySide]
  exact congrArg y (congrArg₂ ix2 (Fin.ext (by show j.val * 4 + (1024 + f.val) / 1024 = j.val * 4 + 1; omega)) (rfl))
theorem side2 (y : FVec Ideal S66560x1024 .f32) (j : Fin 16640) (f : Fin 1024) : sideBySide y (ix2 j ⟨2048 + f.val, by omega⟩) = y (ix2 ⟨j.val * 4 + (2 : Fin 4).val, by omega⟩ f) := by
  pointwise [sideBySide]
  exact congrArg y (congrArg₂ ix2 (Fin.ext (by show j.val * 4 + (2048 + f.val) / 1024 = j.val * 4 + 2; omega)) (rfl))
theorem side3 (y : FVec Ideal S66560x1024 .f32) (j : Fin 16640) (f : Fin 1024) : sideBySide y (ix2 j ⟨3072 + f.val, by omega⟩) = y (ix2 ⟨j.val * 4 + (3 : Fin 4).val, by omega⟩ f) := by
  pointwise [sideBySide]
  exact congrArg y (congrArg₂ ix2 (Fin.ext (by show j.val * 4 + (3072 + f.val) / 1024 = j.val * 4 + 3; omega)) (rfl))

/-- A weight's row, through the host's two reshapes. -/
def rowOf (g : FVec Ideal S1x1024 .f32) : FVec Ideal S1x1024 .f32 :=
  shapeCast S1x1024 (shapeCast S1024 g shapeCasts_S1x1024_S1024 : FVec Ideal S1024 .f32) shapeCasts_S1024_S1x1024

theorem rowOf_apply (g : FVec Ideal S1x1024 .f32) (f : Fin 1024) : rowOf g (ix2 0 f) = g (ix2 0 f) := by
  pointwise [rowOf]

theorem V_v0 : V m c main_v0 = sideBySide (m ((c : Thread nD τ).loc main_arg0)) := by
  dsimp only [V, hostOps0]
  after_results <;> rfl

theorem V_v2 : V m c main_v2 = rowOf (m ((c : Thread nD τ).loc main_arg3)) := by
  dsimp only [V, hostOps0]
  after_results <;> rfl

theorem V_v4 : V m c main_v4 = rowOf (m ((c : Thread nD τ).loc main_arg4)) := by
  dsimp only [V, hostOps0]
  after_results <;> rfl

theorem rd0 (t : Fin cfg0.N) (r : Fin 256) (k : Fin 4096) (j : Fin 16640) (hj : j.val = 256 * t.val + r.val) :
    (iblk m c 0 t : FVec Ideal S256x4096 .f32) (ix2 r k) = sideBySide (m ((c : Thread nD τ).loc main_arg0)) (ix2 j k) :=
  (blk0_read t (V m c main_v0) r k j hj).trans (congrFun (V_v0 m c) (ix2 j k))

theorem rd1 (t : Fin cfg0.N) (r : Fin 256) (k : Fin 128) (j : Fin 16640) (hj : j.val = 256 * t.val + r.val) :
    (iblk m c 1 t : FVec Ideal S256x128 .f32) (ix2 r k) = ((m ((c : Thread nD τ).loc main_arg1)) : FVec Ideal S16640x128 .f32) (ix2 j k) :=
  (blk1_read t (V m c main_arg1) r k j hj).trans (congrFun (V_main_arg1 m c) (ix2 j k))

theorem rd2 (t : Fin cfg0.N) (r : Fin 256) (k : Fin 1024) (j : Fin 16640) (hj : j.val = 256 * t.val + r.val) :
    (iblk m c 2 t : FVec Ideal S256x1024 .f32) (ix2 r k) = ((m ((c : Thread nD τ).loc main_arg2)) : FVec Ideal S16640x1024 .f32) (ix2 j k) :=
  (blk2_read t (V m c main_arg2) r k j hj).trans (congrFun (V_main_arg2 m c) (ix2 j k))

theorem rd3 (t : Fin cfg0.N) (f : Fin 1024) :
    (iblk m c 3 t : FVec Ideal S1x1024 .f32) (ix2 0 f) = ((m ((c : Thread nD τ).loc main_arg3)) : FVec Ideal S1x1024 .f32) (ix2 0 f) :=
  (blk3_read t (V m c main_v2) 0 f).trans ((congrFun (V_v2 m c) (ix2 0 f)).trans (rowOf_apply _ f))

theorem rd4 (t : Fin cfg0.N) (f : Fin 1024) :
    (iblk m c 4 t : FVec Ideal S1x1024 .f32) (ix2 0 f) = ((m ((c : Thread nD τ).loc main_arg4)) : FVec Ideal S1x1024 .f32) (ix2 0 f) :=
  (blk4_read t (V m c main_v4) 0 f).trans ((congrFun (V_v4 m c) (ix2 0 f)).trans (rowOf_apply _ f))

/-! ## The results -/

/-- A row of what a point stores, from the rows of its blocks. -/
theorem stored_row (x0 : Vec Ideal S256x4096 .f32) (x1 : Vec Ideal S256x128 .f32) (x2 : Vec Ideal S256x1024 .f32) (x3 x4 : Vec Ideal S1x1024 .f32)
    (y : FVec Ideal S66560x1024 .f32) (g : FVec Ideal S16640x128 .f32) (h : FVec Ideal S16640x1024 .f32) (lg lb : FVec Ideal S1x1024 .f32) (r : Fin 256) (j : Fin 16640)
    (h0 : ∀ k, x0 (ix2 r k) = sideBySide y (ix2 j k)) (h1 : ∀ k, x1 (ix2 r k) = g (ix2 j k)) (h2 : ∀ k, x2 (ix2 r k) = h (ix2 j k))
    (h3 : ∀ k, x3 (ix2 0 k) = lg (ix2 0 k)) (h4 : ∀ k, x4 (ix2 0 k) = lb (ix2 0 k)) (f : Fin 1024) :
    stored x0 x1 x2 x3 x4 (ix2 r f) = refOut y g h lg lb (ix2 j f) := by
  have hy : rows4 (fun x => choice0 x0 (ix2 r x)) (fun x => choice1 x0 (ix2 r x)) (fun x => choice2 x0 (ix2 r x)) (fun x => choice3 x0 (ix2 r x))
      = fun k f => y (ix2 ⟨j.val * 4 + k.val, by omega⟩ f) := by
    funext k f
    match k with
    | ⟨0, _⟩ => exact (choice0_apply x0 r f).trans ((h0 _).trans (side0 y j f))
    | ⟨1, _⟩ => exact (choice1_apply x0 r f).trans ((h0 _).trans (side1 y j f))
    | ⟨2, _⟩ => exact (choice2_apply x0 r f).trans ((h0 _).trans (side2 y j f))
    | ⟨3, _⟩ => exact (choice3_apply x0 r f).trans ((h0 _).trans (side3 y j f))
  rw [refOut_apply]
  refine (pay1_apply x3 x4 _ r f).trans ?_
  simp only [pay4_apply, hy, h1, h2, h3, h4]
  rfl

theorem storedAt_row (t : Fin cfg0.N) (r : Fin 256) (f : Fin 1024) (j : Fin 16640) (hj : j.val = 256 * t.val + r.val) :
    storedAt m c t (ix2 r f) = (refOut (m ((c : Thread nD τ).loc main_arg0)) (m ((c : Thread nD τ).loc main_arg1)) (m ((c : Thread nD τ).loc main_arg2)) (m ((c : Thread nD τ).loc main_arg3)) (m ((c : Thread nD τ).loc main_arg4)) : S16640x1024.Idx → EReal) (ix2 j f) :=
  stored_row _ _ _ _ _ _ _ _ _ _ r j (fun k => rd0 m c t r k j hj) (fun k => rd1 m c t r k j hj) (fun k => rd2 m c t r k j hj) (rd3 m c t) (rd4 m c t) f

theorem out5_eq : (dats m 0 c).arrAt 5 cfg0.N = (refPrompt (refOut (m ((c : Thread nD τ).loc main_arg0)) (m ((c : Thread nD τ).loc main_arg1)) (m ((c : Thread nD τ).loc main_arg2)) (m ((c : Thread nD τ).loc main_arg3)) (m ((c : Thread nD τ).loc main_arg4))) : S16384x1024.Idx → EReal) := by
  have key : ∀ (t : Fin cfg0.N) (y : S256x1024.Idx), storedAt m c (upTo t) y = (refPrompt (refOut (m ((c : Thread nD τ).loc main_arg0)) (m ((c : Thread nD τ).loc main_arg1)) (m ((c : Thread nD τ).loc main_arg2)) (m ((c : Thread nD τ).loc main_arg3)) (m ((c : Thread nD τ).loc main_arg4))) : S16384x1024.Idx → EReal) (((cfg0.win 5).blk t).view.emb y) := by
    intro t y
    obtain ⟨r, f, rfl⟩ : ∃ (r : Fin 256) (f : Fin 1024), y = ix2 r f := ix2_eta y
    have hr : r.val < 256 := r.isLt
    have hu : (upTo t).val ≤ 63 := Nat.min_le_right _ _
    have hj : 256 * (upTo t).val + r.val < 16384 := by omega
    exact (storedAt_row m c (upTo t) r f ⟨256 * (upTo t).val + r.val, by omega⟩ rfl).trans
      ((refPrompt_apply _ ⟨256 * (upTo t).val + r.val, hj⟩ f).symm.trans (congrArg (refPrompt (refOut (m ((c : Thread nD τ).loc main_arg0)) (m ((c : Thread nD τ).loc main_arg1)) (m ((c : Thread nD τ).loc main_arg2)) (m ((c : Thread nD τ).loc main_arg3)) (m ((c : Thread nD τ).loc main_arg4)))) (blk5_emb t r f ⟨256 * (upTo t).val + r.val, hj⟩ rfl).symm))
  generalize (refPrompt (refOut (m ((c : Thread nD τ).loc main_arg0)) (m ((c : Thread nD τ).loc main_arg1)) (m ((c : Thread nD τ).loc main_arg2)) (m ((c : Thread nD τ).loc main_arg3)) (m ((c : Thread nD τ).loc main_arg4))) : S16384x1024.Idx → EReal) = G at key ⊢
  refine (dats m 0 c).arrAt_eq_of_emb 5 G (fun t _ y => ?_) (fun i => (rows_cover (fun t => ((cfg0.win 5).blk t).view.emb) blk5_emb i).imp fun t h => ⟨(flush0_5 t).2 h.1, h.2⟩)
  rw [after0_5]
  have k := key t y
  generalize storedAt m c (upTo t) = o at k ⊢
  exact k

theorem out6_eq : (dats m 0 c).arrAt 6 cfg0.N = (refSample (refOut (m ((c : Thread nD τ).loc main_arg0)) (m ((c : Thread nD τ).loc main_arg1)) (m ((c : Thread nD τ).loc main_arg2)) (m ((c : Thread nD τ).loc main_arg3)) (m ((c : Thread nD τ).loc main_arg4))) : S256x1024.Idx → EReal) := by
  have key : ∀ (t : Fin cfg0.N) (y : S256x1024.Idx), t.val = 64 → storedAt m c t y = (refSample (refOut (m ((c : Thread nD τ).loc main_arg0)) (m ((c : Thread nD τ).loc main_arg1)) (m ((c : Thread nD τ).loc main_arg2)) (m ((c : Thread nD τ).loc main_arg3)) (m ((c : Thread nD τ).loc main_arg4))) : S256x1024.Idx → EReal) (((cfg0.win 6).blk t).view.emb y) := by
    intro t y ht
    obtain ⟨r, f, rfl⟩ : ∃ (r : Fin 256) (f : Fin 1024), y = ix2 r f := ix2_eta y
    have hr : r.val < 256 := r.isLt
    exact (storedAt_row m c t r f ⟨16384 + r.val, by omega⟩ (by show 16384 + r.val = 256 * t.val + r.val; omega)).trans
      ((refSample_apply _ r f).symm.trans (congrArg (refSample (refOut (m ((c : Thread nD τ).loc main_arg0)) (m ((c : Thread nD τ).loc main_arg1)) (m ((c : Thread nD τ).loc main_arg2)) (m ((c : Thread nD τ).loc main_arg3)) (m ((c : Thread nD τ).loc main_arg4)))) (blk6_emb t r f).symm))
  generalize (refSample (refOut (m ((c : Thread nD τ).loc main_arg0)) (m ((c : Thread nD τ).loc main_arg1)) (m ((c : Thread nD τ).loc main_arg2)) (m ((c : Thread nD τ).loc main_arg3)) (m ((c : Thread nD τ).loc main_arg4))) : S256x1024.Idx → EReal) = G at key ⊢
  have h64 : 64 < 65 := by decide
  refine (dats m 0 c).arrAt_eq_of_emb 6 G (fun t hf y => ?_) (fun i => ⟨⟨64, h64⟩, (flush0_6 ⟨64, h64⟩).2 rfl, ?_⟩)
  · rw [after0_6]
    have ht : t.val < 65 := t.isLt
    have hm := (flush0_6 t).1 hf
    have k := key t y (by omega)
    generalize storedAt m c t = o at k ⊢
    exact k
  · obtain ⟨r, f, rfl⟩ : ∃ (r : Fin 256) (f : Fin 1024), i = ix2 r f := ix2_eta i
    exact Finset.mem_map.2 ⟨ix2 r f, Finset.mem_univ _, blk6_emb _ r f⟩

/-- The kernel's results are the reference's terms, and its arguments are kept. -/
theorem run_val (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5_0) = refPrompt (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v5_1) = refSample (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun _ h c => ⟨((h.1 c).1 5).trans (out5_eq m c), ((h.1 c).1 6).trans (out6_eq m c), h.2.1 c⟩)
    (θ_run_and (run_main m g) (frame (F := Ideal) m g))

end Cert.Kernel7Ideal.Gen

namespace Cert.Proof.Combine

open Idealize.ShloMosaic Idealize.ShloMosaic.TcCoe Idealize.SL.Sem

/-- The frame at the machine's words, of the program read for the extended reals. -/
def FrameBits : Prop := ∀ (m : (ℓ : Loc Cert.Kernel7Ideal.nD Cert.Kernel7Ideal.τ Cert.Kernel7Ideal.sig) → Buf (Elt Bits) ℓ) (g : Dev Cert.Kernel7Ideal.nD → PrngReg),
    True → θ_run (Cert.Kernel7Ideal.defs (F := Bits)) (onTc (τ := Cert.Kernel7Ideal.τ) (Cert.Kernel7Ideal.main (F := Bits))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0) ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1) ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2) ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3) ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)) ∧ r.2.sem = fun _ => 0)

theorem frame_bits : FrameBits := fun m g _ => Cert.Kernel7Ideal.Gen.frame (F := Bits) m g

/-- The two printed programs are the same text, so the two statements are one. -/
theorem frame_same : FrameBits = Cert.quiescent_Kernel7 := by sl_kernel_rfl
theorem frame_kernel : Cert.quiescent_Kernel7 := frame_same ▸ frame_bits
theorem frame_kernel_ideal : Cert.quiescent_Kernel7Ideal := fun m g _ => Cert.Kernel7Ideal.Gen.frame (F := Ideal) m g
theorem frame_reference_ideal : Cert.quiescent_Reference7Ideal := fun m g _ =>
  (θ_run Cert.Reference7Ideal.defs _ _).mono (fun _ h => ⟨fun c => (h c).2.2, sem_eq_zero_of_no_sems (by decide) _⟩) (Cert.Reference7Ideal.Value.run m g)

theorem algebraic : Cert.algebraic_Kernel7Ideal_Reference7Ideal := fun m g m' g' _ hm =>
  ⟨fun c => refPrompt (refOut (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)) (m ((c.tc : Thread _ _).loc Cert.Kernel7Ideal.main_arg4))), fun c => refSample (refOut (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)) (m ((c.tc : Thread _ _).loc Cert.Kernel7Ideal.main_arg4))),
    Cert.Kernel7Ideal.Gen.run_val m g,
    (θ_run Cert.Reference7Ideal.defs _ _).mono (fun _ h c => by
      obtain ⟨a0, a1, a2, a3, a4⟩ := hm c
      obtain ⟨h0, h1, hk⟩ := h c
      refine ⟨(h0.trans (res0_eq m' c)).trans ?_, (h1.trans (res1_eq m' c)).trans ?_, hk⟩
      · rw [a0, a1, a2, a3, a4]
      · rw [a0, a1, a2, a3, a4]) (Cert.Reference7Ideal.Value.run m' g')⟩

end Cert.Proof.Combine
end
-- ==== Proof.HeadProj.lean ====
/- The heads' output products: the kernel's result and the reference's, index by index. -/
module

public import proofs.«01_k».proof.Defs
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Value
public import proofs.«01_k».proof.Proof.Gen.Reference8Ideal.Run
public import Idealize.ShloMosaic.Lib.Pipeline.ValueKit.Geometry
public import Idealize.ShloMosaic.Lib.Pointwise

@[expose] public section

set_option maxRecDepth 16384

noncomputable section

namespace Cert.Kernel8Ideal.Gen

open Idealize.ShloMosaic Idealize.ShloMosaic.TcCoe

/-- The attention's result, the heads first and then the samples' tokens. -/
def heads (o : FVec Ideal S32x64x256 .f32) : FVec Ideal S8x256x256 .f32 :=
  shapeCast S8x256x256 (transpose S8x32x8x256 [1, 0, 2, 3] (shapeCast S32x8x8x256 o shapeCasts_S32x64x256_S32x8x8x256) transposes_S32x8x8x256_S8x32x8x256_1_0_2_3) shapeCasts_S8x32x8x256_S8x256x256

/-- The weight's columns for the values, head by head. -/
def vals (w : FVec Ideal S1x256x2048 .f32) : FVec Ideal S8x256x128 .bf16 :=
  truncf .bf16 (transpose S8x256x128 [1, 0, 2] (extractStridedSlice S256x8x128 ![0, 0, 128] (shapeCast S256x8x256 (shapeCast S256x2048 w shapeCasts_S1x256x2048_S256x2048) shapeCasts_S256x2048_S256x8x256) slices_S256x8x256_S256x8x128_0_0_128) transposes_S256x8x128_S8x256x128_1_0_2) bitsLt_bf16_f32

theorem heads_apply (o : FVec Ideal S32x64x256 .f32) (h : Fin 8) (r k : Fin 256) :
    heads o (ix3 h r k) = o (ix3 ⟨r.val / 8, by omega⟩ ⟨h.val * 8 + r.val % 8, by omega⟩ k) := by
  pointwise [heads]

theorem vals_apply (w : FVec Ideal S1x256x2048 .f32) (h : Fin 8) (k : Fin 256) (f : Fin 128) :
    vals w (ix3 h k f) = w (ix3 0 k ⟨h.val * 256 + (128 + f.val), by omega⟩) := by
  pointwise [vals]

/-- One head's value of one token: the head's row of the attention's result against a column of the head's weight. -/
def headVal (o : FVec Ideal S32x64x256 .f32) (w : FVec Ideal S1x256x2048 .f32) (h : Fin 8) (r : Fin 256) (f : Fin 128) : EReal :=
  ∑ k : Fin 256, o (ix3 ⟨r.val / 8, by omega⟩ ⟨h.val * 8 + r.val % 8, by omega⟩ k) * w (ix3 0 k ⟨h.val * 256 + (128 + f.val), by omega⟩)

/-- The result, index by index: the heads' values side by side. -/
def resOf (o : FVec Ideal S32x64x256 .f32) (w : FVec Ideal S1x256x2048 .f32) : FVec Ideal S256x1024 .bf16 :=
  fun i => headVal o w ⟨(i 1).val / 128, by have : (i 1).val < 1024 := (i 1).isLt; omega⟩ (i 0) ⟨(i 1).val % 128, Nat.mod_lt _ (by decide)⟩

/-- What one point of the grid stores, at an index. -/
theorem pay_apply (x : Vec Ideal S1x256x256 .f32) (w : Vec Ideal S1x256x128 .bf16) (r : Fin 256) (f : Fin 128) :
    k0_pay1 x w (ix2 r f) = ∑ k : Fin 256, x (ix3 0 r k) * w (ix3 0 k f) := by
  pointwise [k0_pay1]

theorem out_pay (x : Vec Ideal S1x256x256 .f32) (w : Vec Ideal S1x256x128 .bf16) : out0_2 x w = k0_pay1 x w := by
  unfold out0_2
  rw [View.canon_cons_unit_lit _ _ _ (by decide), View.ld_unit_lit _ _ (by decide), View.ld_unit_lit _ _ (by decide)]

/-! ## The windows' blocks -/

theorem index0 : ∀ t : Fin cfg0.N, win0_0.index t = ![t.val, 0, 0] := (by decide +kernel : ∀ t : Fin grid0.N, win0_0.index t = ![t.val, 0, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![0, t.val] := (by decide +kernel : ∀ t : Fin grid0.N, win0_2.index t = ![0, t.val])

section Blocks

variable (t : Fin cfg0.N)

/-- The attention's window: the point's head. -/
theorem blk0_read (X : FVec Ideal S8x256x256 .f32) (r k : Fin 256) (h : Fin 8) (hh : h.val = t.val) :
    ((cfg0.win 0).blk t).view.read (Elt Ideal) X (ix3 0 r k) = X (ix3 h r k) := by
  refine congrArg X (funext fun x => Fin.ext ?_)
  refine ((cfg0.win 0).rect_emb_val t (ix3 0 r k) x rfl).trans ?_
  have i0 : (cfg0.win 0).index t = ![t.val, 0, 0] := index0 t
  rw [i0]
  match x with
  | ⟨0, _⟩ => show t.val * 1 + 0 = h.val; omega
  | ⟨1, _⟩ => show 0 * 256 + r.val = r.val; omega
  | ⟨2, _⟩ => show 0 * 256 + k.val = k.val; omega

/-- The weight's window: the point's head. -/
theorem blk1_read (X : FVec Ideal S8x256x128 .bf16) (k : Fin 256) (f : Fin 128) (h : Fin 8) (hh : h.val = t.val) :
    ((cfg0.win 1).blk t).view.read (Elt Ideal) X (ix3 0 k f) = X (ix3 h k f) := by
  refine congrArg X (funext fun x => Fin.ext ?_)
  refine ((cfg0.win 1).rect_emb_val t (ix3 0 k f) x rfl).trans ?_
  have i0 : (cfg0.win 1).index t = ![t.val, 0, 0] := index1 t
  rw [i0]
  match x with
  | ⟨0, _⟩ => show t.val * 1 + 0 = h.val; omega
  | ⟨1, _⟩ => show 0 * 256 + k.val = k.val; omega
  | ⟨2, _⟩ => show 0 * 128 + f.val = f.val; omega

/-- The result's window: 128 columns of the point's own. -/
theorem blk2_emb (r : Fin 256) (f : Fin 128) (j : Fin 1024) (hj : j.val = 128 * t.val + f.val) :
    ((cfg0.win 2).blk t).view.emb (ix2 r f) = (ix2 r j : S256x1024.Idx) := by
  refine funext fun x => Fin.ext ?_
  refine ((cfg0.win 2).rect_emb_val t (ix2 r f) x rfl).trans ?_
  have i0 : (cfg0.win 2).index t = ![0, t.val] := index2 t
  rw [i0]
  match x with
  | ⟨0, _⟩ => show 0 * 256 + r.val = r.val; omega
  | ⟨1, _⟩ => show t.val * 128 + f.val = j.val; omega

/-- Every element of the result is in some written-back block. -/
theorem blk2_cover (i : S256x1024.Idx) : ∃ t : Fin cfg0.N, (cfg0.win 2).flush t = true ∧ i ∈ ((cfg0.win 2).blk t).view.set := by
  have hc : (i 1).val < 1024 := (i 1).isLt
  have hlt : (i 1).val / 128 < 8 := by omega
  refine ⟨⟨(i 1).val / 128, hlt⟩, flush0_2 _, Finset.mem_map.2 ⟨ix2 (i 0) ⟨(i 1).val % 128, Nat.mod_lt _ (by decide)⟩, Finset.mem_univ _, ?_⟩⟩
  refine (blk2_emb ⟨(i 1).val / 128, hlt⟩ (i 0) ⟨(i 1).val % 128, Nat.mod_lt _ (by decide)⟩ ⟨(i 1).val, hc⟩ (Nat.div_add_mod _ _).symm).trans ?_
  funext x
  match x with
  | ⟨0, _⟩ => rfl
  | ⟨1, _⟩ => rfl

/-- The block a point stores, at the index of the whole result it is placed at. -/
theorem out_emb (o : FVec Ideal S32x64x256 .f32) (w : FVec Ideal S1x256x2048 .f32) (y : S256x128.Idx) :
    out0_2 (((cfg0.win 0).blk t).view.read (Elt Ideal) (heads o)) (((cfg0.win 1).blk t).view.read (Elt Ideal) (vals w)) y
      = resOf o w (((cfg0.win 2).blk t).view.emb y) := by
  have ht : t.val < 8 := t.isLt
  obtain ⟨r, f, rfl⟩ : ∃ (r : Fin 256) (f : Fin 128), y = ix2 r f := ⟨y 0, y 1, by
    funext x
    match x with
    | ⟨0, _⟩ => rfl
    | ⟨1, _⟩ => rfl⟩
  have hf := f.isLt
  rw [out_pay, blk2_emb t r f ⟨128 * t.val + f.val, by omega⟩ rfl]
  refine (pay_apply _ _ _ _).trans ?_
  have eh : (⟨(128 * t.val + f.val) / 128, by omega⟩ : Fin 8) = ⟨t.val, ht⟩ := Fin.ext (by simp only []; omega)
  have ef : (⟨(128 * t.val + f.val) % 128, Nat.mod_lt _ (by decide)⟩ : Fin 128) = f := Fin.ext (by simp only []; omega)
  have er : resOf o w (ix2 r (⟨128 * t.val + f.val, by omega⟩ : Fin 1024)) = headVal o w ⟨t.val, ht⟩ r f :=
    congrArg₂ (fun h f => headVal o w h r f) eh ef
  rw [er]
  unfold headVal
  refine Finset.sum_congr rfl fun k _ => ?_
  rw [blk0_read t (heads o) r k ⟨t.val, ht⟩ rfl, blk1_read t (vals w) k f ⟨t.val, ht⟩ rfl, heads_apply, vals_apply]

end Blocks

/-! ## What the region finds, and the result -/

variable (m : (ℓ : Loc nD τ sig) → Buf (Elt Ideal) ℓ) (c : Dev nD)

theorem V_v7 : V m c main_v7 = heads (m ((c : Thread nD τ).loc main_arg0)) := by
  unfold V
  after_results <;> rfl

theorem V_v4 : V m c main_v4 = vals (m ((c : Thread nD τ).loc main_arg1)) := by
  unfold V
  after_results <;> rfl

/-- The kernel's result. -/
theorem out_eq : (dats m 0 c).arrAt 2 cfg0.N
    = resOf (m ((c : Thread nD τ).loc main_arg0)) (m ((c : Thread nD τ).loc main_arg1)) := by
  have key : ∀ (t : Fin cfg0.N) (y : S256x128.Idx), out0_2 (iblk m c 0 t) (iblk m c 1 t) y
      = resOf (m ((c : Thread nD τ).loc main_arg0)) (m ((c : Thread nD τ).loc main_arg1)) (((cfg0.win 2).blk t).view.emb y) := fun t y => by
    have e : out0_2 (iblk m c 0 t) (iblk m c 1 t) = out0_2 (((cfg0.win 0).blk t).view.read (Elt Ideal) (heads (m ((c : Thread nD τ).loc main_arg0))))
        (((cfg0.win 1).blk t).view.read (Elt Ideal) (vals (m ((c : Thread nD τ).loc main_arg1)))) :=
      congrArg₂ out0_2 (congrArg (((cfg0.win 0).blk t).view.read (Elt Ideal)) (V_v7 m c)) (congrArg (((cfg0.win 1).blk t).view.read (Elt Ideal)) (V_v4 m c))
    exact (congrFun e y).trans (out_emb t _ _ y)
  generalize resOf (m ((c : Thread nD τ).loc main_arg0)) (m ((c : Thread nD τ).loc main_arg1)) = G at key ⊢
  refine (dats m 0 c).arrAt_eq_of_emb 2 G (fun t _ y => ?_) blk2_cover
  rw [after0_2]
  have k := key t y
  generalize out0_2 (iblk m c 0 t) (iblk m c 1 t) = o at k ⊢
  exact k

/-- The kernel's run: its result, and the arguments as they were. -/
theorem run_val (ρ : Dev nD → PrngReg) : θ_run defs (onTc (τ := τ) (main (F := Ideal))) ⟨m, fun _ => 0, ρ⟩ fun r => ∀ c : Dev nD,
      r.2.mem ((c : Thread nD τ).loc main_v8) = resOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (out_eq m c), (h c).2⟩) (Value.run_blocks m ρ)

end Cert.Kernel8Ideal.Gen

namespace Cert.Proof.HeadProj

open Idealize.ShloMosaic Idealize.ShloMosaic.TcCoe Idealize.SL.Sem
open Cert.Kernel8Ideal.Gen (resOf headVal)

/-- The reference's product, head by head and sample by sample. -/
def refDot (o : FVec Ideal Cert.Kernel8Ideal.S32x64x256 .f32) (w : FVec Ideal Cert.Kernel8Ideal.S1x256x2048 .f32) : FVec Ideal Cert.Reference8Ideal.S8x128x32x8 .f32 :=
  Host.dotGeneral Cert.Reference8Ideal.dot_S256x8x128_S32x8x8x256_S8x128x32x8_0_3_2_02_1_1 none
    (extractStridedSlice Cert.Reference8Ideal.S256x8x128 ![0, 0, 128] (shapeCast Cert.Reference8Ideal.S256x8x256 (shapeCast Cert.Reference8Ideal.S256x2048 w Cert.Reference8Ideal.Gen.shapeCasts_S1x256x2048_S256x2048) Cert.Reference8Ideal.Gen.shapeCasts_S256x2048_S256x8x256) Cert.Reference8Ideal.Gen.slices_S256x8x256_S256x8x128_0_0_128)
    (shapeCast Cert.Reference8Ideal.S32x8x8x256 o Cert.Reference8Ideal.Gen.shapeCasts_S32x64x256_S32x8x8x256)

theorem refDot_apply (o : FVec Ideal Cert.Kernel8Ideal.S32x64x256 .f32) (w : FVec Ideal Cert.Kernel8Ideal.S1x256x2048 .f32) (h : Fin 8) (f : Fin 128) (b : Fin 32) (t : Fin 8) :
    refDot o w (ix4 h f b t) = ∑ k : Fin 256, w (ix3 0 k ⟨h.val * 256 + (128 + f.val), by omega⟩) * o (ix3 b ⟨h.val * 8 + t.val, by omega⟩ k) := by
  pointwise [refDot]

/-- The reference's term is the same sum. -/
theorem ref_eq (o : FVec Ideal Cert.Kernel8Ideal.S32x64x256 .f32) (w : FVec Ideal Cert.Kernel8Ideal.S1x256x2048 .f32) :
    truncf .bf16 (shapeCast Cert.Reference8Ideal.S256x1024 (transpose Cert.Reference8Ideal.S32x8x8x128 [2, 3, 0, 1] (refDot o w) Cert.Reference8Ideal.Gen.transposes_S8x128x32x8_S32x8x8x128_2_3_0_1) Cert.Reference8Ideal.Gen.shapeCasts_S32x8x8x128_S256x1024) Cert.Reference8Ideal.Gen.bitsLt_bf16_f32
      = resOf o w := by
  funext i
  obtain ⟨r, f, rfl⟩ : ∃ (r : Fin 256) (f : Fin 1024), i = ix2 r f := ⟨i 0, i 1, by
    funext x
    match x with
    | ⟨0, _⟩ => rfl
    | ⟨1, _⟩ => rfl⟩
  have hd := refDot_apply o w
  generalize refDot o w = d at hd ⊢
  pointwise
  refine (hd _ _ _ _).trans ?_
  unfold resOf headVal
  exact Finset.sum_congr rfl fun k _ => mul_comm _ _

/-- The frame at the machine's words, of the program read for the extended reals. -/
def FrameBits : Prop := ∀ (m : (ℓ : Loc Cert.Kernel8Ideal.nD Cert.Kernel8Ideal.τ Cert.Kernel8Ideal.sig) → Buf (Elt Bits) ℓ) (g : Dev Cert.Kernel8Ideal.nD → PrngReg),
    True → θ_run (Cert.Kernel8Ideal.defs (F := Bits)) (onTc (τ := Cert.Kernel8Ideal.τ) (Cert.Kernel8Ideal.main (F := Bits))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)) ∧ r.2.sem = fun _ => 0)

theorem frame_bits : FrameBits := fun m g _ => Cert.Kernel8Ideal.Gen.frame (F := Bits) m g

/-- The two printed programs are the same text, so the two statements are one. -/
theorem frame_same : FrameBits = Cert.quiescent_Kernel8 := by sl_kernel_rfl
theorem frame_kernel : Cert.quiescent_Kernel8 := frame_same ▸ frame_bits
theorem frame_kernel_ideal : Cert.quiescent_Kernel8Ideal := fun m g _ => Cert.Kernel8Ideal.Gen.frame (F := Ideal) m g
theorem frame_reference_ideal : Cert.quiescent_Reference8Ideal := fun m g _ =>
  (θ_run Cert.Reference8Ideal.defs _ _).mono (fun _ h => ⟨fun c => (h c).2, sem_eq_zero_of_no_sems (by decide) _⟩) (Cert.Reference8Ideal.Value.run m g)

theorem algebraic : Cert.algebraic_Kernel8Ideal_Reference8Ideal := fun m g m' g' _ hm =>
  ⟨fun c => resOf (m ((c.tc : Thread _ _).loc Cert.Kernel8Ideal.main_arg0)) (m ((c.tc : Thread _ _).loc Cert.Kernel8Ideal.main_arg1)),
    Cert.Kernel8Ideal.Gen.run_val m g,
    (θ_run Cert.Reference8Ideal.defs _ _).mono (fun _ h c => ⟨by
      obtain ⟨h0, h1⟩ := hm c
      refine (h c).1.trans ?_
      rw [h0, h1]
      exact ref_eq _ _, (h c).2⟩) (Cert.Reference8Ideal.Value.run m' g')⟩

end Cert.Proof.HeadProj
end
-- ==== Proof.lean ====
/-
  The claims: of the row gather (stated here), both frames and the reference's and that the kernel's result is the
  reference's; of the other calls, those of the modules
  named here.
-/
module

public import proofs.«01_k».proof.Defs
public import proofs.«01_k».proof.Proof.Value
public import proofs.«01_k».proof.Proof.Gen.Kernel
public import proofs.«01_k».proof.Proof.FfnClaim
public import proofs.«01_k».proof.Proof.ProjX
public import proofs.«01_k».proof.Proof.Gen.Kernel3
public import proofs.«01_k».proof.Proof.Gen.Kernel3Ideal
public import proofs.«01_k».proof.Proof.Gen.Reference3Ideal
public import proofs.«01_k».proof.Proof.ProjZ
public import proofs.«01_k».proof.Proof.Gen.Kernel4
public import proofs.«01_k».proof.Proof.Gen.Kernel4Ideal
public import proofs.«01_k».proof.Proof.Gen.Reference4Ideal
public import proofs.«01_k».proof.Proof.Merge
public import proofs.«01_k».proof.Proof.Gen.Kernel5
public import proofs.«01_k».proof.Proof.Gen.Kernel5Ideal
public import proofs.«01_k».proof.Proof.Gen.Reference5Ideal
public import proofs.«01_k».proof.Proof.MlaIn
public import proofs.«01_k».proof.Proof.Gen.Kernel6
public import proofs.«01_k».proof.Proof.Gen.Kernel6Ideal
public import proofs.«01_k».proof.Proof.Gen.Reference6Ideal
public import proofs.«01_k».proof.Proof.Combine
public import proofs.«01_k».proof.Proof.Gen.Kernel7
public import proofs.«01_k».proof.Proof.Gen.Kernel7Ideal
public import proofs.«01_k».proof.Proof.Gen.Reference7Ideal
public import proofs.«01_k».proof.Proof.HeadProj
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel2Ideal
public import proofs.«01_k».proof.Proof.Gen.Kernel2
public import proofs.«01_k».proof.Proof.Gen.Reference2Ideal
public import proofs.«01_k».proof.Proof.Gen.Pre_blocks_in_range

@[expose] public section

noncomputable section

namespace Cert.Proof

open Idealize.ShloMosaic Idealize.ShloMosaic.TcCoe Idealize.SL.Sem
open Cert.KernelIdeal Cert.KernelIdeal.Gen

variable {F : FTy → Type} [FloatOps F]

/-- The kernel's run, over any float values. -/
theorem kernel_run (m : (ℓ : Loc nD τ sig) → Buf (Elt F) ℓ) (g : Dev nD → PrngReg) (h : ∀ c, RowsOk (arg1 m c)) :
    θ_run defs (onTc (τ := τ) (main (F := F))) ⟨m, fun _ => 0, g⟩ (fun r => (∀ c : Dev nD,
      r.2.mem ((c.tc : Thread nD τ).loc main_v1)
        = Host.gather Cert.ReferenceIdeal.gather_S16640x1024_S74752x1_S74752x1024_1_0_n_n_0_1_11024 (m ((c : Thread nD τ).loc main_arg0)) (refIdx (arg1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ hr => ⟨fun c => ⟨(hr.1 c).2.2.trans (kernel_eq_ref m h c), (hr.1 c).1.trans (V_main_arg0 m c), (hr.1 c).2.1.trans (V_main_arg1 m c)⟩, hr.2⟩)
    (run_main m g (inRange_of m h))

theorem ok_of_pre_kernel (m : (ℓ : Loc Cert.Kernel.nD Cert.Kernel.τ Cert.Kernel.sig) → Buf (Elt Bits) ℓ) (h : Cert.Pre_Kernel m) (c : Dev nD) :
    RowsOk (arg1 (F := Bits) m c) := rowsOk_of_pre _ _ (h c)
theorem ok_of_pre_ideal (m : (ℓ : Loc nD τ sig) → Buf (Elt Ideal) ℓ) (h : Cert.Pre_KernelIdeal m) (c : Dev nD) :
    RowsOk (arg1 (F := Ideal) m c) := rowsOk_of_pre _ _ (h c)

theorem frame_kernel : Cert.quiescent_Kernel := fun m g hp =>
  (θ_run Cert.KernelIdeal.defs _ _).mono (fun _ h => ⟨fun c => (h.1 c).2, h.2⟩) (kernel_run (F := Bits) m g (ok_of_pre_kernel m hp))
theorem frame_kernel_ideal : Cert.quiescent_KernelIdeal := fun m g hp =>
  (θ_run Cert.KernelIdeal.defs _ _).mono (fun _ h => ⟨fun c => (h.1 c).2, h.2⟩) (kernel_run m g (ok_of_pre_ideal m hp))

/-! ## The reference -/

/-- The reference's run, over any float values; it has no semaphore. -/
theorem ref_run (m : (ℓ : Loc Cert.ReferenceIdeal.nD Cert.ReferenceIdeal.τ Cert.ReferenceIdeal.sig) → Buf (Elt F) ℓ) (g : Dev Cert.ReferenceIdeal.nD → PrngReg) :
    θ_run Cert.ReferenceIdeal.defs (onTc (τ := Cert.ReferenceIdeal.τ) (Cert.ReferenceIdeal.main (F := F))) ⟨m, fun _ => 0, g⟩ (fun r => (∀ c : Dev Cert.ReferenceIdeal.nD,
      r.2.mem ((c.tc : Thread Cert.ReferenceIdeal.nD Cert.ReferenceIdeal.τ).loc Cert.ReferenceIdeal.main_v6)
        = Host.gather Cert.ReferenceIdeal.gather_S16640x1024_S74752x1_S74752x1024_1_0_n_n_0_1_11024
            (m ((c.tc : Thread Cert.ReferenceIdeal.nD Cert.ReferenceIdeal.τ).loc Cert.ReferenceIdeal.main_arg0))
            (refIdx (m ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun _ h => ⟨h, sem_eq_zero_of_no_sems (by decide) _⟩) (Cert.ReferenceIdeal.Value.run m g)

theorem frame_reference_ideal : Cert.quiescent_ReferenceIdeal := fun m g _ =>
  (θ_run Cert.ReferenceIdeal.defs _ _).mono (fun _ h => ⟨fun c => (h.1 c).2, h.2⟩) (ref_run m g)
theorem frame_reference : Cert.quiescent_Reference := fun m g _ =>
  (θ_run Cert.ReferenceIdeal.defs _ _).mono (fun _ h => ⟨fun c => (h.1 c).2, h.2⟩) (ref_run (F := Bits) m g)

/-! ## The value claims -/

theorem algebraic_rows : Cert.algebraic_KernelIdeal_ReferenceIdeal := fun m g m' g' hp hm =>
  ⟨fun c => Host.gather Cert.ReferenceIdeal.gather_S16640x1024_S74752x1_S74752x1024_1_0_n_n_0_1_11024 (m ((c.tc : Thread nD τ).loc main_arg0)) (refIdx (arg1 m c)),
    (θ_run Cert.KernelIdeal.defs _ _).mono (fun _ h => h.1) (kernel_run m g (ok_of_pre_ideal m hp)),
    (θ_run Cert.ReferenceIdeal.defs _ _).mono (fun _ h c => ⟨(h.1 c).1.trans (by rw [(hm c).1, (hm c).2]), (h.1 c).2⟩) (ref_run m' g')⟩

theorem bitexact_rows : Cert.bitexact_Kernel_Reference := fun m g m' g' hp hm =>
  ⟨fun c => Host.gather Cert.ReferenceIdeal.gather_S16640x1024_S74752x1_S74752x1024_1_0_n_n_0_1_11024 (m ((c.tc : Thread nD τ).loc main_arg0)) (refIdx (arg1 (F := Bits) m c)),
    (θ_run Cert.KernelIdeal.defs _ _).mono (fun _ h => h.1) (kernel_run (F := Bits) m g (ok_of_pre_kernel m hp)),
    (θ_run Cert.ReferenceIdeal.defs _ _).mono (fun _ h c => ⟨(h.1 c).1.trans (by rw [(hm c).1, (hm c).2]), (h.1 c).2⟩) (ref_run (F := Bits) m' g')⟩

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_rows_in_range.Gen.facts, Cert.Pre_blocks_in_range.Gen.facts,
    frame_kernel, frame_kernel_ideal, frame_reference_ideal, frame_reference,
    Ffn.frame_kernel, Ffn.frame_kernel_ideal, Ffn.frame_reference_ideal,
    ProjX.frame_kernel, ProjX.frame_kernel_ideal, ProjX.frame_reference_ideal,
    ProjZ.frame_kernel, ProjZ.frame_kernel_ideal, ProjZ.frame_reference_ideal,
    Merge.frame_kernel, Merge.frame_kernel_ideal, Merge.frame_reference_ideal,
    MlaIn.frame_kernel, MlaIn.frame_kernel_ideal, MlaIn.frame_reference_ideal,
    Combine.frame_kernel, Combine.frame_kernel_ideal, Combine.frame_reference_ideal,
    HeadProj.frame_kernel, HeadProj.frame_kernel_ideal, HeadProj.frame_reference_ideal,
    trivial, algebraic_rows, bitexact_rows, trivial, Ffn.algebraic, trivial, ProjX.algebraic, trivial, ProjZ.algebraic, trivial, Merge.algebraic, trivial, MlaIn.algebraic, trivial, Combine.algebraic, trivial, HeadProj.algebraic⟩

end Cert.Proof

end
